-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardRefIdeal (m : (ℓ : Loc Cert.ForwardRefIdeal.nD Cert.ForwardRefIdeal.τ Cert.ForwardRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Wide (m : (ℓ : Loc Cert.Wide.nD Cert.Wide.τ Cert.Wide.sig) → Buf (Elt Bits) ℓ) : Prop :=
  True

def Pre_WideIdeal (m : (ℓ : Loc Cert.WideIdeal.nD Cert.WideIdeal.τ Cert.WideIdeal.sig) → Buf (Elt Ideal) ℓ) : Prop :=
  True

def Pre_WideRefIdeal (m : (ℓ : Loc Cert.WideRefIdeal.nD Cert.WideRefIdeal.τ Cert.WideRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixBack (m : (ℓ : Loc Cert.MixBack.nD Cert.MixBack.τ Cert.MixBack.sig) → Buf (Elt Bits) ℓ) : Prop :=
  True

def Pre_MixBackIdeal (m : (ℓ : Loc Cert.MixBackIdeal.nD Cert.MixBackIdeal.τ Cert.MixBackIdeal.sig) → Buf (Elt Ideal) ℓ) : Prop :=
  True

def Pre_MixBackRefIdeal (m : (ℓ : Loc Cert.MixBackRefIdeal.nD Cert.MixBackRefIdeal.τ Cert.MixBackRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysRefIdeal (m : (ℓ : Loc Cert.KeysRefIdeal.nD Cert.KeysRefIdeal.τ Cert.KeysRefIdeal.sig) → Buf (Elt Ideal) ℓ) : Prop :=
  True

def Pre_Steps (m : (ℓ : Loc Cert.Steps.nD Cert.Steps.τ Cert.Steps.sig) → Buf (Elt Bits) ℓ) : Prop :=
  True

def Pre_StepsIdeal (m : (ℓ : Loc Cert.StepsIdeal.nD Cert.StepsIdeal.τ Cert.StepsIdeal.sig) → Buf (Elt Ideal) ℓ) : Prop :=
  True

def Pre_StepsRefIdeal (m : (ℓ : Loc Cert.StepsRefIdeal.nD Cert.StepsRefIdeal.τ Cert.StepsRefIdeal.sig) → Buf (Elt Ideal) ℓ) : Prop :=
  True

def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_SsmRefIdeal (m : (ℓ : Loc Cert.SsmRefIdeal.nD Cert.SsmRefIdeal.τ Cert.SsmRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSsm (m : (ℓ : Loc Cert.AdamSsm.nD Cert.AdamSsm.τ Cert.AdamSsm.sig) → Buf (Elt Bits) ℓ) : Prop :=
  True

def Pre_AdamSsmIdeal (m : (ℓ : Loc Cert.AdamSsmIdeal.nD Cert.AdamSsmIdeal.τ Cert.AdamSsmIdeal.sig) → Buf (Elt Ideal) ℓ) : Prop :=
  True

def Pre_AdamSsmRefIdeal (m : (ℓ : Loc Cert.AdamSsmRefIdeal.nD Cert.AdamSsmRefIdeal.τ Cert.AdamSsmRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_OutBack (m : (ℓ : Loc Cert.OutBack.nD Cert.OutBack.τ Cert.OutBack.sig) → Buf (Elt Bits) ℓ) : Prop :=
  True

def Pre_OutBackIdeal (m : (ℓ : Loc Cert.OutBackIdeal.nD Cert.OutBackIdeal.τ Cert.OutBackIdeal.sig) → Buf (Elt Ideal) ℓ) : Prop :=
  True

def Pre_OutBackRefIdeal (m : (ℓ : Loc Cert.OutBackRefIdeal.nD Cert.OutBackRefIdeal.τ Cert.OutBackRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4)
      ∧ r.2.mem ((c.tc : Thread Cert.Forward.nD Cert.Forward.τ).loc Cert.Forward.main_arg5) = m ((c.tc : Thread Cert.Forward.nD Cert.Forward.τ).loc Cert.Forward.main_arg5)
      ∧ r.2.mem ((c.tc : Thread Cert.Forward.nD Cert.Forward.τ).loc Cert.Forward.main_arg6) = m ((c.tc : Thread Cert.Forward.nD Cert.Forward.τ).loc Cert.Forward.main_arg6))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6))
      ∧ r.2.sem = fun _ => 0)

def quiescent_ForwardRefIdeal [hForwardRefIdeal : Cert.ForwardRefIdeal.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2)
      ∧ r.2.mem ((c.tc : Thread Cert.ForwardRefIdeal.nD Cert.ForwardRefIdeal.τ).loc Cert.ForwardRefIdeal.main_arg3) = m ((c.tc : Thread Cert.ForwardRefIdeal.nD Cert.ForwardRefIdeal.τ).loc Cert.ForwardRefIdeal.main_arg3)
      ∧ r.2.mem ((c.tc : Thread Cert.ForwardRefIdeal.nD Cert.ForwardRefIdeal.τ).loc Cert.ForwardRefIdeal.main_arg4) = m ((c.tc : Thread Cert.ForwardRefIdeal.nD Cert.ForwardRefIdeal.τ).loc Cert.ForwardRefIdeal.main_arg4)
      ∧ r.2.mem ((c.tc : Thread Cert.ForwardRefIdeal.nD Cert.ForwardRefIdeal.τ).loc Cert.ForwardRefIdeal.main_arg5) = m ((c.tc : Thread Cert.ForwardRefIdeal.nD Cert.ForwardRefIdeal.τ).loc Cert.ForwardRefIdeal.main_arg5)
      ∧ r.2.mem ((c.tc : Thread Cert.ForwardRefIdeal.nD Cert.ForwardRefIdeal.τ).loc Cert.ForwardRefIdeal.main_arg6) = m ((c.tc : Thread Cert.ForwardRefIdeal.nD Cert.ForwardRefIdeal.τ).loc Cert.ForwardRefIdeal.main_arg6))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Wide [hWide : Cert.Wide.Facts] : Prop :=
  ∀ (m : (ℓ : Loc Cert.Wide.nD Cert.Wide.τ Cert.Wide.sig) → Buf (Elt Bits) ℓ) (g : Dev Cert.Wide.nD → PrngReg), Pre_Wide m →
    θ_run (Cert.Wide.defs (F := Bits)) (onTc (τ := Cert.Wide.τ) (Cert.Wide.main (F := Bits))) ⟨m, fun _ => 0, g⟩ (fun r => (∀ c : Dev Cert.Wide.nD,
      r.2.mem ((c.tc : Thread Cert.Wide.nD Cert.Wide.τ).loc Cert.Wide.main_arg0) = m ((c.tc : Thread Cert.Wide.nD Cert.Wide.τ).loc Cert.Wide.main_arg0)
      ∧ r.2.mem ((c.tc : Thread Cert.Wide.nD Cert.Wide.τ).loc Cert.Wide.main_arg1) = m ((c.tc : Thread Cert.Wide.nD Cert.Wide.τ).loc Cert.Wide.main_arg1))
      ∧ r.2.sem = fun _ => 0)

def quiescent_WideIdeal [hWideIdeal : Cert.WideIdeal.Facts] : Prop :=
  ∀ (m : (ℓ : Loc Cert.WideIdeal.nD Cert.WideIdeal.τ Cert.WideIdeal.sig) → Buf (Elt Ideal) ℓ) (g : Dev Cert.WideIdeal.nD → PrngReg), Pre_WideIdeal m →
    θ_run (Cert.WideIdeal.defs (F := Ideal)) (onTc (τ := Cert.WideIdeal.τ) (Cert.WideIdeal.main (F := Ideal))) ⟨m, fun _ => 0, g⟩ (fun r => (∀ c : Dev Cert.WideIdeal.nD,
      r.2.mem ((c.tc : Thread Cert.WideIdeal.nD Cert.WideIdeal.τ).loc Cert.WideIdeal.main_arg0) = m ((c.tc : Thread Cert.WideIdeal.nD Cert.WideIdeal.τ).loc Cert.WideIdeal.main_arg0)
      ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ r.2.sem = fun _ => 0)

def quiescent_WideRefIdeal [hWideRefIdeal : Cert.WideRefIdeal.Facts] : Prop :=
  ∀ (m : (ℓ : Loc Cert.WideRefIdeal.nD Cert.WideRefIdeal.τ Cert.WideRefIdeal.sig) → Buf (Elt Ideal) ℓ) (g : Dev Cert.WideRefIdeal.nD → PrngReg), Pre_WideRefIdeal m →
    θ_run (Cert.WideRefIdeal.defs (F := Ideal)) (onTc (τ := Cert.WideRefIdeal.τ) (Cert.WideRefIdeal.main (F := Ideal))) ⟨m, fun _ => 0, g⟩ (fun r => (∀ c : Dev Cert.WideRefIdeal.nD,
      r.2.mem ((c.tc : Thread Cert.WideRefIdeal.nD Cert.WideRefIdeal.τ).loc Cert.WideRefIdeal.main_arg0) = m ((c.tc : Thread Cert.WideRefIdeal.nD Cert.WideRefIdeal.τ).loc Cert.WideRefIdeal.main_arg0)
      ∧ r.2.mem ((c.tc : Thread Cert.WideRefIdeal.nD Cert.WideRefIdeal.τ).loc Cert.WideRefIdeal.main_arg1) = m ((c.tc : Thread Cert.WideRefIdeal.nD Cert.WideRefIdeal.τ).loc Cert.WideRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_MixBack [hMixBack : Cert.MixBack.Facts] : Prop :=
  ∀ (m : (ℓ : Loc Cert.MixBack.nD Cert.MixBack.τ Cert.MixBack.sig) → Buf (Elt Bits) ℓ) (g : Dev Cert.MixBack.nD → PrngReg), Pre_MixBack m →
    θ_run (Cert.MixBack.defs (F := Bits)) (onTc (τ := Cert.MixBack.τ) (Cert.MixBack.main (F := Bits))) ⟨m, fun _ => 0, g⟩ (fun r => (∀ c : Dev Cert.MixBack.nD,
      r.2.mem ((c.tc : Thread Cert.MixBack.nD Cert.MixBack.τ).loc Cert.MixBack.main_arg0) = m ((c.tc : Thread Cert.MixBack.nD Cert.MixBack.τ).loc Cert.MixBack.main_arg0)
      ∧ r.2.mem ((c.tc : Thread Cert.MixBack.nD Cert.MixBack.τ).loc Cert.MixBack.main_arg1) = m ((c.tc : Thread Cert.MixBack.nD Cert.MixBack.τ).loc Cert.MixBack.main_arg1)
      ∧ r.2.mem ((c.tc : Thread Cert.MixBack.nD Cert.MixBack.τ).loc Cert.MixBack.main_arg2) = m ((c.tc : Thread Cert.MixBack.nD Cert.MixBack.τ).loc Cert.MixBack.main_arg2)
      ∧ r.2.mem ((c.tc : Thread Cert.MixBack.nD Cert.MixBack.τ).loc Cert.MixBack.main_arg3) = m ((c.tc : Thread Cert.MixBack.nD Cert.MixBack.τ).loc Cert.MixBack.main_arg3)
      ∧ r.2.mem ((c.tc : Thread Cert.MixBack.nD Cert.MixBack.τ).loc Cert.MixBack.main_arg4) = m ((c.tc : Thread Cert.MixBack.nD Cert.MixBack.τ).loc Cert.MixBack.main_arg4))
      ∧ r.2.sem = fun _ => 0)

def quiescent_MixBackIdeal [hMixBackIdeal : Cert.MixBackIdeal.Facts] : Prop :=
  ∀ (m : (ℓ : Loc Cert.MixBackIdeal.nD Cert.MixBackIdeal.τ Cert.MixBackIdeal.sig) → Buf (Elt Ideal) ℓ) (g : Dev Cert.MixBackIdeal.nD → PrngReg), Pre_MixBackIdeal m →
    θ_run (Cert.MixBackIdeal.defs (F := Ideal)) (onTc (τ := Cert.MixBackIdeal.τ) (Cert.MixBackIdeal.main (F := Ideal))) ⟨m, fun _ => 0, g⟩ (fun r => (∀ c : Dev Cert.MixBackIdeal.nD,
      r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
      ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
      ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
      ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
      ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4))
      ∧ r.2.sem = fun _ => 0)

def quiescent_MixBackRefIdeal [hMixBackRefIdeal : Cert.MixBackRefIdeal.Facts] : Prop :=
  ∀ (m : (ℓ : Loc Cert.MixBackRefIdeal.nD Cert.MixBackRefIdeal.τ Cert.MixBackRefIdeal.sig) → Buf (Elt Ideal) ℓ) (g : Dev Cert.MixBackRefIdeal.nD → PrngReg), Pre_MixBackRefIdeal m →
    θ_run (Cert.MixBackRefIdeal.defs (F := Ideal)) (onTc (τ := Cert.MixBackRefIdeal.τ) (Cert.MixBackRefIdeal.main (F := Ideal))) ⟨m, fun _ => 0, g⟩ (fun r => (∀ c : Dev Cert.MixBackRefIdeal.nD,
      r.2.mem ((c.tc : Thread Cert.MixBackRefIdeal.nD Cert.MixBackRefIdeal.τ).loc Cert.MixBackRefIdeal.main_arg0) = m ((c.tc : Thread Cert.MixBackRefIdeal.nD Cert.MixBackRefIdeal.τ).loc Cert.MixBackRefIdeal.main_arg0)
      ∧ r.2.mem ((c.tc : Thread Cert.MixBackRefIdeal.nD Cert.MixBackRefIdeal.τ).loc Cert.MixBackRefIdeal.main_arg1) = m ((c.tc : Thread Cert.MixBackRefIdeal.nD Cert.MixBackRefIdeal.τ).loc Cert.MixBackRefIdeal.main_arg1)
      ∧ r.2.mem ((c.tc : Thread Cert.MixBackRefIdeal.nD Cert.MixBackRefIdeal.τ).loc Cert.MixBackRefIdeal.main_arg2) = m ((c.tc : Thread Cert.MixBackRefIdeal.nD Cert.MixBackRefIdeal.τ).loc Cert.MixBackRefIdeal.main_arg2)
      ∧ r.2.mem ((c.tc : Thread Cert.MixBackRefIdeal.nD Cert.MixBackRefIdeal.τ).loc Cert.MixBackRefIdeal.main_arg3) = m ((c.tc : Thread Cert.MixBackRefIdeal.nD Cert.MixBackRefIdeal.τ).loc Cert.MixBackRefIdeal.main_arg3)
      ∧ r.2.mem ((c.tc : Thread Cert.MixBackRefIdeal.nD Cert.MixBackRefIdeal.τ).loc Cert.MixBackRefIdeal.main_arg4) = m ((c.tc : Thread Cert.MixBackRefIdeal.nD Cert.MixBackRefIdeal.τ).loc Cert.MixBackRefIdeal.main_arg4))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1))
      ∧ r.2.sem = fun _ => 0)

def quiescent_Steps [hSteps : Cert.Steps.Facts] : Prop :=
  ∀ (m : (ℓ : Loc Cert.Steps.nD Cert.Steps.τ Cert.Steps.sig) → Buf (Elt Bits) ℓ) (g : Dev Cert.Steps.nD → PrngReg), Pre_Steps m →
    θ_run (Cert.Steps.defs (F := Bits)) (onTc (τ := Cert.Steps.τ) (Cert.Steps.main (F := Bits))) ⟨m, fun _ => 0, g⟩ (fun r => (∀ c : Dev Cert.Steps.nD,
      r.2.mem ((c.tc : Thread Cert.Steps.nD Cert.Steps.τ).loc Cert.Steps.main_arg0) = m ((c.tc : Thread Cert.Steps.nD Cert.Steps.τ).loc Cert.Steps.main_arg0)
      ∧ r.2.mem ((c.tc : Thread Cert.Steps.nD Cert.Steps.τ).loc Cert.Steps.main_arg1) = m ((c.tc : Thread Cert.Steps.nD Cert.Steps.τ).loc Cert.Steps.main_arg1))
      ∧ r.2.sem = fun _ => 0)

def quiescent_StepsIdeal [hStepsIdeal : Cert.StepsIdeal.Facts] : Prop :=
  ∀ (m : (ℓ : Loc Cert.StepsIdeal.nD Cert.StepsIdeal.τ Cert.StepsIdeal.sig) → Buf (Elt Ideal) ℓ) (g : Dev Cert.StepsIdeal.nD → PrngReg), Pre_StepsIdeal m →
    θ_run (Cert.StepsIdeal.defs (F := Ideal)) (onTc (τ := Cert.StepsIdeal.τ) (Cert.StepsIdeal.main (F := Ideal))) ⟨m, fun _ => 0, g⟩ (fun r => (∀ c : Dev Cert.StepsIdeal.nD,
      r.2.mem ((c.tc : Thread Cert.StepsIdeal.nD Cert.StepsIdeal.τ).loc Cert.StepsIdeal.main_arg0) = m ((c.tc : Thread Cert.StepsIdeal.nD Cert.StepsIdeal.τ).loc Cert.StepsIdeal.main_arg0)
      ∧ r.2.mem ((c.tc : Thread Cert.StepsIdeal.nD Cert.StepsIdeal.τ).loc Cert.StepsIdeal.main_arg1) = m ((c.tc : Thread Cert.StepsIdeal.nD Cert.StepsIdeal.τ).loc Cert.StepsIdeal.main_arg1))
      ∧ r.2.sem = fun _ => 0)

def quiescent_StepsRefIdeal [hStepsRefIdeal : Cert.StepsRefIdeal.Facts] : Prop :=
  ∀ (m : (ℓ : Loc Cert.StepsRefIdeal.nD Cert.StepsRefIdeal.τ Cert.StepsRefIdeal.sig) → Buf (Elt Ideal) ℓ) (g : Dev Cert.StepsRefIdeal.nD → PrngReg), Pre_StepsRefIdeal m →
    θ_run (Cert.StepsRefIdeal.defs (F := Ideal)) (onTc (τ := Cert.StepsRefIdeal.τ) (Cert.StepsRefIdeal.main (F := Ideal))) ⟨m, fun _ => 0, g⟩ (fun r => (∀ c : Dev Cert.StepsRefIdeal.nD,
      r.2.mem ((c.tc : Thread Cert.StepsRefIdeal.nD Cert.StepsRefIdeal.τ).loc Cert.StepsRefIdeal.main_arg0) = m ((c.tc : Thread Cert.StepsRefIdeal.nD Cert.StepsRefIdeal.τ).loc Cert.StepsRefIdeal.main_arg0)
      ∧ r.2.mem ((c.tc : Thread Cert.StepsRefIdeal.nD Cert.StepsRefIdeal.τ).loc Cert.StepsRefIdeal.main_arg1) = m ((c.tc : Thread Cert.StepsRefIdeal.nD Cert.StepsRefIdeal.τ).loc Cert.StepsRefIdeal.main_arg1))
      ∧ r.2.sem = fun _ => 0)

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1)
      ∧ r.2.mem ((c.tc : Thread Cert.Ssm.nD Cert.Ssm.τ).loc Cert.Ssm.main_arg2) = m ((c.tc : Thread Cert.Ssm.nD Cert.Ssm.τ).loc Cert.Ssm.main_arg2))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2))
      ∧ r.2.sem = fun _ => 0)

def quiescent_SsmRefIdeal [hSsmRefIdeal : Cert.SsmRefIdeal.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1)
      ∧ r.2.mem ((c.tc : Thread Cert.SsmRefIdeal.nD Cert.SsmRefIdeal.τ).loc Cert.SsmRefIdeal.main_arg2) = m ((c.tc : Thread Cert.SsmRefIdeal.nD Cert.SsmRefIdeal.τ).loc Cert.SsmRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSsm [hAdamSsm : Cert.AdamSsm.Facts] : Prop :=
  ∀ (m : (ℓ : Loc Cert.AdamSsm.nD Cert.AdamSsm.τ Cert.AdamSsm.sig) → Buf (Elt Bits) ℓ) (g : Dev Cert.AdamSsm.nD → PrngReg), Pre_AdamSsm m →
    θ_run (Cert.AdamSsm.defs (F := Bits)) (onTc (τ := Cert.AdamSsm.τ) (Cert.AdamSsm.main (F := Bits))) ⟨m, fun _ => 0, g⟩ (fun r => (∀ c : Dev Cert.AdamSsm.nD,
      r.2.mem ((c.tc : Thread Cert.AdamSsm.nD Cert.AdamSsm.τ).loc Cert.AdamSsm.main_arg0) = m ((c.tc : Thread Cert.AdamSsm.nD Cert.AdamSsm.τ).loc Cert.AdamSsm.main_arg0)
      ∧ r.2.mem ((c.tc : Thread Cert.AdamSsm.nD Cert.AdamSsm.τ).loc Cert.AdamSsm.main_arg1) = m ((c.tc : Thread Cert.AdamSsm.nD Cert.AdamSsm.τ).loc Cert.AdamSsm.main_arg1)
      ∧ r.2.mem ((c.tc : Thread Cert.AdamSsm.nD Cert.AdamSsm.τ).loc Cert.AdamSsm.main_arg2) = m ((c.tc : Thread Cert.AdamSsm.nD Cert.AdamSsm.τ).loc Cert.AdamSsm.main_arg2)
      ∧ r.2.mem ((c.tc : Thread Cert.AdamSsm.nD Cert.AdamSsm.τ).loc Cert.AdamSsm.main_arg3) = m ((c.tc : Thread Cert.AdamSsm.nD Cert.AdamSsm.τ).loc Cert.AdamSsm.main_arg3))
      ∧ r.2.sem = fun _ => 0)

def quiescent_AdamSsmIdeal [hAdamSsmIdeal : Cert.AdamSsmIdeal.Facts] : Prop :=
  ∀ (m : (ℓ : Loc Cert.AdamSsmIdeal.nD Cert.AdamSsmIdeal.τ Cert.AdamSsmIdeal.sig) → Buf (Elt Ideal) ℓ) (g : Dev Cert.AdamSsmIdeal.nD → PrngReg), Pre_AdamSsmIdeal m →
    θ_run (Cert.AdamSsmIdeal.defs (F := Ideal)) (onTc (τ := Cert.AdamSsmIdeal.τ) (Cert.AdamSsmIdeal.main (F := Ideal))) ⟨m, fun _ => 0, g⟩ (fun r => (∀ c : Dev Cert.AdamSsmIdeal.nD,
      r.2.mem ((c.tc : Thread Cert.AdamSsmIdeal.nD Cert.AdamSsmIdeal.τ).loc Cert.AdamSsmIdeal.main_arg0) = m ((c.tc : Thread Cert.AdamSsmIdeal.nD Cert.AdamSsmIdeal.τ).loc Cert.AdamSsmIdeal.main_arg0)
      ∧ r.2.mem ((c.tc : Thread Cert.AdamSsmIdeal.nD Cert.AdamSsmIdeal.τ).loc Cert.AdamSsmIdeal.main_arg1) = m ((c.tc : Thread Cert.AdamSsmIdeal.nD Cert.AdamSsmIdeal.τ).loc Cert.AdamSsmIdeal.main_arg1)
      ∧ r.2.mem ((c.tc : Thread Cert.AdamSsmIdeal.nD Cert.AdamSsmIdeal.τ).loc Cert.AdamSsmIdeal.main_arg2) = m ((c.tc : Thread Cert.AdamSsmIdeal.nD Cert.AdamSsmIdeal.τ).loc Cert.AdamSsmIdeal.main_arg2)
      ∧ r.2.mem ((c.tc : Thread Cert.AdamSsmIdeal.nD Cert.AdamSsmIdeal.τ).loc Cert.AdamSsmIdeal.main_arg3) = m ((c.tc : Thread Cert.AdamSsmIdeal.nD Cert.AdamSsmIdeal.τ).loc Cert.AdamSsmIdeal.main_arg3))
      ∧ r.2.sem = fun _ => 0)

def quiescent_AdamSsmRefIdeal [hAdamSsmRefIdeal : Cert.AdamSsmRefIdeal.Facts] : Prop :=
  ∀ (m : (ℓ : Loc Cert.AdamSsmRefIdeal.nD Cert.AdamSsmRefIdeal.τ Cert.AdamSsmRefIdeal.sig) → Buf (Elt Ideal) ℓ) (g : Dev Cert.AdamSsmRefIdeal.nD → PrngReg), Pre_AdamSsmRefIdeal m →
    θ_run (Cert.AdamSsmRefIdeal.defs (F := Ideal)) (onTc (τ := Cert.AdamSsmRefIdeal.τ) (Cert.AdamSsmRefIdeal.main (F := Ideal))) ⟨m, fun _ => 0, g⟩ (fun r => (∀ c : Dev Cert.AdamSsmRefIdeal.nD,
      r.2.mem ((c.tc : Thread Cert.AdamSsmRefIdeal.nD Cert.AdamSsmRefIdeal.τ).loc Cert.AdamSsmRefIdeal.main_arg0) = m ((c.tc : Thread Cert.AdamSsmRefIdeal.nD Cert.AdamSsmRefIdeal.τ).loc Cert.AdamSsmRefIdeal.main_arg0)
      ∧ r.2.mem ((c.tc : Thread Cert.AdamSsmRefIdeal.nD Cert.AdamSsmRefIdeal.τ).loc Cert.AdamSsmRefIdeal.main_arg1) = m ((c.tc : Thread Cert.AdamSsmRefIdeal.nD Cert.AdamSsmRefIdeal.τ).loc Cert.AdamSsmRefIdeal.main_arg1)
      ∧ r.2.mem ((c.tc : Thread Cert.AdamSsmRefIdeal.nD Cert.AdamSsmRefIdeal.τ).loc Cert.AdamSsmRefIdeal.main_arg2) = m ((c.tc : Thread Cert.AdamSsmRefIdeal.nD Cert.AdamSsmRefIdeal.τ).loc Cert.AdamSsmRefIdeal.main_arg2)
      ∧ r.2.mem ((c.tc : Thread Cert.AdamSsmRefIdeal.nD Cert.AdamSsmRefIdeal.τ).loc Cert.AdamSsmRefIdeal.main_arg3) = m ((c.tc : Thread Cert.AdamSsmRefIdeal.nD Cert.AdamSsmRefIdeal.τ).loc Cert.AdamSsmRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_OutBack [hOutBack : Cert.OutBack.Facts] : Prop :=
  ∀ (m : (ℓ : Loc Cert.OutBack.nD Cert.OutBack.τ Cert.OutBack.sig) → Buf (Elt Bits) ℓ) (g : Dev Cert.OutBack.nD → PrngReg), Pre_OutBack m →
    θ_run (Cert.OutBack.defs (F := Bits)) (onTc (τ := Cert.OutBack.τ) (Cert.OutBack.main (F := Bits))) ⟨m, fun _ => 0, g⟩ (fun r => (∀ c : Dev Cert.OutBack.nD,
      r.2.mem ((c.tc : Thread Cert.OutBack.nD Cert.OutBack.τ).loc Cert.OutBack.main_arg0) = m ((c.tc : Thread Cert.OutBack.nD Cert.OutBack.τ).loc Cert.OutBack.main_arg0)
      ∧ r.2.mem ((c.tc : Thread Cert.OutBack.nD Cert.OutBack.τ).loc Cert.OutBack.main_arg1) = m ((c.tc : Thread Cert.OutBack.nD Cert.OutBack.τ).loc Cert.OutBack.main_arg1)
      ∧ r.2.mem ((c.tc : Thread Cert.OutBack.nD Cert.OutBack.τ).loc Cert.OutBack.main_arg2) = m ((c.tc : Thread Cert.OutBack.nD Cert.OutBack.τ).loc Cert.OutBack.main_arg2)
      ∧ r.2.mem ((c.tc : Thread Cert.OutBack.nD Cert.OutBack.τ).loc Cert.OutBack.main_arg3) = m ((c.tc : Thread Cert.OutBack.nD Cert.OutBack.τ).loc Cert.OutBack.main_arg3)
      ∧ r.2.mem ((c.tc : Thread Cert.OutBack.nD Cert.OutBack.τ).loc Cert.OutBack.main_arg4) = m ((c.tc : Thread Cert.OutBack.nD Cert.OutBack.τ).loc Cert.OutBack.main_arg4)
      ∧ r.2.mem ((c.tc : Thread Cert.OutBack.nD Cert.OutBack.τ).loc Cert.OutBack.main_arg5) = m ((c.tc : Thread Cert.OutBack.nD Cert.OutBack.τ).loc Cert.OutBack.main_arg5)
      ∧ r.2.mem ((c.tc : Thread Cert.OutBack.nD Cert.OutBack.τ).loc Cert.OutBack.main_arg6) = m ((c.tc : Thread Cert.OutBack.nD Cert.OutBack.τ).loc Cert.OutBack.main_arg6)
      ∧ r.2.mem ((c.tc : Thread Cert.OutBack.nD Cert.OutBack.τ).loc Cert.OutBack.main_arg7) = m ((c.tc : Thread Cert.OutBack.nD Cert.OutBack.τ).loc Cert.OutBack.main_arg7))
      ∧ r.2.sem = fun _ => 0)

def quiescent_OutBackIdeal [hOutBackIdeal : Cert.OutBackIdeal.Facts] : Prop :=
  ∀ (m : (ℓ : Loc Cert.OutBackIdeal.nD Cert.OutBackIdeal.τ Cert.OutBackIdeal.sig) → Buf (Elt Ideal) ℓ) (g : Dev Cert.OutBackIdeal.nD → PrngReg), Pre_OutBackIdeal m →
    θ_run (Cert.OutBackIdeal.defs (F := Ideal)) (onTc (τ := Cert.OutBackIdeal.τ) (Cert.OutBackIdeal.main (F := Ideal))) ⟨m, fun _ => 0, g⟩ (fun r => (∀ c : Dev Cert.OutBackIdeal.nD,
      r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
      ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1)
      ∧ r.2.mem ((c.tc : Thread Cert.OutBackIdeal.nD Cert.OutBackIdeal.τ).loc Cert.OutBackIdeal.main_arg2) = m ((c.tc : Thread Cert.OutBackIdeal.nD Cert.OutBackIdeal.τ).loc Cert.OutBackIdeal.main_arg2)
      ∧ r.2.mem ((c.tc : Thread Cert.OutBackIdeal.nD Cert.OutBackIdeal.τ).loc Cert.OutBackIdeal.main_arg3) = m ((c.tc : Thread Cert.OutBackIdeal.nD Cert.OutBackIdeal.τ).loc Cert.OutBackIdeal.main_arg3)
      ∧ r.2.mem ((c.tc : Thread Cert.OutBackIdeal.nD Cert.OutBackIdeal.τ).loc Cert.OutBackIdeal.main_arg4) = m ((c.tc : Thread Cert.OutBackIdeal.nD Cert.OutBackIdeal.τ).loc Cert.OutBackIdeal.main_arg4)
      ∧ r.2.mem ((c.tc : Thread Cert.OutBackIdeal.nD Cert.OutBackIdeal.τ).loc Cert.OutBackIdeal.main_arg5) = m ((c.tc : Thread Cert.OutBackIdeal.nD Cert.OutBackIdeal.τ).loc Cert.OutBackIdeal.main_arg5)
      ∧ r.2.mem ((c.tc : Thread Cert.OutBackIdeal.nD Cert.OutBackIdeal.τ).loc Cert.OutBackIdeal.main_arg6) = m ((c.tc : Thread Cert.OutBackIdeal.nD Cert.OutBackIdeal.τ).loc Cert.OutBackIdeal.main_arg6)
      ∧ r.2.mem ((c.tc : Thread Cert.OutBackIdeal.nD Cert.OutBackIdeal.τ).loc Cert.OutBackIdeal.main_arg7) = m ((c.tc : Thread Cert.OutBackIdeal.nD Cert.OutBackIdeal.τ).loc Cert.OutBackIdeal.main_arg7))
      ∧ r.2.sem = fun _ => 0)

def quiescent_OutBackRefIdeal [hOutBackRefIdeal : Cert.OutBackRefIdeal.Facts] : Prop :=
  ∀ (m : (ℓ : Loc Cert.OutBackRefIdeal.nD Cert.OutBackRefIdeal.τ Cert.OutBackRefIdeal.sig) → Buf (Elt Ideal) ℓ) (g : Dev Cert.OutBackRefIdeal.nD → PrngReg), Pre_OutBackRefIdeal m →
    θ_run (Cert.OutBackRefIdeal.defs (F := Ideal)) (onTc (τ := Cert.OutBackRefIdeal.τ) (Cert.OutBackRefIdeal.main (F := Ideal))) ⟨m, fun _ => 0, g⟩ (fun r => (∀ c : Dev Cert.OutBackRefIdeal.nD,
      r.2.mem ((c.tc : Thread Cert.OutBackRefIdeal.nD Cert.OutBackRefIdeal.τ).loc Cert.OutBackRefIdeal.main_arg0) = m ((c.tc : Thread Cert.OutBackRefIdeal.nD Cert.OutBackRefIdeal.τ).loc Cert.OutBackRefIdeal.main_arg0)
      ∧ r.2.mem ((c.tc : Thread Cert.OutBackRefIdeal.nD Cert.OutBackRefIdeal.τ).loc Cert.OutBackRefIdeal.main_arg1) = m ((c.tc : Thread Cert.OutBackRefIdeal.nD Cert.OutBackRefIdeal.τ).loc Cert.OutBackRefIdeal.main_arg1)
      ∧ r.2.mem ((c.tc : Thread Cert.OutBackRefIdeal.nD Cert.OutBackRefIdeal.τ).loc Cert.OutBackRefIdeal.main_arg2) = m ((c.tc : Thread Cert.OutBackRefIdeal.nD Cert.OutBackRefIdeal.τ).loc Cert.OutBackRefIdeal.main_arg2)
      ∧ r.2.mem ((c.tc : Thread Cert.OutBackRefIdeal.nD Cert.OutBackRefIdeal.τ).loc Cert.OutBackRefIdeal.main_arg3) = m ((c.tc : Thread Cert.OutBackRefIdeal.nD Cert.OutBackRefIdeal.τ).loc Cert.OutBackRefIdeal.main_arg3)
      ∧ r.2.mem ((c.tc : Thread Cert.OutBackRefIdeal.nD Cert.OutBackRefIdeal.τ).loc Cert.OutBackRefIdeal.main_arg4) = m ((c.tc : Thread Cert.OutBackRefIdeal.nD Cert.OutBackRefIdeal.τ).loc Cert.OutBackRefIdeal.main_arg4)
      ∧ r.2.mem ((c.tc : Thread Cert.OutBackRefIdeal.nD Cert.OutBackRefIdeal.τ).loc Cert.OutBackRefIdeal.main_arg5) = m ((c.tc : Thread Cert.OutBackRefIdeal.nD Cert.OutBackRefIdeal.τ).loc Cert.OutBackRefIdeal.main_arg5)
      ∧ r.2.mem ((c.tc : Thread Cert.OutBackRefIdeal.nD Cert.OutBackRefIdeal.τ).loc Cert.OutBackRefIdeal.main_arg6) = m ((c.tc : Thread Cert.OutBackRefIdeal.nD Cert.OutBackRefIdeal.τ).loc Cert.OutBackRefIdeal.main_arg6)
      ∧ r.2.mem ((c.tc : Thread Cert.OutBackRefIdeal.nD Cert.OutBackRefIdeal.τ).loc Cert.OutBackRefIdeal.main_arg7) = m ((c.tc : Thread Cert.OutBackRefIdeal.nD Cert.OutBackRefIdeal.τ).loc Cert.OutBackRefIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)) (v3 : (c : Dev Cert.KernelIdeal.nD) → Buf (Elt Ideal) ((c.tc : Thread Cert.KernelIdeal.nD Cert.KernelIdeal.τ).loc Cert.KernelIdeal.main_v30_3)) (v4 : (c : Dev Cert.KernelIdeal.nD) → Buf (Elt Ideal) ((c.tc : Thread Cert.KernelIdeal.nD Cert.KernelIdeal.τ).loc Cert.KernelIdeal.main_v30_4)) (v5 : (c : Dev Cert.KernelIdeal.nD) → Buf (Elt Ideal) ((c.tc : Thread Cert.KernelIdeal.nD Cert.KernelIdeal.τ).loc Cert.KernelIdeal.main_v30_5)) (v6 : (c : Dev Cert.KernelIdeal.nD) → Buf (Elt Ideal) ((c.tc : Thread Cert.KernelIdeal.nD Cert.KernelIdeal.τ).loc Cert.KernelIdeal.main_v30_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_v30_3) = v3 c
          ∧ r.2.mem ((c.tc : Thread Cert.KernelIdeal.nD Cert.KernelIdeal.τ).loc Cert.KernelIdeal.main_v30_4) = v4 c
          ∧ r.2.mem ((c.tc : Thread Cert.KernelIdeal.nD Cert.KernelIdeal.τ).loc Cert.KernelIdeal.main_v30_5) = v5 c
          ∧ r.2.mem ((c.tc : Thread Cert.KernelIdeal.nD Cert.KernelIdeal.τ).loc Cert.KernelIdeal.main_v30_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v101) = v4 c
          ∧ r.2.mem ((c.tc : Thread Cert.ReferenceIdeal.nD Cert.ReferenceIdeal.τ).loc Cert.ReferenceIdeal.main_v74) = v5 c
          ∧ r.2.mem ((c.tc : Thread Cert.ReferenceIdeal.nD Cert.ReferenceIdeal.τ).loc Cert.ReferenceIdeal.main_v48) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Forward_ForwardIdeal : Prop :=
  True

def algebraic_ForwardIdeal_ForwardRefIdeal [hForwardIdeal : Cert.ForwardIdeal.Facts] [hForwardRefIdeal : Cert.ForwardRefIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardRefIdeal.nD Cert.ForwardRefIdeal.τ Cert.ForwardRefIdeal.sig) → Buf (Elt Ideal) ℓ) (g' : Dev Cert.ForwardRefIdeal.nD → PrngReg), Pre_ForwardIdeal m →
    (∀ c : Dev Cert.ForwardIdeal.nD,
      m' ((c.tc : Thread Cert.ForwardRefIdeal.nD Cert.ForwardRefIdeal.τ).loc Cert.ForwardRefIdeal.main_arg0) = m ((c.tc : Thread Cert.ForwardIdeal.nD Cert.ForwardIdeal.τ).loc Cert.ForwardIdeal.main_arg0)
      ∧ m' ((c.tc : Thread Cert.ForwardRefIdeal.nD Cert.ForwardRefIdeal.τ).loc Cert.ForwardRefIdeal.main_arg1) = m ((c.tc : Thread Cert.ForwardIdeal.nD Cert.ForwardIdeal.τ).loc Cert.ForwardIdeal.main_arg1)
      ∧ m' ((c.tc : Thread Cert.ForwardRefIdeal.nD Cert.ForwardRefIdeal.τ).loc Cert.ForwardRefIdeal.main_arg2) = m ((c.tc : Thread Cert.ForwardIdeal.nD Cert.ForwardIdeal.τ).loc Cert.ForwardIdeal.main_arg2)
      ∧ m' ((c.tc : Thread Cert.ForwardRefIdeal.nD Cert.ForwardRefIdeal.τ).loc Cert.ForwardRefIdeal.main_arg3) = m ((c.tc : Thread Cert.ForwardIdeal.nD Cert.ForwardIdeal.τ).loc Cert.ForwardIdeal.main_arg3)
      ∧ m' ((c.tc : Thread Cert.ForwardRefIdeal.nD Cert.ForwardRefIdeal.τ).loc Cert.ForwardRefIdeal.main_arg4) = m ((c.tc : Thread Cert.ForwardIdeal.nD Cert.ForwardIdeal.τ).loc Cert.ForwardIdeal.main_arg4)
      ∧ m' ((c.tc : Thread Cert.ForwardRefIdeal.nD Cert.ForwardRefIdeal.τ).loc Cert.ForwardRefIdeal.main_arg5) = m ((c.tc : Thread Cert.ForwardIdeal.nD Cert.ForwardIdeal.τ).loc Cert.ForwardIdeal.main_arg5)
      ∧ m' ((c.tc : Thread Cert.ForwardRefIdeal.nD Cert.ForwardRefIdeal.τ).loc Cert.ForwardRefIdeal.main_arg6) = m ((c.tc : Thread Cert.ForwardIdeal.nD Cert.ForwardIdeal.τ).loc Cert.ForwardIdeal.main_arg6)) →
    ∃ (v0 : (c : Dev Cert.ForwardIdeal.nD) → Buf (Elt Ideal) ((c.tc : Thread Cert.ForwardIdeal.nD Cert.ForwardIdeal.τ).loc Cert.ForwardIdeal.main_v7_0)) (v1 : (c : Dev Cert.ForwardIdeal.nD) → Buf (Elt Ideal) ((c.tc : Thread Cert.ForwardIdeal.nD Cert.ForwardIdeal.τ).loc Cert.ForwardIdeal.main_v7_1)) (v2 : (c : Dev Cert.ForwardIdeal.nD) → Buf (Elt Ideal) ((c.tc : Thread Cert.ForwardIdeal.nD Cert.ForwardIdeal.τ).loc Cert.ForwardIdeal.main_v7_2)) (v3 : (c : Dev Cert.ForwardIdeal.nD) → Buf (Elt Ideal) ((c.tc : Thread Cert.ForwardIdeal.nD Cert.ForwardIdeal.τ).loc Cert.ForwardIdeal.main_v7_3)) (v4 : (c : Dev Cert.ForwardIdeal.nD) → Buf (Elt Ideal) ((c.tc : Thread Cert.ForwardIdeal.nD Cert.ForwardIdeal.τ).loc Cert.ForwardIdeal.main_v7_4)) (v5 : (c : Dev Cert.ForwardIdeal.nD) → Buf (Elt Ideal) ((c.tc : Thread Cert.ForwardIdeal.nD Cert.ForwardIdeal.τ).loc Cert.ForwardIdeal.main_v7_5)) (v6 : (c : Dev Cert.ForwardIdeal.nD) → Buf (Elt Ideal) ((c.tc : Thread Cert.ForwardIdeal.nD Cert.ForwardIdeal.τ).loc Cert.ForwardIdeal.main_v7_6)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v7_0) = v0 c
          ∧ r.2.mem ((c.tc : Thread Cert.ForwardIdeal.nD Cert.ForwardIdeal.τ).loc Cert.ForwardIdeal.main_v7_1) = v1 c
          ∧ r.2.mem ((c.tc : Thread Cert.ForwardIdeal.nD Cert.ForwardIdeal.τ).loc Cert.ForwardIdeal.main_v7_2) = v2 c
          ∧ r.2.mem ((c.tc : Thread Cert.ForwardIdeal.nD Cert.ForwardIdeal.τ).loc Cert.ForwardIdeal.main_v7_3) = v3 c
          ∧ r.2.mem ((c.tc : Thread Cert.ForwardIdeal.nD Cert.ForwardIdeal.τ).loc Cert.ForwardIdeal.main_v7_4) = v4 c
          ∧ r.2.mem ((c.tc : Thread Cert.ForwardIdeal.nD Cert.ForwardIdeal.τ).loc Cert.ForwardIdeal.main_v7_5) = v5 c
          ∧ r.2.mem ((c.tc : Thread Cert.ForwardIdeal.nD Cert.ForwardIdeal.τ).loc Cert.ForwardIdeal.main_v7_6) = v6 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
          ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
          ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6))
      ∧ θ_run (Cert.ForwardRefIdeal.defs (F := Ideal)) (onTc (τ := Cert.ForwardRefIdeal.τ) (Cert.ForwardRefIdeal.main (F := Ideal))) ⟨m', fun _ => 0, g'⟩ (fun r => ∀ c : Dev Cert.ForwardRefIdeal.nD,
          r.2.mem ((c.tc : Thread Cert.ForwardRefIdeal.nD Cert.ForwardRefIdeal.τ).loc Cert.ForwardRefIdeal.main_v31) = v0 c
          ∧ r.2.mem ((c.tc : Thread Cert.ForwardRefIdeal.nD Cert.ForwardRefIdeal.τ).loc Cert.ForwardRefIdeal.main_v53) = v1 c
          ∧ r.2.mem ((c.tc : Thread Cert.ForwardRefIdeal.nD Cert.ForwardRefIdeal.τ).loc Cert.ForwardRefIdeal.main_v56) = v2 c
          ∧ r.2.mem ((c.tc : Thread Cert.ForwardRefIdeal.nD Cert.ForwardRefIdeal.τ).loc Cert.ForwardRefIdeal.main_v59) = v3 c
          ∧ r.2.mem ((c.tc : Thread Cert.ForwardRefIdeal.nD Cert.ForwardRefIdeal.τ).loc Cert.ForwardRefIdeal.main_v16) = v4 c
          ∧ r.2.mem ((c.tc : Thread Cert.ForwardRefIdeal.nD Cert.ForwardRefIdeal.τ).loc Cert.ForwardRefIdeal.main_v52) = v5 c
          ∧ r.2.mem ((c.tc : Thread Cert.ForwardRefIdeal.nD Cert.ForwardRefIdeal.τ).loc Cert.ForwardRefIdeal.main_v45) = v6 c
          ∧ r.2.mem ((c.tc : Thread Cert.ForwardRefIdeal.nD Cert.ForwardRefIdeal.τ).loc Cert.ForwardRefIdeal.main_arg0) = m' ((c.tc : Thread Cert.ForwardRefIdeal.nD Cert.ForwardRefIdeal.τ).loc Cert.ForwardRefIdeal.main_arg0)
          ∧ r.2.mem ((c.tc : Thread Cert.ForwardRefIdeal.nD Cert.ForwardRefIdeal.τ).loc Cert.ForwardRefIdeal.main_arg1) = m' ((c.tc : Thread Cert.ForwardRefIdeal.nD Cert.ForwardRefIdeal.τ).loc Cert.ForwardRefIdeal.main_arg1)
          ∧ r.2.mem ((c.tc : Thread Cert.ForwardRefIdeal.nD Cert.ForwardRefIdeal.τ).loc Cert.ForwardRefIdeal.main_arg2) = m' ((c.tc : Thread Cert.ForwardRefIdeal.nD Cert.ForwardRefIdeal.τ).loc Cert.ForwardRefIdeal.main_arg2)
          ∧ r.2.mem ((c.tc : Thread Cert.ForwardRefIdeal.nD Cert.ForwardRefIdeal.τ).loc Cert.ForwardRefIdeal.main_arg3) = m' ((c.tc : Thread Cert.ForwardRefIdeal.nD Cert.ForwardRefIdeal.τ).loc Cert.ForwardRefIdeal.main_arg3)
          ∧ r.2.mem ((c.tc : Thread Cert.ForwardRefIdeal.nD Cert.ForwardRefIdeal.τ).loc Cert.ForwardRefIdeal.main_arg4) = m' ((c.tc : Thread Cert.ForwardRefIdeal.nD Cert.ForwardRefIdeal.τ).loc Cert.ForwardRefIdeal.main_arg4)
          ∧ r.2.mem ((c.tc : Thread Cert.ForwardRefIdeal.nD Cert.ForwardRefIdeal.τ).loc Cert.ForwardRefIdeal.main_arg5) = m' ((c.tc : Thread Cert.ForwardRefIdeal.nD Cert.ForwardRefIdeal.τ).loc Cert.ForwardRefIdeal.main_arg5)
          ∧ r.2.mem ((c.tc : Thread Cert.ForwardRefIdeal.nD Cert.ForwardRefIdeal.τ).loc Cert.ForwardRefIdeal.main_arg6) = m' ((c.tc : Thread Cert.ForwardRefIdeal.nD Cert.ForwardRefIdeal.τ).loc Cert.ForwardRefIdeal.main_arg6))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)) →
    ∃ (v0 : (c : Dev Cert.FirstIdeal.nD) → Buf (Elt Ideal) ((c.tc : Thread Cert.FirstIdeal.nD Cert.FirstIdeal.τ).loc Cert.FirstIdeal.main_v7_0)) (v1 : (c : Dev Cert.FirstIdeal.nD) → Buf (Elt Ideal) ((c.tc : Thread Cert.FirstIdeal.nD Cert.FirstIdeal.τ).loc Cert.FirstIdeal.main_v7_1)) (v2 : (c : Dev Cert.FirstIdeal.nD) → Buf (Elt Ideal) ((c.tc : Thread Cert.FirstIdeal.nD Cert.FirstIdeal.τ).loc Cert.FirstIdeal.main_v7_2)) (v3 : (c : Dev Cert.FirstIdeal.nD) → Buf (Elt Ideal) ((c.tc : Thread Cert.FirstIdeal.nD Cert.FirstIdeal.τ).loc Cert.FirstIdeal.main_v7_3)) (v4 : (c : Dev Cert.FirstIdeal.nD) → Buf (Elt Ideal) ((c.tc : Thread Cert.FirstIdeal.nD Cert.FirstIdeal.τ).loc Cert.FirstIdeal.main_v7_4)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v7_0) = v0 c
          ∧ r.2.mem ((c.tc : Thread Cert.FirstIdeal.nD Cert.FirstIdeal.τ).loc Cert.FirstIdeal.main_v7_1) = v1 c
          ∧ r.2.mem ((c.tc : Thread Cert.FirstIdeal.nD Cert.FirstIdeal.τ).loc Cert.FirstIdeal.main_v7_2) = v2 c
          ∧ r.2.mem ((c.tc : Thread Cert.FirstIdeal.nD Cert.FirstIdeal.τ).loc Cert.FirstIdeal.main_v7_3) = v3 c
          ∧ r.2.mem ((c.tc : Thread Cert.FirstIdeal.nD Cert.FirstIdeal.τ).loc Cert.FirstIdeal.main_v7_4) = v4 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v31) = v0 c
          ∧ r.2.mem ((c.tc : Thread Cert.FirstRefIdeal.nD Cert.FirstRefIdeal.τ).loc Cert.FirstRefIdeal.main_v32) = v1 c
          ∧ r.2.mem ((c.tc : Thread Cert.FirstRefIdeal.nD Cert.FirstRefIdeal.τ).loc Cert.FirstRefIdeal.main_v35) = v2 c
          ∧ r.2.mem ((c.tc : Thread Cert.FirstRefIdeal.nD Cert.FirstRefIdeal.τ).loc Cert.FirstRefIdeal.main_v38) = v3 c
          ∧ r.2.mem ((c.tc : Thread Cert.FirstRefIdeal.nD Cert.FirstRefIdeal.τ).loc Cert.FirstRefIdeal.main_v16) = v4 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v7) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v5)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v5) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v8) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Wide_WideIdeal : Prop :=
  True

def algebraic_WideIdeal_WideRefIdeal [hWideIdeal : Cert.WideIdeal.Facts] [hWideRefIdeal : Cert.WideRefIdeal.Facts] : Prop :=
  ∀ (m : (ℓ : Loc Cert.WideIdeal.nD Cert.WideIdeal.τ Cert.WideIdeal.sig) → Buf (Elt Ideal) ℓ) (g : Dev Cert.WideIdeal.nD → PrngReg)
    (m' : (ℓ : Loc Cert.WideRefIdeal.nD Cert.WideRefIdeal.τ Cert.WideRefIdeal.sig) → Buf (Elt Ideal) ℓ) (g' : Dev Cert.WideRefIdeal.nD → PrngReg), Pre_WideIdeal m →
    (∀ c : Dev Cert.WideIdeal.nD,
      m' ((c.tc : Thread Cert.WideRefIdeal.nD Cert.WideRefIdeal.τ).loc Cert.WideRefIdeal.main_arg0) = m ((c.tc : Thread Cert.WideIdeal.nD Cert.WideIdeal.τ).loc Cert.WideIdeal.main_arg0)
      ∧ m' ((c.tc : Thread Cert.WideRefIdeal.nD Cert.WideRefIdeal.τ).loc Cert.WideRefIdeal.main_arg1) = m ((c.tc : Thread Cert.WideIdeal.nD Cert.WideIdeal.τ).loc Cert.WideIdeal.main_arg1)) →
    ∃ (v0 : (c : Dev Cert.WideIdeal.nD) → Buf (Elt Ideal) ((c.tc : Thread Cert.WideIdeal.nD Cert.WideIdeal.τ).loc Cert.WideIdeal.main_v4)),
      θ_run (Cert.WideIdeal.defs (F := Ideal)) (onTc (τ := Cert.WideIdeal.τ) (Cert.WideIdeal.main (F := Ideal))) ⟨m, fun _ => 0, g⟩ (fun r => ∀ c : Dev Cert.WideIdeal.nD,
          r.2.mem ((c.tc : Thread Cert.WideIdeal.nD Cert.WideIdeal.τ).loc Cert.WideIdeal.main_v4) = v0 c
          ∧ r.2.mem ((c.tc : Thread Cert.WideIdeal.nD Cert.WideIdeal.τ).loc Cert.WideIdeal.main_arg0) = m ((c.tc : Thread Cert.WideIdeal.nD Cert.WideIdeal.τ).loc Cert.WideIdeal.main_arg0)
          ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ θ_run (Cert.WideRefIdeal.defs (F := Ideal)) (onTc (τ := Cert.WideRefIdeal.τ) (Cert.WideRefIdeal.main (F := Ideal))) ⟨m', fun _ => 0, g'⟩ (fun r => ∀ c : Dev Cert.WideRefIdeal.nD,
          r.2.mem ((c.tc : Thread Cert.WideRefIdeal.nD Cert.WideRefIdeal.τ).loc Cert.WideRefIdeal.main_v4) = v0 c
          ∧ r.2.mem ((c.tc : Thread Cert.WideRefIdeal.nD Cert.WideRefIdeal.τ).loc Cert.WideRefIdeal.main_arg0) = m' ((c.tc : Thread Cert.WideRefIdeal.nD Cert.WideRefIdeal.τ).loc Cert.WideRefIdeal.main_arg0)
          ∧ r.2.mem ((c.tc : Thread Cert.WideRefIdeal.nD Cert.WideRefIdeal.τ).loc Cert.WideRefIdeal.main_arg1) = m' ((c.tc : Thread Cert.WideRefIdeal.nD Cert.WideRefIdeal.τ).loc Cert.WideRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v6_0)) (v1 : (c : Dev Cert.MixInIdeal.nD) → Buf (Elt Ideal) ((c.tc : Thread Cert.MixInIdeal.nD Cert.MixInIdeal.τ).loc Cert.MixInIdeal.main_v6_1)) (v2 : (c : Dev Cert.MixInIdeal.nD) → Buf (Elt Ideal) ((c.tc : Thread Cert.MixInIdeal.nD Cert.MixInIdeal.τ).loc Cert.MixInIdeal.main_v6_2)) (v3 : (c : Dev Cert.MixInIdeal.nD) → Buf (Elt Ideal) ((c.tc : Thread Cert.MixInIdeal.nD Cert.MixInIdeal.τ).loc Cert.MixInIdeal.main_v6_3)) (v4 : (c : Dev Cert.MixInIdeal.nD) → Buf (Elt Ideal) ((c.tc : Thread Cert.MixInIdeal.nD Cert.MixInIdeal.τ).loc Cert.MixInIdeal.main_v6_4)) (v5 : (c : Dev Cert.MixInIdeal.nD) → Buf (Elt Ideal) ((c.tc : Thread Cert.MixInIdeal.nD Cert.MixInIdeal.τ).loc Cert.MixInIdeal.main_v6_5)) (v6 : (c : Dev Cert.MixInIdeal.nD) → Buf (Elt Ideal) ((c.tc : Thread Cert.MixInIdeal.nD Cert.MixInIdeal.τ).loc Cert.MixInIdeal.main_v6_6)) (v7 : (c : Dev Cert.MixInIdeal.nD) → Buf (Elt Ideal) ((c.tc : Thread Cert.MixInIdeal.nD Cert.MixInIdeal.τ).loc Cert.MixInIdeal.main_v6_7)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v6_0) = v0 c
          ∧ r.2.mem ((c.tc : Thread Cert.MixInIdeal.nD Cert.MixInIdeal.τ).loc Cert.MixInIdeal.main_v6_1) = v1 c
          ∧ r.2.mem ((c.tc : Thread Cert.MixInIdeal.nD Cert.MixInIdeal.τ).loc Cert.MixInIdeal.main_v6_2) = v2 c
          ∧ r.2.mem ((c.tc : Thread Cert.MixInIdeal.nD Cert.MixInIdeal.τ).loc Cert.MixInIdeal.main_v6_3) = v3 c
          ∧ r.2.mem ((c.tc : Thread Cert.MixInIdeal.nD Cert.MixInIdeal.τ).loc Cert.MixInIdeal.main_v6_4) = v4 c
          ∧ r.2.mem ((c.tc : Thread Cert.MixInIdeal.nD Cert.MixInIdeal.τ).loc Cert.MixInIdeal.main_v6_5) = v5 c
          ∧ r.2.mem ((c.tc : Thread Cert.MixInIdeal.nD Cert.MixInIdeal.τ).loc Cert.MixInIdeal.main_v6_6) = v6 c
          ∧ r.2.mem ((c.tc : Thread Cert.MixInIdeal.nD Cert.MixInIdeal.τ).loc Cert.MixInIdeal.main_v6_7) = v7 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v22) = v0 c
          ∧ r.2.mem ((c.tc : Thread Cert.MixInRefIdeal.nD Cert.MixInRefIdeal.τ).loc Cert.MixInRefIdeal.main_v23) = v1 c
          ∧ r.2.mem ((c.tc : Thread Cert.MixInRefIdeal.nD Cert.MixInRefIdeal.τ).loc Cert.MixInRefIdeal.main_v14) = v2 c
          ∧ r.2.mem ((c.tc : Thread Cert.MixInRefIdeal.nD Cert.MixInRefIdeal.τ).loc Cert.MixInRefIdeal.main_v15) = v3 c
          ∧ r.2.mem ((c.tc : Thread Cert.MixInRefIdeal.nD Cert.MixInRefIdeal.τ).loc Cert.MixInRefIdeal.main_v24) = v4 c
          ∧ r.2.mem ((c.tc : Thread Cert.MixInRefIdeal.nD Cert.MixInRefIdeal.τ).loc Cert.MixInRefIdeal.main_v25) = v5 c
          ∧ r.2.mem ((c.tc : Thread Cert.MixInRefIdeal.nD Cert.MixInRefIdeal.τ).loc Cert.MixInRefIdeal.main_v26) = v6 c
          ∧ r.2.mem ((c.tc : Thread Cert.MixInRefIdeal.nD Cert.MixInRefIdeal.τ).loc Cert.MixInRefIdeal.main_v27) = v7 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_MixBack_MixBackIdeal : Prop :=
  True

def algebraic_MixBackIdeal_MixBackRefIdeal [hMixBackIdeal : Cert.MixBackIdeal.Facts] [hMixBackRefIdeal : Cert.MixBackRefIdeal.Facts] : Prop :=
  ∀ (m : (ℓ : Loc Cert.MixBackIdeal.nD Cert.MixBackIdeal.τ Cert.MixBackIdeal.sig) → Buf (Elt Ideal) ℓ) (g : Dev Cert.MixBackIdeal.nD → PrngReg)
    (m' : (ℓ : Loc Cert.MixBackRefIdeal.nD Cert.MixBackRefIdeal.τ Cert.MixBackRefIdeal.sig) → Buf (Elt Ideal) ℓ) (g' : Dev Cert.MixBackRefIdeal.nD → PrngReg), Pre_MixBackIdeal m →
    (∀ c : Dev Cert.MixBackIdeal.nD,
      m' ((c.tc : Thread Cert.MixBackRefIdeal.nD Cert.MixBackRefIdeal.τ).loc Cert.MixBackRefIdeal.main_arg0) = m ((c.tc : Thread Cert.MixBackIdeal.nD Cert.MixBackIdeal.τ).loc Cert.MixBackIdeal.main_arg0)
      ∧ m' ((c.tc : Thread Cert.MixBackRefIdeal.nD Cert.MixBackRefIdeal.τ).loc Cert.MixBackRefIdeal.main_arg1) = m ((c.tc : Thread Cert.MixBackIdeal.nD Cert.MixBackIdeal.τ).loc Cert.MixBackIdeal.main_arg1)
      ∧ m' ((c.tc : Thread Cert.MixBackRefIdeal.nD Cert.MixBackRefIdeal.τ).loc Cert.MixBackRefIdeal.main_arg2) = m ((c.tc : Thread Cert.MixBackIdeal.nD Cert.MixBackIdeal.τ).loc Cert.MixBackIdeal.main_arg2)
      ∧ m' ((c.tc : Thread Cert.MixBackRefIdeal.nD Cert.MixBackRefIdeal.τ).loc Cert.MixBackRefIdeal.main_arg3) = m ((c.tc : Thread Cert.MixBackIdeal.nD Cert.MixBackIdeal.τ).loc Cert.MixBackIdeal.main_arg3)
      ∧ m' ((c.tc : Thread Cert.MixBackRefIdeal.nD Cert.MixBackRefIdeal.τ).loc Cert.MixBackRefIdeal.main_arg4) = m ((c.tc : Thread Cert.MixBackIdeal.nD Cert.MixBackIdeal.τ).loc Cert.MixBackIdeal.main_arg4)) →
    ∃ (v0 : (c : Dev Cert.MixBackIdeal.nD) → Buf (Elt Ideal) ((c.tc : Thread Cert.MixBackIdeal.nD Cert.MixBackIdeal.τ).loc Cert.MixBackIdeal.main_v17_0)) (v1 : (c : Dev Cert.MixBackIdeal.nD) → Buf (Elt Ideal) ((c.tc : Thread Cert.MixBackIdeal.nD Cert.MixBackIdeal.τ).loc Cert.MixBackIdeal.main_v17_1)),
      θ_run (Cert.MixBackIdeal.defs (F := Ideal)) (onTc (τ := Cert.MixBackIdeal.τ) (Cert.MixBackIdeal.main (F := Ideal))) ⟨m, fun _ => 0, g⟩ (fun r => ∀ c : Dev Cert.MixBackIdeal.nD,
          r.2.mem ((c.tc : Thread Cert.MixBackIdeal.nD Cert.MixBackIdeal.τ).loc Cert.MixBackIdeal.main_v17_0) = v0 c
          ∧ r.2.mem ((c.tc : Thread Cert.MixBackIdeal.nD Cert.MixBackIdeal.τ).loc Cert.MixBackIdeal.main_v17_1) = v1 c
          ∧ r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
          ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
          ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
          ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
          ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4))
      ∧ θ_run (Cert.MixBackRefIdeal.defs (F := Ideal)) (onTc (τ := Cert.MixBackRefIdeal.τ) (Cert.MixBackRefIdeal.main (F := Ideal))) ⟨m', fun _ => 0, g'⟩ (fun r => ∀ c : Dev Cert.MixBackRefIdeal.nD,
          r.2.mem ((c.tc : Thread Cert.MixBackRefIdeal.nD Cert.MixBackRefIdeal.τ).loc Cert.MixBackRefIdeal.main_v36) = v0 c
          ∧ r.2.mem ((c.tc : Thread Cert.MixBackRefIdeal.nD Cert.MixBackRefIdeal.τ).loc Cert.MixBackRefIdeal.main_v19) = v1 c
          ∧ r.2.mem ((c.tc : Thread Cert.MixBackRefIdeal.nD Cert.MixBackRefIdeal.τ).loc Cert.MixBackRefIdeal.main_arg0) = m' ((c.tc : Thread Cert.MixBackRefIdeal.nD Cert.MixBackRefIdeal.τ).loc Cert.MixBackRefIdeal.main_arg0)
          ∧ r.2.mem ((c.tc : Thread Cert.MixBackRefIdeal.nD Cert.MixBackRefIdeal.τ).loc Cert.MixBackRefIdeal.main_arg1) = m' ((c.tc : Thread Cert.MixBackRefIdeal.nD Cert.MixBackRefIdeal.τ).loc Cert.MixBackRefIdeal.main_arg1)
          ∧ r.2.mem ((c.tc : Thread Cert.MixBackRefIdeal.nD Cert.MixBackRefIdeal.τ).loc Cert.MixBackRefIdeal.main_arg2) = m' ((c.tc : Thread Cert.MixBackRefIdeal.nD Cert.MixBackRefIdeal.τ).loc Cert.MixBackRefIdeal.main_arg2)
          ∧ r.2.mem ((c.tc : Thread Cert.MixBackRefIdeal.nD Cert.MixBackRefIdeal.τ).loc Cert.MixBackRefIdeal.main_arg3) = m' ((c.tc : Thread Cert.MixBackRefIdeal.nD Cert.MixBackRefIdeal.τ).loc Cert.MixBackRefIdeal.main_arg3)
          ∧ r.2.mem ((c.tc : Thread Cert.MixBackRefIdeal.nD Cert.MixBackRefIdeal.τ).loc Cert.MixBackRefIdeal.main_arg4) = m' ((c.tc : Thread Cert.MixBackRefIdeal.nD Cert.MixBackRefIdeal.τ).loc Cert.MixBackRefIdeal.main_arg4))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v4)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v4) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v4) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)) →
    ∃ (v0 : (c : Dev Cert.ScanIdeal.nD) → Buf (Elt Ideal) ((c.tc : Thread Cert.ScanIdeal.nD Cert.ScanIdeal.τ).loc Cert.ScanIdeal.main_v4)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v4) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v4) = v0 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1))

def preserves_Keys_KeysIdeal : Prop :=
  True

def algebraic_KeysIdeal_KeysRefIdeal [hKeysIdeal : Cert.KeysIdeal.Facts] [hKeysRefIdeal : Cert.KeysRefIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)) →
    ∃ (v0 : (c : Dev Cert.KeysIdeal.nD) → Buf (Elt Ideal) ((c.tc : Thread Cert.KeysIdeal.nD Cert.KeysIdeal.τ).loc Cert.KeysIdeal.main_v4)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v4) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v4) = v0 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1))

def preserves_Steps_StepsIdeal : Prop :=
  True

def algebraic_StepsIdeal_StepsRefIdeal [hStepsIdeal : Cert.StepsIdeal.Facts] [hStepsRefIdeal : Cert.StepsRefIdeal.Facts] : Prop :=
  ∀ (m : (ℓ : Loc Cert.StepsIdeal.nD Cert.StepsIdeal.τ Cert.StepsIdeal.sig) → Buf (Elt Ideal) ℓ) (g : Dev Cert.StepsIdeal.nD → PrngReg)
    (m' : (ℓ : Loc Cert.StepsRefIdeal.nD Cert.StepsRefIdeal.τ Cert.StepsRefIdeal.sig) → Buf (Elt Ideal) ℓ) (g' : Dev Cert.StepsRefIdeal.nD → PrngReg), Pre_StepsIdeal m →
    (∀ c : Dev Cert.StepsIdeal.nD,
      m' ((c.tc : Thread Cert.StepsRefIdeal.nD Cert.StepsRefIdeal.τ).loc Cert.StepsRefIdeal.main_arg0) = m ((c.tc : Thread Cert.StepsIdeal.nD Cert.StepsIdeal.τ).loc Cert.StepsIdeal.main_arg0)
      ∧ m' ((c.tc : Thread Cert.StepsRefIdeal.nD Cert.StepsRefIdeal.τ).loc Cert.StepsRefIdeal.main_arg1) = m ((c.tc : Thread Cert.StepsIdeal.nD Cert.StepsIdeal.τ).loc Cert.StepsIdeal.main_arg1)) →
    ∃ (v0 : (c : Dev Cert.StepsIdeal.nD) → Buf (Elt Ideal) ((c.tc : Thread Cert.StepsIdeal.nD Cert.StepsIdeal.τ).loc Cert.StepsIdeal.main_v2)),
      θ_run (Cert.StepsIdeal.defs (F := Ideal)) (onTc (τ := Cert.StepsIdeal.τ) (Cert.StepsIdeal.main (F := Ideal))) ⟨m, fun _ => 0, g⟩ (fun r => ∀ c : Dev Cert.StepsIdeal.nD,
          r.2.mem ((c.tc : Thread Cert.StepsIdeal.nD Cert.StepsIdeal.τ).loc Cert.StepsIdeal.main_v2) = v0 c
          ∧ r.2.mem ((c.tc : Thread Cert.StepsIdeal.nD Cert.StepsIdeal.τ).loc Cert.StepsIdeal.main_arg0) = m ((c.tc : Thread Cert.StepsIdeal.nD Cert.StepsIdeal.τ).loc Cert.StepsIdeal.main_arg0)
          ∧ r.2.mem ((c.tc : Thread Cert.StepsIdeal.nD Cert.StepsIdeal.τ).loc Cert.StepsIdeal.main_arg1) = m ((c.tc : Thread Cert.StepsIdeal.nD Cert.StepsIdeal.τ).loc Cert.StepsIdeal.main_arg1))
      ∧ θ_run (Cert.StepsRefIdeal.defs (F := Ideal)) (onTc (τ := Cert.StepsRefIdeal.τ) (Cert.StepsRefIdeal.main (F := Ideal))) ⟨m', fun _ => 0, g'⟩ (fun r => ∀ c : Dev Cert.StepsRefIdeal.nD,
          r.2.mem ((c.tc : Thread Cert.StepsRefIdeal.nD Cert.StepsRefIdeal.τ).loc Cert.StepsRefIdeal.main_v4) = v0 c
          ∧ r.2.mem ((c.tc : Thread Cert.StepsRefIdeal.nD Cert.StepsRefIdeal.τ).loc Cert.StepsRefIdeal.main_arg0) = m' ((c.tc : Thread Cert.StepsRefIdeal.nD Cert.StepsRefIdeal.τ).loc Cert.StepsRefIdeal.main_arg0)
          ∧ r.2.mem ((c.tc : Thread Cert.StepsRefIdeal.nD Cert.StepsRefIdeal.τ).loc Cert.StepsRefIdeal.main_arg1) = m' ((c.tc : Thread Cert.StepsRefIdeal.nD Cert.StepsRefIdeal.τ).loc Cert.StepsRefIdeal.main_arg1))

def preserves_Ssm_SsmIdeal : Prop :=
  True

def algebraic_SsmIdeal_SsmRefIdeal [hSsmIdeal : Cert.SsmIdeal.Facts] [hSsmRefIdeal : Cert.SsmRefIdeal.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.SsmRefIdeal.nD Cert.SsmRefIdeal.τ Cert.SsmRefIdeal.sig) → Buf (Elt Ideal) ℓ) (g' : Dev Cert.SsmRefIdeal.nD → PrngReg), Pre_SsmIdeal m →
    (∀ c : Dev Cert.SsmIdeal.nD,
      m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
      ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)
      ∧ m' ((c.tc : Thread Cert.SsmRefIdeal.nD Cert.SsmRefIdeal.τ).loc Cert.SsmRefIdeal.main_arg2) = m ((c.tc : Thread Cert.SsmIdeal.nD Cert.SsmIdeal.τ).loc Cert.SsmIdeal.main_arg2)) →
    ∃ (v0 : (c : Dev Cert.SsmIdeal.nD) → Buf (Elt Ideal) ((c.tc : Thread Cert.SsmIdeal.nD Cert.SsmIdeal.τ).loc Cert.SsmIdeal.main_v4)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v4) = v0 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
          ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2))
      ∧ θ_run (Cert.SsmRefIdeal.defs (F := Ideal)) (onTc (τ := Cert.SsmRefIdeal.τ) (Cert.SsmRefIdeal.main (F := Ideal))) ⟨m', fun _ => 0, g'⟩ (fun r => ∀ c : Dev Cert.SsmRefIdeal.nD,
          r.2.mem ((c.tc : Thread Cert.SsmRefIdeal.nD Cert.SsmRefIdeal.τ).loc Cert.SsmRefIdeal.main_v6) = v0 c
          ∧ r.2.mem ((c.tc : Thread Cert.SsmRefIdeal.nD Cert.SsmRefIdeal.τ).loc Cert.SsmRefIdeal.main_arg0) = m' ((c.tc : Thread Cert.SsmRefIdeal.nD Cert.SsmRefIdeal.τ).loc Cert.SsmRefIdeal.main_arg0)
          ∧ r.2.mem ((c.tc : Thread Cert.SsmRefIdeal.nD Cert.SsmRefIdeal.τ).loc Cert.SsmRefIdeal.main_arg1) = m' ((c.tc : Thread Cert.SsmRefIdeal.nD Cert.SsmRefIdeal.τ).loc Cert.SsmRefIdeal.main_arg1)
          ∧ r.2.mem ((c.tc : Thread Cert.SsmRefIdeal.nD Cert.SsmRefIdeal.τ).loc Cert.SsmRefIdeal.main_arg2) = m' ((c.tc : Thread Cert.SsmRefIdeal.nD Cert.SsmRefIdeal.τ).loc Cert.SsmRefIdeal.main_arg2))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v7) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v6) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v23) = v0 c
          ∧ r.2.mem ((c.tc : Thread Cert.AdamFfnRefIdeal.nD Cert.AdamFfnRefIdeal.τ).loc Cert.AdamFfnRefIdeal.main_v4) = v1 c
          ∧ r.2.mem ((c.tc : Thread Cert.AdamFfnRefIdeal.nD Cert.AdamFfnRefIdeal.τ).loc Cert.AdamFfnRefIdeal.main_v10) = v2 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSsm_AdamSsmIdeal : Prop :=
  True

def algebraic_AdamSsmIdeal_AdamSsmRefIdeal [hAdamSsmIdeal : Cert.AdamSsmIdeal.Facts] [hAdamSsmRefIdeal : Cert.AdamSsmRefIdeal.Facts] : Prop :=
  ∀ (m : (ℓ : Loc Cert.AdamSsmIdeal.nD Cert.AdamSsmIdeal.τ Cert.AdamSsmIdeal.sig) → Buf (Elt Ideal) ℓ) (g : Dev Cert.AdamSsmIdeal.nD → PrngReg)
    (m' : (ℓ : Loc Cert.AdamSsmRefIdeal.nD Cert.AdamSsmRefIdeal.τ Cert.AdamSsmRefIdeal.sig) → Buf (Elt Ideal) ℓ) (g' : Dev Cert.AdamSsmRefIdeal.nD → PrngReg), Pre_AdamSsmIdeal m →
    (∀ c : Dev Cert.AdamSsmIdeal.nD,
      m' ((c.tc : Thread Cert.AdamSsmRefIdeal.nD Cert.AdamSsmRefIdeal.τ).loc Cert.AdamSsmRefIdeal.main_arg0) = m ((c.tc : Thread Cert.AdamSsmIdeal.nD Cert.AdamSsmIdeal.τ).loc Cert.AdamSsmIdeal.main_arg0)
      ∧ m' ((c.tc : Thread Cert.AdamSsmRefIdeal.nD Cert.AdamSsmRefIdeal.τ).loc Cert.AdamSsmRefIdeal.main_arg1) = m ((c.tc : Thread Cert.AdamSsmIdeal.nD Cert.AdamSsmIdeal.τ).loc Cert.AdamSsmIdeal.main_arg1)
      ∧ m' ((c.tc : Thread Cert.AdamSsmRefIdeal.nD Cert.AdamSsmRefIdeal.τ).loc Cert.AdamSsmRefIdeal.main_arg2) = m ((c.tc : Thread Cert.AdamSsmIdeal.nD Cert.AdamSsmIdeal.τ).loc Cert.AdamSsmIdeal.main_arg2)
      ∧ m' ((c.tc : Thread Cert.AdamSsmRefIdeal.nD Cert.AdamSsmRefIdeal.τ).loc Cert.AdamSsmRefIdeal.main_arg3) = m ((c.tc : Thread Cert.AdamSsmIdeal.nD Cert.AdamSsmIdeal.τ).loc Cert.AdamSsmIdeal.main_arg3)) →
    ∃ (v0 : (c : Dev Cert.AdamSsmIdeal.nD) → Buf (Elt Ideal) ((c.tc : Thread Cert.AdamSsmIdeal.nD Cert.AdamSsmIdeal.τ).loc Cert.AdamSsmIdeal.main_v0_0)) (v1 : (c : Dev Cert.AdamSsmIdeal.nD) → Buf (Elt Ideal) ((c.tc : Thread Cert.AdamSsmIdeal.nD Cert.AdamSsmIdeal.τ).loc Cert.AdamSsmIdeal.main_v0_1)) (v2 : (c : Dev Cert.AdamSsmIdeal.nD) → Buf (Elt Ideal) ((c.tc : Thread Cert.AdamSsmIdeal.nD Cert.AdamSsmIdeal.τ).loc Cert.AdamSsmIdeal.main_v0_2)),
      θ_run (Cert.AdamSsmIdeal.defs (F := Ideal)) (onTc (τ := Cert.AdamSsmIdeal.τ) (Cert.AdamSsmIdeal.main (F := Ideal))) ⟨m, fun _ => 0, g⟩ (fun r => ∀ c : Dev Cert.AdamSsmIdeal.nD,
          r.2.mem ((c.tc : Thread Cert.AdamSsmIdeal.nD Cert.AdamSsmIdeal.τ).loc Cert.AdamSsmIdeal.main_v0_0) = v0 c
          ∧ r.2.mem ((c.tc : Thread Cert.AdamSsmIdeal.nD Cert.AdamSsmIdeal.τ).loc Cert.AdamSsmIdeal.main_v0_1) = v1 c
          ∧ r.2.mem ((c.tc : Thread Cert.AdamSsmIdeal.nD Cert.AdamSsmIdeal.τ).loc Cert.AdamSsmIdeal.main_v0_2) = v2 c
          ∧ r.2.mem ((c.tc : Thread Cert.AdamSsmIdeal.nD Cert.AdamSsmIdeal.τ).loc Cert.AdamSsmIdeal.main_arg0) = m ((c.tc : Thread Cert.AdamSsmIdeal.nD Cert.AdamSsmIdeal.τ).loc Cert.AdamSsmIdeal.main_arg0)
          ∧ r.2.mem ((c.tc : Thread Cert.AdamSsmIdeal.nD Cert.AdamSsmIdeal.τ).loc Cert.AdamSsmIdeal.main_arg1) = m ((c.tc : Thread Cert.AdamSsmIdeal.nD Cert.AdamSsmIdeal.τ).loc Cert.AdamSsmIdeal.main_arg1)
          ∧ r.2.mem ((c.tc : Thread Cert.AdamSsmIdeal.nD Cert.AdamSsmIdeal.τ).loc Cert.AdamSsmIdeal.main_arg2) = m ((c.tc : Thread Cert.AdamSsmIdeal.nD Cert.AdamSsmIdeal.τ).loc Cert.AdamSsmIdeal.main_arg2)
          ∧ r.2.mem ((c.tc : Thread Cert.AdamSsmIdeal.nD Cert.AdamSsmIdeal.τ).loc Cert.AdamSsmIdeal.main_arg3) = m ((c.tc : Thread Cert.AdamSsmIdeal.nD Cert.AdamSsmIdeal.τ).loc Cert.AdamSsmIdeal.main_arg3))
      ∧ θ_run (Cert.AdamSsmRefIdeal.defs (F := Ideal)) (onTc (τ := Cert.AdamSsmRefIdeal.τ) (Cert.AdamSsmRefIdeal.main (F := Ideal))) ⟨m', fun _ => 0, g'⟩ (fun r => ∀ c : Dev Cert.AdamSsmRefIdeal.nD,
          r.2.mem ((c.tc : Thread Cert.AdamSsmRefIdeal.nD Cert.AdamSsmRefIdeal.τ).loc Cert.AdamSsmRefIdeal.main_v23) = v0 c
          ∧ r.2.mem ((c.tc : Thread Cert.AdamSsmRefIdeal.nD Cert.AdamSsmRefIdeal.τ).loc Cert.AdamSsmRefIdeal.main_v4) = v1 c
          ∧ r.2.mem ((c.tc : Thread Cert.AdamSsmRefIdeal.nD Cert.AdamSsmRefIdeal.τ).loc Cert.AdamSsmRefIdeal.main_v10) = v2 c
          ∧ r.2.mem ((c.tc : Thread Cert.AdamSsmRefIdeal.nD Cert.AdamSsmRefIdeal.τ).loc Cert.AdamSsmRefIdeal.main_arg0) = m' ((c.tc : Thread Cert.AdamSsmRefIdeal.nD Cert.AdamSsmRefIdeal.τ).loc Cert.AdamSsmRefIdeal.main_arg0)
          ∧ r.2.mem ((c.tc : Thread Cert.AdamSsmRefIdeal.nD Cert.AdamSsmRefIdeal.τ).loc Cert.AdamSsmRefIdeal.main_arg1) = m' ((c.tc : Thread Cert.AdamSsmRefIdeal.nD Cert.AdamSsmRefIdeal.τ).loc Cert.AdamSsmRefIdeal.main_arg1)
          ∧ r.2.mem ((c.tc : Thread Cert.AdamSsmRefIdeal.nD Cert.AdamSsmRefIdeal.τ).loc Cert.AdamSsmRefIdeal.main_arg2) = m' ((c.tc : Thread Cert.AdamSsmRefIdeal.nD Cert.AdamSsmRefIdeal.τ).loc Cert.AdamSsmRefIdeal.main_arg2)
          ∧ r.2.mem ((c.tc : Thread Cert.AdamSsmRefIdeal.nD Cert.AdamSsmRefIdeal.τ).loc Cert.AdamSsmRefIdeal.main_arg3) = m' ((c.tc : Thread Cert.AdamSsmRefIdeal.nD Cert.AdamSsmRefIdeal.τ).loc Cert.AdamSsmRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_OutBack_OutBackIdeal : Prop :=
  True

def algebraic_OutBackIdeal_OutBackRefIdeal [hOutBackIdeal : Cert.OutBackIdeal.Facts] [hOutBackRefIdeal : Cert.OutBackRefIdeal.Facts] : Prop :=
  ∀ (m : (ℓ : Loc Cert.OutBackIdeal.nD Cert.OutBackIdeal.τ Cert.OutBackIdeal.sig) → Buf (Elt Ideal) ℓ) (g : Dev Cert.OutBackIdeal.nD → PrngReg)
    (m' : (ℓ : Loc Cert.OutBackRefIdeal.nD Cert.OutBackRefIdeal.τ Cert.OutBackRefIdeal.sig) → Buf (Elt Ideal) ℓ) (g' : Dev Cert.OutBackRefIdeal.nD → PrngReg), Pre_OutBackIdeal m →
    (∀ c : Dev Cert.OutBackIdeal.nD,
      m' ((c.tc : Thread Cert.OutBackRefIdeal.nD Cert.OutBackRefIdeal.τ).loc Cert.OutBackRefIdeal.main_arg0) = m ((c.tc : Thread Cert.OutBackIdeal.nD Cert.OutBackIdeal.τ).loc Cert.OutBackIdeal.main_arg0)
      ∧ m' ((c.tc : Thread Cert.OutBackRefIdeal.nD Cert.OutBackRefIdeal.τ).loc Cert.OutBackRefIdeal.main_arg1) = m ((c.tc : Thread Cert.OutBackIdeal.nD Cert.OutBackIdeal.τ).loc Cert.OutBackIdeal.main_arg1)
      ∧ m' ((c.tc : Thread Cert.OutBackRefIdeal.nD Cert.OutBackRefIdeal.τ).loc Cert.OutBackRefIdeal.main_arg2) = m ((c.tc : Thread Cert.OutBackIdeal.nD Cert.OutBackIdeal.τ).loc Cert.OutBackIdeal.main_arg2)
      ∧ m' ((c.tc : Thread Cert.OutBackRefIdeal.nD Cert.OutBackRefIdeal.τ).loc Cert.OutBackRefIdeal.main_arg3) = m ((c.tc : Thread Cert.OutBackIdeal.nD Cert.OutBackIdeal.τ).loc Cert.OutBackIdeal.main_arg3)
      ∧ m' ((c.tc : Thread Cert.OutBackRefIdeal.nD Cert.OutBackRefIdeal.τ).loc Cert.OutBackRefIdeal.main_arg4) = m ((c.tc : Thread Cert.OutBackIdeal.nD Cert.OutBackIdeal.τ).loc Cert.OutBackIdeal.main_arg4)
      ∧ m' ((c.tc : Thread Cert.OutBackRefIdeal.nD Cert.OutBackRefIdeal.τ).loc Cert.OutBackRefIdeal.main_arg5) = m ((c.tc : Thread Cert.OutBackIdeal.nD Cert.OutBackIdeal.τ).loc Cert.OutBackIdeal.main_arg5)
      ∧ m' ((c.tc : Thread Cert.OutBackRefIdeal.nD Cert.OutBackRefIdeal.τ).loc Cert.OutBackRefIdeal.main_arg6) = m ((c.tc : Thread Cert.OutBackIdeal.nD Cert.OutBackIdeal.τ).loc Cert.OutBackIdeal.main_arg6)
      ∧ m' ((c.tc : Thread Cert.OutBackRefIdeal.nD Cert.OutBackRefIdeal.τ).loc Cert.OutBackRefIdeal.main_arg7) = m ((c.tc : Thread Cert.OutBackIdeal.nD Cert.OutBackIdeal.τ).loc Cert.OutBackIdeal.main_arg7)) →
    ∃ (v0 : (c : Dev Cert.OutBackIdeal.nD) → Buf (Elt Ideal) ((c.tc : Thread Cert.OutBackIdeal.nD Cert.OutBackIdeal.τ).loc Cert.OutBackIdeal.main_v29_0)) (v1 : (c : Dev Cert.OutBackIdeal.nD) → Buf (Elt Ideal) ((c.tc : Thread Cert.OutBackIdeal.nD Cert.OutBackIdeal.τ).loc Cert.OutBackIdeal.main_v29_1)) (v2 : (c : Dev Cert.OutBackIdeal.nD) → Buf (Elt Ideal) ((c.tc : Thread Cert.OutBackIdeal.nD Cert.OutBackIdeal.τ).loc Cert.OutBackIdeal.main_v29_2)) (v3 : (c : Dev Cert.OutBackIdeal.nD) → Buf (Elt Ideal) ((c.tc : Thread Cert.OutBackIdeal.nD Cert.OutBackIdeal.τ).loc Cert.OutBackIdeal.main_v29_3)) (v4 : (c : Dev Cert.OutBackIdeal.nD) → Buf (Elt Ideal) ((c.tc : Thread Cert.OutBackIdeal.nD Cert.OutBackIdeal.τ).loc Cert.OutBackIdeal.main_v29_4)) (v5 : (c : Dev Cert.OutBackIdeal.nD) → Buf (Elt Ideal) ((c.tc : Thread Cert.OutBackIdeal.nD Cert.OutBackIdeal.τ).loc Cert.OutBackIdeal.main_v29_5)) (v6 : (c : Dev Cert.OutBackIdeal.nD) → Buf (Elt Ideal) ((c.tc : Thread Cert.OutBackIdeal.nD Cert.OutBackIdeal.τ).loc Cert.OutBackIdeal.main_v29_6)),
      θ_run (Cert.OutBackIdeal.defs (F := Ideal)) (onTc (τ := Cert.OutBackIdeal.τ) (Cert.OutBackIdeal.main (F := Ideal))) ⟨m, fun _ => 0, g⟩ (fun r => ∀ c : Dev Cert.OutBackIdeal.nD,
          r.2.mem ((c.tc : Thread Cert.OutBackIdeal.nD Cert.OutBackIdeal.τ).loc Cert.OutBackIdeal.main_v29_0) = v0 c
          ∧ r.2.mem ((c.tc : Thread Cert.OutBackIdeal.nD Cert.OutBackIdeal.τ).loc Cert.OutBackIdeal.main_v29_1) = v1 c
          ∧ r.2.mem ((c.tc : Thread Cert.OutBackIdeal.nD Cert.OutBackIdeal.τ).loc Cert.OutBackIdeal.main_v29_2) = v2 c
          ∧ r.2.mem ((c.tc : Thread Cert.OutBackIdeal.nD Cert.OutBackIdeal.τ).loc Cert.OutBackIdeal.main_v29_3) = v3 c
          ∧ r.2.mem ((c.tc : Thread Cert.OutBackIdeal.nD Cert.OutBackIdeal.τ).loc Cert.OutBackIdeal.main_v29_4) = v4 c
          ∧ r.2.mem ((c.tc : Thread Cert.OutBackIdeal.nD Cert.OutBackIdeal.τ).loc Cert.OutBackIdeal.main_v29_5) = v5 c
          ∧ r.2.mem ((c.tc : Thread Cert.OutBackIdeal.nD Cert.OutBackIdeal.τ).loc Cert.OutBackIdeal.main_v29_6) = v6 c
          ∧ r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
          ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1)
          ∧ r.2.mem ((c.tc : Thread Cert.OutBackIdeal.nD Cert.OutBackIdeal.τ).loc Cert.OutBackIdeal.main_arg2) = m ((c.tc : Thread Cert.OutBackIdeal.nD Cert.OutBackIdeal.τ).loc Cert.OutBackIdeal.main_arg2)
          ∧ r.2.mem ((c.tc : Thread Cert.OutBackIdeal.nD Cert.OutBackIdeal.τ).loc Cert.OutBackIdeal.main_arg3) = m ((c.tc : Thread Cert.OutBackIdeal.nD Cert.OutBackIdeal.τ).loc Cert.OutBackIdeal.main_arg3)
          ∧ r.2.mem ((c.tc : Thread Cert.OutBackIdeal.nD Cert.OutBackIdeal.τ).loc Cert.OutBackIdeal.main_arg4) = m ((c.tc : Thread Cert.OutBackIdeal.nD Cert.OutBackIdeal.τ).loc Cert.OutBackIdeal.main_arg4)
          ∧ r.2.mem ((c.tc : Thread Cert.OutBackIdeal.nD Cert.OutBackIdeal.τ).loc Cert.OutBackIdeal.main_arg5) = m ((c.tc : Thread Cert.OutBackIdeal.nD Cert.OutBackIdeal.τ).loc Cert.OutBackIdeal.main_arg5)
          ∧ r.2.mem ((c.tc : Thread Cert.OutBackIdeal.nD Cert.OutBackIdeal.τ).loc Cert.OutBackIdeal.main_arg6) = m ((c.tc : Thread Cert.OutBackIdeal.nD Cert.OutBackIdeal.τ).loc Cert.OutBackIdeal.main_arg6)
          ∧ r.2.mem ((c.tc : Thread Cert.OutBackIdeal.nD Cert.OutBackIdeal.τ).loc Cert.OutBackIdeal.main_arg7) = m ((c.tc : Thread Cert.OutBackIdeal.nD Cert.OutBackIdeal.τ).loc Cert.OutBackIdeal.main_arg7))
      ∧ θ_run (Cert.OutBackRefIdeal.defs (F := Ideal)) (onTc (τ := Cert.OutBackRefIdeal.τ) (Cert.OutBackRefIdeal.main (F := Ideal))) ⟨m', fun _ => 0, g'⟩ (fun r => ∀ c : Dev Cert.OutBackRefIdeal.nD,
          r.2.mem ((c.tc : Thread Cert.OutBackRefIdeal.nD Cert.OutBackRefIdeal.τ).loc Cert.OutBackRefIdeal.main_v74) = v0 c
          ∧ r.2.mem ((c.tc : Thread Cert.OutBackRefIdeal.nD Cert.OutBackRefIdeal.τ).loc Cert.OutBackRefIdeal.main_v75) = v1 c
          ∧ r.2.mem ((c.tc : Thread Cert.OutBackRefIdeal.nD Cert.OutBackRefIdeal.τ).loc Cert.OutBackRefIdeal.main_v76) = v2 c
          ∧ r.2.mem ((c.tc : Thread Cert.OutBackRefIdeal.nD Cert.OutBackRefIdeal.τ).loc Cert.OutBackRefIdeal.main_v77) = v3 c
          ∧ r.2.mem ((c.tc : Thread Cert.OutBackRefIdeal.nD Cert.OutBackRefIdeal.τ).loc Cert.OutBackRefIdeal.main_v73) = v4 c
          ∧ r.2.mem ((c.tc : Thread Cert.OutBackRefIdeal.nD Cert.OutBackRefIdeal.τ).loc Cert.OutBackRefIdeal.main_v78) = v5 c
          ∧ r.2.mem ((c.tc : Thread Cert.OutBackRefIdeal.nD Cert.OutBackRefIdeal.τ).loc Cert.OutBackRefIdeal.main_v47) = v6 c
          ∧ r.2.mem ((c.tc : Thread Cert.OutBackRefIdeal.nD Cert.OutBackRefIdeal.τ).loc Cert.OutBackRefIdeal.main_arg0) = m' ((c.tc : Thread Cert.OutBackRefIdeal.nD Cert.OutBackRefIdeal.τ).loc Cert.OutBackRefIdeal.main_arg0)
          ∧ r.2.mem ((c.tc : Thread Cert.OutBackRefIdeal.nD Cert.OutBackRefIdeal.τ).loc Cert.OutBackRefIdeal.main_arg1) = m' ((c.tc : Thread Cert.OutBackRefIdeal.nD Cert.OutBackRefIdeal.τ).loc Cert.OutBackRefIdeal.main_arg1)
          ∧ r.2.mem ((c.tc : Thread Cert.OutBackRefIdeal.nD Cert.OutBackRefIdeal.τ).loc Cert.OutBackRefIdeal.main_arg2) = m' ((c.tc : Thread Cert.OutBackRefIdeal.nD Cert.OutBackRefIdeal.τ).loc Cert.OutBackRefIdeal.main_arg2)
          ∧ r.2.mem ((c.tc : Thread Cert.OutBackRefIdeal.nD Cert.OutBackRefIdeal.τ).loc Cert.OutBackRefIdeal.main_arg3) = m' ((c.tc : Thread Cert.OutBackRefIdeal.nD Cert.OutBackRefIdeal.τ).loc Cert.OutBackRefIdeal.main_arg3)
          ∧ r.2.mem ((c.tc : Thread Cert.OutBackRefIdeal.nD Cert.OutBackRefIdeal.τ).loc Cert.OutBackRefIdeal.main_arg4) = m' ((c.tc : Thread Cert.OutBackRefIdeal.nD Cert.OutBackRefIdeal.τ).loc Cert.OutBackRefIdeal.main_arg4)
          ∧ r.2.mem ((c.tc : Thread Cert.OutBackRefIdeal.nD Cert.OutBackRefIdeal.τ).loc Cert.OutBackRefIdeal.main_arg5) = m' ((c.tc : Thread Cert.OutBackRefIdeal.nD Cert.OutBackRefIdeal.τ).loc Cert.OutBackRefIdeal.main_arg5)
          ∧ r.2.mem ((c.tc : Thread Cert.OutBackRefIdeal.nD Cert.OutBackRefIdeal.τ).loc Cert.OutBackRefIdeal.main_arg6) = m' ((c.tc : Thread Cert.OutBackRefIdeal.nD Cert.OutBackRefIdeal.τ).loc Cert.OutBackRefIdeal.main_arg6)
          ∧ r.2.mem ((c.tc : Thread Cert.OutBackRefIdeal.nD Cert.OutBackRefIdeal.τ).loc Cert.OutBackRefIdeal.main_arg7) = m' ((c.tc : Thread Cert.OutBackRefIdeal.nD Cert.OutBackRefIdeal.τ).loc Cert.OutBackRefIdeal.main_arg7))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardRefIdeal : Cert.ForwardRefIdeal.Facts) (hFirst : Cert.First.Facts) (hFirstIdeal : Cert.FirstIdeal.Facts) (hFirstRefIdeal : Cert.FirstRefIdeal.Facts) (hGate : Cert.Gate.Facts) (hGateIdeal : Cert.GateIdeal.Facts) (hGateRefIdeal : Cert.GateRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hWide : Cert.Wide.Facts) (hWideIdeal : Cert.WideIdeal.Facts) (hWideRefIdeal : Cert.WideRefIdeal.Facts) (hMixIn : Cert.MixIn.Facts) (hMixInIdeal : Cert.MixInIdeal.Facts) (hMixInRefIdeal : Cert.MixInRefIdeal.Facts) (hMixBack : Cert.MixBack.Facts) (hMixBackIdeal : Cert.MixBackIdeal.Facts) (hMixBackRefIdeal : Cert.MixBackRefIdeal.Facts) (hQuery : Cert.Query.Facts) (hQueryIdeal : Cert.QueryIdeal.Facts) (hQueryRefIdeal : Cert.QueryRefIdeal.Facts) (hScan : Cert.Scan.Facts) (hScanIdeal : Cert.ScanIdeal.Facts) (hScanRefIdeal : Cert.ScanRefIdeal.Facts) (hKeys : Cert.Keys.Facts) (hKeysIdeal : Cert.KeysIdeal.Facts) (hKeysRefIdeal : Cert.KeysRefIdeal.Facts) (hSteps : Cert.Steps.Facts) (hStepsIdeal : Cert.StepsIdeal.Facts) (hStepsRefIdeal : Cert.StepsRefIdeal.Facts) (hSsm : Cert.Ssm.Facts) (hSsmIdeal : Cert.SsmIdeal.Facts) (hSsmRefIdeal : Cert.SsmRefIdeal.Facts) (hAttn : Cert.Attn.Facts) (hAttnIdeal : Cert.AttnIdeal.Facts) (hAttnRefIdeal : Cert.AttnRefIdeal.Facts) (hMerge : Cert.Merge.Facts) (hMergeIdeal : Cert.MergeIdeal.Facts) (hMergeRefIdeal : Cert.MergeRefIdeal.Facts) (hAdamFfn : Cert.AdamFfn.Facts) (hAdamFfnIdeal : Cert.AdamFfnIdeal.Facts) (hAdamFfnRefIdeal : Cert.AdamFfnRefIdeal.Facts) (hAdamIn : Cert.AdamIn.Facts) (hAdamInIdeal : Cert.AdamInIdeal.Facts) (hAdamInRefIdeal : Cert.AdamInRefIdeal.Facts) (hAdamSsm : Cert.AdamSsm.Facts) (hAdamSsmIdeal : Cert.AdamSsmIdeal.Facts) (hAdamSsmRefIdeal : Cert.AdamSsmRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hOutBack : Cert.OutBack.Facts) (hOutBackIdeal : Cert.OutBackIdeal.Facts) (hOutBackRefIdeal : Cert.OutBackRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_ForwardRefIdeal (hForwardRefIdeal := hForwardRefIdeal)
    ∧ quiescent_First (hFirst := hFirst)
    ∧ quiescent_FirstIdeal (hFirstIdeal := hFirstIdeal)
    ∧ quiescent_FirstRefIdeal (hFirstRefIdeal := hFirstRefIdeal)
    ∧ quiescent_Gate (hGate := hGate)
    ∧ quiescent_GateIdeal (hGateIdeal := hGateIdeal)
    ∧ quiescent_GateRefIdeal (hGateRefIdeal := hGateRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Wide (hWide := hWide)
    ∧ quiescent_WideIdeal (hWideIdeal := hWideIdeal)
    ∧ quiescent_WideRefIdeal (hWideRefIdeal := hWideRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixBack (hMixBack := hMixBack)
    ∧ quiescent_MixBackIdeal (hMixBackIdeal := hMixBackIdeal)
    ∧ quiescent_MixBackRefIdeal (hMixBackRefIdeal := hMixBackRefIdeal)
    ∧ quiescent_Query (hQuery := hQuery)
    ∧ quiescent_QueryIdeal (hQueryIdeal := hQueryIdeal)
    ∧ quiescent_QueryRefIdeal (hQueryRefIdeal := hQueryRefIdeal)
    ∧ quiescent_Scan (hScan := hScan)
    ∧ quiescent_ScanIdeal (hScanIdeal := hScanIdeal)
    ∧ quiescent_ScanRefIdeal (hScanRefIdeal := hScanRefIdeal)
    ∧ quiescent_Keys (hKeys := hKeys)
    ∧ quiescent_KeysIdeal (hKeysIdeal := hKeysIdeal)
    ∧ quiescent_KeysRefIdeal (hKeysRefIdeal := hKeysRefIdeal)
    ∧ quiescent_Steps (hSteps := hSteps)
    ∧ quiescent_StepsIdeal (hStepsIdeal := hStepsIdeal)
    ∧ quiescent_StepsRefIdeal (hStepsRefIdeal := hStepsRefIdeal)
    ∧ quiescent_Ssm (hSsm := hSsm)
    ∧ quiescent_SsmIdeal (hSsmIdeal := hSsmIdeal)
    ∧ quiescent_SsmRefIdeal (hSsmRefIdeal := hSsmRefIdeal)
    ∧ quiescent_Attn (hAttn := hAttn)
    ∧ quiescent_AttnIdeal (hAttnIdeal := hAttnIdeal)
    ∧ quiescent_AttnRefIdeal (hAttnRefIdeal := hAttnRefIdeal)
    ∧ quiescent_Merge (hMerge := hMerge)
    ∧ quiescent_MergeIdeal (hMergeIdeal := hMergeIdeal)
    ∧ quiescent_MergeRefIdeal (hMergeRefIdeal := hMergeRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSsm (hAdamSsm := hAdamSsm)
    ∧ quiescent_AdamSsmIdeal (hAdamSsmIdeal := hAdamSsmIdeal)
    ∧ quiescent_AdamSsmRefIdeal (hAdamSsmRefIdeal := hAdamSsmRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_OutBack (hOutBack := hOutBack)
    ∧ quiescent_OutBackIdeal (hOutBackIdeal := hOutBackIdeal)
    ∧ quiescent_OutBackRefIdeal (hOutBackRefIdeal := hOutBackRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_ForwardRefIdeal (hForwardIdeal := hForwardIdeal) (hForwardRefIdeal := hForwardRefIdeal)
    ∧ preserves_First_FirstIdeal
    ∧ algebraic_FirstIdeal_FirstRefIdeal (hFirstIdeal := hFirstIdeal) (hFirstRefIdeal := hFirstRefIdeal)
    ∧ preserves_Gate_GateIdeal
    ∧ algebraic_GateIdeal_GateRefIdeal (hGateIdeal := hGateIdeal) (hGateRefIdeal := hGateRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Wide_WideIdeal
    ∧ algebraic_WideIdeal_WideRefIdeal (hWideIdeal := hWideIdeal) (hWideRefIdeal := hWideRefIdeal)
    ∧ preserves_MixIn_MixInIdeal
    ∧ algebraic_MixInIdeal_MixInRefIdeal (hMixInIdeal := hMixInIdeal) (hMixInRefIdeal := hMixInRefIdeal)
    ∧ preserves_MixBack_MixBackIdeal
    ∧ algebraic_MixBackIdeal_MixBackRefIdeal (hMixBackIdeal := hMixBackIdeal) (hMixBackRefIdeal := hMixBackRefIdeal)
    ∧ preserves_Query_QueryIdeal
    ∧ algebraic_QueryIdeal_QueryRefIdeal (hQueryIdeal := hQueryIdeal) (hQueryRefIdeal := hQueryRefIdeal)
    ∧ preserves_Scan_ScanIdeal
    ∧ algebraic_ScanIdeal_ScanRefIdeal (hScanIdeal := hScanIdeal) (hScanRefIdeal := hScanRefIdeal)
    ∧ preserves_Keys_KeysIdeal
    ∧ algebraic_KeysIdeal_KeysRefIdeal (hKeysIdeal := hKeysIdeal) (hKeysRefIdeal := hKeysRefIdeal)
    ∧ preserves_Steps_StepsIdeal
    ∧ algebraic_StepsIdeal_StepsRefIdeal (hStepsIdeal := hStepsIdeal) (hStepsRefIdeal := hStepsRefIdeal)
    ∧ preserves_Ssm_SsmIdeal
    ∧ algebraic_SsmIdeal_SsmRefIdeal (hSsmIdeal := hSsmIdeal) (hSsmRefIdeal := hSsmRefIdeal)
    ∧ preserves_Attn_AttnIdeal
    ∧ algebraic_AttnIdeal_AttnRefIdeal (hAttnIdeal := hAttnIdeal) (hAttnRefIdeal := hAttnRefIdeal)
    ∧ preserves_Merge_MergeIdeal
    ∧ algebraic_MergeIdeal_MergeRefIdeal (hMergeIdeal := hMergeIdeal) (hMergeRefIdeal := hMergeRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamIn_AdamInIdeal
    ∧ algebraic_AdamInIdeal_AdamInRefIdeal (hAdamInIdeal := hAdamInIdeal) (hAdamInRefIdeal := hAdamInRefIdeal)
    ∧ preserves_AdamSsm_AdamSsmIdeal
    ∧ algebraic_AdamSsmIdeal_AdamSsmRefIdeal (hAdamSsmIdeal := hAdamSsmIdeal) (hAdamSsmRefIdeal := hAdamSsmRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_OutBack_OutBackIdeal
    ∧ algebraic_OutBackIdeal_OutBackRefIdeal (hOutBackIdeal := hOutBackIdeal) (hOutBackRefIdeal := hOutBackRefIdeal)
-- ==== Pre_finite.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S8192x1024 .f32) (main_v2 : IVec S8192x1024 1) (main_v5 : IVec S1x1024 1) (main_v8 : IVec S1024x2816 1) (main_v11 : IVec S1024x2816 1) (main_v14 : IVec S2816x1024 1) (main_v17 : IVec S1x1024 1) : IVec S8192x1024 1 × IVec S1x1024 1 × IVec S1024x2816 1 × IVec S1024x2816 1 × IVec S2816x1024 1 × IVec S1x1024 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S1x1024 .f32) (main_arg2 : FVec F S1024x2816 .f32) (main_arg3 : FVec F S1024x2816 .f32) (main_arg4 : FVec F S2816x1024 .f32) (main_arg5 : FVec F S1x1024 .f32) (main_arg6 : FVec F S8192x1024 .f32) : IVec S8192x1024 1 × IVec S1x1024 1 × IVec S1024x2816 1 × IVec S1024x2816 1 × IVec S2816x1024 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Kernel.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024x4x704 : Shape := ⟨3, ![1024, 4, 704]⟩
abbrev S4x704x1024 : Shape := ⟨3, ![4, 704, 1024]⟩
abbrev S4x2112x1024 : Shape := ⟨3, ![4, 2112, 1024]⟩
abbrev S8192x4x704 : Shape := ⟨3, ![8192, 4, 704]⟩
abbrev S4x8192x704 : Shape := ⟨3, ![4, 8192, 704]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1024 : Shape := ⟨1, ![1024]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 55
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S1024x4x704, .f32⟩
  | .hbm, ⟨36, _⟩ => ⟨S4x704x1024, .f32⟩
  | .hbm, ⟨37, _⟩ => ⟨S1024x4x704, .f32⟩
  | .hbm, ⟨38, _⟩ => ⟨S4x704x1024, .f32⟩
  | .hbm, ⟨39, _⟩ => ⟨S4x704x1024, .f32⟩
  | .hbm, ⟨40, _⟩ => ⟨S4x2112x1024, .f32⟩
  | .hbm, ⟨41, _⟩ => ⟨S4x2112x1024, .bf16⟩
  | .hbm, ⟨42, _⟩ => ⟨S8192x4x704, .f32⟩
  | .hbm, ⟨43, _⟩ => ⟨S4x8192x704, .f32⟩
  | .hbm, ⟨44, _⟩ => ⟨S4x8192x704, .bf16⟩
  | .hbm, ⟨45, _⟩ => ⟨S8192x4x704, .f32⟩
  | .hbm, ⟨46, _⟩ => ⟨S4x8192x704, .f32⟩
  | .hbm, ⟨47, _⟩ => ⟨S4x8192x704, .bf16⟩
  | .hbm, ⟨48, _⟩ => ⟨S8192x1024, .f32⟩
  | .hbm, ⟨49, _⟩ => ⟨S8192x1024, .bf16⟩
  | .hbm, ⟨50, _⟩ => ⟨S4x8192x704, .bf16⟩
  | .hbm, ⟨51, _⟩ => ⟨S4x8192x704, .bf16⟩
  | .hbm, ⟨52, _⟩ => ⟨S4x8192x704, .bf16⟩
  | .hbm, ⟨53, _⟩ => ⟨S1x1024, .f32⟩
  | .hbm, ⟨54, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x256x704, .bf16⟩
  | .local _ .vmem, ⟨10, _⟩ => ⟨S1x1024, .f32⟩
  | .local _ .vmem, ⟨11, _⟩ => ⟨S1x1024, .f32⟩
  | .local _ .vmem, ⟨12, _⟩ => ⟨S4x704x1024, .bf16⟩
  | .local _ .vmem, ⟨13, _⟩ => ⟨S4x704x1024, .bf16⟩
  | .local _ .vmem, ⟨14, _⟩ => ⟨S4x704x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S4x256x704, .bf16⟩
  | .local _ .vmem, ⟨20, _⟩ => ⟨S4x256x704, .bf16⟩
  | .local _ .vmem, ⟨21, _⟩ => ⟨S4x256x704, .bf16⟩
  | .local _ .vmem, ⟨22, _⟩ => ⟨S4x256x704, .bf16⟩
  | .local _ .vmem, ⟨23, _⟩ => ⟨S4x256x704, .bf16⟩
  | .local _ .vmem, ⟨24, _⟩ => ⟨S4x256x704, .bf16⟩
  | .local _ .vmem, ⟨25, _⟩ => ⟨S1x1024, .f32⟩
  | .local _ .vmem, ⟨26, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev main_v30_2 : Ref sig .tc := ⟨.hbm, 50, rfl⟩
abbrev main_v30_3 : Ref sig .tc := ⟨.hbm, 51, rfl⟩
abbrev main_v30_4 : Ref sig .tc := ⟨.hbm, 52, rfl⟩
abbrev main_v30_5 : Ref sig .tc := ⟨.hbm, 53, rfl⟩
abbrev main_v30_6 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_9 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x704x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x704x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x256x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1024 : Shape := ⟨1, ![1024]⟩
abbrev S8192x4x704 : Shape := ⟨3, ![8192, 4, 704]⟩
abbrev S4x8192x704 : Shape := ⟨3, ![4, 8192, 704]⟩

abbrev nBuf : Space → Nat
  | .hbm => 144
  | .vmem => 0
  | .smem => 0
  | _ => 0

abbrev hbmTy0_0 (i : Nat) : BufTy := match i % 128 with
  | 0 => ⟨S8192x1024, .f32⟩
  | 1 => ⟨S1x1024, .f32⟩
  | 2 => ⟨S1024x2816, .f32⟩
  | 3 => ⟨S1024x2816, .f32⟩
  | 4 => ⟨S2816x1024, .f32⟩
  | 5 => ⟨S1x1024, .f32⟩
  | 6 => ⟨S8192x1024, .f32⟩
  | 7 => ⟨S_, .f32⟩
  | 8 => ⟨S8192x2816, .f32⟩
  | 9 => ⟨S_, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S8192x1024, .f32⟩
  | 29 => ⟨S8192x1024, .f32⟩
  | 30 => ⟨S8192x2816, .f32⟩
  | 31 => ⟨S8192x2816, .f32⟩
  | 32 => ⟨S8192x2816, .f32⟩
  | 33 => ⟨S8192x2816, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S_, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S8192x2816, .f32⟩
  | 46 => ⟨S8192x2816, .f32⟩
  | 47 => ⟨S8192x2816, .f32⟩
  | 48 => ⟨S8192x1024, .f32⟩
  | 49 => ⟨S8192x1024, .f32⟩
  | 50 => ⟨S8192x1024, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S8192x1024, .f32⟩
  | 78 => ⟨S_, .f32⟩
  | 79 => ⟨S1024, .f32⟩
  | 80 => ⟨S1x1024, .f32⟩
  | 81 => ⟨S8192x1024, .f32⟩
  | 82 => ⟨S8192x1024, .f32⟩
  | 83 => ⟨S8192x1024, .f32⟩
  | 84 => ⟨S_, .f32⟩
  | 85 => ⟨S8192, .f32⟩
  | 86 => ⟨S8192x1, .f32⟩
  | 87 => ⟨S8192x1024, .f32⟩
  | 88 => ⟨S8192x1024, .f32⟩
  | 89 => ⟨S8192x1, .f32⟩
  | 90 => ⟨S_, .f32⟩
  | 91 => ⟨S8192x1, .f32⟩
  | 92 => ⟨S8192x1, .f32⟩
  | 93 => ⟨S_, .f32⟩
  | 94 => ⟨S8192, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x2816, .f32⟩
  | 101 => ⟨S8192x2816, .f32⟩
  | 102 => ⟨S8192x2816, .f32⟩
  | 103 => ⟨S8192x2816, .f32⟩
  | 104 => ⟨S8192x2816, .f32⟩
  | 105 => ⟨S8192x2816, .f32⟩
  | 106 => ⟨S8192x2816, .f32⟩
  | 107 => ⟨S8192x1024, .f32⟩
  | 108 => ⟨S8192x1024, .f32⟩
  | 109 => ⟨S8192x1024, .f32⟩
  | 110 => ⟨S8192x1024, .f32⟩
  | 111 => ⟨S_, .f32⟩
  | 112 => ⟨S1024, .f32⟩
  | 113 => ⟨S1x1024, .f32⟩
  | 114 => ⟨S8192x1024, .f32⟩
  | 115 => ⟨S8192x1024, .f32⟩
  | 116 => ⟨S8192x1024, .f32⟩
  | 117 => ⟨S_, .f32⟩
  | 118 => ⟨S8192, .f32⟩
  | 119 => ⟨S8192x1, .f32⟩
  | 120 => ⟨S8192x1024, .f32⟩
  | 121 => ⟨S8192x1024, .f32⟩
  | 122 => ⟨S8192x1024, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x1024, .f32⟩

abbrev hbmTy0_1 (i : Nat) : BufTy := match i % 128 with
  | 0 => ⟨S8192, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .bf16⟩
  | 7 => ⟨S8192x4x704, .f32⟩
  | 8 => ⟨S4x8192x704, .f32⟩
  | 9 => ⟨S4x8192x704, .bf16⟩
  | 10 => ⟨S8192x4x704, .f32⟩
  | 11 => ⟨S4x8192x704, .f32⟩
  | 12 => ⟨S4x8192x704, .bf16⟩
  | 13 => ⟨S8192x4x704, .f32⟩
  | 14 => ⟨S4x8192x704, .f32⟩
  | 15 => ⟨S4x8192x704, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v21_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v21_1 : Ref sig .tc := ⟨.hbm, 45, rfl⟩
abbrev main_v21_0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_cst_7 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_8 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_15 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_16 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_v85 : Ref sig .tc := ⟨.hbm, 126, rfl⟩
abbrev main_cst_18 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩

abbrev nD : Nat := 1
abbrev τ : Topo := Topo.v7x

variable {F : FTy → Type} [FloatOps F]
-- ==== Forward.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024x4x704 : Shape := ⟨3, ![1024, 4, 704]⟩
abbrev S4x704x1024 : Shape := ⟨3, ![4, 704, 1024]⟩
abbrev S4x2112x1024 : Shape := ⟨3, ![4, 2112, 1024]⟩
abbrev S4x8192x704 : Shape := ⟨3, ![4, 8192, 704]⟩
abbrev S16x8x128 : Shape := ⟨3, ![16, 8, 128]⟩
abbrev S512x1024 : Shape := ⟨2, ![512, 1024]⟩
abbrev S4x512x704 : Shape := ⟨3, ![4, 512, 704]⟩
abbrev S1x8x128 : Shape := ⟨3, ![1, 8, 128]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 21
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S8192x1024, .f32⟩
  | .hbm, ⟨7, _⟩ => ⟨S1024x4x704, .f32⟩
  | .hbm, ⟨8, _⟩ => ⟨S4x704x1024, .f32⟩
  | .hbm, ⟨9, _⟩ => ⟨S1024x4x704, .f32⟩
  | .hbm, ⟨10, _⟩ => ⟨S4x704x1024, .f32⟩
  | .hbm, ⟨11, _⟩ => ⟨S4x704x1024, .f32⟩
  | .hbm, ⟨12, _⟩ => ⟨S4x2112x1024, .f32⟩
  | .hbm, ⟨13, _⟩ => ⟨S4x2112x1024, .bf16⟩
  | .hbm, ⟨14, _⟩ => ⟨S8192x1024, .f32⟩
  | .hbm, ⟨15, _⟩ => ⟨S8192x1024, .bf16⟩
  | .hbm, ⟨16, _⟩ => ⟨S4x8192x704, .bf16⟩
  | .hbm, ⟨17, _⟩ => ⟨S4x8192x704, .bf16⟩
  | .hbm, ⟨18, _⟩ => ⟨S8192x1024, .f32⟩
  | .hbm, ⟨19, _⟩ => ⟨S8192x1024, .f32⟩
  | .hbm, ⟨20, _⟩ => ⟨S16x8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S4x512x704, .bf16⟩
  | .local _ .vmem, ⟨14, _⟩ => ⟨S4x512x704, .bf16⟩
  | .local _ .vmem, ⟨15, _⟩ => ⟨S4x512x704, .bf16⟩
  | .local _ .vmem, ⟨16, _⟩ => ⟨S4x512x704, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1x8x128, .f32⟩
  | .local _ .vmem, ⟨22, _⟩ => ⟨S1x8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ForwardRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S16x512 : Shape := ⟨2, ![16, 512]⟩
abbrev S16 : Shape := ⟨1, ![16]⟩
abbrev S16x1x1 : Shape := ⟨3, ![16, 1, 1]⟩
abbrev S16x8x128 : Shape := ⟨3, ![16, 8, 128]⟩
abbrev S8192x4x704 : Shape := ⟨3, ![8192, 4, 704]⟩
abbrev S4x8192x704 : Shape := ⟨3, ![4, 8192, 704]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S16x512, .f32⟩
  | .hbm, ⟨68, _⟩ => ⟨S_, .f32⟩
  | .hbm, ⟨69, _⟩ => ⟨S16, .f32⟩
  | .hbm, ⟨70, _⟩ => ⟨S_, .f32⟩
  | .hbm, ⟨71, _⟩ => ⟨S_, .f32⟩
  | .hbm, ⟨72, _⟩ => ⟨S16x1x1, .f32⟩
  | .hbm, ⟨73, _⟩ => ⟨S16x8x128, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .bf16⟩
  | .hbm, ⟨85, _⟩ => ⟨S8192x4x704, .f32⟩
  | .hbm, ⟨86, _⟩ => ⟨S4x8192x704, .f32⟩
  | .hbm, ⟨87, _⟩ => ⟨S4x8192x704, .bf16⟩
  | .hbm, ⟨88, _⟩ => ⟨S8192x4x704, .f32⟩
  | .hbm, ⟨89, _⟩ => ⟨S4x8192x704, .f32⟩
  | .hbm, ⟨90, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_12 : Ref sig .tc := ⟨.hbm, 74, rfl⟩
abbrev main_v46 : Ref sig .tc := ⟨.hbm, 75, rfl⟩
abbrev main_cst_13 : Ref sig .tc := ⟨.hbm, 76, rfl⟩
abbrev main_v47 : Ref sig .tc := ⟨.hbm, 77, rfl⟩
abbrev main_v48 : Ref sig .tc := ⟨.hbm, 78, rfl⟩
abbrev main_cst_14 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== First.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024x4x704 : Shape := ⟨3, ![1024, 4, 704]⟩
abbrev S4x704x1024 : Shape := ⟨3, ![4, 704, 1024]⟩
abbrev S4x2112x1024 : Shape := ⟨3, ![4, 2112, 1024]⟩
abbrev S4x8192x704 : Shape := ⟨3, ![4, 8192, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 18
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x4x704, .f32⟩
  | .hbm, ⟨7, _⟩ => ⟨S4x704x1024, .f32⟩
  | .hbm, ⟨8, _⟩ => ⟨S1024x4x704, .f32⟩
  | .hbm, ⟨9, _⟩ => ⟨S4x704x1024, .f32⟩
  | .hbm, ⟨10, _⟩ => ⟨S4x704x1024, .f32⟩
  | .hbm, ⟨11, _⟩ => ⟨S4x2112x1024, .f32⟩
  | .hbm, ⟨12, _⟩ => ⟨S4x2112x1024, .bf16⟩
  | .hbm, ⟨13, _⟩ => ⟨S8192x1024, .f32⟩
  | .hbm, ⟨14, _⟩ => ⟨S8192x1024, .bf16⟩
  | .hbm, ⟨15, _⟩ => ⟨S4x8192x704, .bf16⟩
  | .hbm, ⟨16, _⟩ => ⟨S4x8192x704, .bf16⟩
  | .hbm, ⟨17, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S512x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FirstRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S8192x4x704, .f32⟩
  | .hbm, ⟨55, _⟩ => ⟨S4x8192x704, .f32⟩
  | .hbm, ⟨56, _⟩ => ⟨S4x8192x704, .bf16⟩
  | .hbm, ⟨57, _⟩ => ⟨S8192x4x704, .f32⟩
  | .hbm, ⟨58, _⟩ => ⟨S4x8192x704, .f32⟩
  | .hbm, ⟨59, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Gate.lean ====
abbrev S8192x1024 : Shape := ⟨2, ![8192, 1024]⟩
abbrev S8192x2816 : Shape := ⟨2, ![8192, 2816]⟩
abbrev S4x2112x1024 : Shape := ⟨3, ![4, 2112, 1024]⟩
abbrev S8192x4x704 : Shape := ⟨3, ![8192, 4, 704]⟩
abbrev S4x8192x704 : Shape := ⟨3, ![4, 8192, 704]⟩
abbrev S1x8192x1024 : Shape := ⟨3, ![1, 8192, 1024]⟩
abbrev S1x4096x704 : Shape := ⟨3, ![1, 4096, 704]⟩
abbrev S1x4096x1024 : Shape := ⟨3, ![1, 4096, 1024]⟩
abbrev S1x704x1024 : Shape := ⟨3, ![1, 704, 1024]⟩
abbrev S704x1024 : Shape := ⟨2, ![704, 1024]⟩
abbrev S4096x704 : Shape := ⟨2, ![4096, 704]⟩
abbrev S4096x1024 : Shape := ⟨2, ![4096, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S4x2112x1024, .f32⟩
  | .hbm, ⟨3, _⟩ => ⟨S8192x4x704, .f32⟩
  | .hbm, ⟨4, _⟩ => ⟨S4x8192x704, .f32⟩
  | .hbm, ⟨5, _⟩ => ⟨S4x8192x704, .bf16⟩
  | .hbm, ⟨6, _⟩ => ⟨S8192x1024, .bf16⟩
  | .hbm, ⟨7, _⟩ => ⟨S1x8192x1024, .bf16⟩
  | .hbm, ⟨8, _⟩ => ⟨S4x2112x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x704x1024, .f32⟩
  | .local _ .vmem, ⟨5, _⟩ => ⟨S1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S8192x1024 : Shape := ⟨2, ![8192, 1024]⟩
abbrev S8192x2816 : Shape := ⟨2, ![8192, 2816]⟩
abbrev S4x2112x1024 : Shape := ⟨3, ![4, 2112, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩
abbrev S4x1408x1024 : Shape := ⟨3, ![4, 1408, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S4x2112x1024, .f32⟩
  | .hbm, ⟨3, _⟩ => ⟨S_, .f32⟩
  | .hbm, ⟨4, _⟩ => ⟨S1024x2816, .f32⟩
  | .hbm, ⟨5, _⟩ => ⟨S8192x2816, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S4x704x1024, .f32⟩
  | .hbm, ⟨10, _⟩ => ⟨S4x1408x1024, .f32⟩
  | .hbm, ⟨11, _⟩ => ⟨S4x2112x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Up.lean ====
abbrev S8192x1024 : Shape := ⟨2, ![8192, 1024]⟩
abbrev S8192x2816 : Shape := ⟨2, ![8192, 2816]⟩
abbrev S4x2112x1024 : Shape := ⟨3, ![4, 2112, 1024]⟩
abbrev S8192x4x704 : Shape := ⟨3, ![8192, 4, 704]⟩
abbrev S4x8192x704 : Shape := ⟨3, ![4, 8192, 704]⟩
abbrev S1x8192x1024 : Shape := ⟨3, ![1, 8192, 1024]⟩
abbrev S1x4096x704 : Shape := ⟨3, ![1, 4096, 704]⟩
abbrev S1x4096x1024 : Shape := ⟨3, ![1, 4096, 1024]⟩
abbrev S1x704x1024 : Shape := ⟨3, ![1, 704, 1024]⟩
abbrev S704x1024 : Shape := ⟨2, ![704, 1024]⟩
abbrev S4096x704 : Shape := ⟨2, ![4096, 704]⟩
abbrev S4096x1024 : Shape := ⟨2, ![4096, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S4x2112x1024, .f32⟩
  | .hbm, ⟨3, _⟩ => ⟨S8192x4x704, .f32⟩
  | .hbm, ⟨4, _⟩ => ⟨S4x8192x704, .f32⟩
  | .hbm, ⟨5, _⟩ => ⟨S4x8192x704, .bf16⟩
  | .hbm, ⟨6, _⟩ => ⟨S8192x1024, .bf16⟩
  | .hbm, ⟨7, _⟩ => ⟨S1x8192x1024, .bf16⟩
  | .hbm, ⟨8, _⟩ => ⟨S4x2112x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x704x1024, .f32⟩
  | .local _ .vmem, ⟨5, _⟩ => ⟨S1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S8192x2816 : Shape := ⟨2, ![8192, 2816]⟩
abbrev S4x2112x1024 : Shape := ⟨3, ![4, 2112, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S4x2112x1024, .f32⟩
  | .hbm, ⟨3, _⟩ => ⟨S_, .f32⟩
  | .hbm, ⟨4, _⟩ => ⟨S1024x2816, .f32⟩
  | .hbm, ⟨5, _⟩ => ⟨S8192x2816, .f32⟩
  | .hbm, ⟨6, _⟩ => ⟨S2816x1024, .f32⟩
  | .hbm, ⟨7, _⟩ => ⟨S1024x2816, .f32⟩
  | .hbm, ⟨8, _⟩ => ⟨S4x704x1024, .f32⟩
  | .hbm, ⟨9, _⟩ => ⟨S2816x1024, .f32⟩
  | .hbm, ⟨10, _⟩ => ⟨S4x704x1024, .f32⟩
  | .hbm, ⟨11, _⟩ => ⟨S4x704x1024, .f32⟩
  | .hbm, ⟨12, _⟩ => ⟨S4x2112x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Down.lean ====
abbrev S8192x2816 : Shape := ⟨2, ![8192, 2816]⟩
abbrev S8192x1024 : Shape := ⟨2, ![8192, 1024]⟩
abbrev S4x2112x1024 : Shape := ⟨3, ![4, 2112, 1024]⟩
abbrev S8192x4x704 : Shape := ⟨3, ![8192, 4, 704]⟩
abbrev S4x8192x704 : Shape := ⟨3, ![4, 8192, 704]⟩
abbrev S1x8192x1024 : Shape := ⟨3, ![1, 8192, 1024]⟩
abbrev S1x4096x704 : Shape := ⟨3, ![1, 4096, 704]⟩
abbrev S1x4096x1024 : Shape := ⟨3, ![1, 4096, 1024]⟩
abbrev S1x704x1024 : Shape := ⟨3, ![1, 704, 1024]⟩
abbrev S704x1024 : Shape := ⟨2, ![704, 1024]⟩
abbrev S4096x704 : Shape := ⟨2, ![4096, 704]⟩
abbrev S4096x1024 : Shape := ⟨2, ![4096, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S4x2112x1024, .f32⟩
  | .hbm, ⟨3, _⟩ => ⟨S8192x4x704, .f32⟩
  | .hbm, ⟨4, _⟩ => ⟨S4x8192x704, .f32⟩
  | .hbm, ⟨5, _⟩ => ⟨S4x8192x704, .bf16⟩
  | .hbm, ⟨6, _⟩ => ⟨S8192x1024, .bf16⟩
  | .hbm, ⟨7, _⟩ => ⟨S1x8192x1024, .bf16⟩
  | .hbm, ⟨8, _⟩ => ⟨S4x2112x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x704x1024, .f32⟩
  | .local _ .vmem, ⟨5, _⟩ => ⟨S1x704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x2816 : Shape := ⟨2, ![8192, 2816]⟩
abbrev S8192x1024 : Shape := ⟨2, ![8192, 1024]⟩
abbrev S4x2112x1024 : Shape := ⟨3, ![4, 2112, 1024]⟩
abbrev S_ : Shape := ⟨0, ![]⟩
abbrev S2816x1024 : Shape := ⟨2, ![2816, 1024]⟩
abbrev S1024x2816 : Shape := ⟨2, ![1024, 2816]⟩
abbrev S4x1408x1024 : Shape := ⟨3, ![4, 1408, 1024]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S4x2112x1024, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S4x1408x1024, .f32⟩
  | .hbm, ⟨9, _⟩ => ⟨S4x704x1024, .f32⟩
  | .hbm, ⟨10, _⟩ => ⟨S4x2112x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Wide.lean ====
abbrev S8192x1024 : Shape := ⟨2, ![8192, 1024]⟩
abbrev S8192x2048 : Shape := ⟨2, ![8192, 2048]⟩
abbrev S1x8192x1024 : Shape := ⟨3, ![1, 8192, 1024]⟩
abbrev S1x8192x2048 : Shape := ⟨3, ![1, 8192, 2048]⟩
abbrev S1x1024x2048 : Shape := ⟨3, ![1, 1024, 2048]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S4096x1024 : Shape := ⟨2, ![4096, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S1x8192x1024, .bf16⟩
  | .hbm, ⟨4, _⟩ => ⟨S8192x2048, .bf16⟩
  | .hbm, ⟨5, _⟩ => ⟨S1x8192x2048, .bf16⟩
  | .hbm, ⟨6, _⟩ => ⟨S1x1024x2048, .f32⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WideRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1x1024x2048 : Shape := ⟨3, ![1, 1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1x1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixIn.lean ====
abbrev S8192x1024 : Shape := ⟨2, ![8192, 1024]⟩
abbrev S1x1024 : Shape := ⟨2, ![1, 1024]⟩
abbrev S1024x8736 : Shape := ⟨2, ![1024, 8736]⟩
abbrev S1024x4096 : Shape := ⟨2, ![1024, 4096]⟩
abbrev S1024x3072 : Shape := ⟨2, ![1024, 3072]⟩
abbrev S1024x32 : Shape := ⟨2, ![1024, 32]⟩
abbrev S32x1024 : Shape := ⟨2, ![32, 1024]⟩
abbrev S1024x1536 : Shape := ⟨2, ![1024, 1536]⟩
abbrev S8192x2048 : Shape := ⟨2, ![8192, 2048]⟩
abbrev S8192x3072 : Shape := ⟨2, ![8192, 3072]⟩
abbrev S32x8192 : Shape := ⟨2, ![32, 8192]⟩
abbrev S8192x256 : Shape := ⟨2, ![8192, 256]⟩
abbrev S256x1024 : Shape := ⟨2, ![256, 1024]⟩
abbrev S256x2048 : Shape := ⟨2, ![256, 2048]⟩
abbrev S256x3072 : Shape := ⟨2, ![256, 3072]⟩
abbrev S32x256 : Shape := ⟨2, ![32, 256]⟩
abbrev S256x256 : Shape := ⟨2, ![256, 256]⟩
abbrev S256 : Shape := ⟨1, ![256]⟩
abbrev S256x1 : Shape := ⟨2, ![256, 1]⟩
abbrev S1024x1024 : Shape := ⟨2, ![1024, 1024]⟩
abbrev S1024x256 : Shape := ⟨2, ![1024, 256]⟩

abbrev nBuf : Space → Nat
  | .hbm => 17
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x8736, .f32⟩
  | .hbm, ⟨3, _⟩ => ⟨S1024x8736, .bf16⟩
  | .hbm, ⟨4, _⟩ => ⟨S1024x4096, .bf16⟩
  | .hbm, ⟨5, _⟩ => ⟨S1024x3072, .bf16⟩
  | .hbm, ⟨6, _⟩ => ⟨S1024x32, .bf16⟩
  | .hbm, ⟨7, _⟩ => ⟨S32x1024, .bf16⟩
  | .hbm, ⟨8, _⟩ => ⟨S1024x1536, .bf16⟩
  | .hbm, ⟨9, _⟩ => ⟨S8192x1024, .bf16⟩
  | .hbm, ⟨10, _⟩ => ⟨S8192x2048, .bf16⟩
  | .hbm, ⟨11, _⟩ => ⟨S8192x2048, .f32⟩
  | .hbm, ⟨12, _⟩ => ⟨S8192x3072, .f32⟩
  | .hbm, ⟨13, _⟩ => ⟨S32x8192, .f32⟩
  | .hbm, ⟨14, _⟩ => ⟨S8192x1024, .bf16⟩
  | .hbm, ⟨15, _⟩ => ⟨S8192x256, .bf16⟩
  | .hbm, ⟨16, _⟩ => ⟨S8192x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S1024x3072, .bf16⟩
  | .local _ .vmem, ⟨5, _⟩ => ⟨S32x1024, .bf16⟩
  | .local _ .vmem, ⟨6, _⟩ => ⟨S1024x1536, .bf16⟩
  | .local _ .vmem, ⟨7, _⟩ => ⟨S256x1024, .bf16⟩
  | .local _ .vmem, ⟨8, _⟩ => ⟨S256x1024, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .f32⟩
  | .local _ .vmem, ⟨12, _⟩ => ⟨S256x2048, .f32⟩
  | .local _ .vmem, ⟨13, _⟩ => ⟨S256x3072, .f32⟩
  | .local _ .vmem, ⟨14, _⟩ => ⟨S256x3072, .f32⟩
  | .local _ .vmem, ⟨15, _⟩ => ⟨S32x256, .f32⟩
  | .local _ .vmem, ⟨16, _⟩ => ⟨S32x256, .f32⟩
  | .local _ .vmem, ⟨17, _⟩ => ⟨S256x1024, .bf16⟩
  | .local _ .vmem, ⟨18, _⟩ => ⟨S256x1024, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S256x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev main_v6_4 : Ref sig .tc := ⟨.hbm, 13, rfl⟩
abbrev main_v6_5 : Ref sig .tc := ⟨.hbm, 14, rfl⟩
abbrev main_v6_6 : Ref sig .tc := ⟨.hbm, 15, rfl⟩
abbrev main_v6_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixInRefIdeal.lean ====
abbrev S8192x1024 : Shape := ⟨2, ![8192, 1024]⟩
abbrev S1x1024 : Shape := ⟨2, ![1, 1024]⟩
abbrev S1024x8736 : Shape := ⟨2, ![1024, 8736]⟩
abbrev S_ : Shape := ⟨0, ![]⟩
abbrev S8192 : Shape := ⟨1, ![8192]⟩
abbrev S8192x1 : Shape := ⟨2, ![8192, 1]⟩
abbrev S8192x8736 : Shape := ⟨2, ![8192, 8736]⟩
abbrev S8192x2048 : Shape := ⟨2, ![8192, 2048]⟩
abbrev S8192x3072 : Shape := ⟨2, ![8192, 3072]⟩
abbrev S8192x32 : Shape := ⟨2, ![8192, 32]⟩
abbrev S8192x256 : Shape := ⟨2, ![8192, 256]⟩
abbrev S32x8192 : Shape := ⟨2, ![32, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x8736, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x8736, .f32⟩
  | .hbm, ⟨19, _⟩ => ⟨S8192x2048, .f32⟩
  | .hbm, ⟨20, _⟩ => ⟨S8192x2048, .f32⟩
  | .hbm, ⟨21, _⟩ => ⟨S8192x3072, .f32⟩
  | .hbm, ⟨22, _⟩ => ⟨S8192x32, .f32⟩
  | .hbm, ⟨23, _⟩ => ⟨S8192x1024, .f32⟩
  | .hbm, ⟨24, _⟩ => ⟨S8192x256, .f32⟩
  | .hbm, ⟨25, _⟩ => ⟨S8192x256, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S8192x2048, .bf16⟩
  | .hbm, ⟨31, _⟩ => ⟨S32x8192, .f32⟩
  | .hbm, ⟨32, _⟩ => ⟨S8192x1024, .bf16⟩
  | .hbm, ⟨33, _⟩ => ⟨S8192x256, .bf16⟩
  | .hbm, ⟨34, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== MixBack.lean ====
abbrev S8192x1024 : Shape := ⟨2, ![8192, 1024]⟩
abbrev S1x1024 : Shape := ⟨2, ![1, 1024]⟩
abbrev S1024x8736 : Shape := ⟨2, ![1024, 8736]⟩
abbrev S8192x8736 : Shape := ⟨2, ![8192, 8736]⟩
abbrev S8192x2048 : Shape := ⟨2, ![8192, 2048]⟩
abbrev S8192x512 : Shape := ⟨2, ![8192, 512]⟩
abbrev S8192x32 : Shape := ⟨2, ![8192, 32]⟩
abbrev S32x8192 : Shape := ⟨2, ![32, 8192]⟩
abbrev S8192x256 : Shape := ⟨2, ![8192, 256]⟩
abbrev S1024x4096 : Shape := ⟨2, ![1024, 4096]⟩
abbrev S1024x3072 : Shape := ⟨2, ![1024, 3072]⟩
abbrev S1024x32 : Shape := ⟨2, ![1024, 32]⟩
abbrev S32x1024 : Shape := ⟨2, ![32, 1024]⟩
abbrev S1024x1536 : Shape := ⟨2, ![1024, 1536]⟩
abbrev S512x1024 : Shape := ⟨2, ![512, 1024]⟩
abbrev S512x2048 : Shape := ⟨2, ![512, 2048]⟩
abbrev S512x512 : Shape := ⟨2, ![512, 512]⟩
abbrev S32x512 : Shape := ⟨2, ![32, 512]⟩
abbrev S512x256 : Shape := ⟨2, ![512, 256]⟩
abbrev S1024x2048 : Shape := ⟨2, ![1024, 2048]⟩
abbrev S1024x512 : Shape := ⟨2, ![1024, 512]⟩
abbrev S1024x1024 : Shape := ⟨2, ![1024, 1024]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 24
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x8736, .f32⟩
  | .hbm, ⟨3, _⟩ => ⟨S8192x1024, .f32⟩
  | .hbm, ⟨4, _⟩ => ⟨S8192x8736, .f32⟩
  | .hbm, ⟨5, _⟩ => ⟨S8192x8736, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S8192x512, .bf16⟩
  | .hbm, ⟨10, _⟩ => ⟨S8192x512, .bf16⟩
  | .hbm, ⟨11, _⟩ => ⟨S8192x32, .f32⟩
  | .hbm, ⟨12, _⟩ => ⟨S32x8192, .f32⟩
  | .hbm, ⟨13, _⟩ => ⟨S8192x1024, .bf16⟩
  | .hbm, ⟨14, _⟩ => ⟨S8192x256, .bf16⟩
  | .hbm, ⟨15, _⟩ => ⟨S8192x256, .bf16⟩
  | .hbm, ⟨16, _⟩ => ⟨S1024x8736, .bf16⟩
  | .hbm, ⟨17, _⟩ => ⟨S1024x4096, .bf16⟩
  | .hbm, ⟨18, _⟩ => ⟨S1024x3072, .bf16⟩
  | .hbm, ⟨19, _⟩ => ⟨S1024x32, .bf16⟩
  | .hbm, ⟨20, _⟩ => ⟨S32x1024, .bf16⟩
  | .hbm, ⟨21, _⟩ => ⟨S1024x1536, .bf16⟩
  | .hbm, ⟨22, _⟩ => ⟨S8192x1024, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S32x512, .f32⟩
  | .local _ .vmem, ⟨16, _⟩ => ⟨S32x512, .f32⟩
  | .local _ .vmem, ⟨17, _⟩ => ⟨S512x1024, .bf16⟩
  | .local _ .vmem, ⟨18, _⟩ => ⟨S512x1024, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S1024x4096, .bf16⟩
  | .local _ .vmem, ⟨24, _⟩ => ⟨S1024x3072, .bf16⟩
  | .local _ .vmem, ⟨25, _⟩ => ⟨S32x1024, .bf16⟩
  | .local _ .vmem, ⟨26, _⟩ => ⟨S1024x1536, .bf16⟩
  | .local _ .vmem, ⟨27, _⟩ => ⟨S512x1024, .f32⟩
  | .local _ .vmem, ⟨28, _⟩ => ⟨S512x1024, .f32⟩
  | .local _ .vmem, ⟨29, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x3072 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1536 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MixBackRefIdeal.lean ====
abbrev S8192x1024 : Shape := ⟨2, ![8192, 1024]⟩
abbrev S1x1024 : Shape := ⟨2, ![1, 1024]⟩
abbrev S1024x8736 : Shape := ⟨2, ![1024, 8736]⟩
abbrev S8192x8736 : Shape := ⟨2, ![8192, 8736]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x8736, .f32⟩
  | .hbm, ⟨3, _⟩ => ⟨S8192x1024, .f32⟩
  | .hbm, ⟨4, _⟩ => ⟨S8192x8736, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x8736, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Query.lean ====
abbrev S8192x1024 : Shape := ⟨2, ![8192, 1024]⟩
abbrev S1x8192x1024 : Shape := ⟨3, ![1, 8192, 1024]⟩
abbrev S1x1024x1024 : Shape := ⟨3, ![1, 1024, 1024]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1x8192x1024, .bf16⟩
  | .hbm, ⟨4, _⟩ => ⟨S8192x1024, .bf16⟩
  | .hbm, ⟨5, _⟩ => ⟨S1x8192x1024, .bf16⟩
  | .hbm, ⟨6, _⟩ => ⟨S1x1024x1024, .f32⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryRefIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Scan.lean ====
abbrev S8192x1024 : Shape := ⟨2, ![8192, 1024]⟩
abbrev S8192x512 : Shape := ⟨2, ![8192, 512]⟩
abbrev S1x8192x1024 : Shape := ⟨3, ![1, 8192, 1024]⟩
abbrev S1x8192x512 : Shape := ⟨3, ![1, 8192, 512]⟩
abbrev S1x1024x512 : Shape := ⟨3, ![1, 1024, 512]⟩
abbrev S1x4096x1024 : Shape := ⟨3, ![1, 4096, 1024]⟩
abbrev S1x4096x512 : Shape := ⟨3, ![1, 4096, 512]⟩
abbrev S1024x512 : Shape := ⟨2, ![1024, 512]⟩
abbrev S4096x1024 : Shape := ⟨2, ![4096, 1024]⟩
abbrev S4096x512 : Shape := ⟨2, ![4096, 512]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .bf16⟩
  | .hbm, ⟨3, _⟩ => ⟨S1x8192x1024, .bf16⟩
  | .hbm, ⟨4, _⟩ => ⟨S8192x512, .bf16⟩
  | .hbm, ⟨5, _⟩ => ⟨S1x8192x512, .bf16⟩
  | .hbm, ⟨6, _⟩ => ⟨S1x1024x512, .f32⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ScanRefIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩
abbrev S1x1024x512 : Shape := ⟨3, ![1, 1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x512, .f32⟩
  | .hbm, ⟨5, _⟩ => ⟨S512x1024, .f32⟩
  | .hbm, ⟨6, _⟩ => ⟨S1024x512, .f32⟩
  | .hbm, ⟨7, _⟩ => ⟨S1x1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Keys.lean ====
abbrev S8192x1024 : Shape := ⟨2, ![8192, 1024]⟩
abbrev S8192x256 : Shape := ⟨2, ![8192, 256]⟩
abbrev S1x8192x1024 : Shape := ⟨3, ![1, 8192, 1024]⟩
abbrev S1x8192x256 : Shape := ⟨3, ![1, 8192, 256]⟩
abbrev S1x1024x256 : Shape := ⟨3, ![1, 1024, 256]⟩
abbrev S1x4096x1024 : Shape := ⟨3, ![1, 4096, 1024]⟩
abbrev S1x4096x256 : Shape := ⟨3, ![1, 4096, 256]⟩
abbrev S1024x256 : Shape := ⟨2, ![1024, 256]⟩
abbrev S4096x1024 : Shape := ⟨2, ![4096, 1024]⟩
abbrev S4096x256 : Shape := ⟨2, ![4096, 256]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .bf16⟩
  | .hbm, ⟨3, _⟩ => ⟨S1x8192x1024, .bf16⟩
  | .hbm, ⟨4, _⟩ => ⟨S8192x256, .bf16⟩
  | .hbm, ⟨5, _⟩ => ⟨S1x8192x256, .bf16⟩
  | .hbm, ⟨6, _⟩ => ⟨S1x1024x256, .f32⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KeysRefIdeal.lean ====
abbrev S8192x1024 : Shape := ⟨2, ![8192, 1024]⟩
abbrev S8192x256 : Shape := ⟨2, ![8192, 256]⟩
abbrev S_ : Shape := ⟨0, ![]⟩
abbrev S1024x256 : Shape := ⟨2, ![1024, 256]⟩
abbrev S256x1024 : Shape := ⟨2, ![256, 1024]⟩
abbrev S1x1024x256 : Shape := ⟨3, ![1, 1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S_, .f32⟩
  | .hbm, ⟨3, _⟩ => ⟨S1024x256, .f32⟩
  | .hbm, ⟨4, _⟩ => ⟨S8192x256, .f32⟩
  | .hbm, ⟨5, _⟩ => ⟨S256x1024, .f32⟩
  | .hbm, ⟨6, _⟩ => ⟨S1024x256, .f32⟩
  | .hbm, ⟨7, _⟩ => ⟨S1x1024x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Steps.lean ====
abbrev S8192x1024 : Shape := ⟨2, ![8192, 1024]⟩
abbrev S8192x32 : Shape := ⟨2, ![8192, 32]⟩
abbrev S32x8192 : Shape := ⟨2, ![32, 8192]⟩
abbrev S32x1024 : Shape := ⟨2, ![32, 1024]⟩
abbrev S32x2048 : Shape := ⟨2, ![32, 2048]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x32, .f32⟩
  | .hbm, ⟨2, _⟩ => ⟨S32x8192, .f32⟩
  | .hbm, ⟨3, _⟩ => ⟨S8192x1024, .bf16⟩
  | .hbm, ⟨4, _⟩ => ⟨S32x1024, .f32⟩
  | .local _ .vmem, ⟨0, _⟩ => ⟨S32x2048, .f32⟩
  | .local _ .vmem, ⟨1, _⟩ => ⟨S32x2048, .f32⟩
  | .local _ .vmem, ⟨2, _⟩ => ⟨S2048x1024, .bf16⟩
  | .local _ .vmem, ⟨3, _⟩ => ⟨S2048x1024, .bf16⟩
  | .local _ .vmem, ⟨4, _⟩ => ⟨S32x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== StepsRefIdeal.lean ====
abbrev S8192x1024 : Shape := ⟨2, ![8192, 1024]⟩
abbrev S8192x32 : Shape := ⟨2, ![8192, 32]⟩
abbrev S_ : Shape := ⟨0, ![]⟩
abbrev S1024x32 : Shape := ⟨2, ![1024, 32]⟩
abbrev S32x1024 : Shape := ⟨2, ![32, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x32, .f32⟩
  | .hbm, ⟨2, _⟩ => ⟨S_, .f32⟩
  | .hbm, ⟨3, _⟩ => ⟨S1024x32, .f32⟩
  | .hbm, ⟨4, _⟩ => ⟨S8192x32, .f32⟩
  | .hbm, ⟨5, _⟩ => ⟨S32x1024, .f32⟩
  | .hbm, ⟨6, _⟩ => ⟨S1024x32, .f32⟩
  | .hbm, ⟨7, _⟩ => ⟨S32x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ssm.lean ====
abbrev S8192x2048 : Shape := ⟨2, ![8192, 2048]⟩
abbrev S8192x1024 : Shape := ⟨2, ![8192, 1024]⟩
abbrev S4x1024x1024 : Shape := ⟨3, ![4, 1024, 1024]⟩
abbrev S1x8192x2048 : Shape := ⟨3, ![1, 8192, 2048]⟩
abbrev S1x8192x1024 : Shape := ⟨3, ![1, 8192, 1024]⟩
abbrev S1x4096x512 : Shape := ⟨3, ![1, 4096, 512]⟩
abbrev S1x4096x1024 : Shape := ⟨3, ![1, 4096, 1024]⟩
abbrev S1x512x1024 : Shape := ⟨3, ![1, 512, 1024]⟩
abbrev S512x1024 : Shape := ⟨2, ![512, 1024]⟩
abbrev S4096x512 : Shape := ⟨2, ![4096, 512]⟩
abbrev S4096x1024 : Shape := ⟨2, ![4096, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S4x1024x1024, .f32⟩
  | .hbm, ⟨3, _⟩ => ⟨S8192x2048, .bf16⟩
  | .hbm, ⟨4, _⟩ => ⟨S1x8192x2048, .bf16⟩
  | .hbm, ⟨5, _⟩ => ⟨S8192x1024, .bf16⟩
  | .hbm, ⟨6, _⟩ => ⟨S1x8192x1024, .bf16⟩
  | .hbm, ⟨7, _⟩ => ⟨S4x1024x1024, .f32⟩
  | .local _ .vmem, ⟨0, _⟩ => ⟨S1x4096x512, .bf16⟩
  | .local _ .vmem, ⟨1, _⟩ => ⟨S1x4096x512, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x512x1024, .f32⟩
  | .local _ .vmem, ⟨5, _⟩ => ⟨S1x512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmRefIdeal.lean ====
abbrev S8192x2048 : Shape := ⟨2, ![8192, 2048]⟩
abbrev S8192x1024 : Shape := ⟨2, ![8192, 1024]⟩
abbrev S4x1024x1024 : Shape := ⟨3, ![4, 1024, 1024]⟩
abbrev S_ : Shape := ⟨0, ![]⟩
abbrev S2048x1024 : Shape := ⟨2, ![2048, 1024]⟩
abbrev S1024x2048 : Shape := ⟨2, ![1024, 2048]⟩
abbrev S4x512x1024 : Shape := ⟨3, ![4, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S4x1024x1024, .f32⟩
  | .hbm, ⟨3, _⟩ => ⟨S_, .f32⟩
  | .hbm, ⟨4, _⟩ => ⟨S2048x1024, .f32⟩
  | .hbm, ⟨5, _⟩ => ⟨S8192x1024, .f32⟩
  | .hbm, ⟨6, _⟩ => ⟨S1024x2048, .f32⟩
  | .hbm, ⟨7, _⟩ => ⟨S2048x1024, .f32⟩
  | .hbm, ⟨8, _⟩ => ⟨S4x512x1024, .f32⟩
  | .hbm, ⟨9, _⟩ => ⟨S4x512x1024, .f32⟩
  | .hbm, ⟨10, _⟩ => ⟨S4x1024x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Attn.lean ====
abbrev S8192x1024 : Shape := ⟨2, ![8192, 1024]⟩
abbrev S4x1024x1024 : Shape := ⟨3, ![4, 1024, 1024]⟩
abbrev S1x8192x1024 : Shape := ⟨3, ![1, 8192, 1024]⟩
abbrev S1x4096x256 : Shape := ⟨3, ![1, 4096, 256]⟩
abbrev S1x4096x1024 : Shape := ⟨3, ![1, 4096, 1024]⟩
abbrev S1x256x1024 : Shape := ⟨3, ![1, 256, 1024]⟩
abbrev S256x1024 : Shape := ⟨2, ![256, 1024]⟩
abbrev S4096x256 : Shape := ⟨2, ![4096, 256]⟩
abbrev S4096x1024 : Shape := ⟨2, ![4096, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1024x1024, .f32⟩
  | .hbm, ⟨3, _⟩ => ⟨S8192x1024, .bf16⟩
  | .hbm, ⟨4, _⟩ => ⟨S1x8192x1024, .bf16⟩
  | .hbm, ⟨5, _⟩ => ⟨S8192x1024, .bf16⟩
  | .hbm, ⟨6, _⟩ => ⟨S1x8192x1024, .bf16⟩
  | .hbm, ⟨7, _⟩ => ⟨S4x1024x1024, .f32⟩
  | .local _ .vmem, ⟨0, _⟩ => ⟨S1x4096x256, .bf16⟩
  | .local _ .vmem, ⟨1, _⟩ => ⟨S1x4096x256, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x256x1024, .f32⟩
  | .local _ .vmem, ⟨5, _⟩ => ⟨S1x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnRefIdeal.lean ====
abbrev S8192x1024 : Shape := ⟨2, ![8192, 1024]⟩
abbrev S4x1024x1024 : Shape := ⟨3, ![4, 1024, 1024]⟩
abbrev S_ : Shape := ⟨0, ![]⟩
abbrev S1024x1024 : Shape := ⟨2, ![1024, 1024]⟩
abbrev S4x512x1024 : Shape := ⟨3, ![4, 512, 1024]⟩
abbrev S4x256x1024 : Shape := ⟨3, ![4, 256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1024x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S4x512x1024, .f32⟩
  | .hbm, ⟨9, _⟩ => ⟨S4x256x1024, .f32⟩
  | .hbm, ⟨10, _⟩ => ⟨S4x256x1024, .f32⟩
  | .hbm, ⟨11, _⟩ => ⟨S4x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Merge.lean ====
abbrev S8192x1024 : Shape := ⟨2, ![8192, 1024]⟩
abbrev S4x1024x1024 : Shape := ⟨3, ![4, 1024, 1024]⟩
abbrev S1x8192x1024 : Shape := ⟨3, ![1, 8192, 1024]⟩
abbrev S1x4096x256 : Shape := ⟨3, ![1, 4096, 256]⟩
abbrev S1x4096x1024 : Shape := ⟨3, ![1, 4096, 1024]⟩
abbrev S1x256x1024 : Shape := ⟨3, ![1, 256, 1024]⟩
abbrev S256x1024 : Shape := ⟨2, ![256, 1024]⟩
abbrev S4096x256 : Shape := ⟨2, ![4096, 256]⟩
abbrev S4096x1024 : Shape := ⟨2, ![4096, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1024x1024, .f32⟩
  | .hbm, ⟨3, _⟩ => ⟨S8192x1024, .bf16⟩
  | .hbm, ⟨4, _⟩ => ⟨S1x8192x1024, .bf16⟩
  | .hbm, ⟨5, _⟩ => ⟨S8192x1024, .bf16⟩
  | .hbm, ⟨6, _⟩ => ⟨S1x8192x1024, .bf16⟩
  | .hbm, ⟨7, _⟩ => ⟨S4x1024x1024, .f32⟩
  | .local _ .vmem, ⟨0, _⟩ => ⟨S1x4096x256, .bf16⟩
  | .local _ .vmem, ⟨1, _⟩ => ⟨S1x4096x256, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x256x1024, .f32⟩
  | .local _ .vmem, ⟨5, _⟩ => ⟨S1x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergeRefIdeal.lean ====
abbrev S8192x1024 : Shape := ⟨2, ![8192, 1024]⟩
abbrev S4x1024x1024 : Shape := ⟨3, ![4, 1024, 1024]⟩
abbrev S_ : Shape := ⟨0, ![]⟩
abbrev S1024x1024 : Shape := ⟨2, ![1024, 1024]⟩
abbrev S4x768x1024 : Shape := ⟨3, ![4, 768, 1024]⟩
abbrev S4x256x1024 : Shape := ⟨3, ![4, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1024x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S4x768x1024, .f32⟩
  | .hbm, ⟨9, _⟩ => ⟨S4x256x1024, .f32⟩
  | .hbm, ⟨10, _⟩ => ⟨S4x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AdamFfn.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1024x2184 : Shape := ⟨2, ![1024, 2184]⟩
abbrev S256x2184 : Shape := ⟨2, ![256, 2184]⟩

abbrev nBuf : Space → Nat
  | .hbm => 7
  | .vmem => 14
  | .smem => 0
  | _ => 0

abbrev bufTy : (tb : Table) → Fin (tcTables nBuf tb) → BufTy
  | .hbm, ⟨0, _⟩ => ⟨S1024x2184, .f32⟩
  | .hbm, ⟨1, _⟩ => ⟨S1024x2184, .f32⟩
  | .hbm, ⟨2, _⟩ => ⟨S1024x2184, .f32⟩
  | .hbm, ⟨3, _⟩ => ⟨S1024x2184, .f32⟩
  | .hbm, ⟨4, _⟩ => ⟨S1024x2184, .f32⟩
  | .hbm, ⟨5, _⟩ => ⟨S1024x2184, .f32⟩
  | .hbm, ⟨6, _⟩ => ⟨S1024x2184, .f32⟩
  | .local _ .vmem, ⟨0, _⟩ => ⟨S256x2184, .f32⟩
  | .local _ .vmem, ⟨1, _⟩ => ⟨S256x2184, .f32⟩
  | .local _ .vmem, ⟨2, _⟩ => ⟨S256x2184, .f32⟩
  | .local _ .vmem, ⟨3, _⟩ => ⟨S256x2184, .f32⟩
  | .local _ .vmem, ⟨4, _⟩ => ⟨S256x2184, .f32⟩
  | .local _ .vmem, ⟨5, _⟩ => ⟨S256x2184, .f32⟩
  | .local _ .vmem, ⟨6, _⟩ => ⟨S256x2184, .f32⟩
  | .local _ .vmem, ⟨7, _⟩ => ⟨S256x2184, .f32⟩
  | .local _ .vmem, ⟨8, _⟩ => ⟨S256x2184, .f32⟩
  | .local _ .vmem, ⟨9, _⟩ => ⟨S256x2184, .f32⟩
  | .local _ .vmem, ⟨10, _⟩ => ⟨S256x2184, .f32⟩
  | .local _ .vmem, ⟨11, _⟩ => ⟨S256x2184, .f32⟩
  | .local _ .vmem, ⟨12, _⟩ => ⟨S256x2184, .f32⟩
  | .local _ .vmem, ⟨13, _⟩ => ⟨S256x2184, .f32⟩
  | _, _ => ⟨S1024x2184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2184 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2184 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2184 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2184 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2184 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2184 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2184 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x2184 : Shape := ⟨2, ![1024, 2184]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2184, .f32⟩
  | .hbm, ⟨1, _⟩ => ⟨S1024x2184, .f32⟩
  | .hbm, ⟨2, _⟩ => ⟨S1024x2184, .f32⟩
  | .hbm, ⟨3, _⟩ => ⟨S1024x2184, .f32⟩
  | .hbm, ⟨4, _⟩ => ⟨S_, .f32⟩
  | .hbm, ⟨5, _⟩ => ⟨S1024x2184, .f32⟩
  | .hbm, ⟨6, _⟩ => ⟨S1024x2184, .f32⟩
  | .hbm, ⟨7, _⟩ => ⟨S_, .f32⟩
  | .hbm, ⟨8, _⟩ => ⟨S1024x2184, .f32⟩
  | .hbm, ⟨9, _⟩ => ⟨S1024x2184, .f32⟩
  | .hbm, ⟨10, _⟩ => ⟨S1024x2184, .f32⟩
  | .hbm, ⟨11, _⟩ => ⟨S_, .f32⟩
  | .hbm, ⟨12, _⟩ => ⟨S1024x2184, .f32⟩
  | .hbm, ⟨13, _⟩ => ⟨S1024x2184, .f32⟩
  | .hbm, ⟨14, _⟩ => ⟨S1024x2184, .f32⟩
  | .hbm, ⟨15, _⟩ => ⟨S_, .f32⟩
  | .hbm, ⟨16, _⟩ => ⟨S1024x2184, .f32⟩
  | .hbm, ⟨17, _⟩ => ⟨S1024x2184, .f32⟩
  | .hbm, ⟨18, _⟩ => ⟨S1024x2184, .f32⟩
  | .hbm, ⟨19, _⟩ => ⟨S_, .f32⟩
  | .hbm, ⟨20, _⟩ => ⟨S1024x2184, .f32⟩
  | .hbm, ⟨21, _⟩ => ⟨S1024x2184, .f32⟩
  | .hbm, ⟨22, _⟩ => ⟨S_, .f32⟩
  | .hbm, ⟨23, _⟩ => ⟨S1024x2184, .f32⟩
  | .hbm, ⟨24, _⟩ => ⟨S1024x2184, .f32⟩
  | .hbm, ⟨25, _⟩ => ⟨S1024x2184, .f32⟩
  | .hbm, ⟨26, _⟩ => ⟨S_, .f32⟩
  | .hbm, ⟨27, _⟩ => ⟨S1024x2184, .f32⟩
  | .hbm, ⟨28, _⟩ => ⟨S1024x2184, .f32⟩
  | .hbm, ⟨29, _⟩ => ⟨S1024x2184, .f32⟩
  | .hbm, ⟨30, _⟩ => ⟨S_, .f32⟩
  | .hbm, ⟨31, _⟩ => ⟨S1024x2184, .f32⟩
  | .hbm, ⟨32, _⟩ => ⟨S1024x2184, .f32⟩
  | .hbm, ⟨33, _⟩ => ⟨S1024x2184, .f32⟩
  | .hbm, ⟨34, _⟩ => ⟨S_, .f32⟩
  | .hbm, ⟨35, _⟩ => ⟨S1024x2184, .f32⟩
  | .hbm, ⟨36, _⟩ => ⟨S1024x2184, .f32⟩
  | _, _ => ⟨S1024x2184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSsm.lean ====
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSsmRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S120x128 : Shape := ⟨2, ![120, 128]⟩

abbrev nBuf : Space → Nat
  | .hbm => 7
  | .vmem => 7
  | .smem => 0
  | _ => 0

abbrev bufTy : (tb : Table) → Fin (tcTables nBuf tb) → BufTy
  | .hbm, ⟨0, _⟩ => ⟨S120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S120x128, .f32⟩
  | .hbm, ⟨5, _⟩ => ⟨S120x128, .f32⟩
  | .hbm, ⟨6, _⟩ => ⟨S120x128, .f32⟩
  | .local _ .vmem, ⟨0, _⟩ => ⟨S120x128, .f32⟩
  | .local _ .vmem, ⟨1, _⟩ => ⟨S120x128, .f32⟩
  | .local _ .vmem, ⟨2, _⟩ => ⟨S120x128, .f32⟩
  | .local _ .vmem, ⟨3, _⟩ => ⟨S120x128, .f32⟩
  | .local _ .vmem, ⟨4, _⟩ => ⟨S120x128, .f32⟩
  | .local _ .vmem, ⟨5, _⟩ => ⟨S120x128, .f32⟩
  | .local _ .vmem, ⟨6, _⟩ => ⟨S120x128, .f32⟩
  | _, _ => ⟨S120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S120x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S120x128 : Shape := ⟨2, ![120, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S_, .f32⟩
  | .hbm, ⟨5, _⟩ => ⟨S120x128, .f32⟩
  | .hbm, ⟨6, _⟩ => ⟨S120x128, .f32⟩
  | .hbm, ⟨7, _⟩ => ⟨S_, .f32⟩
  | .hbm, ⟨8, _⟩ => ⟨S120x128, .f32⟩
  | .hbm, ⟨9, _⟩ => ⟨S120x128, .f32⟩
  | .hbm, ⟨10, _⟩ => ⟨S120x128, .f32⟩
  | .hbm, ⟨11, _⟩ => ⟨S_, .f32⟩
  | .hbm, ⟨12, _⟩ => ⟨S120x128, .f32⟩
  | .hbm, ⟨13, _⟩ => ⟨S120x128, .f32⟩
  | .hbm, ⟨14, _⟩ => ⟨S120x128, .f32⟩
  | .hbm, ⟨15, _⟩ => ⟨S_, .f32⟩
  | .hbm, ⟨16, _⟩ => ⟨S120x128, .f32⟩
  | .hbm, ⟨17, _⟩ => ⟨S120x128, .f32⟩
  | .hbm, ⟨18, _⟩ => ⟨S120x128, .f32⟩
  | .hbm, ⟨19, _⟩ => ⟨S_, .f32⟩
  | .hbm, ⟨20, _⟩ => ⟨S120x128, .f32⟩
  | .hbm, ⟨21, _⟩ => ⟨S120x128, .f32⟩
  | .hbm, ⟨22, _⟩ => ⟨S_, .f32⟩
  | .hbm, ⟨23, _⟩ => ⟨S120x128, .f32⟩
  | .hbm, ⟨24, _⟩ => ⟨S120x128, .f32⟩
  | .hbm, ⟨25, _⟩ => ⟨S120x128, .f32⟩
  | .hbm, ⟨26, _⟩ => ⟨S_, .f32⟩
  | .hbm, ⟨27, _⟩ => ⟨S120x128, .f32⟩
  | .hbm, ⟨28, _⟩ => ⟨S120x128, .f32⟩
  | .hbm, ⟨29, _⟩ => ⟨S120x128, .f32⟩
  | .hbm, ⟨30, _⟩ => ⟨S_, .f32⟩
  | .hbm, ⟨31, _⟩ => ⟨S120x128, .f32⟩
  | .hbm, ⟨32, _⟩ => ⟨S120x128, .f32⟩
  | .hbm, ⟨33, _⟩ => ⟨S120x128, .f32⟩
  | .hbm, ⟨34, _⟩ => ⟨S_, .f32⟩
  | .hbm, ⟨35, _⟩ => ⟨S120x128, .f32⟩
  | .hbm, ⟨36, _⟩ => ⟨S120x128, .f32⟩
  | _, _ => ⟨S120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OutBack.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S4x512x1024 : Shape := ⟨3, ![4, 512, 1024]⟩
abbrev S4x256x1024 : Shape := ⟨3, ![4, 256, 1024]⟩
abbrev S4x1024x1024 : Shape := ⟨3, ![4, 1024, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024 : Shape := ⟨1, ![1024]⟩

abbrev nBuf : Space → Nat
  | .hbm => 48
  | .vmem => 27
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x1024, .bf16⟩
  | .hbm, ⟨34, _⟩ => ⟨S8192x1024, .bf16⟩
  | .hbm, ⟨35, _⟩ => ⟨S8192x2048, .bf16⟩
  | .hbm, ⟨36, _⟩ => ⟨S4x512x1024, .f32⟩
  | .hbm, ⟨37, _⟩ => ⟨S4x256x1024, .f32⟩
  | .hbm, ⟨38, _⟩ => ⟨S4x256x1024, .f32⟩
  | .hbm, ⟨39, _⟩ => ⟨S4x1024x1024, .f32⟩
  | .hbm, ⟨40, _⟩ => ⟨S4x1024x1024, .bf16⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x2048, .bf16⟩
  | .hbm, ⟨45, _⟩ => ⟨S8192x2048, .f32⟩
  | .hbm, ⟨46, _⟩ => ⟨S8192x1024, .bf16⟩
  | .hbm, ⟨47, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S4x512x1024, .bf16⟩
  | .local _ .vmem, ⟨11, _⟩ => ⟨S4x256x1024, .bf16⟩
  | .local _ .vmem, ⟨12, _⟩ => ⟨S4x256x1024, .bf16⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .f32⟩
  | .local _ .vmem, ⟨23, _⟩ => ⟨S256x2048, .f32⟩
  | .local _ .vmem, ⟨24, _⟩ => ⟨S256x1024, .bf16⟩
  | .local _ .vmem, ⟨25, _⟩ => ⟨S256x1024, .bf16⟩
  | .local _ .vmem, ⟨26, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev main_v29_4 : Ref sig .tc := ⟨.hbm, 45, rfl⟩
abbrev main_v29_5 : Ref sig .tc := ⟨.hbm, 46, rfl⟩
abbrev main_v29_6 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_7 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== OutBackRefIdeal.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x2048, .f32⟩
  | .hbm, ⟨95, _⟩ => ⟨S8192x1024, .f32⟩
  | .hbm, ⟨96, _⟩ => ⟨S8192x2048, .f32⟩
  | .hbm, ⟨97, _⟩ => ⟨S8192x1024, .bf16⟩
  | .hbm, ⟨98, _⟩ => ⟨S8192x1024, .bf16⟩
  | .hbm, ⟨99, _⟩ => ⟨S8192x1024, .bf16⟩
  | .hbm, ⟨100, _⟩ => ⟨S8192x2048, .bf16⟩
  | .hbm, ⟨101, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]
-- ==== Proof.Real.lean ====
/- The mathematics of the claim over the real numbers: the feed-forward block of the step with the two
   RMS norms around it, forwards and backwards, as plain functions on rows and columns, and the facts by
   which an operation of the ideal semantics on finite numbers is the operation on reals. -/
module

public import Idealize.ShloMosaic.Lib.Pipeline.ValueKit

@[expose] public section

noncomputable section

namespace Cert.Ffn

open Idealize.ShloMosaic

/-! ### Finite numbers in the ideal semantics -/

/-- A sum of finite numbers is the finite number their real sum is. -/
theorem coe_sum {ι : Type*} (s : Finset ι) (f : ι → ℝ) :
    ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The small constant of the norms, as a real number. -/
def eps : ℝ := 8796093 / 8796093022208

theorem eps_pos : 0 < eps := by unfold eps; norm_num

theorem ofBits_eps : Ideal.ofBits .f32 0x358637BD#32 = ((eps : ℝ) : EReal) := by
  unfold eps
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_one : Ideal.ofBits .f32 0x3F800000#32 = ((1 : ℝ) : EReal) := by
  rw [Ideal.ofBits_one_f32, EReal.coe_one]

theorem ofBits_one_bf16 : Ideal.ofBits .bf16 0x3F80#16 = ((1 : ℝ) : EReal) := by
  rw [Ideal.ofBits_one_bf16, EReal.coe_one]

theorem ofBits_zero : Ideal.ofBits .f32 0x00000000#32 = ((0 : ℝ) : EReal) := by
  rw [Ideal.ofBits_zero_f32, EReal.coe_zero]

/-- A quotient of finite numbers by a number that is not zero. -/
theorem div_real (x : ℝ) {y : ℝ} (h : y ≠ 0) : Ideal.div (x : EReal) (y : EReal) = ((x / y : ℝ) : EReal) := by
  rw [Ideal.div_coe h, ← EReal.coe_mul, mul_one_div]

/-- The reciprocal root of a positive number. -/
theorem rsqrt_real {x : ℝ} (h : 0 < x) : Ideal.rsqrt (x : EReal) = (((√x)⁻¹ : ℝ) : EReal) := by
  rw [Ideal.rsqrt_coe, if_neg (not_lt.2 h.le), if_neg h.ne']

/-! ### The norm -/

/-- What stands under the root: the mean square of a row and the small constant. -/
def spread (x : Fin 1024 → ℝ) : ℝ := (∑ k, x k * x k) / 1024 + eps

theorem spread_pos (x : Fin 1024 → ℝ) : 0 < spread x :=
  add_pos_of_nonneg_of_pos (div_nonneg (Finset.sum_nonneg fun k _ => mul_self_nonneg (x k)) (by norm_num)) eps_pos

/-- The reciprocal root mean square of a row. -/
def scale (x : Fin 1024 → ℝ) : ℝ := (√(spread x))⁻¹

theorem scale_sq (x : Fin 1024 → ℝ) : scale x / spread x = scale x * scale x * scale x := by
  have h := spread_pos x
  have h2 : √(spread x) * √(spread x) = spread x := Real.mul_self_sqrt h.le
  have h3 : √(spread x) ≠ 0 := (Real.sqrt_pos.2 h).ne'
  unfold scale
  conv_lhs => rw [← h2]
  simp only [Real.sqrt_mul_self (Real.sqrt_nonneg _)]
  field_simp

/-- The gradient of `x · scale x` at the row `x` against the row `t`. -/
def normBack (x t : Fin 1024 → ℝ) (d : Fin 1024) : ℝ :=
  scale x * t d - x d * (scale x * scale x * scale x * ((∑ k, t k * x k) / 1024))

/-- The logistic function. -/
def sg (x : ℝ) : ℝ := (1 + Real.exp (-x))⁻¹

theorem exp_ne (x : ℝ) : 1 + Real.exp (-x) ≠ 0 := by positivity

/-- The logistic function by the hyperbolic tangent of half the argument. -/
theorem sg_tanh (x : ℝ) : 1 / 2 * Real.tanh (1 / 2 * x) + 1 / 2 = sg x := by
  have e : Real.exp (-x) = Real.exp (-(1 / 2 * x)) * Real.exp (-(1 / 2 * x)) := by
    rw [← Real.exp_add]; ring_nf
  have p : Real.exp (1 / 2 * x) * Real.exp (-(1 / 2 * x)) = 1 := by rw [← Real.exp_add]; simp
  have h1 : 0 < Real.exp (1 / 2 * x) := Real.exp_pos _
  have h2 : 0 < Real.exp (-(1 / 2 * x)) := Real.exp_pos _
  unfold sg
  rw [Real.tanh_eq_sinh_div_cosh, Real.sinh_eq, Real.cosh_eq, e]
  generalize Real.exp (1 / 2 * x) = u at *
  generalize Real.exp (-(1 / 2 * x)) = v at *
  have h3 : u + v ≠ 0 := by positivity
  have h4 : 1 + v * v ≠ 0 := by positivity
  field_simp
  linear_combination (2 * v) * p

/-! ### The block -/

/-- The arguments of the block: the rows `x` that enter it, the cotangent `y` of the rows that leave it, the
    weights of the two norms and the three weight matrices. -/
structure Args where
  x : Fin 8192 → Fin 1024 → ℝ
  pre : Fin 1024 → ℝ
  wg : Fin 1024 → Fin 2816 → ℝ
  wu : Fin 1024 → Fin 2816 → ℝ
  wd : Fin 2816 → Fin 1024 → ℝ
  post : Fin 1024 → ℝ
  y : Fin 8192 → Fin 1024 → ℝ

namespace Args

variable (a : Args)

/-- The normed rows. -/
def n (t : Fin 8192) (d : Fin 1024) : ℝ := a.x t d * scale (a.x t) * a.pre d
/-- The gate's preactivation. -/
def gate (t : Fin 8192) (j : Fin 2816) : ℝ := ∑ d, a.n t d * a.wg d j
/-- The other factor. -/
def up (t : Fin 8192) (j : Fin 2816) : ℝ := ∑ d, a.n t d * a.wu d j
/-- The gated activations. -/
def act (t : Fin 8192) (j : Fin 2816) : ℝ := a.gate t j * sg (a.gate t j) * a.up t j
/-- The rows the second norm takes. -/
def f (t : Fin 8192) (d : Fin 1024) : ℝ := ∑ j, a.act t j * a.wd j d
/-- The cotangent of the normed rows `f · scale f`. -/
def ct (t : Fin 8192) (d : Fin 1024) : ℝ := 1 / 2 * a.y t d * a.post d
/-- The gradient in `f`. -/
def df (t : Fin 8192) (d : Fin 1024) : ℝ := normBack (a.f t) (a.ct t) d
/-- The gradient in the activations. -/
def da (t : Fin 8192) (j : Fin 2816) : ℝ := ∑ d, a.df t d * a.wd j d
/-- The gradient in the gate's preactivation. -/
def dgate (t : Fin 8192) (j : Fin 2816) : ℝ :=
  a.da t j * a.up t j * (sg (a.gate t j) * (1 + a.gate t j * (1 - sg (a.gate t j))))
/-- The gradient in the other factor. -/
def dup (t : Fin 8192) (j : Fin 2816) : ℝ := a.da t j * (a.gate t j * sg (a.gate t j))
/-- The gradient in the normed rows. -/
def dn (t : Fin 8192) (d : Fin 1024) : ℝ := ∑ j, (a.dgate t j * a.wg d j + a.dup t j * a.wu d j)
/-- The gradient in the rows that enter. -/
def dx (t : Fin 8192) (d : Fin 1024) : ℝ := a.y t d + normBack (a.x t) (fun k => a.dn t k * a.pre k) d
/-- The gradient in the weight of the first norm. -/
def dpre (d : Fin 1024) : ℝ := ∑ t, a.dn t d * a.x t d * scale (a.x t)
/-- The gradient in the weight of the second norm. -/
def dpost (d : Fin 1024) : ℝ := ∑ t, 1 / 2 * a.y t d * a.f t d * scale (a.f t)

end Args

end Cert.Ffn
-- ==== Proof.Ref.lean ====
/- The reference, one stage at a time, on finite arguments: each value its operations write is the array of the
   real numbers the model names (Proof/Real.lean). -/
module

public import proofs.«01_k».proof.Proof.Gen.ReferenceIdeal.Read
public import proofs.«01_k».proof.Proof.Real

@[expose] public section

set_option maxRecDepth 16384

noncomputable section

namespace Cert.Ffn

open Idealize.ShloMosaic Cert.ReferenceIdeal Cert.ReferenceIdeal.Read

namespace Args

variable (a : Args)

/-- The arguments as arrays. -/
def X : (⟨S8192x1024, .f32⟩ : BufTy).Contents (Elt Ideal) := fun i => (a.x (i 0) (i 1) : EReal)
def Pre : (⟨S1x1024, .f32⟩ : BufTy).Contents (Elt Ideal) := fun i => (a.pre (i 1) : EReal)
def Wg : (⟨S1024x2816, .f32⟩ : BufTy).Contents (Elt Ideal) := fun i => (a.wg (i 0) (i 1) : EReal)
def Wu : (⟨S1024x2816, .f32⟩ : BufTy).Contents (Elt Ideal) := fun i => (a.wu (i 0) (i 1) : EReal)
def Wd : (⟨S2816x1024, .f32⟩ : BufTy).Contents (Elt Ideal) := fun i => (a.wd (i 0) (i 1) : EReal)
def Post : (⟨S1x1024, .f32⟩ : BufTy).Contents (Elt Ideal) := fun i => (a.post (i 1) : EReal)
def Y : (⟨S8192x1024, .f32⟩ : BufTy).Contents (Elt Ideal) := fun i => (a.y (i 0) (i 1) : EReal)

/-- Where the reference's reshapes that only add or drop an axis of size one read. -/
theorem at_v43 (i : S8192x1024.Idx) : idx_main_v43 i = i := by
  have h : (i 1).val < 1024 := (i 1).isLt
  funext j
  match j with
  | ⟨0, _⟩ => exact Fin.ext (show ((i 0).val * 1024 + (i 1).val) / 1024 = (i 0).val by omega)
  | ⟨1, _⟩ => exact Fin.ext (show ((i 0).val * 1024 + (i 1).val) % 1024 = (i 1).val by omega)

theorem at_v53 (i : S8192x1.Idx) : idx_main_v53 i = idx_main_v4 i := by
  have h : (i 1).val < 1 := (i 1).isLt
  funext j
  match j with
  | ⟨0, _⟩ => exact Fin.ext (show (i 0).val * 1 + (i 1).val = (i 0).val by omega)

theorem at_v79 (i : S8192x1.Idx) : idx_main_v79 i = idx_main_v4 i := at_v53 i

/-- A row vector's one axis from its two. -/
abbrev lane (i : S1x1024.Idx) : S1024.Idx := fun j => match j with | ⟨0, _⟩ => i 1

theorem at_v48 (i : S1x1024.Idx) : idx_main_v48 i = lane i := by
  have h : (i 0).val < 1 := (i 0).isLt
  funext j
  match j with
  | ⟨0, _⟩ => exact Fin.ext (show (i 0).val * 1024 + (i 1).val = (i 1).val by omega)

theorem at_v74 (i : S1x1024.Idx) : idx_main_v74 i = lane i := at_v48 i

/-- What stands under the first norm's root. -/
theorem ref_v8 (i : S8192x1.Idx) : val_main_v8 (F := Ideal) a.X i = (spread (a.x (i 0)) : EReal) := by
  simp only [val_main_v8_apply, val_main_v6_apply, val_main_v4_apply, val_main_v3_apply, val_main_v2_apply,
    val_main_v5_apply, val_main_v7_apply, val_main_cst_1_apply, val_main_cst_2_apply, val_main_cst_3_apply,
    Ideal.ofBits_def, Ideal.addf_def, Ideal.mulf_def, Ideal.hostDivf_def, ofBits_zero, ofBits_1024, ofBits_eps, X,
    ← EReal.coe_mul, coe_sum, ← EReal.coe_add, div_real _ (by norm_num : (1024 : ℝ) ≠ 0), zero_add]
  rfl

/-- The first norm's scale. -/
theorem ref_v9 (i : S8192x1.Idx) : val_main_v9 (F := Ideal) a.X i = (scale (a.x (i 0)) : EReal) := by
  rw [val_main_v9_apply, ref_v8, Ideal.hostUnary_rsqrt_def, rsqrt_real (spread_pos _)]; rfl

/-- The normed rows. -/
theorem ref_v14 (i : S8192x1024.Idx) :
    val_main_v14 (F := Ideal) a.X i = ((a.x (i 0) (i 1) * scale (a.x (i 0)) : ℝ) : EReal) := by
  rw [val_main_v14_apply, val_main_v13_apply, ref_v9, Ideal.mulf_def, X, ← EReal.coe_mul]; rfl

theorem ref_v16 (i : S8192x1024.Idx) :
    val_main_v16 (F := Ideal) a.X a.Pre i = (a.n (i 0) (i 1) : EReal) := by
  rw [val_main_v16_apply, val_main_v15_apply, ref_v14, Ideal.mulf_def, Pre, ← EReal.coe_mul]; rfl

/-- The gate's preactivation. -/
theorem ref_v18 (i : S8192x2816.Idx) :
    val_main_v18 (F := Ideal) a.X a.Pre a.Wg i = (a.gate (i 0) (i 1) : EReal) := by
  simp only [val_main_v18_apply, val_main_v17_apply, val_main_v0_apply, val_main_cst_apply, ref_v16, Wg,
    Ideal.ofBits_def, Ideal.addf_def, ofBits_zero, ← EReal.coe_mul, coe_sum, ← EReal.coe_add, add_zero]
  rfl

/-- The other factor. -/
theorem ref_v20 (i : S8192x2816.Idx) :
    val_main_v20 (F := Ideal) a.X a.Pre a.Wu i = (a.up (i 0) (i 1) : EReal) := by
  simp only [val_main_v20_apply, val_main_v19_apply, val_main_v0_apply, val_main_cst_apply, ref_v16, Wu,
    Ideal.ofBits_def, Ideal.addf_def, ofBits_zero, ← EReal.coe_mul, coe_sum, ← EReal.coe_add, add_zero]
  rfl

/-- The logistic function of the gate. -/
theorem ref_v21_2 (i : S8192x2816.Idx) :
    val_main_v21_2 (F := Ideal) a.X a.Pre a.Wg i = (sg (a.gate (i 0) (i 1)) : EReal) := by
  simp only [val_main_v21_2_apply, val_main_call0_v4_apply, val_main_call0_v3_apply, val_main_call0_v2_apply,
    val_main_call0_v1_apply, val_main_call0_v0_apply, val_main_call0_cst_apply, val_main_call0_cst_0_apply, ref_v18,
    Ideal.ofBits_def, Ideal.addf_def, Ideal.hostDivf_def, Ideal.hostNegf_def, Ideal.negf_def, Ideal.hostUnary_exp_def, ofBits_one,
    ← EReal.coe_neg, Ideal.exp_coe, ← EReal.coe_add, div_real _ (exp_ne _), one_div]
  rfl

/-- Its product with one minus itself. -/
theorem ref_v21_1 (i : S8192x2816.Idx) : val_main_v21_1 (F := Ideal) a.X a.Pre a.Wg i
    = ((sg (a.gate (i 0) (i 1)) * (1 - sg (a.gate (i 0) (i 1))) : ℝ) : EReal) := by
  simp only [val_main_v21_1_apply, val_main_call0_v7_apply, val_main_call0_v6_apply, val_main_call0_cst_1_apply,
    ref_v21_2, Ideal.ofBits_def, Ideal.subf_def, Ideal.mulf_def, ofBits_one, ← EReal.coe_sub, ← EReal.coe_mul]

/-- The gate. -/
theorem ref_v21_0 (i : S8192x2816.Idx) : val_main_v21_0 (F := Ideal) a.X a.Pre a.Wg i
    = ((a.gate (i 0) (i 1) * sg (a.gate (i 0) (i 1)) : ℝ) : EReal) := by
  rw [val_main_v21_0_apply, ref_v21_2, ref_v18, Ideal.mulf_def, ← EReal.coe_mul]

/-- The gated activations. -/
theorem ref_v22 (i : S8192x2816.Idx) :
    val_main_v22 (F := Ideal) a.X a.Pre a.Wg a.Wu i = (a.act (i 0) (i 1) : EReal) := by
  rw [val_main_v22_apply, ref_v21_0, ref_v20, Ideal.mulf_def, ← EReal.coe_mul]; rfl

/-- The rows the second norm takes. -/
theorem ref_v24 (i : S8192x1024.Idx) :
    val_main_v24 (F := Ideal) a.X a.Pre a.Wg a.Wu a.Wd i = (a.f (i 0) (i 1) : EReal) := by
  simp only [val_main_v24_apply, val_main_v23_apply, val_main_v1_apply, val_main_cst_0_apply, ref_v22, Wd,
    Ideal.ofBits_def, Ideal.addf_def, ofBits_zero, ← EReal.coe_mul, coe_sum, ← EReal.coe_add, add_zero]
  rfl

/-- What stands under the second norm's root. -/
theorem ref_v31 (i : S8192x1.Idx) :
    val_main_v31 (F := Ideal) a.X a.Pre a.Wg a.Wu a.Wd i = (spread (a.f (i 0)) : EReal) := by
  simp only [val_main_v31_apply, val_main_v29_apply, val_main_v27_apply, val_main_v26_apply, val_main_v25_apply,
    val_main_v28_apply, val_main_v30_apply, val_main_cst_5_apply, val_main_cst_6_apply, val_main_cst_7_apply, ref_v24,
    Ideal.ofBits_def, Ideal.addf_def, Ideal.mulf_def, Ideal.hostDivf_def, ofBits_zero, ofBits_1024, ofBits_eps,
    ← EReal.coe_mul, coe_sum, ← EReal.coe_add, div_real _ (by norm_num : (1024 : ℝ) ≠ 0), zero_add]
  rfl

/-- The second norm's scale. -/
theorem ref_v32 (i : S8192x1.Idx) :
    val_main_v32 (F := Ideal) a.X a.Pre a.Wg a.Wu a.Wd i = (scale (a.f (i 0)) : EReal) := by
  rw [val_main_v32_apply, ref_v31, Ideal.hostUnary_rsqrt_def, rsqrt_real (spread_pos _)]; rfl

/-- Half the cotangent. -/
theorem ref_v45 (i : S8192x1024.Idx) :
    val_main_v45 (F := Ideal) a.Y i = ((1 / 2 * a.y (i 0) (i 1) : ℝ) : EReal) := by
  rw [val_main_v45_apply, val_main_v44_apply, val_main_v43_apply, at_v43, val_main_cst_10_apply, Ideal.ofBits_def, ofBits_half,
    Ideal.mulf_def, Y, ← EReal.coe_mul]

theorem mul_turn (u v w : ℝ) : u * v * w = w * u * v := by ring

/-- The gradient in the second norm's weight. -/
theorem ref_v48 (i : S1x1024.Idx) :
    val_main_v48 (F := Ideal) a.X a.Pre a.Wg a.Wu a.Wd a.Y i = (a.dpost (i 1) : EReal) := by
  simp only [val_main_v48_apply, at_v48, val_main_v47_apply, val_main_v46_apply, val_main_v37_apply, val_main_v36_apply,
    val_main_cst_11_apply, ref_v24, ref_v32, ref_v45, Ideal.ofBits_def, Ideal.mulf_def, ofBits_zero,
    ← EReal.coe_mul, coe_sum, ← EReal.coe_add, zero_add]
  refine congrArg _ (Finset.sum_congr rfl fun t _ => ?_)
  exact mul_turn _ _ _

/-- The cotangent of the normed rows. -/
theorem ref_v50 (i : S8192x1024.Idx) :
    val_main_v50 (F := Ideal) a.Post a.Y i = (a.ct (i 0) (i 1) : EReal) := by
  rw [val_main_v50_apply, val_main_v49_apply, ref_v45, Post, Ideal.mulf_def, ← EReal.coe_mul]; rfl

/-- The gradient of a norm as differentiation writes it is the model's. -/
theorem norm_back (x t : Fin 1024 → ℝ) (d : Fin 1024) :
    t d * scale x + x d * ((∑ k, x k * t k) * (-(1 / 2) * (scale x / spread x)) / 1024)
      + (∑ k, x k * t k) * (-(1 / 2) * (scale x / spread x)) / 1024 * x d = normBack x t d := by
  rw [scale_sq, normBack, Finset.sum_congr rfl fun k _ => mul_comm (x k) (t k)]
  ring

/-- The same beside a term it is added to. -/
theorem norm_back_add (y : ℝ) (x t : Fin 1024 → ℝ) (d : Fin 1024) :
    y + t d * scale x + x d * ((∑ k, x k * t k) * (-(1 / 2) * (scale x / spread x)) / 1024)
      + (∑ k, x k * t k) * (-(1 / 2) * (scale x / spread x)) / 1024 * x d = y + normBack x t d := by
  rw [← norm_back]; ring

/-- The gradient in the rows the second norm takes. -/
theorem ref_v64 (i : S8192x1024.Idx) :
    val_main_v64 (F := Ideal) a.X a.Pre a.Wg a.Wu a.Wd a.Post a.Y i = (a.df (i 0) (i 1) : EReal) := by
  simp only [val_main_v64_apply, val_main_v63_apply, val_main_v62_apply, val_main_v61_apply, val_main_v60_apply,
    val_main_v59_apply, val_main_v58_apply, val_main_v57_apply, val_main_v56_apply, val_main_v55_apply,
    val_main_v54_apply, val_main_v53_apply, at_v53, val_main_v52_apply, val_main_v51_apply, val_main_v35_apply,
    val_main_v34_apply, val_main_v33_apply, val_main_cst_8_apply, val_main_cst_12_apply, val_main_cst_13_apply,
    val_main_cst_14_apply, ref_v24, ref_v31, ref_v32, ref_v50, Ideal.ofBits_def, Ideal.mulf_def, Ideal.addf_def,
    Ideal.hostDivf_def, ofBits_zero, ofBits_neg_half, ofBits_1024, div_real _ (by norm_num : (1024 : ℝ) ≠ 0),
    div_real _ (spread_pos _).ne', ← EReal.coe_mul, coe_sum, ← EReal.coe_add, zero_add, Finset.univ_unique,
    Finset.sum_singleton]
  exact congrArg _ (norm_back (a.f (i 0)) (a.ct (i 0)) (i 1))

/-- The gradient in the activations. -/
theorem ref_v65 (i : S8192x2816.Idx) :
    val_main_v65 (F := Ideal) a.X a.Pre a.Wg a.Wu a.Wd a.Post a.Y i = (a.da (i 0) (i 1) : EReal) := by
  simp only [val_main_v65_apply, ref_v64, Wd, ← EReal.coe_mul, coe_sum]
  rfl

/-- The gradient in the other factor. -/
theorem ref_v66 (i : S8192x2816.Idx) :
    val_main_v66 (F := Ideal) a.X a.Pre a.Wg a.Wu a.Wd a.Post a.Y i = (a.dup (i 0) (i 1) : EReal) := by
  rw [val_main_v66_apply, ref_v21_0, ref_v65, Ideal.mulf_def, ← EReal.coe_mul, mul_comm]; rfl

/-- The gradient in the gate's preactivation. -/
theorem ref_v68 (i : S8192x2816.Idx) :
    val_main_v68 (F := Ideal) a.X a.Pre a.Wg a.Wu a.Wd a.Post a.Y i = (a.dgate (i 0) (i 1) : EReal) := by
  simp only [val_main_v68_apply, val_main_call1_v2_apply, val_main_call1_v1_apply, val_main_call1_v0_apply,
    val_main_v67_apply, ref_v18, ref_v20, ref_v21_1, ref_v21_2, ref_v65, Ideal.mulf_def, Ideal.addf_def,
    ← EReal.coe_mul, ← EReal.coe_add]
  refine congrArg _ ?_
  unfold dgate
  ring

/-- The gradient in the normed rows. -/
theorem ref_v71 (i : S8192x1024.Idx) :
    val_main_v71 (F := Ideal) a.X a.Pre a.Wg a.Wu a.Wd a.Post a.Y i = (a.dn (i 0) (i 1) : EReal) := by
  simp only [val_main_v71_apply, val_main_v70_apply, val_main_v69_apply, ref_v66, ref_v68, Wg, Wu, Ideal.addf_def,
    ← EReal.coe_mul, coe_sum, ← EReal.coe_add]
  rw [← Finset.sum_add_distrib]
  exact congrArg _ (Finset.sum_congr rfl fun _ _ => add_comm _ _)

/-- The gradient in the first norm's weight. -/
theorem ref_v74 (i : S1x1024.Idx) :
    val_main_v74 (F := Ideal) a.X a.Pre a.Wg a.Wu a.Wd a.Post a.Y i = (a.dpre (i 1) : EReal) := by
  simp only [val_main_v74_apply, at_v74, val_main_v73_apply, val_main_v72_apply, val_main_cst_15_apply, ref_v14, ref_v71,
    Ideal.ofBits_def, Ideal.mulf_def, ofBits_zero, ← EReal.coe_mul, coe_sum, ← EReal.coe_add, zero_add]
  refine congrArg _ (Finset.sum_congr rfl fun t _ => ?_)
  exact mul_turn _ _ _

/-- The gradient in the rows that enter. -/
theorem ref_v91 (i : S8192x1024.Idx) :
    val_main_v91 (F := Ideal) a.X a.Pre a.Wg a.Wu a.Wd a.Post a.Y i = (a.dx (i 0) (i 1) : EReal) := by
  simp only [val_main_v91_apply, val_main_v90_apply, val_main_v89_apply, val_main_v88_apply, val_main_v87_apply,
    val_main_v86_apply, val_main_v85_apply, val_main_v84_apply, val_main_v83_apply, val_main_v82_apply,
    val_main_v81_apply, val_main_v80_apply, val_main_v79_apply, at_v79, val_main_v78_apply, val_main_v77_apply,
    val_main_v76_apply, val_main_v75_apply, val_main_v12_apply, val_main_v11_apply, val_main_v10_apply,
    val_main_cst_4_apply, val_main_cst_16_apply, val_main_cst_17_apply, val_main_cst_18_apply, ref_v8, ref_v9, ref_v71,
    X, Y, Pre, Ideal.ofBits_def, Ideal.mulf_def, Ideal.addf_def,
    Ideal.hostDivf_def, ofBits_zero, ofBits_neg_half, ofBits_1024, div_real _ (by norm_num : (1024 : ℝ) ≠ 0),
    div_real _ (spread_pos _).ne', ← EReal.coe_mul, coe_sum, ← EReal.coe_add, zero_add, Finset.univ_unique,
    Finset.sum_singleton]
  exact congrArg _ (norm_back_add (a.y (i 0) (i 1)) (a.x (i 0)) (fun k => a.dn (i 0) k * a.pre k) (i 1))

/-- The column a shard's index names. -/
def col (s : Fin 4) (j : Fin 704) : Fin 2816 := ⟨s.val * 704 + j.val, by omega⟩

theorem shard_row (t s j : ℕ) (hs : s < 4) (hj : j < 704) : ((t * 4 + s) * 704 + j) / 2816 = t := by omega

theorem shard_col (t s j : ℕ) (hs : s < 4) (hj : j < 704) : ((t * 4 + s) * 704 + j) % 2816 = s * 704 + j := by omega

/-- The arrays of the results laid out in shards. -/
theorem ref_v95 (i : S4x8192x704.Idx) :
    val_main_v95 (F := Ideal) a.X a.Pre a.Wg a.Wu i = (a.act (i 1) (col (i 0) (i 2)) : EReal) := by
  rw [val_main_v95_apply, val_main_v94_apply, val_main_v93_apply, ref_v22, Ideal.truncf_def]
  exact congrArg Real.toEReal (congrArg₂ a.act (Fin.ext (shard_row _ _ _ (i 0).isLt (i 2).isLt))
    (Fin.ext (shard_col _ _ _ (i 0).isLt (i 2).isLt)))

theorem ref_v98 (i : S4x8192x704.Idx) :
    val_main_v98 (F := Ideal) a.X a.Pre a.Wg a.Wu a.Wd a.Post a.Y i
      = (a.dgate (i 1) (col (i 0) (i 2)) : EReal) := by
  rw [val_main_v98_apply, val_main_v97_apply, val_main_v96_apply, ref_v68, Ideal.truncf_def]
  exact congrArg Real.toEReal (congrArg₂ a.dgate (Fin.ext (shard_row _ _ _ (i 0).isLt (i 2).isLt))
    (Fin.ext (shard_col _ _ _ (i 0).isLt (i 2).isLt)))

theorem ref_v101 (i : S4x8192x704.Idx) :
    val_main_v101 (F := Ideal) a.X a.Pre a.Wg a.Wu a.Wd a.Post a.Y i
      = (a.dup (i 1) (col (i 0) (i 2)) : EReal) := by
  rw [val_main_v101_apply, val_main_v100_apply, val_main_v99_apply, ref_v66, Ideal.truncf_def]
  exact congrArg Real.toEReal (congrArg₂ a.dup (Fin.ext (shard_row _ _ _ (i 0).isLt (i 2).isLt))
    (Fin.ext (shard_col _ _ _ (i 0).isLt (i 2).isLt)))

/-- The gradient in `f`, cast. -/
theorem ref_v92 (i : S8192x1024.Idx) :
    val_main_v92 (F := Ideal) a.X a.Pre a.Wg a.Wu a.Wd a.Post a.Y i = (a.df (i 0) (i 1) : EReal) := by
  rw [val_main_v92_apply, ref_v64, Ideal.truncf_def]

end Args

end Cert.Ffn
-- ==== Proof.Tiles.lean ====
/- The kernel's operations on tiles of finite numbers. A tile is a block of 256 rows of a real array: `B` all 1024
   columns, `S` (and `S3`, with a leading axis of size one) the 704 columns of one shard, `C` one number per row; `W`
   (and `W3`) is one shard's 704 columns of a weight, transposed. Each operation of the kernel takes tiles to tiles. -/
module

public import proofs.«01_k».proof.Proof.Gen.KernelIdeal.Value
public import proofs.«01_k».proof.Proof.Ref

@[expose] public section

set_option maxRecDepth 16384

noncomputable section

namespace Cert.Ffn

open Idealize.ShloMosaic Cert.KernelIdeal Cert.KernelIdeal.Gen

/-- Row `r` of block `q`. -/
def row (q : Fin 32) (r : Fin 256) : Fin 8192 := ⟨q.val * 256 + r.val, by omega⟩

export Args (col)

variable {φ ψ : FTy} (q : Fin 32) (s : Fin 4)

def B (g : Fin 8192 → Fin 1024 → ℝ) : FVec Ideal S256x1024 φ := fun i => (g (row q (i 0)) (i 1) : EReal)
def S (g : Fin 8192 → Fin 2816 → ℝ) : FVec Ideal S256x704 φ := fun i => (g (row q (i 0)) (col s (i 1)) : EReal)
def S3 (g : Fin 8192 → Fin 2816 → ℝ) : FVec Ideal S1x256x704 φ := fun i => (g (row q (i 1)) (col s (i 2)) : EReal)
def C (g : Fin 8192 → ℝ) : FVec Ideal S256x1 φ := fun i => (g (row q (i 0)) : EReal)
def C1 (g : Fin 8192 → ℝ) : FVec Ideal S256 φ := fun i => (g (row q (i 0)) : EReal)
def W (w : Fin 2816 → Fin 1024 → ℝ) : FVec Ideal S704x1024 φ := fun i => (w (col s (i 0)) (i 1) : EReal)
def W3 (w : Fin 2816 → Fin 1024 → ℝ) : FVec Ideal S1x704x1024 φ := fun i => (w (col s (i 1)) (i 2) : EReal)
/-- A row vector. -/
def P (g : Fin 1024 → ℝ) : FVec Ideal S1x1024 φ := fun i => (g (i 1) : EReal)
def P1 (g : Fin 1024 → ℝ) : FVec Ideal S1024 φ := fun i => (g (i 0) : EReal)
/-- One number everywhere. -/
def K (s : Shape) (c : ℝ) : FVec Ideal s φ := fun _ => (c : EReal)

variable (f g : Fin 8192 → Fin 1024 → ℝ) (u v : Fin 8192 → Fin 2816 → ℝ) (k l : Fin 8192 → ℝ) (p p' : Fin 1024 → ℝ)
  (w : Fin 2816 → Fin 1024 → ℝ) (c : ℝ)

/-! ### Constants -/

theorem broadcast_half (s : Shape) : broadcast s (Scalar.ofBits (F := Ideal) .f32 0x3F000000#32) = K s (1 / 2) :=
  funext fun _ => ofBits_half
theorem broadcast_one (s : Shape) : broadcast s (Scalar.ofBits (F := Ideal) .f32 0x3F800000#32) = K s 1 :=
  funext fun _ => ofBits_one
theorem broadcast_zero (s : Shape) : broadcast s (Scalar.ofBits (F := Ideal) .f32 0x00000000#32) = K s 0 :=
  funext fun _ => ofBits_zero
theorem broadcast_eps (s : Shape) : broadcast s (Scalar.ofBits (F := Ideal) .f32 0x358637BD#32) = K s eps :=
  funext fun _ => ofBits_eps
theorem broadcast_1024 (s : Shape) : broadcast s (Scalar.ofBits (F := Ideal) .f32 0x44800000#32) = K s 1024 :=
  funext fun _ => ofBits_1024
theorem constant_zero (s : Shape) : constant (F := Ideal) s .f32 0x00000000#32 = K s 0 :=
  funext fun _ => ofBits_zero

/-! ### Elementwise operations -/

theorem mul_B : mulf (B (φ := φ) q f) (B q g) = B q fun t d => f t d * g t d := funext fun _ => (EReal.coe_mul _ _).symm
theorem mul_S : mulf (S (φ := φ) q s u) (S q s v) = S q s fun t j => u t j * v t j :=
  funext fun _ => (EReal.coe_mul _ _).symm
theorem mul_C : mulf (C (φ := φ) q k) (C q l) = C q fun t => k t * l t := funext fun _ => (EReal.coe_mul _ _).symm
theorem add_B : addf (B (φ := φ) q f) (B q g) = B q fun t d => f t d + g t d := funext fun _ => (EReal.coe_add _ _).symm
theorem add_P : addf (P (φ := φ) p) (P p') = P fun d => p d + p' d := funext fun _ => (EReal.coe_add _ _).symm
theorem sub_B : subf (B (φ := φ) q f) (B q g) = B q fun t d => f t d - g t d := funext fun _ => (EReal.coe_sub _ _).symm

theorem mul_KB : mulf (K S256x1024 c) (B (φ := φ) q f) = B q fun t d => c * f t d := funext fun _ => (EReal.coe_mul _ _).symm
theorem add_KB : addf (K S256x1024 c) (B (φ := φ) q f) = B q fun t d => c + f t d := funext fun _ => (EReal.coe_add _ _).symm
theorem mul_KS : mulf (K S256x704 c) (S (φ := φ) q s u) = S q s fun t j => c * u t j := funext fun _ => (EReal.coe_mul _ _).symm
theorem add_KS : addf (K S256x704 c) (S (φ := φ) q s u) = S q s fun t j => c + u t j := funext fun _ => (EReal.coe_add _ _).symm
theorem add_SK : addf (S (φ := φ) q s u) (K S256x704 c) = S q s fun t j => u t j + c := funext fun _ => (EReal.coe_add _ _).symm
theorem sub_KS : subf (K S256x704 c) (S (φ := φ) q s u) = S q s fun t j => c - u t j := funext fun _ => (EReal.coe_sub _ _).symm
theorem add_CK : addf (C (φ := φ) q k) (K S256x1 c) = C q fun t => k t + c := funext fun _ => (EReal.coe_add _ _).symm
theorem add_KP : addf (K S1x1024 c) (P (φ := φ) p) = P fun d => c + p d := funext fun _ => (EReal.coe_add _ _).symm

theorem div_C : divf (C (φ := φ) q k) (K S256x1 1024) = C q fun t => k t / 1024 :=
  funext fun _ => div_real _ (by norm_num)
theorem rsqrt_C (h : ∀ t, 0 < k t) : rsqrt (C (φ := φ) q k) = C q fun t => (√(k t))⁻¹ := funext fun _ => rsqrt_real (h _)
theorem tanh_S : tanh (S (φ := φ) q s u) = S q s fun t j => Real.tanh (u t j) := rfl

theorem trunc_B (h) : truncf (φ := φ) ψ (B q f) h = B q f := rfl
theorem trunc_S (h) : truncf (φ := φ) ψ (S q s u) h = S q s u := rfl
theorem ext_S (h) : extf (φ := φ) ψ (S q s u) h = S q s u := rfl

/-! ### Layout -/

theorem cast_S (h) : shapeCast S256x704 (S3 (φ := φ) q s u) h = S q s u := by funext i; pointwise [S3, S]
theorem cast_S3 (h) : shapeCast S1x256x704 (S (φ := φ) q s u) h = S3 q s u := by funext i; pointwise [S3, S]
theorem cast_W (h) : shapeCast S704x1024 (W3 (φ := φ) s w) h = W s w := by funext i; pointwise [W3, W]
theorem cast_B (h) : shapeCast S256x1024 (B (φ := φ) q f) h = B q f := by funext i; pointwise [B]
theorem cast_P (h) : shapeCast S1x1024 (P (φ := φ) p) h = P p := by funext i; pointwise [P]
theorem cast_KP (h) : shapeCast S1x1024 (K (φ := φ) S1x1024 c) h = K S1x1024 c := rfl
theorem cast_C (h) : shapeCast S256x1 (C1 (φ := φ) q k) h = C q k := by funext i; pointwise [C, C1]
theorem cast_P1 (h) : shapeCast S1x1024 (P1 (φ := φ) p) h = P p := by funext i; pointwise [P, P1]
theorem rows_C (h) : broadcastTo S256x1024 (C (φ := φ) q k) h = B q fun t _ => k t := by funext i; pointwise [C, B]
theorem rows_P (h) : broadcastTo S256x1024 (P (φ := φ) p) h = B q fun _ d => p d := by funext i; pointwise [P, B]

/-! ### Sums and products -/

theorem sum_rows (h h' h'') : multiReduction .add [1] S256 (B (φ := .f32) q f) 0x00000000#32 h h' h''
    = C1 q fun t => ∑ d, f t d := by
  funext i; pointwise [B, C1, coe_sum]

theorem sum_cols (h h' h'') : multiReduction .add [0] S1024 (B (φ := .f32) q f) 0x00000000#32 h h' h''
    = P1 fun d => ∑ r, f (row q r) d := by
  funext i; pointwise [B, P1, coe_sum]

theorem dot_rows : matmul dot_S256x1024_S704x1024_S256x704_1_1_0_0_n_n none (B (φ := .bf16) q f) (W (φ := .bf16) s w)
    (K (φ := .f32) S256x704 0) = S q s fun t j => ∑ d, f t d * w j d := by
  funext i; pointwise [B, W, K, S]
  simp only [← EReal.coe_mul, coe_sum, ← EReal.coe_add, zero_add]

theorem dot_cols : matmul dot_S256x704_S704x1024_S256x1024_1_0_0_1_n_n none (S (φ := .bf16) q s u) (W (φ := .bf16) s w)
    (K (φ := .f32) S256x1024 0) = B q fun t d => ∑ j, u t (col s j) * w (col s j) d := by
  funext i; pointwise [S, W, K, B]
  simp only [← EReal.coe_mul, coe_sum, ← EReal.coe_add, zero_add]

end Cert.Ffn
-- ==== Proof.Host.lean ====
/- What the kernel's host operations hand it on finite arguments, and the blocks its windows stage of them. -/
module

public import proofs.«01_k».proof.Proof.Tiles

@[expose] public section

set_option maxRecDepth 16384

noncomputable section

namespace Cert.Ffn

open Idealize.ShloMosaic Idealize.ShloMosaic.TcCoe Idealize.SL.Sem
open Cert.KernelIdeal Cert.KernelIdeal.Gen
open Cert.ReferenceIdeal.Read (val_main_v17 val_main_v18 val_main_v19 val_main_v20 val_main_v22 val_main_v23)

variable (a : Args)

/-- The products the reference takes before it adds the zero taps. -/
theorem ref_v17 : val_main_v17 (F := Ideal) a.X a.Pre a.Wg = val_main_v18 (F := Ideal) a.X a.Pre a.Wg := by
  funext i
  rw [Cert.ReferenceIdeal.Read.val_main_v18_apply, Cert.ReferenceIdeal.Read.val_main_v0_apply,
    Cert.ReferenceIdeal.Read.val_main_cst_apply, Ideal.ofBits_def, Ideal.ofBits_zero_f32, Ideal.addf_def, add_zero]

theorem ref_v19 : val_main_v19 (F := Ideal) a.X a.Pre a.Wu = val_main_v20 (F := Ideal) a.X a.Pre a.Wu := by
  funext i
  rw [Cert.ReferenceIdeal.Read.val_main_v20_apply, Cert.ReferenceIdeal.Read.val_main_v0_apply,
    Cert.ReferenceIdeal.Read.val_main_cst_apply, Ideal.ofBits_def, Ideal.ofBits_zero_f32, Ideal.addf_def, add_zero]

variable (m : (ℓ : Loc nD τ sig) → Buf (Elt Ideal) ℓ) (c : Dev nD)

/-- The host operations that follow the two products. -/
def tail (g u : (⟨S8192x2816, .f32⟩ : BufTy).Contents (Elt Ideal)) (w : (⟨S2816x1024, .f32⟩ : BufTy).Contents (Elt Ideal)) :
    (⟨S8192x1024, .f32⟩ : BufTy).Contents (Elt Ideal) :=
  Host.dotGeneral (φ₁ := .f32) (φ₂ := .f32) (F := Ideal) dot_S8192x2816_S2816x1024_S8192x1024_1_0_0_1_n_n none
    (mulf (F := Ideal) (φ := .f32) (mulf (F := Ideal) (φ := .f32) g
      (Host.divf (F := Ideal) (φ := .f32) (broadcastInDim S8192x2816 ![] bcast_S_S8192x2816 (constant (F := Ideal) S_ FTy.f32 1065353216#32))
        (addf (F := Ideal) (φ := .f32) (broadcastInDim S8192x2816 ![] bcast_S_S8192x2816 (constant (F := Ideal) S_ FTy.f32 1065353216#32))
          (Host.exp (F := Ideal) (φ := .f32) (Host.negf (F := Ideal) (φ := .f32) g))))) u) w

/-- The launch memory holds the arguments `a`. -/
structure Holds : Prop where
  x : m ((c : Thread nD τ).loc main_arg0) = a.X
  pre : m ((c : Thread nD τ).loc main_arg1) = a.Pre
  wg : m ((c : Thread nD τ).loc main_arg2) = a.Wg
  wu : m ((c : Thread nD τ).loc main_arg3) = a.Wu
  wd : m ((c : Thread nD τ).loc main_arg4) = a.Wd
  post : m ((c : Thread nD τ).loc main_arg5) = a.Post
  y : m ((c : Thread nD τ).loc main_arg6) = a.Y

variable {a m c} (h : Holds a m c)
include h

theorem host_v16 : V m c main_v16 = val_main_v23 (F := Ideal) a.X a.Pre a.Wg a.Wu a.Wd := by
  have e : V m c main_v16 = tail (val_main_v17 (F := Ideal) (m ((c : Thread nD τ).loc main_arg0)) (m ((c : Thread nD τ).loc main_arg1)) (m ((c : Thread nD τ).loc main_arg2)))
      (val_main_v19 (F := Ideal) (m ((c : Thread nD τ).loc main_arg0)) (m ((c : Thread nD τ).loc main_arg1)) (m ((c : Thread nD τ).loc main_arg3)))
      (m ((c : Thread nD τ).loc main_arg4)) := by
    unfold V
    simp only [hostOps0, hostOps0_1, hostOps0_2, List.flatten_cons, List.flatten_nil, List.append_nil, List.cons_append, List.nil_append]
    after_results
    simp only [StableHlo.TRef.ofBuf_toBuf, StableHlo.TRef.ofBuf, StableHlo.TRef.toBuf, cast_eq, eq_mpr_eq_cast]
    unfold tail
    rfl
  rw [e, h.x, h.pre, h.wg, h.wu, h.wd, ref_v17, ref_v19]
  unfold tail val_main_v23 Cert.ReferenceIdeal.Read.val_main_v22 Cert.ReferenceIdeal.Read.val_main_v21_0 Cert.ReferenceIdeal.Read.val_main_v21_2
    Cert.ReferenceIdeal.Read.val_main_call0_v4 Cert.ReferenceIdeal.Read.val_main_call0_v3 Cert.ReferenceIdeal.Read.val_main_call0_v2 Cert.ReferenceIdeal.Read.val_main_call0_v1 Cert.ReferenceIdeal.Read.val_main_call0_v0
  rfl

theorem host_v26 : V m c main_v26 = (truncf (F := Ideal) (φ := .f32) .bf16 (transpose S4x8192x704 [1, 0, 2]
      (shapeCast S8192x4x704 (val_main_v17 (F := Ideal) a.X a.Pre a.Wg : FVec Ideal S8192x2816 .f32) shapeCasts_S8192x2816_S8192x4x704)
      transposes_S8192x4x704_S4x8192x704_1_0_2) bitsLt_bf16_f32 : FVec Ideal S4x8192x704 .bf16) := by
  rw [← h.x, ← h.pre, ← h.wg]
  unfold V
  simp only [hostOps0, hostOps0_1, hostOps0_2, List.flatten_cons, List.flatten_nil, List.append_nil, List.cons_append, List.nil_append]
  after_results
  rfl

theorem host_v29 : V m c main_v29 = (truncf (F := Ideal) (φ := .f32) .bf16 (transpose S4x8192x704 [1, 0, 2]
      (shapeCast S8192x4x704 (val_main_v19 (F := Ideal) a.X a.Pre a.Wu : FVec Ideal S8192x2816 .f32) shapeCasts_S8192x2816_S8192x4x704)
      transposes_S8192x4x704_S4x8192x704_1_0_2) bitsLt_bf16_f32 : FVec Ideal S4x8192x704 .bf16) := by
  rw [← h.x, ← h.pre, ← h.wu]
  unfold V
  simp only [hostOps0, hostOps0_1, hostOps0_2, List.flatten_cons, List.flatten_nil, List.append_nil, List.cons_append, List.nil_append]
  after_results
  rfl

omit h in
/-- A weight's columns by shards, transposed. -/
def columns (w : FVec Ideal S1024x2816 .f32) : FVec Ideal S4x704x1024 .f32 :=
  transpose S4x704x1024 [1, 2, 0] (shapeCast S1024x4x704 w shapeCasts_S1024x2816_S1024x4x704) transposes_S1024x4x704_S4x704x1024_1_2_0

theorem host_v23 : V m c main_v23 = truncf .bf16 (concatenate S4x2112x1024 1 [⟨S4x704x1024, columns a.Wg⟩,
      ⟨S4x704x1024, columns a.Wu⟩, ⟨S4x704x1024, shapeCast S4x704x1024 (a.Wd : FVec Ideal S2816x1024 .f32) shapeCasts_S2816x1024_S4x704x1024⟩]
      concatenates_S4x704x1024_S4x704x1024_S4x704x1024_S4x2112x1024_d1) bitsLt_bf16_f32 := by
  rw [← h.wg, ← h.wu, ← h.wd]
  unfold V
  simp only [hostOps0, hostOps0_1, hostOps0_2, List.flatten_cons, List.flatten_nil, List.append_nil, List.cons_append, List.nil_append]
  after_results
  rfl

/-! ### The reads, element by element -/

theorem read_v16 (i : S8192x1024.Idx) : V m c main_v16 i = (a.f (i 0) (i 1) : EReal) := by
  rw [host_v16 h, ← a.ref_v24 i, Cert.ReferenceIdeal.Read.val_main_v24_apply, Cert.ReferenceIdeal.Read.val_main_v1_apply,
    Cert.ReferenceIdeal.Read.val_main_cst_0_apply, Ideal.ofBits_def, Ideal.ofBits_zero_f32, Ideal.addf_def, add_zero]

theorem read_v26 (i : S4x8192x704.Idx) : V m c main_v26 i = (a.gate (i 1) (col (i 0) (i 2)) : EReal) := by
  rw [host_v26 h, ref_v17]
  pointwise [a.ref_v18]
  rfl

theorem read_v29 (i : S4x8192x704.Idx) : V m c main_v29 i = (a.up (i 1) (col (i 0) (i 2)) : EReal) := by
  rw [host_v29 h, ref_v19]
  pointwise [a.ref_v20]
  rfl

theorem read_v23_gate (i : S4x2112x1024.Idx) (j : Fin 704) (e : (i 1).val = j.val) :
    V m c main_v23 i = (a.wg (i 2) (col (i 0) j) : EReal) := by
  rw [host_v23 h]
  pointwise [columns, Args.Wg]
  rw [dif_pos (by omega)]
  congr 3
  simp only [e]

theorem read_v23_up (i : S4x2112x1024.Idx) (j : Fin 704) (e : (i 1).val = 704 + j.val) :
    V m c main_v23 i = (a.wu (i 2) (col (i 0) j) : EReal) := by
  rw [host_v23 h]
  pointwise [columns, Args.Wu]
  rw [dif_neg (by omega), dif_pos (by omega)]
  congr 3
  simp only [e]
  omega

theorem read_v23_down (i : S4x2112x1024.Idx) (j : Fin 704) (e : (i 1).val = 1408 + j.val) :
    V m c main_v23 i = (a.wd (col (i 0) j) (i 2) : EReal) := by
  rw [host_v23 h]
  pointwise [columns, Args.Wd]
  rw [dif_neg (by omega), dif_neg (by omega)]
  congr 3
  simp only [e]
  omega

end Cert.Ffn
-- ==== Proof.Blocks.lean ====
/- The blocks the kernel's windows hold at each grid point, as tiles of the model. -/
module

public import proofs.«01_k».proof.Proof.Host

@[expose] public section

set_option maxRecDepth 16384

noncomputable section

namespace Cert.Ffn

open Idealize.ShloMosaic Idealize.ShloMosaic.TcCoe Idealize.SL.Sem
open Cert.KernelIdeal Cert.KernelIdeal.Gen

/-- Every window's block index at every grid point. -/
theorem idx_val : ∀ t : Fin cfg0.N, win0_0.index t = ![t.val, 0]
    ∧ win0_1.index t = ![t.val, 0]
    ∧ win0_2.index t = ![t.val, 0]
    ∧ win0_3.index t = ![0, t.val, 0]
    ∧ win0_4.index t = ![0, t.val, 0]
    ∧ win0_5.index t = ![0, 0]
    ∧ win0_6.index t = ![0, 0]
    ∧ win0_7.index t = ![0, 0, 0]
    ∧ win0_8.index t = ![0, 1, 0]
    ∧ win0_9.index t = ![0, 2, 0]
    ∧ win0_10.index t = ![t.val, 0]
    ∧ win0_11.index t = ![t.val, 0]
    ∧ win0_12.index t = ![0, t.val, 0]
    ∧ win0_13.index t = ![0, t.val, 0]
    ∧ win0_14.index t = ![0, t.val, 0]
    ∧ win0_15.index t = ![0, 0]
    ∧ win0_16.index t = ![0, 0] :=
  (by decide +kernel : ∀ t : Fin grid0.N, _)

/-- The block of rows a grid point works on. -/
def blk (t : Fin cfg0.N) : Fin 32 := ⟨t.val, t.isLt.trans_eq N_0⟩

variable {a : Args} {m : (ℓ : Loc nD τ sig) → Buf (Elt Ideal) ℓ} {c : Dev nD} (h : Holds a m c) (t : Fin cfg0.N)
include h

theorem iblk_y : iblk m c 0 t = B (φ := .f32) (blk t) a.y := by
  funext i
  have e := (idx_val t).1
  blk_simp [iblk]
  rw [V_main_arg6, h.y]
  refine congrArg _ (congrArg₂ a.y (Fin.ext ?_) (Fin.ext ?_)) <;> blk_simp [e, row, blk]

theorem iblk_x : iblk m c 1 t = B (φ := .f32) (blk t) a.x := by
  funext i
  have e := (idx_val t).2.1
  blk_simp [iblk]
  rw [V_main_arg0, h.x]
  refine congrArg _ (congrArg₂ a.x (Fin.ext ?_) (Fin.ext ?_)) <;> blk_simp [e, row, blk]

theorem iblk_f : iblk m c 2 t = B (φ := .f32) (blk t) a.f := by
  funext i
  have e := (idx_val t).2.2.1
  blk_simp [iblk]
  refine (read_v16 h _).trans ?_
  refine congrArg _ (congrArg₂ a.f (Fin.ext ?_) (Fin.ext ?_)) <;> blk_simp [e, row, blk]

theorem iblk_pre : iblk m c 5 t = P (φ := .f32) a.pre := by
  funext i
  have e := (idx_val t).2.2.2.2.2.1
  blk_simp [iblk]
  rw [V_main_arg1, h.pre]
  unfold Args.Pre P
  refine congrArg (fun k => (a.pre k : EReal)) (Fin.ext ?_) <;> blk_simp [e]

theorem iblk_post : iblk m c 6 t = P (φ := .f32) a.post := by
  funext i
  have e := (idx_val t).2.2.2.2.2.2.1
  blk_simp [iblk]
  rw [V_main_arg5, h.post]
  unfold Args.Post P
  refine congrArg (fun k => (a.post k : EReal)) (Fin.ext ?_) <;> blk_simp [e]

/-- Shard `s` of the gate's block. -/
theorem iblk_gate (s : Fin 4) (n) (hn : s.val = n) (b) :
    View.ld (iblk m c 3 t) (Rect.unit (s := S4x256x704) ![n, 0, 0] ![1, 256, 704] b) = S3 (φ := .bf16) (blk t) s a.gate := by
  funext i
  have e := (idx_val t).2.2.2.1
  have z : (i 0).val < 1 := (i 0).isLt
  have z0 : ((Rect.unit (s := S4x256x704) ![n, 0, 0] ![1, 256, 704] b).idx i 0).val = n + (i 0).val := Rect.idx_unit_val (s := S4x256x704) _ _ b i 0
  have z1 : ((Rect.unit (s := S4x256x704) ![n, 0, 0] ![1, 256, 704] b).idx i 1).val = 0 + (i 1).val := Rect.idx_unit_val (s := S4x256x704) _ _ b i 1
  have z2 : ((Rect.unit (s := S4x256x704) ![n, 0, 0] ![1, 256, 704] b).idx i 2).val = 0 + (i 2).val := Rect.idx_unit_val (s := S4x256x704) _ _ b i 2
  rw [View.ld_apply]
  blk_simp [iblk]
  refine (read_v26 h _).trans ?_
  refine congrArg _ (congrArg₂ a.gate (Fin.ext ?_) (Fin.ext ?_)) <;> blk_simp [e, row, blk, col, z0, z1, z2] <;> dsimp only <;> omega

/-- Shard `s` of the other factor's block. -/
theorem iblk_up (s : Fin 4) (n) (hn : s.val = n) (b) :
    View.ld (iblk m c 4 t) (Rect.unit (s := S4x256x704) ![n, 0, 0] ![1, 256, 704] b) = S3 (φ := .bf16) (blk t) s a.up := by
  funext i
  have e := (idx_val t).2.2.2.2.1
  have z : (i 0).val < 1 := (i 0).isLt
  have z0 : ((Rect.unit (s := S4x256x704) ![n, 0, 0] ![1, 256, 704] b).idx i 0).val = n + (i 0).val := Rect.idx_unit_val (s := S4x256x704) _ _ b i 0
  have z1 : ((Rect.unit (s := S4x256x704) ![n, 0, 0] ![1, 256, 704] b).idx i 1).val = 0 + (i 1).val := Rect.idx_unit_val (s := S4x256x704) _ _ b i 1
  have z2 : ((Rect.unit (s := S4x256x704) ![n, 0, 0] ![1, 256, 704] b).idx i 2).val = 0 + (i 2).val := Rect.idx_unit_val (s := S4x256x704) _ _ b i 2
  rw [View.ld_apply]
  blk_simp [iblk]
  refine (read_v29 h _).trans ?_
  refine congrArg _ (congrArg₂ a.up (Fin.ext ?_) (Fin.ext ?_)) <;> blk_simp [e, row, blk, col, z0, z1, z2] <;> dsimp only <;> omega

/-- Shard `s` of the gate's weight. -/
theorem iblk_wg (s : Fin 4) (n) (hn : s.val = n) (b) :
    View.ld (iblk m c 7 t) (Rect.unit (s := S4x704x1024) ![n, 0, 0] ![1, 704, 1024] b) = W3 (φ := .bf16) s fun j d => a.wg d j := by
  funext i
  have e := (idx_val t).2.2.2.2.2.2.2.1
  have z : (i 0).val < 1 := (i 0).isLt
  have z0 : ((Rect.unit (s := S4x704x1024) ![n, 0, 0] ![1, 704, 1024] b).idx i 0).val = n + (i 0).val := Rect.idx_unit_val (s := S4x704x1024) _ _ b i 0
  have z1 : ((Rect.unit (s := S4x704x1024) ![n, 0, 0] ![1, 704, 1024] b).idx i 1).val = 0 + (i 1).val := Rect.idx_unit_val (s := S4x704x1024) _ _ b i 1
  have z2 : ((Rect.unit (s := S4x704x1024) ![n, 0, 0] ![1, 704, 1024] b).idx i 2).val = 0 + (i 2).val := Rect.idx_unit_val (s := S4x704x1024) _ _ b i 2
  rw [View.ld_apply]
  blk_simp [iblk]
  refine (read_v23_gate h _ (i 1) ?_).trans ?_
  · blk_simp [e, z1] <;> omega
  refine congrArg _ (congrArg₂ a.wg (Fin.ext ?_) (Fin.ext ?_)) <;> blk_simp [e, col, z0, z2] <;> dsimp only <;> omega

/-- Shard `s` of the other factor's weight. -/
theorem iblk_wu (s : Fin 4) (n) (hn : s.val = n) (b) :
    View.ld (iblk m c 8 t) (Rect.unit (s := S4x704x1024) ![n, 0, 0] ![1, 704, 1024] b) = W3 (φ := .bf16) s fun j d => a.wu d j := by
  funext i
  have e := (idx_val t).2.2.2.2.2.2.2.2.1
  have z : (i 0).val < 1 := (i 0).isLt
  have z0 : ((Rect.unit (s := S4x704x1024) ![n, 0, 0] ![1, 704, 1024] b).idx i 0).val = n + (i 0).val := Rect.idx_unit_val (s := S4x704x1024) _ _ b i 0
  have z1 : ((Rect.unit (s := S4x704x1024) ![n, 0, 0] ![1, 704, 1024] b).idx i 1).val = 0 + (i 1).val := Rect.idx_unit_val (s := S4x704x1024) _ _ b i 1
  have z2 : ((Rect.unit (s := S4x704x1024) ![n, 0, 0] ![1, 704, 1024] b).idx i 2).val = 0 + (i 2).val := Rect.idx_unit_val (s := S4x704x1024) _ _ b i 2
  rw [View.ld_apply]
  blk_simp [iblk]
  refine (read_v23_up h _ (i 1) ?_).trans ?_
  · blk_simp [e, z1] <;> omega
  refine congrArg _ (congrArg₂ a.wu (Fin.ext ?_) (Fin.ext ?_)) <;> blk_simp [e, col, z0, z2] <;> dsimp only <;> omega

/-- Shard `s` of the last weight. -/
theorem iblk_wd (s : Fin 4) (n) (hn : s.val = n) (b) :
    View.ld (iblk m c 9 t) (Rect.unit (s := S4x704x1024) ![n, 0, 0] ![1, 704, 1024] b) = W3 (φ := .bf16) s a.wd := by
  funext i
  have e := (idx_val t).2.2.2.2.2.2.2.2.2.1
  have z : (i 0).val < 1 := (i 0).isLt
  have z0 : ((Rect.unit (s := S4x704x1024) ![n, 0, 0] ![1, 704, 1024] b).idx i 0).val = n + (i 0).val := Rect.idx_unit_val (s := S4x704x1024) _ _ b i 0
  have z1 : ((Rect.unit (s := S4x704x1024) ![n, 0, 0] ![1, 704, 1024] b).idx i 1).val = 0 + (i 1).val := Rect.idx_unit_val (s := S4x704x1024) _ _ b i 1
  have z2 : ((Rect.unit (s := S4x704x1024) ![n, 0, 0] ![1, 704, 1024] b).idx i 2).val = 0 + (i 2).val := Rect.idx_unit_val (s := S4x704x1024) _ _ b i 2
  rw [View.ld_apply]
  blk_simp [iblk]
  refine (read_v23_down h _ (i 1) ?_).trans ?_
  · blk_simp [e, z1] <;> omega
  refine congrArg _ (congrArg₂ a.wd (Fin.ext ?_) (Fin.ext ?_)) <;> blk_simp [e, col, z0, z2] <;> dsimp only <;> omega

end Cert.Ffn
-- ==== Proof.Point.lean ====
/- What the kernel computes of the tiles at one grid point: each value its body names is a tile of the model. -/
module

public import proofs.«01_k».proof.Proof.Blocks

@[expose] public section

set_option maxRecDepth 16384

noncomputable section

namespace Cert.Ffn

open Idealize.ShloMosaic Cert.KernelIdeal Cert.KernelIdeal.Gen

variable {φ : FTy} (a : Args) (q : Fin 32) (s : Fin 4) (f g : Fin 8192 → Fin 1024 → ℝ) (u v : Fin 8192 → Fin 2816 → ℝ)
  (p : Fin 1024 → ℝ)

/-! ### Names for what comes out -/

theorem rsqrt_spread : rsqrt (C (φ := φ) q fun t => (∑ d, f t d * f t d) / 1024 + eps) = C q fun t => scale (f t) :=
  rsqrt_C _ _ fun t => spread_pos (f t)

theorem df_tile : B (φ := φ) q (fun t d => scale (a.f t) * (1 / 2 * a.y t d * a.post d) - a.f t d
      * (scale (a.f t) * scale (a.f t) * scale (a.f t) * ((∑ k, 1 / 2 * a.y t k * a.post k * a.f t k) / 1024)))
    = B q a.df := rfl

theorem dx_tile : B (φ := φ) q (fun t d => a.y t d + scale (a.x t) * (a.dn t d * a.pre d) - a.x t d
      * (scale (a.x t) * scale (a.x t) * scale (a.x t) * ((∑ k, a.dn t k * a.pre k * a.x t k) / 1024)))
    = B q a.dx :=
  congrArg (B q) (funext₂ fun t d => add_sub_assoc _ _ _)

theorem da_tile : S (φ := φ) q s (fun t j => ∑ d, a.df t d * a.wd j d) = S q s a.da := rfl

theorem act_tile : S (φ := φ) q s (fun t j => a.gate t j * sg (a.gate t j) * a.up t j) = S q s a.act := rfl

theorem dgate_tile : S (φ := φ) q s (fun t j => a.da t j * a.up t j
    * (sg (a.gate t j) * (1 + a.gate t j * (1 - sg (a.gate t j))))) = S q s a.dgate := rfl

theorem dup_tile : S (φ := φ) q s (fun t j => a.da t j * (a.gate t j * sg (a.gate t j))) = S q s a.dup := rfl

/-- A sum over the columns is the four shards' sums. -/
theorem sum_shards (F : Fin 2816 → ℝ) : ∑ j, F j = ∑ s, ∑ j, F (col s j) := by
  rw [← Fintype.sum_prod_type' (f := fun s j => F (col s j))]
  refine (Fintype.sum_equiv (finProdFinEquiv (m := 4) (n := 704)) _ _ fun p => congrArg F (Fin.ext ?_)).symm
  simp only [col, finProdFinEquiv_apply_val]
  omega

/-- A sum over the rows is the 32 blocks' sums. -/
theorem sum_blocks (F : Fin 8192 → ℝ) : ∑ t, F t = ∑ q, ∑ r, F (row q r) := by
  rw [← Fintype.sum_prod_type' (f := fun q r => F (row q r))]
  refine (Fintype.sum_equiv (finProdFinEquiv (m := 32) (n := 256)) _ _ fun p => congrArg F (Fin.ext ?_)).symm
  simp only [row, finProdFinEquiv_apply_val]
  omega

theorem dn_tile : B (φ := φ) q (fun t d =>
      0 + ∑ j, a.dgate t (col 0 j) * a.wg d (col 0 j) + ∑ j, a.dup t (col 0 j) * a.wu d (col 0 j)
        + ∑ j, a.dgate t (col 1 j) * a.wg d (col 1 j) + ∑ j, a.dup t (col 1 j) * a.wu d (col 1 j)
        + ∑ j, a.dgate t (col 2 j) * a.wg d (col 2 j) + ∑ j, a.dup t (col 2 j) * a.wu d (col 2 j)
        + ∑ j, a.dgate t (col 3 j) * a.wg d (col 3 j) + ∑ j, a.dup t (col 3 j) * a.wu d (col 3 j)) = B q a.dn := by
  refine congrArg (B q) (funext₂ fun t d => ?_)
  unfold Args.dn
  rw [sum_shards, Fin.sum_univ_four]
  simp only [Finset.sum_add_distrib]
  ring

/-! ### The body's values -/

set_option backward.isDefEq.respectTransparency false

theorem pay7 : k0_pay7 (F := Ideal) (B (φ := .f32) q f) = C (φ := .f32) q fun t => scale (f t) := by
  simp only [k0_pay7, k0_pay5, cast_B, mul_B, broadcast_1024, broadcast_eps]
  rw [sum_rows, cast_C, div_C, add_CK, rsqrt_spread]

theorem pay63 : k0_pay63 (F := Ideal) (B (φ := .f32) q f) = C (φ := .f32) q fun t => scale (f t) := by
  simp only [k0_pay63, mul_B, broadcast_1024, broadcast_eps]
  rw [sum_rows, cast_C, div_C, add_CK, rsqrt_spread]

theorem pay9 : k0_pay9 (F := Ideal) (B (φ := .f32) q f) (P (φ := .f32) p) = B (φ := .f32) q fun t d => 1 / 2 * f t d * p d := by
  simp only [k0_pay9, k0_pay6, broadcast_half, mul_KB]
  rw [rows_P, mul_B]

theorem pay12 : k0_pay12 (F := Ideal) (k0_pay5 (B (φ := .f32) q a.f))
    (k0_pay10 (B (φ := .f32) q a.y) (B (φ := .f32) q a.f) (P (φ := .f32) a.post))
    (k0_pay11 (B (φ := .f32) q a.y) (B (φ := .f32) q a.f) (P (φ := .f32) a.post)) = B (φ := .bf16) q a.df := by
  simp only [k0_pay12, k0_pay10, k0_pay11, k0_pay5, pay7, pay9, cast_B, broadcast_1024, mul_B, mul_C]
  rw [sum_rows, cast_C, div_C, mul_C, rows_C, rows_C, mul_B, mul_B, sub_B, trunc_B, df_tile]

/-- The sum over a block's rows that the first accumulator takes in. -/
theorem pay8 (acc) : k0_pay8 (F := Ideal) (B (φ := .f32) q a.y) (B (φ := .f32) q a.f) acc
    = addf acc (P (φ := .f32) fun d => ∑ r, 1 / 2 * a.y (row q r) d * a.f (row q r) d * scale (a.f (row q r))) := by
  simp only [k0_pay8, k0_pay6, k0_pay5, pay7, cast_B, broadcast_half, mul_KB, mul_B]
  rw [rows_C, mul_B, sum_cols, cast_P1]
  exact congrArg (addf · _) (shapeCast_self _ _)

/-- The last tile: the gradient in the rows that enter. -/
theorem pay2 : k0_pay2 (F := Ideal) (B (φ := .f32) q a.y) (B (φ := .f32) q a.dn) (B (φ := .f32) q a.x)
    (k0_pay63 (B (φ := .f32) q a.x)) (P (φ := .f32) a.pre) = B (φ := .f32) q a.dx := by
  simp only [k0_pay2, pay63, mul_C, broadcast_1024]
  rw [rows_P, mul_B, rows_C, mul_B, mul_B, sum_rows, cast_C, div_C, mul_C, rows_C, mul_B, add_B, sub_B, dx_tile]

/-- The sum over a block's rows that the other accumulator takes in. -/
theorem pay65 (v1 v2 v3 v4 v5 v6 v7 v8) (e : k0_pay62 (F := Ideal) v1 v2 v3 v4 v5 v6 v7 v8 = B (φ := .f32) q a.dn) (acc) :
    k0_pay1 (k0_pay64 acc) (k0_pay65 (F := Ideal) v1 v2 v3 v4 v5 v6 v7 v8 (B (φ := .f32) q a.x))
    = addf acc (P (φ := .f32) fun d => ∑ r, a.dn (row q r) d * a.x (row q r) d * scale (a.x (row q r))) := by
  simp only [k0_pay1, k0_pay64, k0_pay65, e, pay63, mul_B]
  rw [rows_C, mul_B, sum_cols, cast_P1]
  exact congrArg (addf · _) (shapeCast_self _ _)

/-! ### The shards -/

section Shards

variable (s : Fin 4)

/-- The activations of each shard. -/
theorem act_pay : k0_pay19 (F := Ideal) (S3 (φ := .bf16) q s a.gate) (S3 (φ := .bf16) q s a.up) = S3 (φ := .bf16) q s a.act
    ∧ k0_pay32 (F := Ideal) (k0_pay26 (S3 (φ := .bf16) q s a.gate)) (k0_pay27 (S3 (φ := .bf16) q s a.up))
      (k0_pay28 (S3 (φ := .bf16) q s a.gate)) k0_pay29 = S3 (φ := .bf16) q s a.act
    ∧ k0_pay44 (F := Ideal) (S3 (φ := .bf16) q s a.gate) (S3 (φ := .bf16) q s a.up) = S3 (φ := .bf16) q s a.act
    ∧ k0_pay55 (F := Ideal) (S3 (φ := .bf16) q s a.gate) (S3 (φ := .bf16) q s a.up) = S3 (φ := .bf16) q s a.act := by
  simp only [k0_pay15, k0_pay16, k0_pay17, k0_pay18, k0_pay19, k0_pay26, k0_pay27, k0_pay28, k0_pay29, k0_pay30, k0_pay31,
    k0_pay32, k0_pay40, k0_pay41, k0_pay42, k0_pay43, k0_pay44, k0_pay51, k0_pay52, k0_pay53, k0_pay54, k0_pay55,
    cast_S, ext_S, broadcast_half, mul_KS, tanh_S, add_SK, mul_S, sg_tanh, trunc_S, act_tile, cast_S3, and_self]

/-- The gradient in the activations, as the body forms it for each shard. -/
theorem da_pay (x y z) (e : k0_pay12 (F := Ideal) x y z = B (φ := .bf16) q a.df) :
    k0_pay14 x y z (W3 (φ := .bf16) s a.wd) = S (φ := .f32) q s a.da
    ∧ k0_pay25 (F := Ideal) (B (φ := .bf16) q a.df) (W3 (φ := .bf16) s a.wd) = S (φ := .f32) q s a.da
    ∧ k0_pay39 (F := Ideal) (B (φ := .bf16) q a.df) (k0_pay38 (W3 (φ := .bf16) s a.wd)) (constant S256x704 .f32 0x00000000#32)
      = S (φ := .f32) q s a.da
    ∧ k0_pay50 (F := Ideal) (B (φ := .bf16) q a.df) (W3 (φ := .bf16) s a.wd) = S (φ := .f32) q s a.da := by
  simp only [k0_pay14, k0_pay25, k0_pay38, k0_pay39, k0_pay50, e, cast_W, constant_zero, dot_rows, da_tile, and_self]

/-- The gradient in the gate's preactivation, each shard. -/
theorem dgate_pay (x y z) (e : k0_pay12 (F := Ideal) x y z = B (φ := .bf16) q a.df) :
    k0_pay20 x y z (W3 (φ := .bf16) s a.wd) (S3 (φ := .bf16) q s a.gate) (S3 (φ := .bf16) q s a.up) = S (φ := .bf16) q s a.dgate
    ∧ k0_pay33 (F := Ideal) (S (φ := .f32) q s a.da) (k0_pay26 (S3 (φ := .bf16) q s a.gate)) (k0_pay27 (S3 (φ := .bf16) q s a.up))
      (k0_pay28 (S3 (φ := .bf16) q s a.gate)) k0_pay29 = S (φ := .bf16) q s a.dgate
    ∧ k0_pay45 (F := Ideal) (B (φ := .bf16) q a.df) (k0_pay38 (W3 (φ := .bf16) s a.wd)) (constant S256x704 .f32 0x00000000#32)
      (S3 (φ := .bf16) q s a.gate) (S3 (φ := .bf16) q s a.up) = S (φ := .bf16) q s a.dgate
    ∧ k0_pay58 (F := Ideal) (k0_pay53 (S3 (φ := .bf16) q s a.gate))
      (k0_pay56 (B (φ := .bf16) q a.df) (W3 (φ := .bf16) s a.wd) (S3 (φ := .bf16) q s a.up))
      (k0_pay57 (S3 (φ := .bf16) q s a.gate)) = S (φ := .bf16) q s a.dgate := by
  simp only [k0_pay15, k0_pay16, k0_pay17, k0_pay20, k0_pay26, k0_pay27, k0_pay28, k0_pay29, k0_pay30, k0_pay33, k0_pay40,
    k0_pay41, k0_pay42, k0_pay45, k0_pay51, k0_pay52, k0_pay53, k0_pay56, k0_pay57, k0_pay58, da_pay a q s x y z e,
    cast_S, ext_S, broadcast_half, broadcast_one, mul_KS, tanh_S, add_SK, add_KS, sub_KS, mul_S, sg_tanh, trunc_S, dgate_tile,
    and_self]

/-- The gradient in the other factor, each shard. -/
theorem dup_pay : k0_pay21 (F := Ideal) (S (φ := .f32) q s a.da) (k0_pay18 (S3 (φ := .bf16) q s a.gate)) = S (φ := .bf16) q s a.dup
    ∧ k0_pay34 (F := Ideal) (S (φ := .f32) q s a.da) (k0_pay26 (S3 (φ := .bf16) q s a.gate))
      (k0_pay28 (S3 (φ := .bf16) q s a.gate)) k0_pay29 = S (φ := .bf16) q s a.dup
    ∧ k0_pay46 (F := Ideal) (B (φ := .bf16) q a.df) (k0_pay38 (W3 (φ := .bf16) s a.wd)) (constant S256x704 .f32 0x00000000#32)
      (S3 (φ := .bf16) q s a.gate) = S (φ := .bf16) q s a.dup
    ∧ k0_pay59 (F := Ideal) (S (φ := .f32) q s a.da) (k0_pay54 (S3 (φ := .bf16) q s a.gate)) = S (φ := .bf16) q s a.dup := by
  simp only [k0_pay15, k0_pay17, k0_pay18, k0_pay21, k0_pay26, k0_pay28, k0_pay29, k0_pay30, k0_pay31, k0_pay34, k0_pay38,
    k0_pay39, k0_pay40, k0_pay42, k0_pay43, k0_pay46, k0_pay51, k0_pay53, k0_pay54, k0_pay59, cast_W, constant_zero, dot_rows,
    da_tile, cast_S, ext_S, broadcast_half, mul_KS, tanh_S, add_SK, mul_S, sg_tanh, trunc_S, dup_tile, and_self]

/-- The gradient in the normed rows, gathered over the four shards. -/
theorem dn_pay (x y z) (e : k0_pay12 (F := Ideal) x y z = B (φ := .bf16) q a.df) :
    k0_pay62 (F := Ideal) (k0_pay49
        (k0_pay37
          (k0_pay24 k0_pay13 (k0_pay14 x y z (W3 (φ := .bf16) 0 a.wd)) (k0_pay18 (S3 (φ := .bf16) q 0 a.gate))
            (k0_pay20 x y z (W3 (φ := .bf16) 0 a.wd) (S3 (φ := .bf16) q 0 a.gate) (S3 (φ := .bf16) q 0 a.up))
            (W3 (φ := .bf16) 0 fun j d => a.wg d j) (W3 (φ := .bf16) 0 fun j d => a.wu d j))
          (k0_pay25 (B (φ := .bf16) q a.df) (W3 (φ := .bf16) 1 a.wd)) (k0_pay26 (S3 (φ := .bf16) q 1 a.gate))
          (k0_pay27 (S3 (φ := .bf16) q 1 a.up)) (k0_pay28 (S3 (φ := .bf16) q 1 a.gate)) k0_pay29
          (W3 (φ := .bf16) 1 fun j d => a.wg d j) (W3 (φ := .bf16) 1 fun j d => a.wu d j))
        (k0_pay45 (B (φ := .bf16) q a.df) (k0_pay38 (W3 (φ := .bf16) 2 a.wd)) (constant S256x704 .f32 0x00000000#32)
          (S3 (φ := .bf16) q 2 a.gate) (S3 (φ := .bf16) q 2 a.up))
        (k0_pay46 (B (φ := .bf16) q a.df) (k0_pay38 (W3 (φ := .bf16) 2 a.wd)) (constant S256x704 .f32 0x00000000#32)
          (S3 (φ := .bf16) q 2 a.gate))
        (W3 (φ := .bf16) 2 fun j d => a.wg d j) (W3 (φ := .bf16) 2 fun j d => a.wu d j))
      (k0_pay50 (B (φ := .bf16) q a.df) (W3 (φ := .bf16) 3 a.wd)) (k0_pay53 (S3 (φ := .bf16) q 3 a.gate))
      (k0_pay54 (S3 (φ := .bf16) q 3 a.gate))
      (k0_pay56 (B (φ := .bf16) q a.df) (W3 (φ := .bf16) 3 a.wd) (S3 (φ := .bf16) q 3 a.up)) (k0_pay57 (S3 (φ := .bf16) q 3 a.gate))
      (W3 (φ := .bf16) 3 fun j d => a.wg d j) (W3 (φ := .bf16) 3 fun j d => a.wu d j) = B (φ := .f32) q a.dn := by
  have d := fun s => da_pay a q s x y z e
  have g := fun s => dgate_pay a q s x y z e
  have u := fun s => dup_pay a q s
  simp only [d, g, u]
  simp only [k0_pay62, k0_pay49, k0_pay37, k0_pay24, k0_pay13, g, u, cast_W, constant_zero, broadcast_zero, dot_cols, add_KB,
    add_B, dn_tile]

end Shards

end Cert.Ffn
-- ==== Proof.Final.lean ====
/- The arrays the kernel leaves, on finite arguments: each is the model's array. -/
module

public import proofs.«01_k».proof.Proof.Point

@[expose] public section

set_option maxRecDepth 16384

noncomputable section

namespace Cert.Ffn

open Idealize.ShloMosaic Idealize.ShloMosaic.TcCoe Idealize.SL.Sem
open Cert.KernelIdeal Cert.KernelIdeal.Gen

/-- A statement of each shard, at the four shards' offsets. -/
theorem four {Q : Fin 4 → ℕ → Prop} (H : ∀ (s : Fin 4) (n : ℕ), s.val = n → Q s n) : Q 0 0 ∧ Q 1 1 ∧ Q 2 2 ∧ Q 3 3 :=
  ⟨H 0 0 rfl, H 1 1 rfl, H 2 2 rfl, H 3 3 rfl⟩

variable {a : Args} {m : (ℓ : Loc nD τ sig) → Buf (Elt Ideal) ℓ} {c : Dev nD} (h : Holds a m c)
include h

/-- A block of rows of the four shards, as the kernel holds it. -/
def A4 {φ : FTy} (q : Fin 32) (g : Fin 8192 → Fin 2816 → ℝ) : FVec Ideal S4x256x704 φ :=
  fun i => (g (row q (i 1)) (col (i 0) (i 2)) : EReal)

omit h in
theorem read_B {φ : FTy} (q : Fin 32) (g : Fin 8192 → Fin 1024 → ℝ) (y : S256x1024.Idx) (i : S8192x1024.Idx)
    (h0 : (i 0).val = q.val * 256 + (y 0).val) (h1 : (i 1).val = (y 1).val) : B (φ := φ) q g y = (g (i 0) (i 1) : EReal) := by
  have e0 : row q (y 0) = i 0 := Fin.ext h0.symm
  have e1 : y 1 = i 1 := Fin.ext h1.symm
  unfold B
  rw [e0, e1]

omit h in
theorem read_A4 {φ : FTy} (q : Fin 32) (g : Fin 8192 → Fin 2816 → ℝ) (y : S4x256x704.Idx) (i : S4x8192x704.Idx)
    (h0 : (i 0).val = (y 0).val) (h1 : (i 1).val = q.val * 256 + (y 1).val) (h2 : (i 2).val = (y 2).val) :
    A4 (φ := φ) q g y = (g (i 1) (col (i 0) (i 2)) : EReal) := by
  have e0 : y 0 = i 0 := Fin.ext h0.symm
  have e1 : row q (y 1) = i 1 := Fin.ext h1.symm
  have e2 : y 2 = i 2 := Fin.ext h2.symm
  unfold A4
  rw [e0, e1, e2]

omit h in
theorem read_S3 {φ : FTy} (q : Fin 32) (s : Fin 4) (g : Fin 8192 → Fin 2816 → ℝ) (x : S1x256x704.Idx) (y : S4x256x704.Idx)
    (h0 : (y 0).val = s.val) (h1 : (y 1).val = (x 1).val) (h2 : (y 2).val = (x 2).val) :
    S3 (φ := φ) q s g x = A4 (φ := φ) q g y := by
  have e0 : y 0 = s := Fin.ext h0
  have e1 : y 1 = x 1 := Fin.ext h1
  have e2 : y 2 = x 2 := Fin.ext h2
  unfold S3 A4
  rw [e0, e1, e2]

omit h in
theorem canon_four (q : Fin 32) (g : Fin 8192 → Fin 2816 → ℝ) :
    View.canon (Val := Elt Ideal) (s := S4x256x704) (e := .bf16)
      [⟨Rect.unit ![3, 0, 0] ![1, 256, 704] inb_S4x256x704_S1x256x704_3_0_0, S3 (φ := .bf16) q 3 g⟩,
      ⟨Rect.unit ![2, 0, 0] ![1, 256, 704] inb_S4x256x704_S1x256x704_2_0_0, S3 (φ := .bf16) q 2 g⟩,
      ⟨Rect.unit ![1, 0, 0] ![1, 256, 704] inb_S4x256x704_S1x256x704_1_0_0, S3 (φ := .bf16) q 1 g⟩,
      ⟨Rect.unit ![0, 0, 0] ![1, 256, 704] inb_S4x256x704_S1x256x704_0_0_0, S3 (φ := .bf16) q 0 g⟩] = A4 (φ := .bf16) q g := by
  funext y
  canon_tiles x hx <;> refine read_S3 _ _ _ _ _ ?_ ?_ ?_ <;> dsimp only <;> omega

theorem out_10 (t : Fin cfg0.N) : (outsAt0 m c t.val t.isLt).1 = B (φ := .f32) (blk t) a.dx := by
  have e := pay12 a (blk t)
  by_cases h0 : t.val % 32 = 0
  · rw [outsAt0_A m c t h0]; dsimp only; frame_out
    simp only [iblk_y h t, iblk_x h t, iblk_f h t, iblk_pre h t, iblk_post h t, four (iblk_gate h t), four (iblk_up h t),
      four (iblk_wg h t), four (iblk_wu h t), four (iblk_wd h t), e]
    rw [dn_pay a _ _ _ _ e, pay2]
  · rw [outsAt0_B m c t h0]; dsimp only; frame_out
    simp only [iblk_y h t, iblk_x h t, iblk_f h t, iblk_pre h t, iblk_post h t, four (iblk_gate h t), four (iblk_up h t),
      four (iblk_wg h t), four (iblk_wu h t), four (iblk_wd h t), e]
    rw [dn_pay a _ _ _ _ e, pay2]

theorem final_10 : (dats m 0 c).arrAt 10 (cfgs 0).N = (fun i => (a.dx (i 0) (i 1) : EReal) : FVec Ideal S8192x1024 .f32) := by
  refine (dats m 0 c).arrAt_eq_of_covers 10 _ (by decide +kernel) fun t hf y => ?_
  have i := (idx_val t).2.2.2.2.2.2.2.2.2.2.1
  blk_simp; rw [after0_10, out_10 h t]
  refine read_B _ _ _ _ ?_ ?_ <;> blk_simp [i, blk]

omit h in
theorem read_P {φ : FTy} (g : Fin 1024 → ℝ) (y i : S1x1024.Idx) (h1 : (i 1).val = (y 1).val) : P (φ := φ) g y = (g (i 1) : EReal) := by
  have e1 : y 1 = i 1 := Fin.ext h1.symm
  unfold P
  rw [e1]

omit h in
theorem from_zero (p : Fin 1024 → ℝ) : addf (k0_pay4 (F := Ideal)) (P (φ := .f32) p) = P p
    ∧ addf (k0_pay3 (F := Ideal)) (P (φ := .f32) p) = P p := by
  constructor <;> funext i <;> simp only [k0_pay3, k0_pay4, broadcast_zero] <;>
    exact (congrArg (· + (p (i 1) : EReal)) EReal.coe_zero).trans (zero_add _)

theorem out_11 (t : Fin cfg0.N) : (outsAt0 m c t.val t.isLt).2.1 = B (φ := .bf16) (blk t) a.df := by
  have e := pay12 a (blk t)
  by_cases h0 : t.val % 32 = 0
  · rw [outsAt0_A m c t h0]; dsimp only; frame_out
    simp only [iblk_y h t, iblk_x h t, iblk_f h t, iblk_pre h t, iblk_post h t, four (iblk_gate h t), four (iblk_up h t),
      four (iblk_wg h t), four (iblk_wu h t), four (iblk_wd h t), e]
  · rw [outsAt0_B m c t h0]; dsimp only; frame_out
    simp only [iblk_y h t, iblk_x h t, iblk_f h t, iblk_pre h t, iblk_post h t, four (iblk_gate h t), four (iblk_up h t),
      four (iblk_wg h t), four (iblk_wu h t), four (iblk_wd h t), e]

theorem final_11 : (dats m 0 c).arrAt 11 (cfgs 0).N = (fun i => (a.df (i 0) (i 1) : EReal) : FVec Ideal S8192x1024 .bf16) := by
  refine (dats m 0 c).arrAt_eq_of_covers 11 _ (by decide +kernel) fun t hf y => ?_
  have i := (idx_val t).2.2.2.2.2.2.2.2.2.2.2.1
  blk_simp; rw [after0_11, out_11 h t]
  refine read_B _ _ _ _ ?_ ?_ <;> blk_simp [i, blk]

theorem out_12 (t : Fin cfg0.N) : (outsAt0 m c t.val t.isLt).2.2.1 = A4 (φ := .bf16) (blk t) a.act := by
  have e := pay12 a (blk t)
  by_cases h0 : t.val % 32 = 0
  · rw [outsAt0_A m c t h0]; dsimp only; frame_out
    simp only [four (iblk_gate h t), four (iblk_up h t), act_pay a (blk t)]
    exact canon_four _ _
  · rw [outsAt0_B m c t h0]; dsimp only; frame_out
    simp only [four (iblk_gate h t), four (iblk_up h t), act_pay a (blk t)]
    exact canon_four _ _

theorem final_12 : (dats m 0 c).arrAt 12 (cfgs 0).N
    = (fun i => (a.act (i 1) (col (i 0) (i 2)) : EReal) : FVec Ideal S4x8192x704 .bf16) := by
  refine (dats m 0 c).arrAt_eq_of_covers 12 _ (by decide +kernel) fun t hf y => ?_
  have i := (idx_val t).2.2.2.2.2.2.2.2.2.2.2.2.1
  blk_simp; rw [after0_12, out_12 h t]
  refine read_A4 _ _ _ _ ?_ ?_ ?_ <;> blk_simp [i, blk]

theorem out_13 (t : Fin cfg0.N) : (outsAt0 m c t.val t.isLt).2.2.2.1 = A4 (φ := .bf16) (blk t) a.dgate := by
  have e := pay12 a (blk t)
  by_cases h0 : t.val % 32 = 0
  · rw [outsAt0_A m c t h0]; dsimp only; frame_out
    have d := fun s => da_pay a (blk t) s _ _ _ e
    have g := fun s => dgate_pay a (blk t) s _ _ _ e
    simp only [k0_pay22, k0_pay35, k0_pay47, k0_pay60, iblk_y h t, iblk_x h t, iblk_f h t, iblk_pre h t, iblk_post h t, four (iblk_gate h t), four (iblk_up h t),
      four (iblk_wg h t), four (iblk_wu h t), four (iblk_wd h t), e]
    simp only [d, g, cast_S3]
    exact canon_four _ _
  · rw [outsAt0_B m c t h0]; dsimp only; frame_out
    have d := fun s => da_pay a (blk t) s _ _ _ e
    have g := fun s => dgate_pay a (blk t) s _ _ _ e
    simp only [k0_pay22, k0_pay35, k0_pay47, k0_pay60, iblk_y h t, iblk_x h t, iblk_f h t, iblk_pre h t, iblk_post h t, four (iblk_gate h t), four (iblk_up h t),
      four (iblk_wg h t), four (iblk_wu h t), four (iblk_wd h t), e]
    simp only [d, g, cast_S3]
    exact canon_four _ _

theorem final_13 : (dats m 0 c).arrAt 13 (cfgs 0).N
    = (fun i => (a.dgate (i 1) (col (i 0) (i 2)) : EReal) : FVec Ideal S4x8192x704 .bf16) := by
  refine (dats m 0 c).arrAt_eq_of_covers 13 _ (by decide +kernel) fun t hf y => ?_
  have i := (idx_val t).2.2.2.2.2.2.2.2.2.2.2.2.2.1
  blk_simp; rw [after0_13, out_13 h t]
  refine read_A4 _ _ _ _ ?_ ?_ ?_ <;> blk_simp [i, blk]

theorem out_14 (t : Fin cfg0.N) : (outsAt0 m c t.val t.isLt).2.2.2.2.1 = A4 (φ := .bf16) (blk t) a.dup := by
  have e := pay12 a (blk t)
  by_cases h0 : t.val % 32 = 0
  · rw [outsAt0_A m c t h0]; dsimp only; frame_out
    have d := fun s => da_pay a (blk t) s _ _ _ e
    simp only [k0_pay23, k0_pay36, k0_pay48, k0_pay61, iblk_y h t, iblk_x h t, iblk_f h t, iblk_pre h t, iblk_post h t, four (iblk_gate h t), four (iblk_up h t),
      four (iblk_wg h t), four (iblk_wu h t), four (iblk_wd h t), e]
    simp only [d, dup_pay a (blk t), cast_S3]
    exact canon_four _ _
  · rw [outsAt0_B m c t h0]; dsimp only; frame_out
    have d := fun s => da_pay a (blk t) s _ _ _ e
    simp only [k0_pay23, k0_pay36, k0_pay48, k0_pay61, iblk_y h t, iblk_x h t, iblk_f h t, iblk_pre h t, iblk_post h t, four (iblk_gate h t), four (iblk_up h t),
      four (iblk_wg h t), four (iblk_wu h t), four (iblk_wd h t), e]
    simp only [d, dup_pay a (blk t), cast_S3]
    exact canon_four _ _

theorem final_14 : (dats m 0 c).arrAt 14 (cfgs 0).N
    = (fun i => (a.dup (i 1) (col (i 0) (i 2)) : EReal) : FVec Ideal S4x8192x704 .bf16) := by
  refine (dats m 0 c).arrAt_eq_of_covers 14 _ (by decide +kernel) fun t hf y => ?_
  have i := (idx_val t).2.2.2.2.2.2.2.2.2.2.2.2.2.2.1
  blk_simp; rw [after0_14, out_14 h t]
  refine read_A4 _ _ _ _ ?_ ?_ ?_ <;> blk_simp [i, blk]

/-- One block's rows of the gradient in a norm's weights. -/
def post_part (a : Args) (k : ℕ) (d : Fin 1024) : ℝ := if hk : k < 32 then ∑ r, (fun q r => 1 / 2 * a.y (row q r) d * a.f (row q r) d * scale (a.f (row q r))) (⟨k, hk⟩ : Fin 32) r else 0

omit h in
theorem post_part_blk (a : Args) (t : Fin cfg0.N) (d : Fin 1024) :
    post_part a t.val d = ∑ r, 1 / 2 * a.y (row (blk t) r) d * a.f (row (blk t) r) d * scale (a.f (row (blk t) r)) := by
  unfold post_part
  rw [dif_pos (t.isLt.trans_eq N_0)]
  rfl

theorem out_16 : ∀ (n : ℕ) (hn : n < cfg0.N), (outsAt0 m c n hn).2.2.2.2.2.2
    = P (φ := .f32) fun d => ∑ k ∈ Finset.range (n + 1), post_part a k d
  | 0, hn => by
    let t : Fin cfg0.N := ⟨0, hn⟩
    have e := pay12 a (blk t)
    refine (congrArg (fun p => p.2.2.2.2.2.2) (outsAt0_A m c t rfl)).trans ?_
    dsimp only; frame_out
    simp only [iblk_y h t, iblk_x h t, iblk_f h t, iblk_pre h t, iblk_post h t, four (iblk_gate h t), four (iblk_up h t),
      four (iblk_wg h t), four (iblk_wu h t), four (iblk_wd h t), e]
    rw [pay8]
    refine (from_zero _).1.trans (congrArg _ (funext fun d => ?_))
    rw [zero_add, Finset.sum_range_one]
    exact (post_part_blk a t d).symm
  | n + 1, hn => by
    let t : Fin cfg0.N := ⟨n + 1, hn⟩
    have e := pay12 a (blk t)
    have h0 : ¬ t.val % 32 = 0 := by have := hn.trans_eq N_0; dsimp only [t]; omega
    refine (congrArg (fun p => p.2.2.2.2.2.2) (outsAt0_B m c t h0)).trans ?_
    dsimp only; frame_out
    simp only [iblk_y h t, iblk_x h t, iblk_f h t, iblk_pre h t, iblk_post h t, four (iblk_gate h t), four (iblk_up h t),
      four (iblk_wg h t), four (iblk_wu h t), four (iblk_wd h t), e]
    rw [pay8]
    refine (congrArg (addf · _) (out_16 n _)).trans ?_
    refine (add_P _ _).trans (congrArg _ (funext fun d => ?_))
    rw [Finset.sum_range_succ _ (n + 1)]
    exact congrArg _ (post_part_blk a t d).symm

theorem final_16 : (dats m 0 c).arrAt 16 (cfgs 0).N = (fun i => (a.dpost (i 1) : EReal) : FVec Ideal S1x1024 .f32) := by
  refine (dats m 0 c).arrAt_eq_of_covers 16 _ (by decide +kernel) fun t hf y => ?_
  have i := (idx_val t).2.2.2.2.2.2.2.2.2.2.2.2.2.2.2.2
  have ht : t.val + 1 = 32 := by
    have := (flush0_16 t).mp hf
    have := t.isLt.trans_eq N_0
    omega
  blk_simp; rw [after0_16, out_16 h t.val t.isLt, ht]
  refine (congrArg (fun g => P (φ := .f32) g y) (funext fun d => ?_)).trans (read_P a.dpost _ _ ?_)
  · rw [Finset.sum_range]
    exact (Finset.sum_congr rfl fun q _ => dif_pos q.isLt).trans (sum_blocks _).symm
  · blk_simp [i]

/-- One block's rows of the gradient in a norm's weights. -/
def pre_part (a : Args) (k : ℕ) (d : Fin 1024) : ℝ := if hk : k < 32 then ∑ r, (fun q r => a.dn (row q r) d * a.x (row q r) d * scale (a.x (row q r))) (⟨k, hk⟩ : Fin 32) r else 0

omit h in
theorem pre_part_blk (a : Args) (t : Fin cfg0.N) (d : Fin 1024) :
    pre_part a t.val d = ∑ r, a.dn (row (blk t) r) d * a.x (row (blk t) r) d * scale (a.x (row (blk t) r)) := by
  unfold pre_part
  rw [dif_pos (t.isLt.trans_eq N_0)]
  rfl

theorem out_15 : ∀ (n : ℕ) (hn : n < cfg0.N), (outsAt0 m c n hn).2.2.2.2.2.1
    = P (φ := .f32) fun d => ∑ k ∈ Finset.range (n + 1), pre_part a k d
  | 0, hn => by
    let t : Fin cfg0.N := ⟨0, hn⟩
    have e := pay12 a (blk t)
    refine (congrArg (fun p => p.2.2.2.2.2.1) (outsAt0_A m c t rfl)).trans ?_
    dsimp only; frame_out
    simp only [iblk_y h t, iblk_x h t, iblk_f h t, iblk_pre h t, iblk_post h t, four (iblk_gate h t), four (iblk_up h t),
      four (iblk_wg h t), four (iblk_wu h t), four (iblk_wd h t), e]
    rw [pay65 a _ _ _ _ _ _ _ _ _ (dn_pay a _ _ _ _ e)]
    refine (from_zero _).2.trans (congrArg _ (funext fun d => ?_))
    rw [zero_add, Finset.sum_range_one]
    exact (pre_part_blk a t d).symm
  | n + 1, hn => by
    let t : Fin cfg0.N := ⟨n + 1, hn⟩
    have e := pay12 a (blk t)
    have h0 : ¬ t.val % 32 = 0 := by have := hn.trans_eq N_0; dsimp only [t]; omega
    refine (congrArg (fun p => p.2.2.2.2.2.1) (outsAt0_B m c t h0)).trans ?_
    dsimp only; frame_out
    simp only [iblk_y h t, iblk_x h t, iblk_f h t, iblk_pre h t, iblk_post h t, four (iblk_gate h t), four (iblk_up h t),
      four (iblk_wg h t), four (iblk_wu h t), four (iblk_wd h t), e]
    rw [pay65 a _ _ _ _ _ _ _ _ _ (dn_pay a _ _ _ _ e)]
    refine (congrArg (addf · _) (out_15 n _)).trans ?_
    refine (add_P _ _).trans (congrArg _ (funext fun d => ?_))
    rw [Finset.sum_range_succ _ (n + 1)]
    exact congrArg _ (pre_part_blk a t d).symm

theorem final_15 : (dats m 0 c).arrAt 15 (cfgs 0).N = (fun i => (a.dpre (i 1) : EReal) : FVec Ideal S1x1024 .f32) := by
  refine (dats m 0 c).arrAt_eq_of_covers 15 _ (by decide +kernel) fun t hf y => ?_
  have i := (idx_val t).2.2.2.2.2.2.2.2.2.2.2.2.2.2.2.1
  have ht : t.val + 1 = 32 := by
    have := (flush0_15 t).mp hf
    have := t.isLt.trans_eq N_0
    omega
  blk_simp; rw [after0_15, out_15 h t.val t.isLt, ht]
  refine (congrArg (fun g => P (φ := .f32) g y) (funext fun d => ?_)).trans (read_P a.dpre _ _ ?_)
  · rw [Finset.sum_range]
    exact (Finset.sum_congr rfl fun q _ => dif_pos q.isLt).trans (sum_blocks _).symm
  · blk_simp [i]

end Cert.Ffn
-- ==== Proof.Finite.lean ====
/- The precondition: every number of the arguments is finite. The arrays are then the model's. -/
module

public import proofs.«01_k».proof.Proof.Final
public import proofs.«01_k».proof.Defs
public import proofs.«01_k».proof.Proof.Gen.Pre_finite

@[expose] public section

set_option maxRecDepth 16384

noncomputable section

namespace Cert.Ffn

open Idealize.ShloMosaic Idealize.ShloMosaic.TcCoe Idealize.SL.Sem

/-- A number whose absolute value is under infinity is real. -/
theorem real_of {s : Shape} (x : FVec Ideal s .f32) (hb)
    (h : cmpf .olt (Host.absf x) (broadcastInDim s ![] hb (constant (F := Ideal) ⟨0, ![]⟩ .f32 0x7F800000#32)) = fun _ => 1#1)
    (i : s.Idx) : x i = ((x i).toReal : EReal) := by
  have e := congrFun h i
  pointwise at e
  have top : Ideal.ofBits .f32 2139095040#32 = ⊤ := by simp [Ideal.ofBits, Ideal.ieee]
  rw [top] at e
  have lt : max (x i : EReal) (-(x i)) < ⊤ := by
    by_contra n
    rw [show FloatOps.absf (x i) = max (x i : EReal) (-(x i)) from rfl, decide_eq_false n] at e
    exact absurd e (by decide)
  rw [max_lt_iff] at lt
  refine (EReal.coe_toReal lt.1.ne fun b => ?_).symm
  rw [b] at lt
  exact absurd lt.2 (by simp)

/-- The real array a matrix of finite numbers holds. -/
theorem matrix {r n : ℕ} (x : FVec Ideal ⟨2, ![r, n]⟩ .f32) (h : ∀ i, x i = ((x i).toReal : EReal)) :
    x = fun i => (((x (ix2 (i 0) (i 1))).toReal : ℝ) : EReal) :=
  funext fun i => (h i).trans (congrArg (fun j => ((x j).toReal : EReal)) (ix2_eta i).symm)

/-- The real array a row of finite numbers holds. -/
theorem vector {n : ℕ} (x : FVec Ideal ⟨2, ![1, n]⟩ .f32) (h : ∀ i, x i = ((x i).toReal : EReal)) :
    x = fun i => (((x (ix2 0 (i 1))).toReal : ℝ) : EReal) := by
  refine (matrix x h).trans (funext fun i => ?_)
  exact congrArg (fun k : Fin 1 => ((x (ix2 k (i 1))).toReal : EReal)) (Subsingleton.elim _ _)

/-- Where every argument is finite, the arguments are some model's. -/
theorem holds_of (m : (ℓ : Loc KernelIdeal.nD KernelIdeal.τ KernelIdeal.sig) → Buf (Elt Ideal) ℓ)
    [Cert.Pre_finite.Facts] (h : Pre_KernelIdeal_finite m) (c : Dev KernelIdeal.nD) : ∃ a : Args, Holds a m c := by
  obtain ⟨h0, h1, h2, h3, h4, h5, h6⟩ := h c
  exact ⟨⟨fun i j => (m ((c : Thread KernelIdeal.nD KernelIdeal.τ).loc KernelIdeal.main_arg0) (ix2 i j)).toReal,
    fun j => (m ((c : Thread KernelIdeal.nD KernelIdeal.τ).loc KernelIdeal.main_arg1) (ix2 0 j)).toReal,
    fun i j => (m ((c : Thread KernelIdeal.nD KernelIdeal.τ).loc KernelIdeal.main_arg2) (ix2 i j)).toReal,
    fun i j => (m ((c : Thread KernelIdeal.nD KernelIdeal.τ).loc KernelIdeal.main_arg3) (ix2 i j)).toReal,
    fun i j => (m ((c : Thread KernelIdeal.nD KernelIdeal.τ).loc KernelIdeal.main_arg4) (ix2 i j)).toReal,
    fun j => (m ((c : Thread KernelIdeal.nD KernelIdeal.τ).loc KernelIdeal.main_arg5) (ix2 0 j)).toReal,
    fun i j => (m ((c : Thread KernelIdeal.nD KernelIdeal.τ).loc KernelIdeal.main_arg6) (ix2 i j)).toReal⟩,
    matrix _ (real_of _ _ h0), vector _ (real_of _ _ h1), matrix _ (real_of _ _ h2),
    matrix _ (real_of _ _ h3), matrix _ (real_of _ _ h4), vector _ (real_of _ _ h5), matrix _ (real_of _ _ h6)⟩

end Cert.Ffn
-- ==== Proof.Sigmoid.lean ====
/- Facts of the forward pass that hold of all values, infinite ones too: the two forms of the logistic function, and the
   two ways to weigh the parts of the loss. -/
module

public import proofs.«01_k».proof.Proof.Real

@[expose] public section

noncomputable section

namespace Cert.Fwd

open Idealize.ShloMosaic Cert.Ffn

/-! ### Constants -/

abbrev half : EReal := Ideal.ofBits .f32 0x3F000000#32
abbrev one : EReal := Ideal.ofBits .f32 0x3F800000#32
abbrev width : EReal := Ideal.ofBits .f32 0x44800000#32
abbrev epsilon : EReal := Ideal.ofBits .f32 0x358637BD#32
abbrev two : EReal := Ideal.ofBits .f32 0x40000000#32
/-- The weight of an element's difference in the gradient of the loss, 1/1024. -/
abbrev slope : EReal := Ideal.ofBits .f32 0x3A800000#32
/-- The weight of an element's square in the loss, 1/2048. -/
abbrev weight : EReal := Ideal.ofBits .f32 0x3A000000#32

theorem two_eq : two = ((2 : ℝ) : EReal) := by
  simp [Ideal.ofBits, Ideal.ieee, -EReal.coe_mul]; norm_num

theorem slope_eq : slope = ((1 / 1024 : ℝ) : EReal) := by
  simp [Ideal.ofBits, Ideal.ieee, -EReal.coe_mul]; norm_num

theorem weight_eq : weight = ((1 / 2048 : ℝ) : EReal) := by
  simp [Ideal.ofBits, Ideal.ieee, -EReal.coe_mul]; norm_num

/-! ### The logistic function -/

/-- The logistic function. -/
def logistic (x : EReal) : EReal := Ideal.div one (one + Ideal.exp (-x))

/-- The logistic function by the hyperbolic tangent of half the argument. -/
theorem logistic_tanh (x : EReal) : half * Ideal.tanh (half * x) + half = logistic x := by
  unfold logistic half one
  rw [ofBits_half, ofBits_one]
  induction x with
  | bot =>
    have e : Ideal.tanh ⊥ = ((-1 : ℝ) : EReal) := by rw [EReal.coe_neg, EReal.coe_one]; rfl
    have d : Ideal.div ((1 : ℝ) : EReal) ⊤ = 0 := by unfold Ideal.div; rw [if_neg EReal.top_ne_zero, EReal.inv_top, mul_zero]
    have s : Ideal.exp ⊤ = ⊤ := rfl
    rw [EReal.coe_mul_bot_of_pos (by norm_num), e, EReal.neg_bot, s, EReal.coe_add_top, d, ← EReal.coe_mul, ← EReal.coe_add]
    norm_num
  | top =>
    have e : Ideal.tanh ⊤ = ((1 : ℝ) : EReal) := by rw [EReal.coe_one]; rfl
    have s : Ideal.exp ⊥ = ((0 : ℝ) : EReal) := by rw [EReal.coe_zero]; rfl
    rw [EReal.coe_mul_top_of_pos (by norm_num), e, EReal.neg_top, s, ← EReal.coe_mul, ← EReal.coe_add, ← EReal.coe_add,
      div_real _ (by norm_num)]
    norm_num
  | coe x =>
    rw [← EReal.coe_mul, Ideal.tanh_coe, ← EReal.coe_mul, ← EReal.coe_add, sg_tanh, ← EReal.coe_neg, Ideal.exp_coe, ← EReal.coe_add,
      div_real _ (exp_ne _)]
    unfold sg
    rw [one_div]

/-! ### The loss -/

/-- The gradient of the loss in an element: the two weights multiplied apart or at once. -/
theorem slope_mul (x : EReal) : Ideal.div (half * one) width * (two * x) = x * slope := by
  unfold half one width
  rw [ofBits_half, ofBits_one, ofBits_1024, two_eq, slope_eq, ← EReal.coe_mul, div_real _ (by norm_num), ← mul_assoc,
    ← EReal.coe_mul, mul_comm]
  congr 2
  norm_num

/-- A finite weight that is not negative goes into a sum. -/
theorem weight_sum {ι : Type*} (s : Finset ι) (c : ℝ) (hc : 0 ≤ c) (f : ι → EReal) :
    ∑ i ∈ s, (c : EReal) * f i = (c : EReal) * ∑ i ∈ s, f i := by
  classical
  induction s using Finset.induction_on with
  | empty => simp
  | insert a s h ih =>
    rw [Finset.sum_insert h, Finset.sum_insert h, ih,
      EReal.left_distrib_of_nonneg_of_ne_top (EReal.coe_nonneg.mpr hc) (EReal.coe_ne_top c)]

/-- Half of a row's mean. -/
theorem weight_mul (x : EReal) : half * Ideal.div x width = weight * x := by
  unfold half width
  rw [ofBits_half, ofBits_1024, weight_eq, Ideal.div_coe (by norm_num), mul_comm x, ← mul_assoc, ← EReal.coe_mul]
  congr 2
  norm_num

end Cert.Fwd
-- ==== Proof.Halves.lean ====
/- The gradient in a feed-forward weight: a sum over the 8192 rows of a device, which the kernel takes as the sums over
   its two halves, and the place of a column in the array of the four shards. -/
module

public import Idealize.ShloMosaic.Lib.Pipeline.ValueKit

@[expose] public section

namespace Cert.Rows

open Idealize.ShloMosaic

/-- Row `k` of half `p`. -/
def row (p : Fin 2) (k : Fin 4096) : Fin 8192 := ⟨p.val * 4096 + k.val, by omega⟩

/-- Column `j` of shard `s`. -/
def col (s : Fin 4) (j : Fin 704) : Fin 2816 := ⟨s.val * 704 + j.val, by omega⟩

/-- A sum over the rows is the sum over the first half and the sum over the second. -/
theorem sum_halves (f : Fin 8192 → EReal) : ∑ t, f t = ∑ k, f (row 0 k) + ∑ k, f (row 1 k) := by
  refine (Fin.sum_univ_add (a := 4096) (b := 4096) f).trans (congrArg₂ _ ?_ ?_) <;>
    exact Finset.sum_congr rfl fun k _ => congrArg f (Fin.ext (by simp [row, Nat.add_comm]))

/-- Two indices with equal coordinates are equal. -/
theorem same2 {M N : ℕ} {i j : (⟨2, ![M, N]⟩ : Shape).Idx} (h0 : (i 0).val = (j 0).val) (h1 : (i 1).val = (j 1).val) : i = j :=
  ((eq_ix2 i).trans (congrArg₂ ix2 (Fin.ext h0) (Fin.ext h1))).trans (eq_ix2 j).symm

theorem same3 {L M N : ℕ} {i j : (⟨3, ![L, M, N]⟩ : Shape).Idx} (h0 : (i 0).val = (j 0).val) (h1 : (i 1).val = (j 1).val)
    (h2 : (i 2).val = (j 2).val) : i = j := by
  rw [eq_ix3 i, eq_ix3 j, Fin.ext h0, Fin.ext h1, Fin.ext h2]

/-- Element `(s, j, d)` of the gradient in a weight, by shards: column `j` of shard `s` of `g` against column `d` of `n`. -/
noncomputable def grad (n : FVec Ideal ⟨2, ![8192, 1024]⟩ .f32) (g : FVec Ideal ⟨2, ![8192, 2816]⟩ .f32) (s : Fin 4) (j : Fin 704)
    (d : Fin 1024) : EReal := ∑ t, g (ix2 t (col s j)) * n (ix2 t d)

/-- What the buffer `b` of the three weights' gradients holds with the gradient written as its part `p`: the gradient in
    that part's 704 rows, its own contents in the others. -/
noncomputable def placed (p : ℕ) (n : FVec Ideal ⟨2, ![8192, 1024]⟩ .f32) (g : FVec Ideal ⟨2, ![8192, 2816]⟩ .f32)
    (b : FVec Ideal ⟨3, ![4, 2112, 1024]⟩ .f32) : FVec Ideal ⟨3, ![4, 2112, 1024]⟩ .f32 := fun i =>
  if (i 1).val / 704 = p then grad n g (i 0) ⟨(i 1).val % 704, Nat.mod_lt _ (by decide)⟩ (i 2) else b i

theorem grad_congr (n : FVec Ideal ⟨2, ![8192, 1024]⟩ .f32) (g : FVec Ideal ⟨2, ![8192, 2816]⟩ .f32) {s s' : Fin 4}
    {j j' : Fin 704} {d d' : Fin 1024} (hs : s.val = s'.val) (hj : j.val = j'.val) (hd : d.val = d'.val) :
    grad n g s j d = grad n g s' j' d' := by
  rw [Fin.ext hs, Fin.ext hj, Fin.ext hd]

/-- Two steps that start from zero, one for each half of the rows, give the gradient. -/
theorem grad_eq (n : FVec Ideal ⟨2, ![8192, 1024]⟩ .f32) (g : FVec Ideal ⟨2, ![8192, 2816]⟩ .f32) (s : Fin 4) (j : Fin 704)
    (d : Fin 1024) {z : EReal} (hz : z = 0) {x y : Fin 2 → Fin 4096 → EReal}
    (hx : ∀ p k, x p k = g (ix2 (row p k) (col s j))) (hy : ∀ p k, y p k = n (ix2 (row p k) d)) :
    z + ∑ k, x 0 k * y 0 k + ∑ k, x 1 k * y 1 k = grad n g s j d := by
  simp only [hz, zero_add, hx, hy, grad, sum_halves]

end Cert.Rows
-- ==== Proof.FwdRef.lean ====
/- The forward pass as plain functions on rows and columns, and the reference read stage by stage: each array its
   operations write is one of these functions, on all arguments. -/
module

public import proofs.«01_k».proof.Proof.Gen.ForwardRefIdeal.Read
public import proofs.«01_k».proof.Proof.Sigmoid
public import proofs.«01_k».proof.Proof.Halves

@[expose] public section

set_option maxRecDepth 16384

noncomputable section

namespace Cert.Fwd

open Idealize.ShloMosaic Cert.ForwardRefIdeal Cert.ForwardRefIdeal.Read

export Cert.Rows (same2 same3 col)

/-- The arguments: the rows, the norms' weights, the three weights and the target. -/
structure Args where
  x : Fin 8192 → Fin 1024 → EReal
  pre : Fin 1024 → EReal
  wg : Fin 1024 → Fin 2816 → EReal
  wu : Fin 1024 → Fin 2816 → EReal
  wd : Fin 2816 → Fin 1024 → EReal
  post : Fin 1024 → EReal
  y : Fin 8192 → Fin 1024 → EReal

/-- The scale of a row's RMS norm. -/
def scale (x : Fin 1024 → EReal) : EReal := Ideal.rsqrt (Ideal.div (∑ d, x d * x d) width + epsilon)

/-- Row `k` of block `q` of 512 rows. -/
def row (q : Fin 16) (r : Fin 512) : Fin 8192 := ⟨q.val * 512 + r.val, by omega⟩

namespace Args

variable (a : Args)

/-- The normed rows. -/
def n (t : Fin 8192) (d : Fin 1024) : EReal := a.x t d * scale (a.x t) * a.pre d
/-- The gate's preactivation. -/
def gate (t : Fin 8192) (j : Fin 2816) : EReal := ∑ d, a.n t d * a.wg d j
/-- The other factor. -/
def up (t : Fin 8192) (j : Fin 2816) : EReal := ∑ d, a.n t d * a.wu d j
/-- The gated activations. -/
def act (t : Fin 8192) (j : Fin 2816) : EReal := a.gate t j * logistic (a.gate t j) * a.up t j
/-- The rows the second norm takes. -/
def f (t : Fin 8192) (d : Fin 1024) : EReal := ∑ j, a.act t j * a.wd j d
/-- What the step puts out. -/
def out (t : Fin 8192) (d : Fin 1024) : EReal := a.x t d + half * (a.f t d * scale (a.f t) * a.post d)
/-- Its difference from the target. -/
def err (t : Fin 8192) (d : Fin 1024) : EReal := a.out t d - a.y t d
/-- The gradient of the loss in what the step puts out. -/
def dy (t : Fin 8192) (d : Fin 1024) : EReal := a.err t d * slope
/-- A block's part of the loss. -/
def loss (q : Fin 16) : EReal := weight * ∑ r, ∑ d, a.err (row q r) d * a.err (row q r) d

def X : FVec Ideal S8192x1024 .f32 := fun i => a.x (i 0) (i 1)
def Pre : FVec Ideal S1x1024 .f32 := fun i => a.pre (i 1)
def Wg : FVec Ideal S1024x2816 .f32 := fun i => a.wg (i 0) (i 1)
def Wu : FVec Ideal S1024x2816 .f32 := fun i => a.wu (i 0) (i 1)
def Wd : FVec Ideal S2816x1024 .f32 := fun i => a.wd (i 0) (i 1)
def Post : FVec Ideal S1x1024 .f32 := fun i => a.post (i 1)
def Y : FVec Ideal S8192x1024 .f32 := fun i => a.y (i 0) (i 1)

/-- The first norm's scale. -/
theorem ref_v7 (i : S8192x1.Idx) : val_main_v7 (F := Ideal) a.X i = scale (a.x (i 0)) := by
  simp only [val_main_v7_apply, val_main_v6_apply, val_main_v4_apply, val_main_v3_apply, val_main_v2_apply, val_main_v1_apply,
    val_main_v0_apply, val_main_v5_apply, val_main_cst_apply, val_main_cst_0_apply, val_main_cst_1_apply,
    Ideal.ofBits_def, Ideal.addf_def, Ideal.mulf_def, Ideal.hostDivf_def, Ideal.hostUnary_rsqrt_def, Ideal.ofBits_zero_f32, zero_add]
  rfl

/-- The normed rows. -/
theorem ref_v11 (i : S8192x1024.Idx) : val_main_v11 (F := Ideal) a.X a.Pre i = a.n (i 0) (i 1) := by
  rw [val_main_v11_apply, val_main_v9_apply, val_main_v8_apply, val_main_v10_apply, ref_v7]; rfl

theorem ref_v12 (i : S8192x2816.Idx) : val_main_v12 (F := Ideal) a.X a.Pre a.Wg i = a.gate (i 0) (i 1) := by
  simp only [val_main_v12_apply, ref_v11]; rfl

theorem ref_v13 (i : S8192x2816.Idx) : val_main_v13 (F := Ideal) a.X a.Pre a.Wu i = a.up (i 0) (i 1) := by
  simp only [val_main_v13_apply, ref_v11]; rfl

/-- The gated activations. -/
theorem ref_v15 (i : S8192x2816.Idx) : val_main_v15 (F := Ideal) a.X a.Pre a.Wg a.Wu i = a.act (i 0) (i 1) := by
  simp only [val_main_v15_apply, val_main_v14_apply, val_main_call0_v5_apply, val_main_call0_v4_apply, val_main_call0_v3_apply,
    val_main_call0_v2_apply, val_main_call0_v1_apply, val_main_call0_v0_apply, val_main_call0_cst_apply,
    val_main_call0_cst_0_apply, ref_v12, ref_v13, Ideal.ofBits_def, Ideal.addf_def, Ideal.mulf_def, Ideal.hostDivf_def,
    Ideal.hostNegf_def, Ideal.negf_def, Ideal.hostUnary_exp_def]
  rfl

/-- The rows the second norm takes. -/
theorem ref_v16 (i : S8192x1024.Idx) : val_main_v16 (F := Ideal) a.X a.Pre a.Wg a.Wu a.Wd i = a.f (i 0) (i 1) := by
  simp only [val_main_v16_apply, ref_v15]; rfl

/-- The second norm's scale. -/
theorem ref_v24 (i : S8192x1.Idx) : val_main_v24 (F := Ideal) a.X a.Pre a.Wg a.Wu a.Wd i = scale (a.f (i 0)) := by
  simp only [val_main_v24_apply, val_main_v23_apply, val_main_v21_apply, val_main_v20_apply, val_main_v19_apply, val_main_v18_apply,
    val_main_v17_apply, val_main_v22_apply, val_main_cst_2_apply, val_main_cst_3_apply, val_main_cst_4_apply, ref_v16,
    Ideal.ofBits_def, Ideal.addf_def, Ideal.mulf_def, Ideal.hostDivf_def, Ideal.hostUnary_rsqrt_def, Ideal.ofBits_zero_f32, zero_add]
  rfl

/-- What the step puts out. -/
theorem ref_v31 (i : S8192x1024.Idx) :
    val_main_v31 (F := Ideal) a.X a.Pre a.Wg a.Wu a.Wd a.Post i = a.out (i 0) (i 1) := by
  rw [val_main_v31_apply, val_main_v30_apply, val_main_v29_apply, val_main_cst_5_apply, val_main_v28_apply, val_main_v27_apply,
    val_main_v26_apply, val_main_v25_apply, ref_v24, ref_v16]; rfl

theorem ref_v32 (i : S8192x1024.Idx) :
    val_main_v32 (F := Ideal) a.X a.Pre a.Wg a.Wu a.Wd a.Post a.Y i = a.err (i 0) (i 1) := by
  rw [val_main_v32_apply, ref_v31]; rfl

/-- The gradient of the loss. -/
theorem ref_v52 (i : S8192x1024.Idx) :
    val_main_v52 (F := Ideal) a.X a.Pre a.Wg a.Wu a.Wd a.Post a.Y i = a.dy (i 0) (i 1) := by
  simp only [val_main_v52_apply, val_main_v51_apply, val_main_v50_apply, val_main_v49_apply, val_main_v48_apply, val_main_v47_apply,
    val_main_v46_apply, val_main_cst_12_apply, val_main_cst_13_apply, val_main_cst_14_apply, val_main_v35_apply, val_main_v34_apply,
    val_main_cst_6_apply, ref_v32, Ideal.ofBits_def, Ideal.mulf_def, Ideal.hostDivf_def]
  exact slope_mul _

/-- Half the mean of a row's squares. -/
theorem ref_v40 (i : S8192.Idx) : val_main_v40 (F := Ideal) a.X a.Pre a.Wg a.Wu a.Wd a.Post a.Y i
    = weight * ∑ d, a.err (i 0) d * a.err (i 0) d := by
  simp only [val_main_v40_apply, val_main_v39_apply, val_main_cst_9_apply, val_main_v38_apply, val_main_v37_apply, val_main_cst_8_apply,
    val_main_v36_apply, val_main_cst_7_apply, val_main_v33_apply, ref_v32, Ideal.ofBits_def, Ideal.mulf_def, Ideal.hostDivf_def,
    Ideal.ofBits_zero_f32, zero_add]
  exact weight_mul _

/-- The parts of the loss. -/
theorem ref_v45 (i : S16x8x128.Idx) :
    val_main_v45 (F := Ideal) a.X a.Pre a.Wg a.Wu a.Wd a.Post a.Y i = a.loss (i 0) := by
  simp only [val_main_v45_apply, val_main_v44_apply, val_main_v42_apply, val_main_cst_10_apply, val_main_v41_apply, ref_v40,
    Ideal.ofBits_def, Ideal.ofBits_zero_f32, zero_add]
  unfold loss
  rw [weight_eq, ← weight_sum _ _ (by norm_num)]
  rfl

theorem ref_v53 (i : S8192x1024.Idx) : val_main_v53 (F := Ideal) a.X a.Pre i = a.n (i 0) (i 1) :=
  (val_main_v53_apply ..).trans (a.ref_v11 i)

/-- A column by its shard. -/
theorem at_v54 (i : S8192x4x704.Idx) : idx_main_v54 i = ix2 (i 0) (col (i 1) (i 2)) := by
  have h1 : (i 1).val < 4 := (i 1).isLt
  have h2 : (i 2).val < 704 := (i 2).isLt
  refine same2 ?_ ?_
  · show (((i 0).val * 4 + (i 1).val) * 704 + (i 2).val) / 2816 = (i 0).val
    omega
  · show (((i 0).val * 4 + (i 1).val) * 704 + (i 2).val) % 2816 = (i 1).val * 704 + (i 2).val
    omega

theorem ref_v56 (i : S4x8192x704.Idx) :
    val_main_v56 (F := Ideal) a.X a.Pre a.Wg i = a.gate (i 1) (col (i 0) (i 2)) := by
  refine (val_main_v56_apply ..).trans ?_
  rw [val_main_v55_apply, val_main_v54_apply, at_v54]
  exact a.ref_v12 _

theorem ref_v59 (i : S4x8192x704.Idx) :
    val_main_v59 (F := Ideal) a.X a.Pre a.Wu i = a.up (i 1) (col (i 0) (i 2)) := by
  refine (val_main_v59_apply ..).trans ?_
  rw [val_main_v58_apply, val_main_v57_apply]
  exact (congrArg _ (at_v54 _)).trans (a.ref_v13 _)

end Args

end Cert.Fwd
-- ==== Proof.FwdTiles.lean ====
/- The forward call's operations on tiles. A tile is a block of 512 rows of an array: `B` all 1024 columns, `S` (and `S3`,
   with a leading axis of size one) the 704 columns of one shard, `C` one number per row; `W` (and `W3`) is one shard's
   704 columns of a weight, transposed. Each operation takes tiles to tiles, whatever the values. -/
module

public import proofs.«01_k».proof.Proof.Gen.ForwardIdeal.Value
public import proofs.«01_k».proof.Proof.FwdRef

@[expose] public section

set_option maxRecDepth 16384

noncomputable section

namespace Cert.Fwd

open Idealize.ShloMosaic Cert.ForwardIdeal Cert.ForwardIdeal.Gen

variable {φ ψ : FTy} (q : Fin 16) (s : Fin 4)

def B (g : Fin 8192 → Fin 1024 → EReal) : FVec Ideal S512x1024 φ := fun i => g (row q (i 0)) (i 1)
def B3 (g : Fin 8192 → Fin 1024 → EReal) : FVec Ideal S1x512x1024 φ := fun i => g (row q (i 1)) (i 2)
def S (g : Fin 8192 → Fin 2816 → EReal) : FVec Ideal S512x704 φ := fun i => g (row q (i 0)) (col s (i 1))
def S3 (g : Fin 8192 → Fin 2816 → EReal) : FVec Ideal S1x512x704 φ := fun i => g (row q (i 1)) (col s (i 2))
def C (g : Fin 8192 → EReal) : FVec Ideal S512x1 φ := fun i => g (row q (i 0))
def C1 (g : Fin 8192 → EReal) : FVec Ideal S512 φ := fun i => g (row q (i 0))
def W (w : Fin 2816 → Fin 1024 → EReal) : FVec Ideal S704x1024 φ := fun i => w (col s (i 0)) (i 1)
def W3 (w : Fin 2816 → Fin 1024 → EReal) : FVec Ideal S1x704x1024 φ := fun i => w (col s (i 1)) (i 2)
/-- A row vector. -/
def P (g : Fin 1024 → EReal) : FVec Ideal S1x1024 φ := fun i => g (i 1)
/-- One number everywhere. -/
def K (s : Shape) (c : EReal) : FVec Ideal s φ := fun _ => c

variable (f g : Fin 8192 → Fin 1024 → EReal) (u v : Fin 8192 → Fin 2816 → EReal) (k l : Fin 8192 → EReal) (p : Fin 1024 → EReal)
  (w : Fin 2816 → Fin 1024 → EReal) (c : EReal)

theorem broadcast_K (s : Shape) (b : BitVec 32) : broadcast s (Scalar.ofBits (F := Ideal) .f32 b) = K s (Ideal.ofBits .f32 b) := rfl
theorem constant_K (s : Shape) (b : BitVec 32) : constant (F := Ideal) s .f32 b = K s (Ideal.ofBits .f32 b) := rfl

/-! ### Elementwise operations -/

theorem mul_B : mulf (B (φ := φ) q f) (B q g) = B q fun t d => f t d * g t d := rfl
theorem mul_S : mulf (S (φ := φ) q s u) (S q s v) = S q s fun t j => u t j * v t j := rfl
theorem add_B : addf (B (φ := φ) q f) (B q g) = B q fun t d => f t d + g t d := rfl
theorem sub_B : subf (B (φ := φ) q f) (B q g) = B q fun t d => f t d - g t d := rfl
theorem mul_KB : mulf (K S512x1024 c) (B (φ := φ) q f) = B q fun t d => c * f t d := rfl
theorem mul_BK : mulf (B (φ := φ) q f) (K S512x1024 c) = B q fun t d => f t d * c := rfl
theorem add_KB : addf (K S512x1024 c) (B (φ := φ) q f) = B q fun t d => c + f t d := rfl
theorem mul_KS : mulf (K S512x704 c) (S (φ := φ) q s u) = S q s fun t j => c * u t j := rfl
theorem add_SK : addf (S (φ := φ) q s u) (K S512x704 c) = S q s fun t j => u t j + c := rfl
theorem add_CK : addf (C (φ := φ) q k) (K S512x1 c) = C q fun t => k t + c := rfl
theorem div_C : divf (C (φ := φ) q k) (K S512x1 c) = C q fun t => Ideal.div (k t) c := rfl
theorem rsqrt_C : rsqrt (C (φ := φ) q k) = C q fun t => Ideal.rsqrt (k t) := rfl
theorem tanh_S : tanh (S (φ := φ) q s u) = S q s fun t j => Ideal.tanh (u t j) := rfl
theorem trunc_B (h) : truncf (φ := φ) ψ (B q f) h = B q f := rfl
theorem trunc_S (h) : truncf (φ := φ) ψ (S q s u) h = S q s u := rfl

/-! ### Layout -/

theorem cast_S3 (h) : shapeCast S1x512x704 (S (φ := φ) q s u) h = S3 q s u := by funext i; pointwise [S3, S]
theorem cast_B3 (h) : shapeCast S1x512x1024 (B (φ := φ) q f) h = B3 q f := by funext i; pointwise [B3, B]
theorem cast_W (h) : shapeCast S704x1024 (W3 (φ := φ) s w) h = W s w := by funext i; pointwise [W3, W]
theorem cast_C (h) : shapeCast S512x1 (C1 (φ := φ) q k) h = C q k := by funext i; pointwise [C, C1]
theorem rows_C (h) : broadcastTo S512x1024 (C (φ := φ) q k) h = B q fun t _ => k t := by funext i; pointwise [C, B]
theorem rows_P (h) : broadcastTo S512x1024 (P (φ := φ) p) h = B q fun _ d => p d := by funext i; pointwise [P, B]

/-! ### Sums and products -/

theorem sum_rows (h h' h'') : multiReduction .add [1] S512 (B (φ := .f32) q f) 0x00000000#32 h h' h''
    = C1 q fun t => ∑ d, f t d := by
  funext i; pointwise [B, C1]

theorem dot_rows : matmul dot_S512x1024_S704x1024_S512x704_1_1_0_0_n_n none (B (φ := .bf16) q f) (W (φ := .bf16) s w)
    (K (φ := .f32) S512x704 (Ideal.ofBits .f32 0x00000000#32)) = S q s fun t j => ∑ d, f t d * w j d := by
  funext i; pointwise [B, W, K, S]

theorem dot_cols : matmul dot_S512x704_S704x1024_S512x1024_1_0_0_1_n_n none (S (φ := .bf16) q s u) (W (φ := .bf16) s w)
    (K (φ := .f32) S512x1024 (Ideal.ofBits .f32 0x00000000#32)) = B q fun t d => ∑ j, u t (col s j) * w (col s j) d := by
  funext i; pointwise [S, W, K, B]

/-- The sum over a whole block. -/
theorem sum_block (h h' h'' h3 h4) : extractAt ![0, 0, 0] (shapeCast S1x1x1
      (multiReduction .add [1, 2] S1 (B3 (φ := .f32) q f) 0x00000000#32 h h' h'') h3) h4
    = ∑ r, ∑ d, f (row q r) d := by
  pointwise [B3]

end Cert.Fwd
-- ==== Proof.FwdPoint.lean ====
/- What the forward call computes of the tiles at one grid point: each value its body names is a tile of the model. -/
module

public import proofs.«01_k».proof.Proof.FwdTiles

@[expose] public section

set_option maxRecDepth 16384

noncomputable section

namespace Cert.Fwd

open Idealize.ShloMosaic Cert.ForwardIdeal Cert.ForwardIdeal.Gen

variable {φ : FTy} (a : Args) (q : Fin 16) (s : Fin 4) (f : Fin 8192 → Fin 1024 → EReal) (u v : Fin 8192 → Fin 2816 → EReal)

/-! ### Names for what comes out -/

theorem n_tile : B (φ := φ) q (fun t d => a.x t d * Ideal.rsqrt (Ideal.div (∑ d, a.x t d * a.x t d) width + epsilon) * a.pre d)
    = B q a.n := rfl

theorem gate_tile : S (φ := φ) q s (fun t j => ∑ d, a.n t d * a.wg d j) = S q s a.gate := rfl

theorem up_tile : S (φ := φ) q s (fun t j => ∑ d, a.n t d * a.wu d j) = S q s a.up := rfl

theorem act_tile : S (φ := φ) q s (fun t j => a.gate t j * logistic (a.gate t j) * a.up t j) = S q s a.act := rfl

theorem out_tile : B (φ := φ) q (fun t d => a.x t d + half * (a.f t d
      * Ideal.rsqrt (Ideal.div (∑ d, a.f t d * a.f t d) width + epsilon) * a.post d)) = B q a.out := rfl

theorem err_tile : B (φ := φ) q (fun t d => a.out t d - a.y t d) = B q a.err := rfl

theorem dy_tile : B (φ := φ) q (fun t d => a.err t d * slope) = B q a.dy := rfl

/-- A sum over the columns is the four shards' sums. -/
theorem sum_shards (F : Fin 2816 → EReal) : ∑ j, F j = ∑ s, ∑ j, F (col s j) := by
  rw [← Fintype.sum_prod_type' (f := fun s j => F (col s j))]
  refine (Fintype.sum_equiv (finProdFinEquiv (m := 4) (n := 704)) _ _ fun p => congrArg F (Fin.ext ?_)).symm
  simp only [col, finProdFinEquiv_apply_val]
  omega

theorem f_tile : B (φ := φ) q (fun t d => Ideal.ofBits .f32 0x00000000#32 + ∑ j, a.act t (col 0 j) * a.wd (col 0 j) d
      + ∑ j, a.act t (col 1 j) * a.wd (col 1 j) d + ∑ j, a.act t (col 2 j) * a.wd (col 2 j) d
      + ∑ j, a.act t (col 3 j) * a.wd (col 3 j) d) = B q a.f := by
  refine congrArg (B q) (funext₂ fun t d => ?_)
  unfold Args.f
  rw [sum_shards, Fin.sum_univ_four, Ideal.ofBits_zero_f32, zero_add]

/-! ### The body's values -/

set_option backward.isDefEq.respectTransparency false

/-- The normed rows. -/
theorem pay5 : k0_pay5 (F := Ideal) (B (φ := .f32) q a.x) (P (φ := .f32) a.pre) = B (φ := .bf16) q a.n := by
  simp only [k0_pay5, broadcast_K, mul_B]
  rw [sum_rows, cast_C, div_C, add_CK, rsqrt_C, rows_C, rows_P, mul_B, mul_B, trunc_B, n_tile]

/-- The gate's preactivation, each shard. -/
theorem gate_pay : k0_pay7 (F := Ideal) (B (φ := .f32) q a.x) (P (φ := .f32) a.pre) (W3 (φ := .bf16) s fun j d => a.wg d j)
      = S (φ := .f32) q s a.gate
    ∧ k0_pay12 (F := Ideal) (B (φ := .bf16) q a.n) (W3 (φ := .bf16) s fun j d => a.wg d j) = S (φ := .f32) q s a.gate
    ∧ k0_pay18 (F := Ideal) (B (φ := .bf16) q a.n) (W3 (φ := .bf16) s fun j d => a.wg d j) = S (φ := .f32) q s a.gate
    ∧ k0_pay24 (F := Ideal) (B (φ := .bf16) q a.n) (W3 (φ := .bf16) s fun j d => a.wg d j) = S (φ := .f32) q s a.gate := by
  simp only [k0_pay7, k0_pay12, k0_pay18, k0_pay24, pay5, cast_W, constant_K, dot_rows, gate_tile, and_self]

/-- The other factor, each shard. -/
theorem up_pay : k0_pay8 (F := Ideal) (B (φ := .f32) q a.x) (P (φ := .f32) a.pre) (W3 (φ := .bf16) s fun j d => a.wu d j)
      = S (φ := .f32) q s a.up
    ∧ k0_pay13 (F := Ideal) (B (φ := .bf16) q a.n) (W3 (φ := .bf16) s fun j d => a.wu d j) = S (φ := .f32) q s a.up
    ∧ k0_pay19 (F := Ideal) (B (φ := .bf16) q a.n) (W3 (φ := .bf16) s fun j d => a.wu d j) = S (φ := .f32) q s a.up
    ∧ k0_pay25 (F := Ideal) (B (φ := .bf16) q a.n) (W3 (φ := .bf16) s fun j d => a.wu d j) = S (φ := .f32) q s a.up := by
  simp only [k0_pay8, k0_pay13, k0_pay19, k0_pay25, pay5, cast_W, constant_K, dot_rows, up_tile, and_self]

/-- What is kept of the gate's preactivation, each shard. -/
theorem kept_gate : k0_pay9 (F := Ideal) (B (φ := .f32) q a.x) (P (φ := .f32) a.pre) (W3 (φ := .bf16) s fun j d => a.wg d j)
      = S3 (φ := .bf16) q s a.gate
    ∧ k0_pay14 (F := Ideal) (B (φ := .bf16) q a.n) (W3 (φ := .bf16) s fun j d => a.wg d j) = S3 (φ := .bf16) q s a.gate
    ∧ k0_pay20 (F := Ideal) (B (φ := .bf16) q a.n) (W3 (φ := .bf16) s fun j d => a.wg d j) = S3 (φ := .bf16) q s a.gate
    ∧ k0_pay26 (F := Ideal) (B (φ := .bf16) q a.n) (W3 (φ := .bf16) s fun j d => a.wg d j) = S3 (φ := .bf16) q s a.gate := by
  simp only [k0_pay9, k0_pay14, k0_pay20, k0_pay26, gate_pay, trunc_S, cast_S3, and_self]

/-- What is kept of the other factor, each shard. -/
theorem kept_up : k0_pay10 (F := Ideal) (B (φ := .f32) q a.x) (P (φ := .f32) a.pre) (W3 (φ := .bf16) s fun j d => a.wu d j)
      = S3 (φ := .bf16) q s a.up
    ∧ k0_pay15 (F := Ideal) (B (φ := .bf16) q a.n) (W3 (φ := .bf16) s fun j d => a.wu d j) = S3 (φ := .bf16) q s a.up
    ∧ k0_pay21 (F := Ideal) (B (φ := .bf16) q a.n) (W3 (φ := .bf16) s fun j d => a.wu d j) = S3 (φ := .bf16) q s a.up
    ∧ k0_pay27 (F := Ideal) (B (φ := .bf16) q a.n) (W3 (φ := .bf16) s fun j d => a.wu d j) = S3 (φ := .bf16) q s a.up := by
  simp only [k0_pay10, k0_pay15, k0_pay21, k0_pay27, up_pay, trunc_S, cast_S3, and_self]

/-- The rows the second norm takes, gathered over the four shards. -/
theorem f_pay : k0_pay28 (F := Ideal) (B (φ := .bf16) q a.n)
      (k0_pay17
        (k0_pay11 k0_pay6 (S (φ := .f32) q 0 a.gate) (S (φ := .f32) q 0 a.up) (Scalar.ofBits .f32 0x3F000000#32)
          (W3 (φ := .bf16) 0 a.wd))
        (S (φ := .f32) q 1 a.gate) (S (φ := .f32) q 1 a.up)
        (k0_pay16 (B (φ := .bf16) q a.n) (W3 (φ := .bf16) 1 fun j d => a.wg d j)) (W3 (φ := .bf16) 1 a.wd))
      (k0_pay22 (B (φ := .bf16) q a.n) (W3 (φ := .bf16) 2 fun j d => a.wg d j) (W3 (φ := .bf16) 2 fun j d => a.wu d j))
      (k0_pay23 (W3 (φ := .bf16) 2 a.wd)) (constant S512x1024 .f32 0x00000000#32)
      (W3 (φ := .bf16) 3 fun j d => a.wg d j) (W3 (φ := .bf16) 3 fun j d => a.wu d j) (W3 (φ := .bf16) 3 a.wd)
    = B (φ := .f32) q a.f := by
  simp only [k0_pay28, k0_pay17, k0_pay11, k0_pay6, k0_pay16, k0_pay22, k0_pay23, gate_pay, up_pay, cast_W, broadcast_K, constant_K,
    mul_KS, tanh_S, add_SK, mul_S, logistic_tanh, trunc_S, act_tile, dot_cols, add_KB, add_B, f_tile]

/-- What the step puts out. -/
theorem pay1 : k0_pay1 (F := Ideal) (B (φ := .f32) q a.x) (B (φ := .f32) q a.f) (C1 (φ := .f32) q fun t => ∑ d, a.f t d * a.f t d)
    (P (φ := .f32) a.post) = B (φ := .f32) q a.out := by
  simp only [k0_pay1, broadcast_K]
  rw [cast_C, div_C, add_CK, rsqrt_C, rows_C, rows_P, mul_B, mul_B, mul_KB, add_B, out_tile]

/-- The gradient of the loss in it. -/
theorem pay3 : k0_pay3 (F := Ideal) (B (φ := .f32) q a.x) (B (φ := .f32) q a.f) (C1 (φ := .f32) q fun t => ∑ d, a.f t d * a.f t d)
    (P (φ := .f32) a.post) (B (φ := .f32) q a.y) = B (φ := .f32) q a.dy := by
  simp only [k0_pay3, k0_pay2, pay1, broadcast_K]
  rw [sub_B, err_tile, mul_BK, dy_tile]

/-- The block's part of the loss, in every place. -/
theorem pay4 : k0_pay4 (F := Ideal) (B (φ := .f32) q a.x) (B (φ := .f32) q a.f) (C1 (φ := .f32) q fun t => ∑ d, a.f t d * a.f t d)
    (P (φ := .f32) a.post) (B (φ := .f32) q a.y) = K S1x8x128 (a.loss q) := by
  simp only [k0_pay4, k0_pay2, pay1, broadcast_K]
  rw [sub_B, err_tile, mul_B, cast_B3, sum_block]
  rfl

end Cert.Fwd
-- ==== Proof.FwdOut.lean ====
/- What the forward call writes at a grid point, when its blocks of the arguments are tiles of the model. -/
module

public import proofs.«01_k».proof.Proof.FwdPoint

@[expose] public section

set_option maxRecDepth 16384

noncomputable section

namespace Cert.Fwd

open Idealize.ShloMosaic Idealize.ShloMosaic.TcCoe Idealize.SL.Sem
open Cert.ForwardIdeal Cert.ForwardIdeal.Gen

/-- A statement of each shard, at the four shards' offsets. -/
theorem four {Q : Fin 4 → ℕ → Prop} (H : ∀ (s : Fin 4) (n : ℕ), s.val = n → Q s n) : Q 0 0 ∧ Q 1 1 ∧ Q 2 2 ∧ Q 3 3 :=
  ⟨H 0 0 rfl, H 1 1 rfl, H 2 2 rfl, H 3 3 rfl⟩

/-- A block of rows of the four shards. -/
def A4 {φ : FTy} (q : Fin 16) (g : Fin 8192 → Fin 2816 → EReal) : FVec Ideal S4x512x704 φ :=
  fun i => g (row q (i 1)) (col (i 0) (i 2))

theorem read_B {φ : FTy} (q : Fin 16) (g : Fin 8192 → Fin 1024 → EReal) (y : S512x1024.Idx) (i : S8192x1024.Idx)
    (h0 : (i 0).val = q.val * 512 + (y 0).val) (h1 : (i 1).val = (y 1).val) : B (φ := φ) q g y = g (i 0) (i 1) := by
  have e0 : row q (y 0) = i 0 := Fin.ext h0.symm
  have e1 : y 1 = i 1 := Fin.ext h1.symm
  unfold B
  rw [e0, e1]

theorem read_A4 {φ : FTy} (q : Fin 16) (g : Fin 8192 → Fin 2816 → EReal) (y : S4x512x704.Idx) (i : S4x8192x704.Idx)
    (h0 : (i 0).val = (y 0).val) (h1 : (i 1).val = q.val * 512 + (y 1).val) (h2 : (i 2).val = (y 2).val) :
    A4 (φ := φ) q g y = g (i 1) (col (i 0) (i 2)) := by
  have e0 : y 0 = i 0 := Fin.ext h0.symm
  have e1 : row q (y 1) = i 1 := Fin.ext h1.symm
  have e2 : y 2 = i 2 := Fin.ext h2.symm
  unfold A4
  rw [e0, e1, e2]

theorem read_S3 {φ : FTy} (q : Fin 16) (s : Fin 4) (g : Fin 8192 → Fin 2816 → EReal) (x : S1x512x704.Idx) (y : S4x512x704.Idx)
    (h0 : (y 0).val = s.val) (h1 : (y 1).val = (x 1).val) (h2 : (y 2).val = (x 2).val) :
    S3 (φ := φ) q s g x = A4 (φ := φ) q g y := by
  have e0 : y 0 = s := Fin.ext h0
  have e1 : y 1 = x 1 := Fin.ext h1
  have e2 : y 2 = x 2 := Fin.ext h2
  unfold S3 A4
  rw [e0, e1, e2]

theorem canon_four (q : Fin 16) (g : Fin 8192 → Fin 2816 → EReal) :
    View.canon (Val := Elt Ideal) (s := S4x512x704) (e := .bf16)
      [⟨Rect.unit ![3, 0, 0] ![1, 512, 704] inb_S4x512x704_S1x512x704_3_0_0, S3 (φ := .bf16) q 3 g⟩,
      ⟨Rect.unit ![2, 0, 0] ![1, 512, 704] inb_S4x512x704_S1x512x704_2_0_0, S3 (φ := .bf16) q 2 g⟩,
      ⟨Rect.unit ![1, 0, 0] ![1, 512, 704] inb_S4x512x704_S1x512x704_1_0_0, S3 (φ := .bf16) q 1 g⟩,
      ⟨Rect.unit ![0, 0, 0] ![1, 512, 704] inb_S4x512x704_S1x512x704_0_0_0, S3 (φ := .bf16) q 0 g⟩] = A4 (φ := .bf16) q g := by
  funext y
  canon_tiles x hx <;> refine read_S3 _ _ _ _ _ ?_ ?_ ?_ <;> dsimp only <;> omega

/-- A point's blocks of the arguments are tiles of the model: the rows, the norms' weights and the three weights' shards. -/
structure Tiles (a : Args) (q : Fin 16) (x0 : Vec Ideal S512x1024 .f32) (x1 : Vec Ideal S1x1024 .f32)
    (x2 x3 x4 : Vec Ideal S4x704x1024 .bf16) (x5 : Vec Ideal S1x1024 .f32) : Prop where
  x : x0 = B (φ := .f32) q a.x
  pre : x1 = P (φ := .f32) a.pre
  wg (s : Fin 4) (n : ℕ) (hn : s.val = n) (b) :
    View.ld x2 (Rect.unit (s := S4x704x1024) ![n, 0, 0] ![1, 704, 1024] b) = W3 (φ := .bf16) s fun j d => a.wg d j
  wu (s : Fin 4) (n : ℕ) (hn : s.val = n) (b) :
    View.ld x3 (Rect.unit (s := S4x704x1024) ![n, 0, 0] ![1, 704, 1024] b) = W3 (φ := .bf16) s fun j d => a.wu d j
  wd (s : Fin 4) (n : ℕ) (hn : s.val = n) (b) :
    View.ld x4 (Rect.unit (s := S4x704x1024) ![n, 0, 0] ![1, 704, 1024] b) = W3 (φ := .bf16) s a.wd
  post : x5 = P (φ := .f32) a.post

variable {a : Args} {q : Fin 16} {x0 : Vec Ideal S512x1024 .f32} {x1 : Vec Ideal S1x1024 .f32}
  {x2 x3 x4 : Vec Ideal S4x704x1024 .bf16} {x5 : Vec Ideal S1x1024 .f32} (h : Tiles a q x0 x1 x2 x3 x4 x5) (x6 : Vec Ideal S512x1024 .f32)
include h

/-! ### What a grid point writes -/

theorem val_n : k0_pay30 x0 x1 x2 x3 x4 x5 x6
    = B (φ := .bf16) q a.n := by
  unfold k0_pay30
  frame_out
  simp only [h.x, h.pre, pay5]

theorem val_f : k0_pay35 x0 x1 x2 x3 x4 x5 x6
    = B (φ := .f32) q a.f := by
  unfold k0_pay35 k0_pay34 k0_pay33 k0_pay32 k0_pay31
  rw [val_n h x6]
  frame_out
  simp only [h.x, h.pre, four h.wg, four h.wu, four h.wd, gate_pay, up_pay, f_pay]

theorem val_sq : k0_pay36 x0 x1 x2 x3 x4 x5 x6
    = C1 (φ := .f32) q fun t => ∑ d, a.f t d * a.f t d := by
  have e := val_f h x6
  unfold k0_pay35 at e
  unfold k0_pay36 k0_pay29
  rw [e, mul_B]
  exact sum_rows _ _ _ _ _

theorem out_7 : out0_7 x0 x1 x2 x3 x4 x5 x6
    = B (φ := .f32) q a.out := by
  unfold out0_7
  rw [val_f h x6, val_sq h x6]
  frame_out
  simp only [h.x, h.post, pay1]

theorem out_8 : out0_8 x0 x1 x2 x3 x4 x5 x6
    = B (φ := .bf16) q a.n := by
  unfold out0_8
  frame_out
  simp only [h.x, h.pre, pay5]

theorem out_9 : out0_9 x0 x1 x2 x3 x4 x5 x6
    = A4 (φ := .bf16) q a.gate := by
  unfold out0_9
  rw [val_n h x6]
  frame_out
  simp only [h.x, h.pre, four h.wg, kept_gate]
  exact canon_four _ _

theorem out_10 : out0_10 x0 x1 x2 x3 x4 x5 x6
    = A4 (φ := .bf16) q a.up := by
  unfold out0_10
  rw [val_n h x6]
  frame_out
  simp only [h.x, h.pre, four h.wu, kept_up]
  exact canon_four _ _

theorem out_11 : out0_11 x0 x1 x2 x3 x4 x5 x6
    = B (φ := .f32) q a.f := by
  refine Eq.trans ?_ (val_f h x6)
  unfold out0_11 k0_pay35
  frame_out

theorem out_12 (hy : x6 = B (φ := .f32) q a.y) : out0_12 x0 x1 x2 x3 x4 x5 x6
    = B (φ := .f32) q a.dy := by
  unfold out0_12
  rw [val_f h x6, val_sq h x6]
  frame_out
  simp only [h.x, h.post, hy, pay3]

theorem out_13 (hy : x6 = B (φ := .f32) q a.y) : out0_13 x0 x1 x2 x3 x4 x5 x6
    = K (φ := .f32) S1x8x128 (a.loss q) := by
  unfold out0_13
  rw [val_f h x6, val_sq h x6]
  frame_out
  simp only [h.x, h.post, hy, pay4]

end Cert.Fwd
-- ==== Proof.FwdBlocks.lean ====
/- The launch arguments of the forward call, the packed weights its host operations hand it, and the blocks its windows hold
   at each grid point, as tiles of the model. -/
module

public import proofs.«01_k».proof.Proof.FwdOut

@[expose] public section

set_option maxRecDepth 16384

noncomputable section

namespace Cert.Fwd

open Idealize.ShloMosaic Idealize.ShloMosaic.TcCoe Idealize.SL.Sem
open Cert.ForwardIdeal Cert.ForwardIdeal.Gen

/-- The launch memory holds the arguments `a`. -/
structure Holds (a : Args) (m : (ℓ : Loc nD τ sig) → Buf (Elt Ideal) ℓ) (c : Dev nD) : Prop where
  x : m ((c : Thread nD τ).loc main_arg0) = a.X
  pre : m ((c : Thread nD τ).loc main_arg1) = a.Pre
  wg : m ((c : Thread nD τ).loc main_arg2) = a.Wg
  wu : m ((c : Thread nD τ).loc main_arg3) = a.Wu
  wd : m ((c : Thread nD τ).loc main_arg4) = a.Wd
  post : m ((c : Thread nD τ).loc main_arg5) = a.Post
  y : m ((c : Thread nD τ).loc main_arg6) = a.Y

/-- A weight's columns by shards, transposed. -/
def columns (w : FVec Ideal S1024x2816 .f32) : FVec Ideal S4x704x1024 .f32 :=
  transpose S4x704x1024 [1, 2, 0] (shapeCast S1024x4x704 w shapeCasts_S1024x2816_S1024x4x704) transposes_S1024x4x704_S4x704x1024_1_2_0

/-- The packed weights. -/
def packed (a : Args) : FVec Ideal S4x2112x1024 .bf16 :=
  truncf .bf16 (concatenate S4x2112x1024 1 [⟨S4x704x1024, columns a.Wg⟩, ⟨S4x704x1024, columns a.Wu⟩,
      ⟨S4x704x1024, shapeCast S4x704x1024 (a.Wd : FVec Ideal S2816x1024 .f32) shapeCasts_S2816x1024_S4x704x1024⟩]
      concatenates_S4x704x1024_S4x704x1024_S4x704x1024_S4x2112x1024_d1) bitsLt_bf16_f32

/-! ### The packed weights, element by element -/

theorem packed_gate (a : Args) (i : S4x2112x1024.Idx) (j : Fin 704) (e : (i 1).val = j.val) :
    packed a i = a.wg (i 2) (col (i 0) j) := by
  unfold packed
  pointwise [columns, Args.Wg]
  rw [dif_pos (by omega)]
  congr 3

theorem packed_up (a : Args) (i : S4x2112x1024.Idx) (j : Fin 704) (e : (i 1).val = 704 + j.val) :
    packed a i = a.wu (i 2) (col (i 0) j) := by
  unfold packed
  pointwise [columns, Args.Wu]
  rw [dif_neg (by omega), dif_pos (by omega)]
  congr 3
  simp only [e]
  omega

theorem packed_down (a : Args) (i : S4x2112x1024.Idx) (j : Fin 704) (e : (i 1).val = 1408 + j.val) :
    packed a i = a.wd (col (i 0) j) (i 2) := by
  unfold packed
  pointwise [columns, Args.Wd]
  rw [dif_neg (by omega), dif_neg (by omega)]
  congr 3
  simp only [e]
  omega

/-- Where element `i` of shard `n` of a block of the packed weights lies. -/
theorem shard_val (n) (b) (i : S1x704x1024.Idx) :
    ((Rect.unit (s := S4x704x1024) ![n, 0, 0] ![1, 704, 1024] b).idx i 0).val = n + (i 0).val
    ∧ ((Rect.unit (s := S4x704x1024) ![n, 0, 0] ![1, 704, 1024] b).idx i 1).val = 0 + (i 1).val
    ∧ ((Rect.unit (s := S4x704x1024) ![n, 0, 0] ![1, 704, 1024] b).idx i 2).val = 0 + (i 2).val :=
  ⟨Rect.idx_unit_val (s := S4x704x1024) _ _ b i 0, Rect.idx_unit_val (s := S4x704x1024) _ _ b i 1,
    Rect.idx_unit_val (s := S4x704x1024) _ _ b i 2⟩

/-- Every window's block index at every grid point. -/
theorem idx_val : ∀ t : Fin cfg0.N, win0_0.index t = ![t.val, 0]
    ∧ win0_1.index t = ![0, 0]
    ∧ win0_2.index t = ![0, 0, 0]
    ∧ win0_3.index t = ![0, 1, 0]
    ∧ win0_4.index t = ![0, 2, 0]
    ∧ win0_5.index t = ![0, 0]
    ∧ win0_6.index t = ![t.val, 0]
    ∧ win0_7.index t = ![t.val, 0]
    ∧ win0_8.index t = ![t.val, 0]
    ∧ win0_9.index t = ![0, t.val, 0]
    ∧ win0_10.index t = ![0, t.val, 0]
    ∧ win0_11.index t = ![t.val, 0]
    ∧ win0_12.index t = ![t.val, 0]
    ∧ win0_13.index t = ![t.val, 0, 0] :=
  (by decide +kernel : ∀ t : Fin grid0.N, _)

/-- The block of rows a grid point works on. -/
def blk (t : Fin cfg0.N) : Fin 16 := ⟨t.val, t.isLt.trans_eq N_0⟩

variable {a : Args} {m : (ℓ : Loc nD τ sig) → Buf (Elt Ideal) ℓ} {c : Dev nD} (h : Holds a m c) (t : Fin cfg0.N)
include h

theorem host_v6 : V m c main_v6 = packed a := by
  unfold packed
  rw [← h.wg, ← h.wu, ← h.wd]
  unfold V
  simp only [hostOps0, List.flatten_cons, List.flatten_nil, List.append_nil, List.cons_append, List.nil_append]
  after_results
  rfl

/-! ### The blocks -/

theorem iblk_x : iblk m c 0 t = B (φ := .f32) (blk t) a.x := by
  funext i
  have e := (idx_val t).1
  blk_simp [iblk]
  rw [V_main_arg0, h.x]
  refine congrArg₂ a.x (Fin.ext ?_) (Fin.ext ?_) <;> blk_simp [e, row, blk]

theorem iblk_y : iblk m c 6 t = B (φ := .f32) (blk t) a.y := by
  funext i
  have e := (idx_val t).2.2.2.2.2.2.1
  blk_simp [iblk]
  rw [V_main_arg6, h.y]
  refine congrArg₂ a.y (Fin.ext ?_) (Fin.ext ?_) <;> blk_simp [e, row, blk]

theorem iblk_pre : iblk m c 1 t = P (φ := .f32) a.pre := by
  funext i
  have e := (idx_val t).2.1
  blk_simp [iblk]
  rw [V_main_arg1, h.pre]
  unfold Args.Pre P
  refine congrArg a.pre (Fin.ext ?_) <;> blk_simp [e]

theorem iblk_post : iblk m c 5 t = P (φ := .f32) a.post := by
  funext i
  have e := (idx_val t).2.2.2.2.2.1
  blk_simp [iblk]
  rw [V_main_arg5, h.post]
  unfold Args.Post P
  refine congrArg a.post (Fin.ext ?_) <;> blk_simp [e]

/-- Shard `s` of the gate's weight. -/
theorem iblk_wg (s : Fin 4) (n) (hn : s.val = n) (b) :
    View.ld (iblk m c 2 t) (Rect.unit (s := S4x704x1024) ![n, 0, 0] ![1, 704, 1024] b) = W3 (φ := .bf16) s fun j d => a.wg d j := by
  funext i
  have e := (idx_val t).2.2.1
  have z : (i 0).val < 1 := (i 0).isLt
  obtain ⟨z0, z1, z2⟩ := shard_val n b i
  rw [View.ld_apply]
  blk_simp [iblk]
  rw [host_v6 h]
  refine (packed_gate a _ (i 1) ?_).trans ?_
  · blk_simp [e, z1] <;> omega
  refine congrArg₂ a.wg (Fin.ext ?_) (Fin.ext ?_) <;> blk_simp [e, col, z0, z2] <;> dsimp only <;> omega

/-- Shard `s` of the other factor's weight. -/
theorem iblk_wu (s : Fin 4) (n) (hn : s.val = n) (b) :
    View.ld (iblk m c 3 t) (Rect.unit (s := S4x704x1024) ![n, 0, 0] ![1, 704, 1024] b) = W3 (φ := .bf16) s fun j d => a.wu d j := by
  funext i
  have e := (idx_val t).2.2.2.1
  have z : (i 0).val < 1 := (i 0).isLt
  obtain ⟨z0, z1, z2⟩ := shard_val n b i
  rw [View.ld_apply]
  blk_simp [iblk]
  rw [host_v6 h]
  refine (packed_up a _ (i 1) ?_).trans ?_
  · blk_simp [e, z1] <;> omega
  refine congrArg₂ a.wu (Fin.ext ?_) (Fin.ext ?_) <;> blk_simp [e, col, z0, z2] <;> dsimp only <;> omega

/-- Shard `s` of the last weight. -/
theorem iblk_wd (s : Fin 4) (n) (hn : s.val = n) (b) :
    View.ld (iblk m c 4 t) (Rect.unit (s := S4x704x1024) ![n, 0, 0] ![1, 704, 1024] b) = W3 (φ := .bf16) s a.wd := by
  funext i
  have e := (idx_val t).2.2.2.2.1
  have z : (i 0).val < 1 := (i 0).isLt
  obtain ⟨z0, z1, z2⟩ := shard_val n b i
  rw [View.ld_apply]
  blk_simp [iblk]
  rw [host_v6 h]
  refine (packed_down a _ (i 1) ?_).trans ?_
  · blk_simp [e, z1] <;> omega
  refine congrArg₂ a.wd (Fin.ext ?_) (Fin.ext ?_) <;> blk_simp [e, col, z0, z2] <;> dsimp only <;> omega

/-- The blocks are tiles of the model. -/
theorem tiles : Tiles a (blk t) (iblk m c 0 t) (iblk m c 1 t) (iblk m c 2 t) (iblk m c 3 t) (iblk m c 4 t) (iblk m c 5 t) :=
  ⟨iblk_x h t, iblk_pre h t, iblk_wg h t, iblk_wu h t, iblk_wd h t, iblk_post h t⟩

end Cert.Fwd
-- ==== Proof.FwdFinal.lean ====
/- The arrays the forward call leaves: each is the model's array. -/
module

public import proofs.«01_k».proof.Proof.FwdBlocks

@[expose] public section

set_option maxRecDepth 16384

noncomputable section

namespace Cert.Fwd

open Idealize.ShloMosaic Idealize.ShloMosaic.TcCoe Idealize.SL.Sem
open Cert.ForwardIdeal Cert.ForwardIdeal.Gen

variable {a : Args} {m : (ℓ : Loc nD τ sig) → Buf (Elt Ideal) ℓ} {c : Dev nD} (h : Holds a m c) (t : Fin cfg0.N)
include h

theorem final_7 : (dats m 0 c).arrAt 7 cfg0.N = (fun i => a.out (i 0) (i 1) : FVec Ideal S8192x1024 .f32) := by
  refine (dats m 0 c).arrAt_eq_of_covers 7 _ (by decide +kernel) fun t hf y => ?_
  have i := (idx_val t).2.2.2.2.2.2.2.1
  blk_simp; rw [after0_7, out_7 (tiles h t)]
  refine read_B _ _ _ _ ?_ ?_ <;> blk_simp [i, blk]

theorem final_8 : (dats m 0 c).arrAt 8 cfg0.N = (fun i => a.n (i 0) (i 1) : FVec Ideal S8192x1024 .bf16) := by
  refine (dats m 0 c).arrAt_eq_of_covers 8 _ (by decide +kernel) fun t hf y => ?_
  have i := (idx_val t).2.2.2.2.2.2.2.2.1
  blk_simp; rw [after0_8, out_8 (tiles h t)]
  refine read_B _ _ _ _ ?_ ?_ <;> blk_simp [i, blk]

theorem final_9 : (dats m 0 c).arrAt 9 cfg0.N = (fun i => a.gate (i 1) (col (i 0) (i 2)) : FVec Ideal S4x8192x704 .bf16) := by
  refine (dats m 0 c).arrAt_eq_of_covers 9 _ (by decide +kernel) fun t hf y => ?_
  have i := (idx_val t).2.2.2.2.2.2.2.2.2.1
  blk_simp; rw [after0_9, out_9 (tiles h t)]
  refine read_A4 _ _ _ _ ?_ ?_ ?_ <;> blk_simp [i, blk]

theorem final_10 : (dats m 0 c).arrAt 10 cfg0.N = (fun i => a.up (i 1) (col (i 0) (i 2)) : FVec Ideal S4x8192x704 .bf16) := by
  refine (dats m 0 c).arrAt_eq_of_covers 10 _ (by decide +kernel) fun t hf y => ?_
  have i := (idx_val t).2.2.2.2.2.2.2.2.2.2.1
  blk_simp; rw [after0_10, out_10 (tiles h t)]
  refine read_A4 _ _ _ _ ?_ ?_ ?_ <;> blk_simp [i, blk]

theorem final_11 : (dats m 0 c).arrAt 11 cfg0.N = (fun i => a.f (i 0) (i 1) : FVec Ideal S8192x1024 .f32) := by
  refine (dats m 0 c).arrAt_eq_of_covers 11 _ (by decide +kernel) fun t hf y => ?_
  have i := (idx_val t).2.2.2.2.2.2.2.2.2.2.2.1
  blk_simp; rw [after0_11, out_11 (tiles h t)]
  refine read_B _ _ _ _ ?_ ?_ <;> blk_simp [i, blk]

theorem final_12 : (dats m 0 c).arrAt 12 cfg0.N = (fun i => a.dy (i 0) (i 1) : FVec Ideal S8192x1024 .f32) := by
  refine (dats m 0 c).arrAt_eq_of_covers 12 _ (by decide +kernel) fun t hf y => ?_
  have i := (idx_val t).2.2.2.2.2.2.2.2.2.2.2.2.1
  blk_simp; rw [after0_12, out_12 (tiles h t) _ (iblk_y h t)]
  refine read_B _ _ _ _ ?_ ?_ <;> blk_simp [i, blk]

theorem final_13 : (dats m 0 c).arrAt 13 cfg0.N = (fun i => a.loss (i 0) : FVec Ideal S16x8x128 .f32) := by
  refine (dats m 0 c).arrAt_eq_of_covers 13 _ (by decide +kernel) fun t hf y => ?_
  have i := (idx_val t).2.2.2.2.2.2.2.2.2.2.2.2.2
  have z : (y 0).val < 1 := (y 0).isLt
  blk_simp; rw [after0_13, out_13 (tiles h t) _ (iblk_y h t)]
  unfold K
  refine congrArg a.loss (Fin.ext ?_)
  blk_simp [i, blk]

end Cert.Fwd
-- ==== Proof.FwdClaim.lean ====
/- The claims about the forward call. -/
module

public import proofs.«01_k».proof.Defs
public import Idealize.ShloMosaic.Adequacy
public import Idealize.ShloMosaic.Init
public import proofs.«01_k».proof.Proof.Gen.ForwardIdeal.Value
public import proofs.«01_k».proof.Proof.Gen.ForwardRefIdeal.Run
public import proofs.«01_k».proof.Proof.Gen.ForwardRefIdeal.Read
public import proofs.«01_k».proof.Proof.FwdFinal

@[expose] public section

set_option maxRecDepth 16384

noncomputable section

namespace Cert.Fwd

open Idealize.ShloMosaic Idealize.ShloMosaic.TcCoe Idealize.SL.Sem

/-- The arguments a launch memory holds. -/
def args (m : (ℓ : Loc ForwardIdeal.nD ForwardIdeal.τ ForwardIdeal.sig) → Buf (Elt Ideal) ℓ) (c : Dev ForwardIdeal.nD) : Args where
  x t d := (m ((c : Thread ForwardIdeal.nD ForwardIdeal.τ).loc ForwardIdeal.main_arg0) : FVec Ideal ForwardIdeal.S8192x1024 .f32) (ix2 t d)
  pre d := (m ((c : Thread ForwardIdeal.nD ForwardIdeal.τ).loc ForwardIdeal.main_arg1) : FVec Ideal ForwardIdeal.S1x1024 .f32) (ix2 0 d)
  wg d j := (m ((c : Thread ForwardIdeal.nD ForwardIdeal.τ).loc ForwardIdeal.main_arg2) : FVec Ideal ForwardIdeal.S1024x2816 .f32) (ix2 d j)
  wu d j := (m ((c : Thread ForwardIdeal.nD ForwardIdeal.τ).loc ForwardIdeal.main_arg3) : FVec Ideal ForwardIdeal.S1024x2816 .f32) (ix2 d j)
  wd j d := (m ((c : Thread ForwardIdeal.nD ForwardIdeal.τ).loc ForwardIdeal.main_arg4) : FVec Ideal ForwardIdeal.S2816x1024 .f32) (ix2 j d)
  post d := (m ((c : Thread ForwardIdeal.nD ForwardIdeal.τ).loc ForwardIdeal.main_arg5) : FVec Ideal ForwardIdeal.S1x1024 .f32) (ix2 0 d)
  y t d := (m ((c : Thread ForwardIdeal.nD ForwardIdeal.τ).loc ForwardIdeal.main_arg6) : FVec Ideal ForwardIdeal.S8192x1024 .f32) (ix2 t d)

theorem row_zero (i : (⟨2, ![1, 1024]⟩ : Shape).Idx) : i = ix2 0 (i 1) :=
  same2 (Nat.lt_one_iff.mp (i 0).isLt) rfl

theorem holds_args (m : (ℓ : Loc ForwardIdeal.nD ForwardIdeal.τ ForwardIdeal.sig) → Buf (Elt Ideal) ℓ) (c : Dev ForwardIdeal.nD) :
    Holds (args m c) m c where
  x := funext fun i => congrArg _ (eq_ix2 i)
  pre := funext fun i => congrArg _ (row_zero i)
  wg := funext fun i => congrArg _ (eq_ix2 i)
  wu := funext fun i => congrArg _ (eq_ix2 i)
  wd := funext fun i => congrArg _ (eq_ix2 i)
  post := funext fun i => congrArg _ (row_zero i)
  y := funext fun i => congrArg _ (eq_ix2 i)

end Cert.Fwd

namespace Cert.Proof

open Idealize.ShloMosaic Idealize.SL.Sem

/-- The forward call's reference runs, leaves its arguments as they were, and has no semaphore. -/
theorem frame_forward_reference : Cert.quiescent_ForwardRefIdeal := by
  intro m ρ _
  exact (θ_run Cert.ForwardRefIdeal.defs _ _).mono
    (fun r h => ⟨fun c => (h c).2.2.2.2.2.2.2, sem_eq_zero_of_no_sems (by decide) r.2⟩) (Cert.ForwardRefIdeal.Value.run m ρ)

set_option maxHeartbeats 1000000 in
/-- The forward call and its reference leave equal arrays, on any arguments. -/
theorem ffn_fwd : Cert.algebraic_ForwardIdeal_ForwardRefIdeal := by
  pair_intro
  · run_from Cert.ForwardIdeal.Value.run_blocks m g
  · run_from Cert.ForwardRefIdeal.Value.run m' g'
    all_goals
      have h := Fwd.holds_args m c
      generalize Fwd.args m c = a at h
      obtain ⟨e0, e1, e2, e3, e4, e5, e6⟩ := hagree c
      have x := e0.trans h.x
      have pre := e1.trans h.pre
      have wg := e2.trans h.wg
      have wu := e3.trans h.wu
      have wd := e4.trans h.wd
      have post := e5.trans h.post
      have y := e6.trans h.y
    · refine (ForwardRefIdeal.Read.val_main_v31_eq (F := Ideal) m' c).trans ?_
      rw [x, pre, wg, wu, wd, post]
      exact (funext fun i => a.ref_v31 i).trans (Fwd.final_7 h).symm
    · refine (ForwardRefIdeal.Read.val_main_v53_eq (F := Ideal) _ _).trans ?_
      rw [h.x, h.pre]
      exact (funext fun i => a.ref_v53 i).trans (Fwd.final_8 h).symm
    · refine (ForwardRefIdeal.Read.val_main_v56_eq (F := Ideal) _ _ _).trans ?_
      rw [h.x, h.pre, h.wg]
      exact (funext fun i => a.ref_v56 i).trans (Fwd.final_9 h).symm
    · refine (ForwardRefIdeal.Read.val_main_v59_eq (F := Ideal) _ _ _).trans ?_
      rw [h.x, h.pre, h.wu]
      exact (funext fun i => a.ref_v59 i).trans (Fwd.final_10 h).symm
    · refine (ForwardRefIdeal.Read.val_main_v16_eq (F := Ideal) _ _ _ _ _).trans ?_
      rw [h.x, h.pre, h.wg, h.wu, h.wd]
      exact (funext fun i => a.ref_v16 i).trans (Fwd.final_11 h).symm
    · refine (ForwardRefIdeal.Read.val_main_v52_eq (F := Ideal) m' c).trans ?_
      rw [x, pre, wg, wu, wd, post, y]
      exact (funext fun i => a.ref_v52 i).trans (Fwd.final_12 h).symm
    · refine (ForwardRefIdeal.Read.val_main_v45_eq (F := Ideal) m' c).trans ?_
      rw [x, pre, wg, wu, wd, post, y]
      exact (funext fun i => a.ref_v45 i).trans (Fwd.final_13 h).symm

end Cert.Proof

end
-- ==== Proof.FirstFinal.lean ====
/- The forward call of the first block, which forms no loss: its blocks are tiles of the model, what it writes at a grid
   point is what the last block's call writes there, and so the arrays it leaves are the model's. -/
module

public import proofs.«01_k».proof.Proof.Gen.FirstIdeal.Value
public import proofs.«01_k».proof.Proof.FwdFinal

@[expose] public section

set_option maxRecDepth 16384

noncomputable section

namespace Cert.FirstBlock

open Idealize.ShloMosaic Idealize.ShloMosaic.TcCoe Idealize.SL.Sem
open Cert.FirstIdeal Cert.FirstIdeal.Gen
open Cert.Fwd hiding Holds idx_val blk

/-- The launch memory holds the arguments `a`. -/
structure Holds (a : Args) (m : (ℓ : Loc nD τ sig) → Buf (Elt Ideal) ℓ) (c : Dev nD) : Prop where
  x : m ((c : Thread nD τ).loc main_arg0) = a.X
  pre : m ((c : Thread nD τ).loc main_arg1) = a.Pre
  wg : m ((c : Thread nD τ).loc main_arg2) = a.Wg
  wu : m ((c : Thread nD τ).loc main_arg3) = a.Wu
  wd : m ((c : Thread nD τ).loc main_arg4) = a.Wd
  post : m ((c : Thread nD τ).loc main_arg5) = a.Post

/-- Every window's block index at every grid point. -/
theorem idx_val : ∀ t : Fin cfg0.N, win0_0.index t = ![t.val, 0]
    ∧ win0_1.index t = ![0, 0]
    ∧ win0_2.index t = ![0, 0, 0]
    ∧ win0_3.index t = ![0, 1, 0]
    ∧ win0_4.index t = ![0, 2, 0]
    ∧ win0_5.index t = ![0, 0]
    ∧ win0_6.index t = ![t.val, 0]
    ∧ win0_7.index t = ![t.val, 0]
    ∧ win0_8.index t = ![0, t.val, 0]
    ∧ win0_9.index t = ![0, t.val, 0]
    ∧ win0_10.index t = ![t.val, 0] :=
  (by decide +kernel : ∀ t : Fin grid0.N, _)

/-- The block of rows a grid point works on. -/
def blk (t : Fin cfg0.N) : Fin 16 := ⟨t.val, t.isLt.trans_eq N_0⟩

variable {a : Args} {m : (ℓ : Loc nD τ sig) → Buf (Elt Ideal) ℓ} {c : Dev nD} (h : Holds a m c) (t : Fin cfg0.N)
include h

theorem host_v6 : V m c main_v6 = packed a := by
  unfold packed
  rw [← h.wg, ← h.wu, ← h.wd]
  unfold V
  simp only [hostOps0, List.flatten_cons, List.flatten_nil, List.append_nil, List.cons_append, List.nil_append]
  after_results
  rfl

/-! ### The blocks -/

theorem iblk_x : iblk m c 0 t = B (φ := .f32) (blk t) a.x := by
  funext i
  have e := (idx_val t).1
  blk_simp [iblk]
  rw [V_main_arg0, h.x]
  refine congrArg₂ a.x (Fin.ext ?_) (Fin.ext ?_) <;> blk_simp [e, row, blk]

theorem iblk_pre : iblk m c 1 t = P (φ := .f32) a.pre := by
  funext i
  have e := (idx_val t).2.1
  blk_simp [iblk]
  rw [V_main_arg1, h.pre]
  unfold Args.Pre P
  refine congrArg a.pre (Fin.ext ?_) <;> blk_simp [e]

theorem iblk_post : iblk m c 5 t = P (φ := .f32) a.post := by
  funext i
  have e := (idx_val t).2.2.2.2.2.1
  blk_simp [iblk]
  rw [V_main_arg5, h.post]
  unfold Args.Post P
  refine congrArg a.post (Fin.ext ?_) <;> blk_simp [e]

/-- Shard `s` of the gate's weight. -/
theorem iblk_wg (s : Fin 4) (n) (hn : s.val = n) (b) :
    View.ld (iblk m c 2 t) (Rect.unit (s := S4x704x1024) ![n, 0, 0] ![1, 704, 1024] b) = W3 (φ := .bf16) s fun j d => a.wg d j := by
  funext i
  have e := (idx_val t).2.2.1
  have z : (i 0).val < 1 := (i 0).isLt
  obtain ⟨z0, z1, z2⟩ := shard_val n b i
  rw [View.ld_apply]
  blk_simp [iblk]
  rw [host_v6 h]
  refine (packed_gate a _ (i 1) ?_).trans ?_
  · blk_simp [e, z1] <;> omega
  refine congrArg₂ a.wg (Fin.ext ?_) (Fin.ext ?_) <;> blk_simp [e, col, z0, z2] <;> dsimp only <;> omega

/-- Shard `s` of the other factor's weight. -/
theorem iblk_wu (s : Fin 4) (n) (hn : s.val = n) (b) :
    View.ld (iblk m c 3 t) (Rect.unit (s := S4x704x1024) ![n, 0, 0] ![1, 704, 1024] b) = W3 (φ := .bf16) s fun j d => a.wu d j := by
  funext i
  have e := (idx_val t).2.2.2.1
  have z : (i 0).val < 1 := (i 0).isLt
  obtain ⟨z0, z1, z2⟩ := shard_val n b i
  rw [View.ld_apply]
  blk_simp [iblk]
  rw [host_v6 h]
  refine (packed_up a _ (i 1) ?_).trans ?_
  · blk_simp [e, z1] <;> omega
  refine congrArg₂ a.wu (Fin.ext ?_) (Fin.ext ?_) <;> blk_simp [e, col, z0, z2] <;> dsimp only <;> omega

/-- Shard `s` of the last weight. -/
theorem iblk_wd (s : Fin 4) (n) (hn : s.val = n) (b) :
    View.ld (iblk m c 4 t) (Rect.unit (s := S4x704x1024) ![n, 0, 0] ![1, 704, 1024] b) = W3 (φ := .bf16) s a.wd := by
  funext i
  have e := (idx_val t).2.2.2.2.1
  have z : (i 0).val < 1 := (i 0).isLt
  obtain ⟨z0, z1, z2⟩ := shard_val n b i
  rw [View.ld_apply]
  blk_simp [iblk]
  rw [host_v6 h]
  refine (packed_down a _ (i 1) ?_).trans ?_
  · blk_simp [e, z1] <;> omega
  refine congrArg₂ a.wd (Fin.ext ?_) (Fin.ext ?_) <;> blk_simp [e, col, z0, z2] <;> dsimp only <;> omega

/-- The blocks are tiles of the model. -/
theorem tiles : Fwd.Tiles a (blk t) (iblk m c 0 t) (iblk m c 1 t) (iblk m c 2 t) (iblk m c 3 t) (iblk m c 4 t) (iblk m c 5 t) :=
  ⟨iblk_x h t, iblk_pre h t, iblk_wg h t, iblk_wu h t, iblk_wd h t, iblk_post h t⟩

/-! ### What a grid point writes -/

omit h in
/-- A grid point writes what the last block's forward call writes, whatever the target. -/
theorem out_same (x0 : Vec Ideal S512x1024 .f32) (x1 : Vec Ideal S1x1024 .f32) (x2 x3 x4 : Vec Ideal S4x704x1024 .bf16)
    (x5 : Vec Ideal S1x1024 .f32) (x6 : Vec Ideal S512x1024 .f32) :
    out0_6 x0 x1 x2 x3 x4 x5 = ForwardIdeal.Gen.out0_7 x0 x1 x2 x3 x4 x5 x6
    ∧ out0_7 x0 x1 x2 x3 x4 x5 = ForwardIdeal.Gen.out0_8 x0 x1 x2 x3 x4 x5 x6
    ∧ out0_8 x0 x1 x2 x3 x4 x5 = ForwardIdeal.Gen.out0_9 x0 x1 x2 x3 x4 x5 x6
    ∧ out0_9 x0 x1 x2 x3 x4 x5 = ForwardIdeal.Gen.out0_10 x0 x1 x2 x3 x4 x5 x6
    ∧ out0_10 x0 x1 x2 x3 x4 x5 = ForwardIdeal.Gen.out0_11 x0 x1 x2 x3 x4 x5 x6 :=
  ⟨rfl, rfl, rfl, rfl, rfl⟩

/-! ### The arrays -/

theorem final_6 : (dats m 0 c).arrAt 6 cfg0.N = (fun i => a.out (i 0) (i 1) : FVec Ideal S8192x1024 .f32) := by
  refine (dats m 0 c).arrAt_eq_of_covers 6 _ (by decide +kernel) fun t hf y => ?_
  have i := (idx_val t).2.2.2.2.2.2.1
  blk_simp; rw [after0_6, (out_same _ _ _ _ _ _ (iblk m c 0 t)).1, Fwd.out_7 (tiles h t)]
  refine read_B _ _ _ _ ?_ ?_ <;> blk_simp [i, blk]

theorem final_7 : (dats m 0 c).arrAt 7 cfg0.N = (fun i => a.n (i 0) (i 1) : FVec Ideal S8192x1024 .bf16) := by
  refine (dats m 0 c).arrAt_eq_of_covers 7 _ (by decide +kernel) fun t hf y => ?_
  have i := (idx_val t).2.2.2.2.2.2.2.1
  blk_simp; rw [after0_7, (out_same _ _ _ _ _ _ (iblk m c 0 t)).2.1, Fwd.out_8 (tiles h t)]
  refine read_B _ _ _ _ ?_ ?_ <;> blk_simp [i, blk]

theorem final_8 : (dats m 0 c).arrAt 8 cfg0.N = (fun i => a.gate (i 1) (col (i 0) (i 2)) : FVec Ideal S4x8192x704 .bf16) := by
  refine (dats m 0 c).arrAt_eq_of_covers 8 _ (by decide +kernel) fun t hf y => ?_
  have i := (idx_val t).2.2.2.2.2.2.2.2.1
  blk_simp; rw [after0_8, (out_same _ _ _ _ _ _ (iblk m c 0 t)).2.2.1, Fwd.out_9 (tiles h t)]
  refine read_A4 _ _ _ _ ?_ ?_ ?_ <;> blk_simp [i, blk]

theorem final_9 : (dats m 0 c).arrAt 9 cfg0.N = (fun i => a.up (i 1) (col (i 0) (i 2)) : FVec Ideal S4x8192x704 .bf16) := by
  refine (dats m 0 c).arrAt_eq_of_covers 9 _ (by decide +kernel) fun t hf y => ?_
  have i := (idx_val t).2.2.2.2.2.2.2.2.2.1
  blk_simp; rw [after0_9, (out_same _ _ _ _ _ _ (iblk m c 0 t)).2.2.2.1, Fwd.out_10 (tiles h t)]
  refine read_A4 _ _ _ _ ?_ ?_ ?_ <;> blk_simp [i, blk]

theorem final_10 : (dats m 0 c).arrAt 10 cfg0.N = (fun i => a.f (i 0) (i 1) : FVec Ideal S8192x1024 .f32) := by
  refine (dats m 0 c).arrAt_eq_of_covers 10 _ (by decide +kernel) fun t hf y => ?_
  have i := (idx_val t).2.2.2.2.2.2.2.2.2.2
  blk_simp; rw [after0_10, (out_same _ _ _ _ _ _ (iblk m c 0 t)).2.2.2.2, Fwd.out_11 (tiles h t)]
  refine read_B _ _ _ _ ?_ ?_ <;> blk_simp [i, blk]

end Cert.FirstBlock
-- ==== Proof.FirstClaim.lean ====
/- The claims about the forward call of the first block. -/
module

public import proofs.«01_k».proof.Defs
public import Idealize.ShloMosaic.Adequacy
public import Idealize.ShloMosaic.Init
public import proofs.«01_k».proof.Proof.Gen.FirstIdeal.Value
public import proofs.«01_k».proof.Proof.Gen.FirstRefIdeal.Run
public import proofs.«01_k».proof.Proof.Gen.FirstRefIdeal.Read
public import proofs.«01_k».proof.Proof.FirstFinal
public import proofs.«01_k».proof.Proof.FwdClaim

@[expose] public section

set_option maxRecDepth 16384

noncomputable section

namespace Cert.FirstBlock

open Idealize.ShloMosaic Idealize.ShloMosaic.TcCoe Idealize.SL.Sem

/-- The arguments a launch memory holds. -/
def args (m : (ℓ : Loc FirstIdeal.nD FirstIdeal.τ FirstIdeal.sig) → Buf (Elt Ideal) ℓ) (c : Dev FirstIdeal.nD) : Fwd.Args where
  x t d := (m ((c : Thread FirstIdeal.nD FirstIdeal.τ).loc FirstIdeal.main_arg0) : FVec Ideal FirstIdeal.S8192x1024 .f32) (ix2 t d)
  pre d := (m ((c : Thread FirstIdeal.nD FirstIdeal.τ).loc FirstIdeal.main_arg1) : FVec Ideal FirstIdeal.S1x1024 .f32) (ix2 0 d)
  wg d j := (m ((c : Thread FirstIdeal.nD FirstIdeal.τ).loc FirstIdeal.main_arg2) : FVec Ideal FirstIdeal.S1024x2816 .f32) (ix2 d j)
  wu d j := (m ((c : Thread FirstIdeal.nD FirstIdeal.τ).loc FirstIdeal.main_arg3) : FVec Ideal FirstIdeal.S1024x2816 .f32) (ix2 d j)
  wd j d := (m ((c : Thread FirstIdeal.nD FirstIdeal.τ).loc FirstIdeal.main_arg4) : FVec Ideal FirstIdeal.S2816x1024 .f32) (ix2 j d)
  post d := (m ((c : Thread FirstIdeal.nD FirstIdeal.τ).loc FirstIdeal.main_arg5) : FVec Ideal FirstIdeal.S1x1024 .f32) (ix2 0 d)
  y _ _ := 0

theorem holds_args (m : (ℓ : Loc FirstIdeal.nD FirstIdeal.τ FirstIdeal.sig) → Buf (Elt Ideal) ℓ) (c : Dev FirstIdeal.nD) :
    Holds (args m c) m c where
  x := funext fun i => congrArg _ (eq_ix2 i)
  pre := funext fun i => congrArg _ (Fwd.row_zero i)
  wg := funext fun i => congrArg _ (eq_ix2 i)
  wu := funext fun i => congrArg _ (eq_ix2 i)
  wd := funext fun i => congrArg _ (eq_ix2 i)
  post := funext fun i => congrArg _ (Fwd.row_zero i)

end Cert.FirstBlock

namespace Cert.Proof

open Idealize.ShloMosaic Idealize.SL.Sem

/-- The reference of the first block's forward call runs, leaves its arguments as they were, and has no semaphore. -/
theorem frame_first_reference : Cert.quiescent_FirstRefIdeal := by
  intro m ρ _
  exact (θ_run Cert.FirstRefIdeal.defs _ _).mono
    (fun r h => ⟨fun c => (h c).2.2.2.2.2, sem_eq_zero_of_no_sems (by decide) r.2⟩) (Cert.FirstRefIdeal.Value.run m ρ)

set_option maxHeartbeats 1000000 in
/-- The first block's forward call and its reference leave equal arrays, on any arguments. -/
theorem ffn_fwd_first : Cert.algebraic_FirstIdeal_FirstRefIdeal := by
  pair_intro
  · run_from Cert.FirstIdeal.Value.run_blocks m g
  · run_from Cert.FirstRefIdeal.Value.run m' g'
    all_goals
      have h := FirstBlock.holds_args m c
      generalize FirstBlock.args m c = a at h
      obtain ⟨e0, e1, e2, e3, e4, e5⟩ := hagree c
      have x := e0.trans h.x
      have pre := e1.trans h.pre
      have wg := e2.trans h.wg
      have wu := e3.trans h.wu
      have wd := e4.trans h.wd
      have post := e5.trans h.post
    · refine (FirstRefIdeal.Read.val_main_v31_eq (F := Ideal) m' c).trans ?_
      rw [x, pre, wg, wu, wd, post]
      exact (funext fun i => a.ref_v31 i).trans (FirstBlock.final_6 h).symm
    · refine (FirstRefIdeal.Read.val_main_v32_eq (F := Ideal) _ _).trans ?_
      rw [h.x, h.pre]
      exact (funext fun i => a.ref_v53 i).trans (FirstBlock.final_7 h).symm
    · refine (FirstRefIdeal.Read.val_main_v35_eq (F := Ideal) _ _ _).trans ?_
      rw [h.x, h.pre, h.wg]
      exact (funext fun i => a.ref_v56 i).trans (FirstBlock.final_8 h).symm
    · refine (FirstRefIdeal.Read.val_main_v38_eq (F := Ideal) _ _ _).trans ?_
      rw [h.x, h.pre, h.wu]
      exact (funext fun i => a.ref_v59 i).trans (FirstBlock.final_9 h).symm
    · refine (FirstRefIdeal.Read.val_main_v16_eq (F := Ideal) _ _ _ _ _).trans ?_
      rw [h.x, h.pre, h.wg, h.wu, h.wd]
      exact (funext fun i => a.ref_v16 i).trans (FirstBlock.final_10 h).symm

end Cert.Proof

end
-- ==== Proof.MixRef.lean ====
/- The input projection as plain functions on rows and columns, its reference read stage by stage, and tiles of such
   functions. -/
module

public import proofs.«01_k».proof.Proof.Gen.MixInRefIdeal.Read
public import proofs.«01_k».proof.Proof.Sigmoid
public import proofs.«01_k».proof.Proof.Halves

@[expose] public section

set_option maxRecDepth 16384

noncomputable section

namespace Cert.Mix

open Idealize.ShloMosaic

export Cert.Fwd (width epsilon)

/-! ### Tiles -/

/-- The tile of a function on rows and columns that starts at row `r` and column `c`. -/
def Tile {M N : ℕ} {φ : FTy} (r c : ℕ) (f : ℕ → ℕ → EReal) : FVec Ideal ⟨2, ![M, N]⟩ φ := fun i => f (r + (i 0).val) (c + (i 1).val)

/-- An array as a function on rows and columns, zero outside the array. -/
def entries {M N : ℕ} {φ : FTy} (a : FVec Ideal ⟨2, ![M, N]⟩ φ) (r c : ℕ) : EReal :=
  if h : r < M ∧ c < N then a (ix2 ⟨r, h.1⟩ ⟨c, h.2⟩) else 0

theorem entries_apply {M N : ℕ} {φ : FTy} (a : FVec Ideal ⟨2, ![M, N]⟩ φ) (i : (⟨2, ![M, N]⟩ : Shape).Idx) :
    entries a (i 0).val (i 1).val = a i :=
  (dif_pos ⟨(i 0).isLt, (i 1).isLt⟩).trans (congrArg a (eq_ix2 i).symm)

/-- An array is the tile of its entries that starts at the origin. -/
theorem tile_entries {M N : ℕ} {φ : FTy} (a : FVec Ideal ⟨2, ![M, N]⟩ φ) : a = Tile 0 0 (entries a) :=
  funext fun i => (entries_apply a i).symm.trans (congrArg₂ (entries a) (Nat.zero_add _).symm (Nat.zero_add _).symm)

/-- Two tiles agree where they take the same row and column of the function. -/
theorem tile_at {M N M' N' : ℕ} {φ ψ : FTy} {r c r' c' : ℕ} (f : ℕ → ℕ → EReal) {i : (⟨2, ![M, N]⟩ : Shape).Idx}
    {j : (⟨2, ![M', N']⟩ : Shape).Idx} (h0 : r + (i 0).val = r' + (j 0).val) (h1 : c + (i 1).val = c' + (j 1).val) :
    Tile (φ := φ) r c f i = Tile (φ := ψ) r' c' f j := congrArg₂ f h0 h1

/-! ### The model -/

/-- The scale of a row's RMS norm. -/
def scale (x : ℕ → EReal) : EReal := Ideal.rsqrt (Ideal.div (∑ d : Fin 1024, x d * x d) width + epsilon)

/-- The arguments: the rows, the norm's weight and the projection's weight. -/
structure Args where
  x : ℕ → ℕ → EReal
  pre : ℕ → ℕ → EReal
  w : ℕ → ℕ → EReal

/-- The factor of the queries. -/
abbrev eighth : EReal := Ideal.ofBits .f32 0x3E000000#32

namespace Args

variable (a : Args)

/-- The normed rows. -/
def n (t d : ℕ) : EReal := a.x t d * scale (a.x t) * a.pre 0 d
/-- The projection. -/
def proj (t j : ℕ) : EReal := ∑ d : Fin 1024, a.n t d * a.w d j
/-- The projection, scaled for the queries. -/
def query (t j : ℕ) : EReal := a.proj t j * eighth

abbrev X : FVec Ideal ⟨2, ![8192, 1024]⟩ .f32 := Tile 0 0 a.x
abbrev Pre : FVec Ideal ⟨2, ![1, 1024]⟩ .f32 := Tile 0 0 a.pre
abbrev W : FVec Ideal ⟨2, ![1024, 8736]⟩ .f32 := Tile 0 0 a.w

end Args

/-! ### The reference -/

section
open Cert.MixInRefIdeal Cert.MixInRefIdeal.Read

variable (a : Args)

theorem ref_v7 (i : S8192x1.Idx) : val_main_v7 (F := Ideal) a.X i = scale (a.x (0 + (i 0).val)) := by
  simp only [val_main_v7_apply, val_main_v6_apply, val_main_v4_apply, val_main_v3_apply, val_main_v2_apply, val_main_v1_apply,
    val_main_v0_apply, val_main_v5_apply, val_main_cst_apply, val_main_cst_0_apply, val_main_cst_1_apply,
    Ideal.ofBits_def, Ideal.addf_def, Ideal.mulf_def, Ideal.hostDivf_def, Ideal.hostUnary_rsqrt_def, Ideal.ofBits_zero_f32, zero_add]
  simp only [Args.X, Tile, scale, zero_add]

/-- The normed rows. -/
theorem ref_v11 : val_main_v11 (F := Ideal) a.X a.Pre = Tile (φ := .f32) 0 0 a.n := by
  funext i
  rw [val_main_v11_apply, val_main_v9_apply, val_main_v8_apply, val_main_v10_apply, ref_v7]; rfl

/-- The projection. -/
theorem ref_v12 : val_main_v12 (F := Ideal) a.X a.Pre a.W = Tile (φ := .f32) 0 0 a.proj := by
  funext i
  rw [val_main_v12_apply, ref_v11]
  simp only [Tile, Args.proj, zero_add]

theorem ref_v13 : val_main_v13 (F := Ideal) a.X a.Pre a.W = Tile (φ := .f32) 0 0 a.proj := by
  funext i; rw [val_main_v13_apply, ref_v12]; refine tile_at _ ?_ ?_ <;> dsimp

theorem ref_v14 : val_main_v14 (F := Ideal) a.X a.Pre a.W = Tile (φ := .f32) 0 2048 a.proj := by
  funext i; rw [val_main_v14_apply, ref_v12]; refine tile_at _ ?_ ?_ <;> dsimp <;> omega

theorem ref_v15 : val_main_v15 (F := Ideal) a.X a.Pre a.W = Tile (φ := .f32) 0 4096 a.proj := by
  funext i; rw [val_main_v15_apply, ref_v12]; refine tile_at _ ?_ ?_ <;> dsimp <;> omega

theorem ref_v16 : val_main_v16 (F := Ideal) a.X a.Pre a.W = Tile (φ := .f32) 0 7168 a.proj := by
  funext i; rw [val_main_v16_apply, ref_v12]; refine tile_at _ ?_ ?_ <;> dsimp <;> omega

theorem ref_v17 : val_main_v17 (F := Ideal) a.X a.Pre a.W = Tile (φ := .f32) 0 7200 a.proj := by
  funext i; rw [val_main_v17_apply, ref_v12]; refine tile_at _ ?_ ?_ <;> dsimp <;> omega

theorem ref_v18 : val_main_v18 (F := Ideal) a.X a.Pre a.W = Tile (φ := .f32) 0 8224 a.proj := by
  funext i; rw [val_main_v18_apply, ref_v12]; refine tile_at _ ?_ ?_ <;> dsimp <;> omega

theorem ref_v19 : val_main_v19 (F := Ideal) a.X a.Pre a.W = Tile (φ := .f32) 0 8480 a.proj := by
  funext i; rw [val_main_v19_apply, ref_v12]; refine tile_at _ ?_ ?_ <;> dsimp <;> omega

theorem ref_v22 : val_main_v22 (F := Ideal) a.X a.Pre = Tile (φ := .bf16) 0 0 a.n := by
  funext i; rw [val_main_v22_apply, ref_v11]; rfl

theorem ref_v23 : val_main_v23 (F := Ideal) a.X a.Pre a.W = Tile (φ := .bf16) 0 0 a.proj := by
  funext i; rw [val_main_v23_apply, ref_v13]; rfl

theorem ref_v24 : val_main_v24 (F := Ideal) a.X a.Pre a.W = Tile (φ := .f32) 7168 0 (fun j t => a.proj t j) := by
  funext i; rw [val_main_v24_apply, ref_v16]; rfl

theorem ref_v25 : val_main_v25 (F := Ideal) a.X a.Pre a.W = Tile (φ := .bf16) 0 7200 a.query := by
  funext i
  rw [val_main_v25_apply, val_main_v21_apply, val_main_v20_apply, val_main_cst_2_apply, ref_v17]; rfl

theorem ref_v26 : val_main_v26 (F := Ideal) a.X a.Pre a.W = Tile (φ := .bf16) 0 8224 a.proj := by
  funext i; rw [val_main_v26_apply, ref_v18]; rfl

theorem ref_v27 : val_main_v27 (F := Ideal) a.X a.Pre a.W = Tile (φ := .bf16) 0 8480 a.proj := by
  funext i; rw [val_main_v27_apply, ref_v19]; rfl

end

end Cert.Mix
-- ==== Proof.MixPoint.lean ====
/- What the input projection's call computes at one grid point: on tiles of the model each value its body names is a tile of
   the model, and so is what it writes. -/
module

public import proofs.«01_k».proof.Proof.MixRef
public import proofs.«01_k».proof.Proof.Gen.MixInIdeal.Value

@[expose] public section

set_option maxRecDepth 16384

noncomputable section

namespace Cert.Mix

open Idealize.ShloMosaic Idealize.ShloMosaic.TcCoe Idealize.SL.Sem
open Cert.MixInIdeal Cert.MixInIdeal.Gen

/-- A part of a tile is a tile. -/
theorem ld_tile {M N A B : ℕ} (r c : ℕ) (f : ℕ → ℕ → EReal) (p q : ℕ) (b) :
    (View.ld (Val := Elt Ideal) (e' := .bf16) (Tile (M := M) (N := N) (φ := .bf16) r c f)
      (Rect.unit (s := ⟨2, ![M, N]⟩) ![p, q] ![A, B] b) : FVec Ideal ⟨2, ![A, B]⟩ .bf16)
      = Tile (M := A) (N := B) (φ := .bf16) (r + p) (c + q) f := by
  funext i
  rw [View.ld_apply]
  have h0 := Rect.idx_unit_val (s := ⟨2, ![M, N]⟩) _ _ b i 0
  have h1 := Rect.idx_unit_val (s := ⟨2, ![M, N]⟩) _ _ b i 1
  exact congrArg₂ f (by rw [h0, Nat.add_assoc]; rfl) (by rw [h1, Nat.add_assoc]; rfl)

variable (a : Args) (r c : ℕ)

set_option backward.isDefEq.respectTransparency false

/-! ### The body's values -/

/-- The normed rows. -/
theorem pay3 : k0_pay3 (F := Ideal) (Tile (φ := .f32) r 0 a.x) (Tile (φ := .f32) 0 0 a.pre) = Tile (φ := .bf16) r 0 a.n := by
  funext i
  unfold k0_pay3
  pointwise [Tile, Args.n, scale, zero_add]

/-- The product of the normed rows with 1024 columns of the weight. -/
theorem dot_wide (h) : matmul dot_S256x1024_S1024x1024_S256x1024_1_0_0_1_n_n none (Tile (φ := .bf16) r 0 a.n)
    (shapeCast S1024x1024 (Tile (φ := .bf16) 0 c a.w : FVec Ideal S1024x1024 .bf16) h) (constant (F := Ideal) S256x1024 .f32 0x00000000#32)
    = Tile (φ := .f32) r c a.proj := by
  funext i
  pointwise [Tile, Args.proj, zero_add]

/-- The product of the normed rows with 256 columns of the weight. -/
theorem dot_narrow (h) : matmul dot_S256x1024_S1024x256_S256x256_1_0_0_1_n_n none (Tile (φ := .bf16) r 0 a.n)
    (shapeCast S1024x256 (Tile (φ := .bf16) 0 c a.w : FVec Ideal S1024x256 .bf16) h) (constant (F := Ideal) S256x256 .f32 0x00000000#32)
    = Tile (φ := .f32) r c a.proj := by
  funext i
  pointwise [Tile, Args.proj, zero_add]

/-- The product of 32 columns of the weight with the normed rows, transposed. -/
theorem dot_turned (h) : matmul dot_S32x1024_S256x1024_S32x256_1_1_0_0_n_n none
    (shapeCast S32x1024 (Tile (φ := .bf16) c 0 (fun j d => a.w d j) : FVec Ideal S32x1024 .bf16) h) (Tile (φ := .bf16) r 0 a.n)
    (constant (F := Ideal) S32x256 .f32 0x00000000#32) = Tile (φ := .f32) c r (fun j t => a.proj t j) := by
  funext i
  pointwise [Tile, Args.proj, zero_add]
  exact Finset.sum_congr rfl fun d _ => mul_comm _ _

theorem trunc_tile {M N : ℕ} (f : ℕ → ℕ → EReal) (h) :
    truncf (φ := .f32) .bf16 (Tile (M := M) (N := N) (φ := .f32) r c f) h = Tile (φ := .bf16) r c f := rfl

theorem mul_eighth : mulf (Tile (φ := .f32) r c a.proj) (broadcast S256x1024 (Scalar.ofBits (F := Ideal) .f32 0x3E000000#32))
    = Tile (φ := .f32) r c a.query := rfl

variable {a} {r}

/-- A block of the output whose pieces are tiles is a tile. -/
theorem read_tile {M N M' N' : ℕ} {φ : FTy} {r c r' c' : ℕ} {f : ℕ → ℕ → EReal} (i : (⟨2, ![M, N]⟩ : Shape).Idx)
    (j : (⟨2, ![M', N']⟩ : Shape).Idx) (h0 : r' + (j 0).val = r + (i 0).val) (h1 : c' + (j 1).val = c + (i 1).val) :
    Tile (φ := φ) r c f i = Tile (φ := φ) r' c' f j := congrArg₂ f h0.symm h1.symm

/-- A point's blocks of the arguments are tiles of the model. -/
structure Tiles (a : Args) (r : ℕ) (x0 : Vec Ideal S256x1024 .f32) (x1 : Vec Ideal S1x1024 .f32) (x2 : Vec Ideal S1024x4096 .bf16)
    (x3 : Vec Ideal S1024x3072 .bf16) (x4 : Vec Ideal S32x1024 .bf16) (x5 : Vec Ideal S1024x1536 .bf16) : Prop where
  x : x0 = Tile (φ := .f32) r 0 a.x
  pre : x1 = Tile (φ := .f32) 0 0 a.pre
  main : x2 = Tile (φ := .bf16) 0 0 a.w
  scan : x3 = Tile (φ := .bf16) 0 4096 a.w
  step : x4 = Tile (φ := .bf16) 7168 0 (fun j d => a.w d j)
  attn : x5 = Tile (φ := .bf16) 0 7200 a.w

variable {x0 : Vec Ideal S256x1024 .f32} {x1 : Vec Ideal S1x1024 .f32} {x2 : Vec Ideal S1024x4096 .bf16}
  {x3 : Vec Ideal S1024x3072 .bf16} {x4 : Vec Ideal S32x1024 .bf16} {x5 : Vec Ideal S1024x1536 .bf16} (h : Tiles a r x0 x1 x2 x3 x4 x5)
include h

/-! ### The columns of the weight each product takes -/

theorem main_columns : View.ld x2 r0_2 = Tile (φ := .bf16) 0 0 a.w ∧ View.ld x2 r0_5 = Tile (φ := .bf16) 0 1024 a.w
    ∧ View.ld x2 r0_4 = Tile (φ := .bf16) 0 2048 a.w ∧ View.ld x2 r0_7 = Tile (φ := .bf16) 0 3072 a.w := by
  rw [h.main]
  exact ⟨ld_tile .., ld_tile .., ld_tile .., ld_tile ..⟩

theorem scan_columns : View.ld x3 r0_8 = Tile (φ := .bf16) 0 4096 a.w ∧ View.ld x3 r0_10 = Tile (φ := .bf16) 0 5120 a.w
    ∧ View.ld x3 r0_12 = Tile (φ := .bf16) 0 6144 a.w := by
  rw [h.scan]
  exact ⟨ld_tile .., ld_tile .., ld_tile ..⟩

theorem attn_columns : View.ld x5 r0_16 = Tile (φ := .bf16) 0 7200 a.w ∧ View.ld x5 r0_17 = Tile (φ := .bf16) 0 8224 a.w
    ∧ View.ld x5 r0_19 = Tile (φ := .bf16) 0 8480 a.w := by
  rw [h.attn]
  exact ⟨ld_tile .., ld_tile .., ld_tile ..⟩

/-! ### What a grid point writes -/

theorem val_n : k0_pay13 x0 x1 x2 x3 x4 x5 = Tile (φ := .bf16) r 0 a.n := by
  unfold k0_pay13
  frame_out
  rw [h.x, h.pre, pay3]

theorem out_6 : out0_6 x0 x1 x2 x3 x4 x5 = Tile (φ := .bf16) r 0 a.n := by
  unfold out0_6
  frame_out
  rw [h.x, h.pre, pay3]

theorem out_7 : out0_7 x0 x1 x2 x3 x4 x5 = Tile (φ := .bf16) r 0 a.proj := by
  unfold out0_7
  frame_out
  simp only [h.x, h.pre, main_columns h, k0_pay4, k0_pay6, pay3, dot_wide, trunc_tile]
  funext y
  canon_tiles x hx <;> refine read_tile _ _ ?_ ?_ <;> dsimp only <;> omega

theorem out_8 : out0_8 x0 x1 x2 x3 x4 x5 = Tile (φ := .f32) r 2048 a.proj := by
  unfold out0_8
  rw [val_n h]
  frame_out
  simp only [h.x, h.pre, main_columns h, k0_pay5, k0_pay7, pay3, dot_wide]
  funext y
  canon_tiles x hx <;> refine read_tile _ _ ?_ ?_ <;> dsimp only <;> omega

theorem out_9 : out0_9 x0 x1 x2 x3 x4 x5 = Tile (φ := .f32) r 4096 a.proj := by
  unfold out0_9
  rw [val_n h]
  simp only [scan_columns h, k0_pay8, k0_pay9, k0_pay10, dot_wide]
  funext y
  canon_tiles x hx <;> refine read_tile _ _ ?_ ?_ <;> dsimp only <;> omega

theorem out_10 : out0_10 x0 x1 x2 x3 x4 x5 = Tile (φ := .f32) 7168 r (fun j t => a.proj t j) := by
  unfold out0_10
  rw [val_n h]
  frame_out
  simp only [h.step, k0_pay11, dot_turned]

theorem out_11 : out0_11 x0 x1 x2 x3 x4 x5 = Tile (φ := .bf16) r 7200 a.query := by
  unfold out0_11
  rw [val_n h]
  frame_out
  simp only [attn_columns h, k0_pay12, dot_wide, mul_eighth, trunc_tile, Nat.zero_add, Nat.add_zero]

theorem out_12 : out0_12 x0 x1 x2 x3 x4 x5 = Tile (φ := .bf16) r 8224 a.proj := by
  unfold out0_12
  rw [val_n h]
  frame_out
  simp only [attn_columns h, k0_pay1, dot_narrow, trunc_tile, Nat.zero_add]

theorem out_13 : out0_13 x0 x1 x2 x3 x4 x5 = Tile (φ := .bf16) r 8480 a.proj := by
  unfold out0_13
  rw [val_n h]
  frame_out
  simp only [attn_columns h, k0_pay2, dot_narrow, trunc_tile, Nat.zero_add]

end Cert.Mix
-- ==== Proof.MixFinal.lean ====
/- The blocks the input projection's windows hold at each grid point, as tiles of the model, and the arrays the call leaves. -/
module

public import proofs.«01_k».proof.Proof.MixPoint

@[expose] public section

set_option maxRecDepth 16384

noncomputable section

namespace Cert.Mix

open Idealize.ShloMosaic Idealize.ShloMosaic.TcCoe Idealize.SL.Sem
open Cert.MixInIdeal Cert.MixInIdeal.Gen

/-- The launch memory holds the arguments `a`. -/
structure Holds (a : Args) (m : (ℓ : Loc nD τ sig) → Buf (Elt Ideal) ℓ) (c : Dev nD) : Prop where
  x : m ((c : Thread nD τ).loc main_arg0) = a.X
  pre : m ((c : Thread nD τ).loc main_arg1) = a.Pre
  w : m ((c : Thread nD τ).loc main_arg2) = a.W

/-- Every window's block index at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![0, t.val]
    ∧ win0_11.index t = ![t.val, 0]
    ∧ win0_12.index t = ![t.val, 0]
    ∧ win0_13.index t = ![t.val, 0] :=
  (by decide +kernel : ∀ t : Fin grid0.N, _)

variable {a : Args} {m : (ℓ : Loc nD τ sig) → Buf (Elt Ideal) ℓ} {c : Dev nD} (h : Holds a m c) (t : Fin cfg0.N)
include h

/-! ### The parts of the weight the host hands over -/

theorem host_v1 : V m c main_v1 = (Tile (φ := .bf16) 0 0 a.w : FVec Ideal S1024x4096 .bf16) := by
  unfold V
  simp only [hostOps0]
  after_results
  rw [h.w]
  funext i
  pointwise [Tile]

theorem host_v2 : V m c main_v2 = (Tile (φ := .bf16) 0 4096 a.w : FVec Ideal S1024x3072 .bf16) := by
  unfold V
  simp only [hostOps0]
  after_results
  rw [h.w]
  funext i
  pointwise [Tile]

theorem host_v4 : V m c main_v4 = (Tile (φ := .bf16) 7168 0 (fun j d => a.w d j) : FVec Ideal S32x1024 .bf16) := by
  unfold V
  simp only [hostOps0]
  after_results
  rw [h.w]
  funext i
  pointwise [Tile]

theorem host_v5 : V m c main_v5 = (Tile (φ := .bf16) 0 7200 a.w : FVec Ideal S1024x1536 .bf16) := by
  unfold V
  simp only [hostOps0]
  after_results
  rw [h.w]
  funext i
  pointwise [Tile]

/-! ### The blocks -/

theorem tiles : Tiles a (t.val * 256) (iblk m c 0 t) (iblk m c 1 t) (iblk m c 2 t) (iblk m c 3 t) (iblk m c 4 t) (iblk m c 5 t) := by
  obtain ⟨e0, e1, e2, e3, e4, e5, -⟩ := idx_val t
  refine ⟨?_, ?_, ?_, ?_, ?_, ?_⟩ <;> funext i <;> blk_simp [iblk]
  · rw [V_main_arg0, h.x]
    refine read_tile _ _ ?_ ?_ <;> blk_simp [e0]
  · rw [V_main_arg1, h.pre]
    refine read_tile _ _ ?_ ?_ <;> blk_simp [e1]
  · rw [host_v1 h]
    refine read_tile _ _ ?_ ?_ <;> blk_simp [e2]
  · rw [host_v2 h]
    refine read_tile _ _ ?_ ?_ <;> blk_simp [e3]
  · rw [host_v4 h]
    refine read_tile _ _ ?_ ?_ <;> blk_simp [e4]
  · rw [host_v5 h]
    refine read_tile _ _ ?_ ?_ <;> blk_simp [e5]

/-! ### The arrays -/

theorem final_6 : (dats m 0 c).arrAt 6 cfg0.N = (Tile 0 0 a.n : FVec Ideal S8192x1024 .bf16) := by
  refine (dats m 0 c).arrAt_eq_of_covers 6 _ (by decide +kernel) fun t hf y => ?_
  have i := (idx_val t).2.2.2.2.2.2.1
  blk_simp; rw [after0_6, out_6 (tiles h t)]
  refine read_tile _ _ ?_ ?_ <;> blk_simp [i]

theorem final_7 : (dats m 0 c).arrAt 7 cfg0.N = (Tile 0 0 a.proj : FVec Ideal S8192x2048 .bf16) := by
  refine (dats m 0 c).arrAt_eq_of_covers 7 _ (by decide +kernel) fun t hf y => ?_
  have i := (idx_val t).2.2.2.2.2.2.2.1
  blk_simp; rw [after0_7, out_7 (tiles h t)]
  refine read_tile _ _ ?_ ?_ <;> blk_simp [i]

theorem final_8 : (dats m 0 c).arrAt 8 cfg0.N = (Tile 0 2048 a.proj : FVec Ideal S8192x2048 .f32) := by
  refine (dats m 0 c).arrAt_eq_of_covers 8 _ (by decide +kernel) fun t hf y => ?_
  have i := (idx_val t).2.2.2.2.2.2.2.2.1
  blk_simp; rw [after0_8, out_8 (tiles h t)]
  refine read_tile _ _ ?_ ?_ <;> blk_simp [i]

theorem final_9 : (dats m 0 c).arrAt 9 cfg0.N = (Tile 0 4096 a.proj : FVec Ideal S8192x3072 .f32) := by
  refine (dats m 0 c).arrAt_eq_of_covers 9 _ (by decide +kernel) fun t hf y => ?_
  have i := (idx_val t).2.2.2.2.2.2.2.2.2.1
  blk_simp; rw [after0_9, out_9 (tiles h t)]
  refine read_tile _ _ ?_ ?_ <;> blk_simp [i]

theorem final_10 : (dats m 0 c).arrAt 10 cfg0.N = (Tile 7168 0 (fun j t => a.proj t j) : FVec Ideal S32x8192 .f32) := by
  refine (dats m 0 c).arrAt_eq_of_covers 10 _ (by decide +kernel) fun t hf y => ?_
  have i := (idx_val t).2.2.2.2.2.2.2.2.2.2.1
  blk_simp; rw [after0_10, out_10 (tiles h t)]
  refine read_tile _ _ ?_ ?_ <;> blk_simp [i]

theorem final_11 : (dats m 0 c).arrAt 11 cfg0.N = (Tile 0 7200 a.query : FVec Ideal S8192x1024 .bf16) := by
  refine (dats m 0 c).arrAt_eq_of_covers 11 _ (by decide +kernel) fun t hf y => ?_
  have i := (idx_val t).2.2.2.2.2.2.2.2.2.2.2.1
  blk_simp; rw [after0_11, out_11 (tiles h t)]
  refine read_tile _ _ ?_ ?_ <;> blk_simp [i]

theorem final_12 : (dats m 0 c).arrAt 12 cfg0.N = (Tile 0 8224 a.proj : FVec Ideal S8192x256 .bf16) := by
  refine (dats m 0 c).arrAt_eq_of_covers 12 _ (by decide +kernel) fun t hf y => ?_
  have i := (idx_val t).2.2.2.2.2.2.2.2.2.2.2.2.1
  blk_simp; rw [after0_12, out_12 (tiles h t)]
  refine read_tile _ _ ?_ ?_ <;> blk_simp [i]

theorem final_13 : (dats m 0 c).arrAt 13 cfg0.N = (Tile 0 8480 a.proj : FVec Ideal S8192x256 .bf16) := by
  refine (dats m 0 c).arrAt_eq_of_covers 13 _ (by decide +kernel) fun t hf y => ?_
  have i := (idx_val t).2.2.2.2.2.2.2.2.2.2.2.2.2
  blk_simp; rw [after0_13, out_13 (tiles h t)]
  refine read_tile _ _ ?_ ?_ <;> blk_simp [i]

end Cert.Mix
-- ==== Proof.Wide.lean ====
/- The gradient in 2048 columns of the input projection's weight: the kernel's array after the call is the reference's, on
   any arguments. -/
module

public import proofs.«01_k».proof.Proof.Gen.WideIdeal.Value
public import proofs.«01_k».proof.Proof.Gen.WideRefIdeal.Run
public import proofs.«01_k».proof.Proof.Gen.WideRefIdeal.Read
public import proofs.«01_k».proof.Proof.Halves

@[expose] public section

set_option maxRecDepth 16384

noncomputable section

namespace Cert.WideValue

open Idealize.ShloMosaic Idealize.ShloMosaic.TcCoe Idealize.SL.Sem
open Cert.WideIdeal Cert.WideIdeal.Gen Cert.Rows

variable (u : FVec Ideal S8192x1024 .f32) (d : FVec Ideal S8192x2048 .f32)

/-- Element `(i, j)` of the gradient: column `i` of `u` against column `j` of `d`. -/
def wide (i : Fin 1024) (j : Fin 2048) : EReal := ∑ t : Fin 8192, u (ix2 t i) * d (ix2 t j)

/-- Two steps that start from zero, one for each half of the rows, give the gradient. -/
theorem wide_eq (i : Fin 1024) (j : Fin 2048) {z : EReal} (hz : z = 0) {x y : Fin 2 → Fin 4096 → EReal}
    (hx : ∀ p k, x p k = u (ix2 (row p k) i)) (hy : ∀ p k, y p k = d (ix2 (row p k) j)) :
    z + ∑ k, x 0 k * y 0 k + ∑ k, x 1 k * y 1 k = wide u d i j := by
  simp only [hz, zero_add, hx, hy, wide, sum_halves]

/-- The reference's array. -/
theorem ref_eq : WideRefIdeal.Read.val_main_v4 (F := Ideal) u d = fun i => wide u d (i 1) (i 2) := by
  funext i
  pointwise [WideRefIdeal.Read.val_main_v4_apply, WideRefIdeal.Read.val_main_v3_apply, WideRefIdeal.Read.val_main_v2_apply, wide]
  exact Finset.sum_congr rfl fun t _ => (mul_comm _ _).trans
    (congrArg₂ (· * ·) (congrArg u (same2 rfl rfl)) (congrArg d (same2 rfl rfl)))

/-! ### The kernel -/

variable {m : (ℓ : Loc nD τ sig) → Buf (Elt Ideal) ℓ} {c : Dev nD}

theorem host_v1 : V m c main_v1 = (broadcastInDim S1x8192x1024 ![1, 2] bcast_S8192x1024_S1x8192x1024_1_2
    (truncf (F := Ideal) (φ := .f32) .bf16 (m ((c : Thread nD τ).loc main_arg0)) bitsLt_bf16_f32 : FVec Ideal S8192x1024 .bf16)) := by
  unfold V
  simp only [hostOps0]
  after_results

theorem host_v3 : V m c main_v3 = (broadcastInDim S1x8192x2048 ![1, 2] bcast_S8192x2048_S1x8192x2048_1_2
    (truncf (F := Ideal) (φ := .f32) .bf16 (m ((c : Thread nD τ).loc main_arg1)) bitsLt_bf16_f32 : FVec Ideal S8192x2048 .bf16)) := by
  unfold V
  simp only [hostOps0]
  after_results

variable (hu : m ((c : Thread nD τ).loc main_arg0) = u) (hd : m ((c : Thread nD τ).loc main_arg1) = d)

include hu in
theorem read_v1 (i : S1x8192x1024.Idx) : V m c main_v1 i = u (ix2 (i 1) (i 2)) := by
  rw [host_v1, hu]
  pointwise []

include hd in
theorem read_v3 (i : S1x8192x2048.Idx) : V m c main_v3 i = d (ix2 (i 1) (i 2)) := by
  rw [host_v3, hd]
  pointwise []

/-- The rows a grid point sums over: the half `p` it is at. -/
def half (t : Fin cfg0.N) : Fin 2 := ⟨t.val % 2, by omega⟩

/-- Column `j` of the 1024 a grid point works on. -/
def column (t : Fin cfg0.N) (j : Fin 1024) : Fin 2048 := ⟨t.val / 2 * 1024 + j.val, by have := t.isLt.trans_eq N_0; omega⟩

theorem idx_val : ∀ t : Fin cfg0.N, win0_0.index t = ![0, t.val % 2, 0]
    ∧ win0_1.index t = ![0, t.val % 2, t.val / 2] ∧ win0_2.index t = ![0, 0, t.val / 2] :=
  (by decide +kernel : ∀ t : Fin grid0.N, _)

include hu in
theorem iblk_u (t : Fin cfg0.N) (k : Fin 4096) (i : Fin 1024) (z : Fin 1) :
    iblk m c 0 t (ix3 z k i) = u (ix2 (row (half t) k) i) := by
  have e := (idx_val t).1
  blk_simp [iblk]
  refine (read_v1 u hu _).trans (congrArg u (same2 ?_ ?_)) <;> blk_simp [e, row, half]

include hd in
theorem iblk_d (t : Fin cfg0.N) (k : Fin 4096) (j : Fin 1024) (z : Fin 1) :
    iblk m c 1 t (ix3 z k j) = d (ix2 (row (half t) k) (column t j)) := by
  have e := (idx_val t).2.1
  blk_simp [iblk]
  refine (read_v3 d hd _).trans (congrArg d (same2 ?_ ?_)) <;> blk_simp [e, row, half, column]

/-- A step adds the half's products to what the block held. -/
theorem step (b : Vec Ideal S1x1024x1024 .f32) (x y : Vec Ideal S1x4096x1024 .bf16) (i : S1x1024x1024.Idx) :
    k0_pay2 (F := Ideal) b x y i = b i + ∑ k : Fin 4096, x (ix3 0 k (i 1)) * y (ix3 0 k (i 2)) := by
  unfold k0_pay2
  pointwise []

include hu hd in
/-- After the second half a block holds the gradient in its columns. -/
theorem out (t : Fin cfg0.N) (h : t.val % 2 = 1) (i : S1x1024x1024.Idx) :
    outsAt0 m c t.val t.isLt i = wide u d (i 1) (column t (i 2)) := by
  let t' : Fin cfg0.N := ⟨t.val - 1, by have := t.isLt; omega⟩
  have h' : t'.val % 2 = 0 := by dsimp only [t']; omega
  have e := outsAt0_A m c t' h'
  rw [outsAt0_B m c t (by omega)]
  frame_out
  rw [step]
  have e' : outsAt0 m c (t.val - 1) (Nat.lt_of_le_of_lt (Nat.sub_le _ _) t.isLt) = _ := e
  rw [e']
  frame_out
  rw [step]
  have e1 : half t' = 0 := Fin.ext h'
  have e2 : half t = 1 := Fin.ext h
  have e3 : column t' (i 2) = column t (i 2) := Fin.ext (by dsimp only [column, t']; omega)
  refine wide_eq u d (i 1) (column t (i 2)) Ideal.ofBits_zero_f32
    (x := ![fun k => iblk m c 0 t' (ix3 0 k (i 1)), fun k => iblk m c 0 t (ix3 0 k (i 1))])
    (y := ![fun k => iblk m c 1 t' (ix3 0 k (i 2)), fun k => iblk m c 1 t (ix3 0 k (i 2))])
    (Fin.forall_fin_two.mpr ⟨fun k => ?_, fun k => ?_⟩) (Fin.forall_fin_two.mpr ⟨fun k => ?_, fun k => ?_⟩)
  · exact (iblk_u u hu t' k (i 1) 0).trans (by rw [e1])
  · exact (iblk_u u hu t k (i 1) 0).trans (by rw [e2])
  · exact (iblk_d d hd t' k (i 2) 0).trans (by rw [e1, e3])
  · exact (iblk_d d hd t k (i 2) 0).trans (by rw [e2])

include hu hd in
/-- The kernel's array. -/
theorem final : (dats m 0 c).arrAt 2 cfg0.N = fun i => wide u d (i 1) (i 2) := by
  refine (dats m 0 c).arrAt_eq_of_covers 2 (fun i : S1x1024x2048.Idx => wide u d (i 1) (i 2)) (by decide +kernel) fun t hf y => ?_
  have e := (idx_val t).2.2
  have h := (flush0_2 t).mp hf
  blk_simp
  rw [after0_2, out u d hu hd t h]
  refine congrArg₂ (wide u d) (Fin.ext ?_) (Fin.ext ?_) <;> blk_simp [e, column]

end Cert.WideValue
-- ==== Proof.MixClaim.lean ====
/- The claims about the input projection's forward call and about the gradient in 2048 columns of its weight. -/
module

public import proofs.«01_k».proof.Defs
public import Idealize.ShloMosaic.Adequacy
public import Idealize.ShloMosaic.Init
public import proofs.«01_k».proof.Proof.Gen.MixInRefIdeal.Run
public import proofs.«01_k».proof.Proof.Gen.MixInRefIdeal.Read
public import proofs.«01_k».proof.Proof.MixFinal
public import proofs.«01_k».proof.Proof.Wide

@[expose] public section

set_option maxRecDepth 16384

noncomputable section

namespace Cert.Mix

open Idealize.ShloMosaic Idealize.ShloMosaic.TcCoe Idealize.SL.Sem

/-- The arguments a launch memory holds. -/
def args (m : (ℓ : Loc MixInIdeal.nD MixInIdeal.τ MixInIdeal.sig) → Buf (Elt Ideal) ℓ) (c : Dev MixInIdeal.nD) : Args where
  x := entries (φ := .f32) (m ((c : Thread MixInIdeal.nD MixInIdeal.τ).loc MixInIdeal.main_arg0) : FVec Ideal MixInIdeal.S8192x1024 .f32)
  pre := entries (φ := .f32) (m ((c : Thread MixInIdeal.nD MixInIdeal.τ).loc MixInIdeal.main_arg1) : FVec Ideal MixInIdeal.S1x1024 .f32)
  w := entries (φ := .f32) (m ((c : Thread MixInIdeal.nD MixInIdeal.τ).loc MixInIdeal.main_arg2) : FVec Ideal MixInIdeal.S1024x8736 .f32)

theorem holds_args (m : (ℓ : Loc MixInIdeal.nD MixInIdeal.τ MixInIdeal.sig) → Buf (Elt Ideal) ℓ) (c : Dev MixInIdeal.nD) :
    Holds (args m c) m c := ⟨tile_entries (φ := .f32) _, tile_entries (φ := .f32) _, tile_entries (φ := .f32) _⟩

end Cert.Mix

namespace Cert.Proof

open Idealize.ShloMosaic Idealize.ShloMosaic.TcCoe Idealize.SL.Sem

/-- The reference of the weight's columns runs, leaves its arguments as they were, and has no semaphore. -/
theorem frame_wide_reference : Cert.quiescent_WideRefIdeal := by
  intro m ρ _
  exact (θ_run Cert.WideRefIdeal.defs _ _).mono
    (fun r h => ⟨fun c => (h c).2, sem_eq_zero_of_no_sems (by decide) r.2⟩) (Cert.WideRefIdeal.Value.run m ρ)

/-- The gradient in 2048 columns of the projection's weight: the kernel and its reference leave equal arrays, on any
    arguments. -/
theorem dw_wide : Cert.algebraic_WideIdeal_WideRefIdeal := by
  pair_intro
  · run_from Cert.WideIdeal.Value.run_blocks m g
  · run_from Cert.WideRefIdeal.Value.run m' g'
    refine (WideRefIdeal.Read.val_main_v4_eq (F := Ideal) _ _).trans ?_
    exact (WideValue.ref_eq _ _).trans (WideValue.final _ _ rfl rfl).symm

/-- The projection's reference runs, leaves its arguments as they were, and has no semaphore. -/
theorem frame_mix_in_reference : Cert.quiescent_MixInRefIdeal := by
  intro m ρ _
  exact (θ_run Cert.MixInRefIdeal.defs _ _).mono
    (fun r h => ⟨fun c => (h c).2.2.2.2.2.2.2.2, sem_eq_zero_of_no_sems (by decide) r.2⟩) (Cert.MixInRefIdeal.Value.run m ρ)

set_option maxHeartbeats 1000000 in
/-- The input projection's forward call and its reference leave equal arrays, on any arguments. -/
theorem mix_in_fwd : Cert.algebraic_MixInIdeal_MixInRefIdeal := by
  pair_intro
  · run_from Cert.MixInIdeal.Value.run_blocks m g
  · run_from Cert.MixInRefIdeal.Value.run m' g'
    all_goals
      have h := Mix.holds_args m c
      generalize Mix.args m c = a at h
    · refine (MixInRefIdeal.Read.val_main_v22_eq (F := Ideal) _ _).trans ?_
      rw [h.x, h.pre]
      exact (Mix.ref_v22 a).trans (Mix.final_6 h).symm
    · refine (MixInRefIdeal.Read.val_main_v23_eq (F := Ideal) _ _ _).trans ?_
      rw [h.x, h.pre, h.w]
      exact (Mix.ref_v23 a).trans (Mix.final_7 h).symm
    · refine (MixInRefIdeal.Read.val_main_v14_eq (F := Ideal) _ _ _).trans ?_
      rw [h.x, h.pre, h.w]
      exact (Mix.ref_v14 a).trans (Mix.final_8 h).symm
    · refine (MixInRefIdeal.Read.val_main_v15_eq (F := Ideal) _ _ _).trans ?_
      rw [h.x, h.pre, h.w]
      exact (Mix.ref_v15 a).trans (Mix.final_9 h).symm
    · refine (MixInRefIdeal.Read.val_main_v24_eq (F := Ideal) _ _ _).trans ?_
      rw [h.x, h.pre, h.w]
      exact (Mix.ref_v24 a).trans (Mix.final_10 h).symm
    · refine (MixInRefIdeal.Read.val_main_v25_eq (F := Ideal) _ _ _).trans ?_
      rw [h.x, h.pre, h.w]
      exact (Mix.ref_v25 a).trans (Mix.final_11 h).symm
    · refine (MixInRefIdeal.Read.val_main_v26_eq (F := Ideal) _ _ _).trans ?_
      rw [h.x, h.pre, h.w]
      exact (Mix.ref_v26 a).trans (Mix.final_12 h).symm
    · refine (MixInRefIdeal.Read.val_main_v27_eq (F := Ideal) _ _ _).trans ?_
      rw [h.x, h.pre, h.w]
      exact (Mix.ref_v27 a).trans (Mix.final_13 h).symm

end Cert.Proof
-- ==== Proof.BackRef.lean ====
/- The gradient through the input projection and its norm as plain functions on rows and columns, and its reference read
   stage by stage. -/
module

public import proofs.«01_k».proof.Proof.Gen.MixBackRefIdeal.Read
public import proofs.«01_k».proof.Proof.MixRef

@[expose] public section

set_option maxRecDepth 16384

noncomputable section

namespace Cert.MixGrad

open Idealize.ShloMosaic
open Cert.Mix (Tile tile_at entries tile_entries scale width epsilon)

/-! ### The gradient of the norm -/

theorem square_nonneg (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

theorem width_eq : width = ((1024 : ℝ) : EReal) := Ffn.ofBits_1024

/-- What stands under the root: the mean square of a row and the small constant. -/
def spread (x : ℕ → EReal) : EReal := Ideal.div (∑ d : Fin 1024, x d * x d) width + epsilon

/-- The scale over the spread is the cube of the scale, a number that is finite. -/
theorem cube (x : ℕ → EReal) : ∃ s : ℝ, 0 ≤ s ∧ Ideal.div (scale x) (spread x) = (s : EReal)
    ∧ scale x * scale x * scale x = (s : EReal) := by
  have hs : scale x = Ideal.rsqrt (spread x) := rfl
  rw [hs]
  have h : 0 ≤ ∑ d : Fin 1024, x d * x d := Finset.sum_nonneg fun d _ => square_nonneg _
  have e : spread x = Ideal.div (∑ d : Fin 1024, x d * x d) ((1024 : ℝ) : EReal) + ((Ffn.eps : ℝ) : EReal) := by
    unfold spread; rw [width_eq]; exact congrArg _ Ffn.ofBits_eps
  rw [e, Ideal.div_coe (by norm_num)]
  generalize (∑ d : Fin 1024, x d * x d) = u at h
  induction u with
  | bot => exact absurd h (by simp)
  | top =>
    refine ⟨0, le_refl _, ?_, ?_⟩
    · rw [EReal.top_mul_coe_of_pos (by norm_num), EReal.top_add_coe]
      show Ideal.div 0 ⊤ = _
      unfold Ideal.div; rw [if_neg EReal.top_ne_zero, zero_mul]; rfl
    · rw [EReal.top_mul_coe_of_pos (by norm_num), EReal.top_add_coe]
      show (0 : EReal) * 0 * 0 = _
      rw [mul_zero]; rfl
  | coe r =>
    rw [← EReal.coe_mul, ← EReal.coe_add]
    have p : 0 < r * (1 / 1024) + Ffn.eps := add_pos_of_nonneg_of_pos (mul_nonneg (EReal.coe_nonneg.1 h) (by norm_num)) Ffn.eps_pos
    generalize r * (1 / 1024) + Ffn.eps = q at p
    have h2 : √q * √q = q := Real.mul_self_sqrt p.le
    have h3 : √q ≠ 0 := (Real.sqrt_pos.2 p).ne'
    rw [Ffn.rsqrt_real p, Ffn.div_real _ p.ne', ← EReal.coe_mul, ← EReal.coe_mul]
    refine ⟨(√q)⁻¹ / q, div_nonneg (inv_nonneg.2 (Real.sqrt_nonneg _)) p.le, rfl, congrArg _ ?_⟩
    conv_rhs => rw [← h2]
    simp only [Real.sqrt_mul_self (Real.sqrt_nonneg _)]
    field_simp

/-- Twice a product by a number is the product by twice the number. -/
theorem mul_twice (y : EReal) (r : ℝ) : y * (r : EReal) + y * (r : EReal) = y * ((r + r : ℝ) : EReal) := by
  rcases lt_trichotomy r 0 with hr | rfl | hr
  · have h2 : r + r < 0 := by linarith
    induction y with
    | bot => rw [EReal.bot_mul_coe_of_neg hr, EReal.bot_mul_coe_of_neg h2]; rfl
    | top => rw [EReal.top_mul_coe_of_neg hr, EReal.top_mul_coe_of_neg h2]; rfl
    | coe v => rw [← EReal.coe_mul, ← EReal.coe_mul, ← EReal.coe_add, mul_add]
  · simp
  · have h2 : 0 < r + r := by linarith
    induction y with
    | bot => rw [EReal.bot_mul_coe_of_pos hr, EReal.bot_mul_coe_of_pos h2]; rfl
    | top => rw [EReal.top_mul_coe_of_pos hr, EReal.top_mul_coe_of_pos h2]; rfl
    | coe v => rw [← EReal.coe_mul, ← EReal.coe_mul, ← EReal.coe_add, mul_add]

/-- The two equal terms of the plain gradient through the scale are the one that the call subtracts. -/
theorem norm_back (x : ℕ → EReal) (y t v s : EReal) :
    y + t * scale x + v * Ideal.div (s * (Ideal.ofBits .f32 0xBF000000#32 * Ideal.div (scale x) (spread x))) width
        + Ideal.div (s * (Ideal.ofBits .f32 0xBF000000#32 * Ideal.div (scale x) (spread x))) width * v
      = y + scale x * t - v * (scale x * scale x * scale x * Ideal.div s width) := by
  obtain ⟨q, -, e, e'⟩ := cube x
  rw [e, e', width_eq, Ffn.ofBits_neg_half, Ideal.div_coe (by norm_num), Ideal.div_coe (by norm_num), ← EReal.coe_mul,
    mul_comm t, add_assoc, sub_eq_add_neg]
  refine congrArg _ ?_
  have l : v * (s * ((-(1 / 2) * q : ℝ) : EReal) * ((1 / 1024 : ℝ) : EReal)) = v * s * ((-(1 / 2) * q * (1 / 1024) : ℝ) : EReal) := by
    rw [mul_assoc s, ← EReal.coe_mul, mul_assoc v]
  have r : v * ((q : EReal) * (s * ((1 / 1024 : ℝ) : EReal))) = v * s * ((q * (1 / 1024) : ℝ) : EReal) := by
    rw [EReal.coe_mul, mul_assoc, mul_left_comm (q : EReal)]
  rw [mul_comm _ v, l, r, mul_twice, ← mul_neg, ← EReal.coe_neg]
  congr 2
  ring

/-! ### The model -/

/-- The arguments: the rows, the norm's weight, the projection's weight, the cotangent that reaches the rows by the
    other way, and the cotangent of the projection. -/
structure Args where
  x : ℕ → ℕ → EReal
  pre : ℕ → ℕ → EReal
  w : ℕ → ℕ → EReal
  ct : ℕ → ℕ → EReal
  dp : ℕ → ℕ → EReal

namespace Args

variable (a : Args)

/-- The gradient in the normed rows. -/
def du (t d : ℕ) : EReal := ∑ k : Fin 8736, a.dp t k * a.w d k
/-- One row's term of the gradient in the norm's weight. -/
def part (d t : ℕ) : EReal := a.du t d * a.x t d * scale (a.x t)
/-- The gradient in the norm's weight. -/
def dg (r d : ℕ) : EReal := ∑ t ∈ Finset.range 8192, a.part d t
/-- The gradient in the rows. -/
def dh (t d : ℕ) : EReal := a.ct t d + scale (a.x t) * (a.du t d * a.pre 0 d)
  - a.x t d * (scale (a.x t) * scale (a.x t) * scale (a.x t) * Ideal.div (∑ k : Fin 1024, a.du t k * a.pre 0 k * a.x t k) width)

abbrev X : FVec Ideal ⟨2, ![8192, 1024]⟩ .f32 := Tile 0 0 a.x
abbrev Pre : FVec Ideal ⟨2, ![1, 1024]⟩ .f32 := Tile 0 0 a.pre
abbrev W : FVec Ideal ⟨2, ![1024, 8736]⟩ .f32 := Tile 0 0 a.w
abbrev Ct : FVec Ideal ⟨2, ![8192, 1024]⟩ .f32 := Tile 0 0 a.ct
abbrev Dp : FVec Ideal ⟨2, ![8192, 8736]⟩ .f32 := Tile 0 0 a.dp

end Args

/-! ### The reference -/

section
open Cert.MixBackRefIdeal Cert.MixBackRefIdeal.Read

variable (a : Args)

theorem ref_v6 (i : S8192x1.Idx) : val_main_v6 (F := Ideal) a.X i = spread (a.x (i 0).val) := by
  simp only [val_main_v6_apply, val_main_v4_apply, val_main_v3_apply, val_main_v2_apply, val_main_v1_apply,
    val_main_v0_apply, val_main_v5_apply, val_main_cst_apply, val_main_cst_0_apply, val_main_cst_1_apply,
    Ideal.ofBits_def, Ideal.addf_def, Ideal.mulf_def, Ideal.hostDivf_def, Ideal.ofBits_zero_f32, zero_add]
  simp only [Args.X, Tile, spread, zero_add]

theorem ref_v7 (i : S8192x1.Idx) : val_main_v7 (F := Ideal) a.X i = scale (a.x (i 0).val) := by
  rw [val_main_v7_apply, ref_v6]; rfl

theorem ref_v16 : val_main_v16 (F := Ideal) a.W a.Dp = Tile (φ := .f32) 0 0 a.du := by
  funext i
  rw [val_main_v16_apply]
  simp only [Tile, Args.du, zero_add]

/-- The gradient in the norm's weight. -/
theorem ref_v19 : val_main_v19 (F := Ideal) a.X a.W a.Dp = Tile (φ := .f32) 0 0 a.dg := by
  funext i
  rw [val_main_v19_apply, val_main_v18_apply, val_main_cst_3_apply, Ideal.ofBits_def, Ideal.ofBits_zero_f32, zero_add]
  simp only [Tile, Args.dg, Finset.sum_range]
  refine Finset.sum_congr rfl fun k _ => ?_
  rw [val_main_v17_apply, val_main_v12_apply, val_main_v11_apply, ref_v16, ref_v7]
  simp only [Tile, Args.part, Ideal.mulf_def, zero_add]
  have z : (i 0).val = 0 := Nat.lt_one_iff.1 (i 0).isLt
  rw [mul_comm, mul_assoc]
  show a.du k ((i 0).val * 1024 + (i 1).val) * (a.x k ((i 0).val * 1024 + (i 1).val) * scale (a.x k)) = _
  rw [z, zero_mul, zero_add]

theorem ref_v21 : val_main_v21 (F := Ideal) a.Pre a.W a.Dp = Tile (φ := .f32) 0 0 (fun t d => a.du t d * a.pre 0 d) := by
  funext i
  rw [val_main_v21_apply, val_main_v20_apply, ref_v16]; rfl

theorem ref_v24 (i : S8192x1.Idx) : val_main_v24 (F := Ideal) a.X a.Pre a.W a.Dp i
    = ∑ k : Fin 1024, a.du (i 0).val k * a.pre 0 k * a.x (i 0).val k := by
  rw [val_main_v24_apply, val_main_v23_apply, val_main_cst_4_apply, Ideal.ofBits_def, Ideal.ofBits_zero_f32, zero_add]
  refine Finset.sum_congr rfl fun k _ => ?_
  rw [val_main_v22_apply, ref_v21, Ideal.mulf_def, mul_comm]
  have z : (i 1).val = 0 := Nat.lt_one_iff.1 (i 1).isLt
  simp only [Tile, zero_add]
  show a.du ((i 0).val * 1 + (i 1).val) k * a.pre 0 k * a.x ((i 0).val * 1 + (i 1).val) k = _
  rw [z, mul_one, add_zero]

theorem ref_v32 (i : S8192x1024.Idx) : val_main_v32 (F := Ideal) a.X a.Pre a.W a.Dp i
    = Ideal.div ((∑ k : Fin 1024, a.du (i 0).val k * a.pre 0 k * a.x (i 0).val k)
        * (Ideal.ofBits .f32 0xBF000000#32 * Ideal.div (scale (a.x (i 0).val)) (spread (a.x (i 0).val)))) width := by
  simp only [val_main_v32_apply, val_main_v31_apply, val_main_cst_6_apply, val_main_v30_apply, val_main_v29_apply, val_main_cst_5_apply,
    val_main_v28_apply, val_main_v10_apply, val_main_v9_apply, val_main_cst_2_apply, val_main_v8_apply, ref_v24, ref_v7, ref_v6,
    Ideal.ofBits_def, Ideal.mulf_def, Ideal.hostDivf_def, Ideal.ofBits_zero_f32, zero_add, Finset.univ_unique, Finset.sum_singleton]

/-- The gradient in the rows. -/
theorem ref_v36 : val_main_v36 (F := Ideal) a.X a.Pre a.W a.Ct a.Dp = Tile (φ := .f32) 0 0 a.dh := by
  funext i
  rw [val_main_v36_apply, val_main_v35_apply, val_main_v34_apply, val_main_v33_apply, val_main_v27_apply, val_main_v26_apply,
    val_main_v25_apply, ref_v32, ref_v21, ref_v7]
  simp only [Ideal.mulf_def, Ideal.addf_def, Args.X, Args.Ct, Tile, Args.dh, zero_add]
  exact norm_back _ _ _ _ _

end

end Cert.MixGrad
-- ==== Proof.BackPoint.lean ====
/- What the gradient's call computes at one grid point: on tiles of the model each value its body names is a tile of the
   model. -/
module

public import proofs.«01_k».proof.Proof.BackRef
public import proofs.«01_k».proof.Proof.Gen.MixBackIdeal.Value

@[expose] public section

set_option maxRecDepth 16384

noncomputable section

namespace Cert.MixGrad

open Idealize.ShloMosaic Idealize.ShloMosaic.TcCoe Idealize.SL.Sem
open Cert.Mix (Tile tile_at entries tile_entries scale width epsilon)
open Cert.MixBackIdeal Cert.MixBackIdeal.Gen

/-- A part of a tile is a tile. -/
theorem ld_tile {M N A B : ℕ} (r c : ℕ) (f : ℕ → ℕ → EReal) (p q : ℕ) (b) :
    (View.ld (Val := Elt Ideal) (e' := .bf16) (Tile (M := M) (N := N) (φ := .bf16) r c f)
      (Rect.unit (s := ⟨2, ![M, N]⟩) ![p, q] ![A, B] b) : FVec Ideal ⟨2, ![A, B]⟩ .bf16)
      = Tile (M := A) (N := B) (φ := .bf16) (r + p) (c + q) f := by
  funext i
  rw [View.ld_apply]
  have h0 := Rect.idx_unit_val (s := ⟨2, ![M, N]⟩) _ _ b i 0
  have h1 := Rect.idx_unit_val (s := ⟨2, ![M, N]⟩) _ _ b i 1
  exact congrArg₂ f (by rw [h0, Nat.add_assoc]; rfl) (by rw [h1, Nat.add_assoc]; rfl)

/-- A block of the output whose pieces are tiles is a tile. -/
theorem read_tile {M N M' N' : ℕ} {φ : FTy} {r c r' c' : ℕ} {f : ℕ → ℕ → EReal} (i : (⟨2, ![M, N]⟩ : Shape).Idx)
    (j : (⟨2, ![M', N']⟩ : Shape).Idx) (h0 : r' + (j 0).val = r + (i 0).val) (h1 : c' + (j 1).val = c + (i 1).val) :
    Tile (φ := φ) r c f i = Tile (φ := φ) r' c' f j := congrArg₂ f h0.symm h1.symm

/-- The terms of the gradient in the normed rows from `n` columns of the projection that start at `c`. -/
def Args.span (a : Args) (c n t d : ℕ) : EReal := ∑ k ∈ Finset.range n, a.dp t (c + k) * a.w d (c + k)

/-- The nine groups of columns are all of them. -/
theorem spans (a : Args) (t d : ℕ) : a.span 0 2048 t d + a.span 2048 2048 t d + a.span 4096 2048 t d + a.span 6144 512 t d
    + a.span 6656 512 t d + a.span 7168 32 t d + a.span 7200 1024 t d + a.span 8224 256 t d + a.span 8480 256 t d = a.du t d := by
  unfold Args.du Args.span
  simp only [Nat.zero_add]
  rw [← Finset.sum_range_add, ← Finset.sum_range_add, ← Finset.sum_range_add, ← Finset.sum_range_add, ← Finset.sum_range_add,
    ← Finset.sum_range_add, ← Finset.sum_range_add, ← Finset.sum_range_add, Finset.sum_range]

variable (a : Args) (r c : ℕ)

set_option backward.isDefEq.respectTransparency false

/-! ### The body's values -/

theorem dot_2048 (h h') : matmul dot_S512x2048_S1024x2048_S512x1024_1_1_0_0_n_n none
    (shapeCast S512x2048 (Tile (φ := .bf16) r c a.dp : FVec Ideal S512x2048 .bf16) h)
    (shapeCast S1024x2048 (Tile (φ := .bf16) 0 c a.w : FVec Ideal S1024x2048 .bf16) h') (constant (F := Ideal) S512x1024 .f32 0x00000000#32)
    = Tile (φ := .f32) r 0 (a.span c 2048) := by
  funext i
  pointwise [Tile, Args.span, zero_add, Finset.sum_range]

theorem dot_512 (h h') : matmul dot_S512x512_S1024x512_S512x1024_1_1_0_0_n_n none
    (shapeCast S512x512 (Tile (φ := .bf16) r c a.dp : FVec Ideal S512x512 .bf16) h)
    (shapeCast S1024x512 (Tile (φ := .bf16) 0 c a.w : FVec Ideal S1024x512 .bf16) h') (constant (F := Ideal) S512x1024 .f32 0x00000000#32)
    = Tile (φ := .f32) r 0 (a.span c 512) := by
  funext i
  pointwise [Tile, Args.span, zero_add, Finset.sum_range]

theorem dot_1024 (h h') : matmul dot_S512x1024_S1024x1024_S512x1024_1_1_0_0_n_n none
    (shapeCast S512x1024 (Tile (φ := .bf16) r c a.dp : FVec Ideal S512x1024 .bf16) h)
    (shapeCast S1024x1024 (Tile (φ := .bf16) 0 c a.w : FVec Ideal S1024x1024 .bf16) h') (constant (F := Ideal) S512x1024 .f32 0x00000000#32)
    = Tile (φ := .f32) r 0 (a.span c 1024) := by
  funext i
  pointwise [Tile, Args.span, zero_add, Finset.sum_range]

theorem dot_256 (h h') : matmul dot_S512x256_S1024x256_S512x1024_1_1_0_0_n_n none
    (shapeCast S512x256 (Tile (φ := .bf16) r c a.dp : FVec Ideal S512x256 .bf16) h)
    (shapeCast S1024x256 (Tile (φ := .bf16) 0 c a.w : FVec Ideal S1024x256 .bf16) h') (constant (F := Ideal) S512x1024 .f32 0x00000000#32)
    = Tile (φ := .f32) r 0 (a.span c 256) := by
  funext i
  pointwise [Tile, Args.span, zero_add, Finset.sum_range]

/-- The 32 columns that both factors hold transposed. -/
theorem dot_32 (h h' e) : matmul dot_S32x512_S32x1024_S512x1024_0_0_1_1_n_n none
    (truncf (φ := .f32) .bf16 (shapeCast S32x512 (Tile (φ := .f32) c r (fun k t => a.dp t k) : FVec Ideal S32x512 .f32) h) e)
    (shapeCast S32x1024 (Tile (φ := .bf16) c 0 (fun k d => a.w d k) : FVec Ideal S32x1024 .bf16) h') (constant (F := Ideal) S512x1024 .f32 0x00000000#32)
    = Tile (φ := .f32) r 0 (a.span c 32) := by
  funext i
  pointwise [Tile, Args.span, zero_add, Finset.sum_range]

/-- The gradient in the normed rows. -/
theorem pay_du :
    k0_pay6 (F := Ideal) (k0_pay4 (Tile (φ := .bf16) r 0 a.dp) (Tile (φ := .bf16) 0 0 a.w) (Tile (φ := .bf16) r 2048 a.dp)
        (Tile (φ := .bf16) 0 2048 a.w) (Tile (φ := .bf16) r 4096 a.dp) (Tile (φ := .bf16) 0 4096 a.w) (Tile (φ := .bf16) r 6144 a.dp)
        (Tile (φ := .bf16) 0 6144 a.w))
      (k0_pay5 (Tile (φ := .bf16) r 6656 a.dp) (Tile (φ := .bf16) 0 6656 a.w))
      (Tile (φ := .f32) 7168 r (fun k t => a.dp t k)) (Tile (φ := .bf16) 7168 0 (fun k d => a.w d k))
      (Tile (φ := .bf16) r 7200 a.dp) (Tile (φ := .bf16) 0 7200 a.w) (Tile (φ := .bf16) r 8224 a.dp) (Tile (φ := .bf16) 0 8224 a.w)
      (Tile (φ := .bf16) r 8480 a.dp) (Tile (φ := .bf16) 0 8480 a.w) = Tile (φ := .f32) r 0 a.du := by
  simp only [k0_pay6, k0_pay4, k0_pay5, dot_2048, dot_512, dot_1024, dot_256, dot_32]
  funext i
  exact spans a _ _

/-- The scale of each row. -/
theorem pay_scale : k0_pay7 (F := Ideal) (Tile (φ := .f32) r 0 a.x) = fun i => scale (a.x (r + (i 0).val)) := by
  funext i
  unfold k0_pay7
  pointwise [Tile, scale, zero_add]

/-- The block's terms of the gradient in the norm's weight, added to what the rows before left. -/
theorem pay_dg (f : ℕ → ℕ → EReal) : k0_pay1 (F := Ideal) (Tile (φ := .f32) r 0 a.du) (Tile (φ := .f32) r 0 a.x)
    (fun i => scale (a.x (r + (i 0).val))) (Tile (φ := .f32) 0 0 f)
    = Tile (φ := .f32) 0 0 (fun s d => f s d + ∑ t ∈ Finset.range 512, a.part d (r + t)) := by
  funext i
  unfold k0_pay1
  pointwise [Tile, Args.part, zero_add, Finset.sum_range]

/-- The gradient in the rows. -/
theorem pay_dh : k0_pay2 (F := Ideal) (Tile (φ := .f32) r 0 a.du) (Tile (φ := .f32) r 0 a.x)
    (fun i => scale (a.x (r + (i 0).val))) (Tile (φ := .f32) 0 0 a.pre) (Tile (φ := .f32) r 0 a.ct) = Tile (φ := .f32) r 0 a.dh := by
  funext i
  unfold k0_pay2
  pointwise [Tile, Args.dh, zero_add]

/-- The zeros that the first point starts from. -/
theorem pay_zero : k0_pay3 (F := Ideal) = Tile (φ := .f32) 0 0 (fun _ _ => 0) := by
  funext i
  unfold k0_pay3
  pointwise [Tile]

end Cert.MixGrad
-- ==== Proof.BackFinal.lean ====
/- The blocks the gradient's windows hold at each grid point, as tiles of the model, and the arrays the call leaves. -/
module

public import proofs.«01_k».proof.Proof.BackPoint

@[expose] public section

set_option maxRecDepth 16384

noncomputable section

namespace Cert.MixGrad

open Idealize.ShloMosaic Idealize.ShloMosaic.TcCoe Idealize.SL.Sem
open Cert.Mix (Tile tile_at entries tile_entries scale width epsilon)
open Cert.MixBackIdeal Cert.MixBackIdeal.Gen

/-- The launch memory holds the arguments `a`. -/
structure Holds (a : Args) (m : (ℓ : Loc nD τ sig) → Buf (Elt Ideal) ℓ) (c : Dev nD) : Prop where
  x : m ((c : Thread nD τ).loc main_arg0) = a.X
  pre : m ((c : Thread nD τ).loc main_arg1) = a.Pre
  w : m ((c : Thread nD τ).loc main_arg2) = a.W
  ct : m ((c : Thread nD τ).loc main_arg3) = a.Ct
  dp : m ((c : Thread nD τ).loc main_arg4) = a.Dp

/-- Every window's block index at every grid point. -/
theorem idx_val : ∀ t : Fin cfg0.N, win0_0.index t = ![t.val, 0]
    ∧ win0_1.index t = ![t.val, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![0, t.val]
    ∧ win0_9.index t = ![t.val, 0]
    ∧ win0_10.index t = ![t.val, 0]
    ∧ win0_11.index t = ![t.val, 0]
    ∧ win0_12.index t = ![0, 0]
    ∧ win0_13.index t = ![0, 0]
    ∧ win0_14.index t = ![0, 0]
    ∧ win0_15.index t = ![0, 0]
    ∧ win0_16.index t = ![t.val, 0]
    ∧ win0_17.index t = ![0, 0] :=
  (by decide +kernel : ∀ t : Fin grid0.N, _)

variable {a : Args} {m : (ℓ : Loc nD τ sig) → Buf (Elt Ideal) ℓ} {c : Dev nD} (h : Holds a m c) (t : Fin cfg0.N)
include h

/-! ### What the host hands over: groups of columns -/

theorem host_dp : V m c main_v1 = (Tile (φ := .bf16) 0 0 a.dp : FVec Ideal S8192x2048 .bf16)
    ∧ V m c main_v2 = (Tile (φ := .bf16) 0 2048 a.dp : FVec Ideal S8192x2048 .bf16)
    ∧ V m c main_v3 = (Tile (φ := .bf16) 0 4096 a.dp : FVec Ideal S8192x2048 .bf16)
    ∧ V m c main_v4 = (Tile (φ := .bf16) 0 6144 a.dp : FVec Ideal S8192x512 .bf16)
    ∧ V m c main_v5 = (Tile (φ := .bf16) 0 6656 a.dp : FVec Ideal S8192x512 .bf16)
    ∧ V m c main_v7 = (Tile (φ := .f32) 7168 0 (fun k t => a.dp t k) : FVec Ideal S32x8192 .f32)
    ∧ V m c main_v8 = (Tile (φ := .bf16) 0 7200 a.dp : FVec Ideal S8192x1024 .bf16)
    ∧ V m c main_v9 = (Tile (φ := .bf16) 0 8224 a.dp : FVec Ideal S8192x256 .bf16)
    ∧ V m c main_v10 = (Tile (φ := .bf16) 0 8480 a.dp : FVec Ideal S8192x256 .bf16) := by
  refine ⟨?_, ?_, ?_, ?_, ?_, ?_, ?_, ?_, ?_⟩
  all_goals
    unfold V
    simp only [hostOps0]
    after_results
    rw [h.dp]
    funext i
    pointwise [Tile]

theorem host_w : V m c main_v12 = (Tile (φ := .bf16) 0 0 a.w : FVec Ideal S1024x4096 .bf16)
    ∧ V m c main_v13 = (Tile (φ := .bf16) 0 4096 a.w : FVec Ideal S1024x3072 .bf16)
    ∧ V m c main_v15 = (Tile (φ := .bf16) 7168 0 (fun k d => a.w d k) : FVec Ideal S32x1024 .bf16)
    ∧ V m c main_v16 = (Tile (φ := .bf16) 0 7200 a.w : FVec Ideal S1024x1536 .bf16) := by
  refine ⟨?_, ?_, ?_, ?_⟩
  all_goals
    unfold V
    simp only [hostOps0]
    after_results
    rw [h.w]
    funext i
    pointwise [Tile]

/-! ### The blocks -/

theorem rows : iblk m c 0 t = Tile (φ := .f32) (t.val * 512) 0 a.ct ∧ iblk m c 1 t = Tile (φ := .f32) (t.val * 512) 0 a.x
    ∧ iblk m c 2 t = Tile (φ := .f32) 0 0 a.pre := by
  obtain ⟨e0, e1, e2, -⟩ := idx_val t
  refine ⟨?_, ?_, ?_⟩ <;> funext i <;> blk_simp [iblk]
  · rw [V_main_arg3, h.ct]
    refine read_tile _ _ ?_ ?_ <;> blk_simp [e0]
  · rw [V_main_arg0, h.x]
    refine read_tile _ _ ?_ ?_ <;> blk_simp [e1]
  · rw [V_main_arg1, h.pre]
    refine read_tile _ _ ?_ ?_ <;> blk_simp [e2]

theorem columns_dp : iblk m c 3 t = Tile (φ := .bf16) (t.val * 512) 0 a.dp ∧ iblk m c 4 t = Tile (φ := .bf16) (t.val * 512) 2048 a.dp
    ∧ iblk m c 5 t = Tile (φ := .bf16) (t.val * 512) 4096 a.dp ∧ iblk m c 6 t = Tile (φ := .bf16) (t.val * 512) 6144 a.dp
    ∧ iblk m c 7 t = Tile (φ := .bf16) (t.val * 512) 6656 a.dp
    ∧ iblk m c 8 t = Tile (φ := .f32) 7168 (t.val * 512) (fun k t => a.dp t k)
    ∧ iblk m c 9 t = Tile (φ := .bf16) (t.val * 512) 7200 a.dp ∧ iblk m c 10 t = Tile (φ := .bf16) (t.val * 512) 8224 a.dp
    ∧ iblk m c 11 t = Tile (φ := .bf16) (t.val * 512) 8480 a.dp := by
  obtain ⟨-, -, -, e3, e4, e5, e6, e7, e8, e9, e10, e11, -⟩ := idx_val t
  obtain ⟨d1, d2, d3, d4, d5, d7, d8, d9, d10⟩ := host_dp h
  refine ⟨?_, ?_, ?_, ?_, ?_, ?_, ?_, ?_, ?_⟩ <;> funext i <;> blk_simp [iblk]
  · rw [d1]; refine read_tile _ _ ?_ ?_ <;> blk_simp [e3]
  · rw [d2]; refine read_tile _ _ ?_ ?_ <;> blk_simp [e4]
  · rw [d3]; refine read_tile _ _ ?_ ?_ <;> blk_simp [e5]
  · rw [d4]; refine read_tile _ _ ?_ ?_ <;> blk_simp [e6]
  · rw [d5]; refine read_tile _ _ ?_ ?_ <;> blk_simp [e7]
  · rw [d7]; refine read_tile _ _ ?_ ?_ <;> blk_simp [e8]
  · rw [d8]; refine read_tile _ _ ?_ ?_ <;> blk_simp [e9]
  · rw [d9]; refine read_tile _ _ ?_ ?_ <;> blk_simp [e10]
  · rw [d10]; refine read_tile _ _ ?_ ?_ <;> blk_simp [e11]

theorem columns_w : iblk m c 12 t = Tile (φ := .bf16) 0 0 a.w ∧ iblk m c 13 t = Tile (φ := .bf16) 0 4096 a.w
    ∧ iblk m c 14 t = Tile (φ := .bf16) 7168 0 (fun k d => a.w d k) ∧ iblk m c 15 t = Tile (φ := .bf16) 0 7200 a.w := by
  obtain ⟨-, -, -, -, -, -, -, -, -, -, -, -, e12, e13, e14, e15, -⟩ := idx_val t
  obtain ⟨d12, d13, d15, d16⟩ := host_w h
  refine ⟨?_, ?_, ?_, ?_⟩ <;> funext i <;> blk_simp [iblk]
  · rw [d12]; refine read_tile _ _ ?_ ?_ <;> blk_simp [e12]
  · rw [d13]; refine read_tile _ _ ?_ ?_ <;> blk_simp [e13]
  · rw [d15]; refine read_tile _ _ ?_ ?_ <;> blk_simp [e14]
  · rw [d16]; refine read_tile _ _ ?_ ?_ <;> blk_simp [e15]

/-- The block of the gradient in the normed rows. -/
theorem block_du : k0_pay6 (F := Ideal)
      (k0_pay4 (iblk m c 3 t)
        (View.ld (iblk m c 12 t) (Rect.unit ![0, 0] ![1024, 2048] inb_S1024x4096_S1024x2048_0_0)) (iblk m c 4 t)
        (View.ld (iblk m c 12 t) (Rect.unit ![0, 2048] ![1024, 2048] inb_S1024x4096_S1024x2048_0_2048)) (iblk m c 5 t)
        (View.ld (iblk m c 13 t) (Rect.unit ![0, 0] ![1024, 2048] inb_S1024x3072_S1024x2048_0_0)) (iblk m c 6 t)
        (View.ld (iblk m c 13 t) (Rect.unit ![0, 2048] ![1024, 512] inb_S1024x3072_S1024x512_0_2048)))
      (k0_pay5 (iblk m c 7 t)
        (View.ld (iblk m c 13 t) (Rect.unit ![0, 2560] ![1024, 512] inb_S1024x3072_S1024x512_0_2560)))
      (iblk m c 8 t) (iblk m c 14 t) (iblk m c 9 t)
      (View.ld (iblk m c 15 t) (Rect.unit ![0, 0] ![1024, 1024] inb_S1024x1536_S1024x1024_0_0)) (iblk m c 10 t)
      (View.ld (iblk m c 15 t) (Rect.unit ![0, 1024] ![1024, 256] inb_S1024x1536_S1024x256_0_1024)) (iblk m c 11 t)
      (View.ld (iblk m c 15 t) (Rect.unit ![0, 1280] ![1024, 256] inb_S1024x1536_S1024x256_0_1280))
    = Tile (φ := .f32) (t.val * 512) 0 a.du := by
  obtain ⟨e3, e4, e5, e6, e7, e8, e9, e10, e11⟩ := columns_dp h t
  obtain ⟨e12, e13, e14, e15⟩ := columns_w h t
  have l0 : View.ld (iblk m c 12 t) (Rect.unit ![0, 0] ![1024, 2048] inb_S1024x4096_S1024x2048_0_0) = Tile (φ := .bf16) 0 0 a.w := by
    rw [e12]; exact ld_tile ..
  have l1 : View.ld (iblk m c 12 t) (Rect.unit ![0, 2048] ![1024, 2048] inb_S1024x4096_S1024x2048_0_2048)
      = Tile (φ := .bf16) 0 2048 a.w := by rw [e12]; exact ld_tile ..
  have l2 : View.ld (iblk m c 13 t) (Rect.unit ![0, 0] ![1024, 2048] inb_S1024x3072_S1024x2048_0_0) = Tile (φ := .bf16) 0 4096 a.w := by
    rw [e13]; exact ld_tile ..
  have l3 : View.ld (iblk m c 13 t) (Rect.unit ![0, 2048] ![1024, 512] inb_S1024x3072_S1024x512_0_2048)
      = Tile (φ := .bf16) 0 6144 a.w := by rw [e13]; exact ld_tile ..
  have l4 : View.ld (iblk m c 13 t) (Rect.unit ![0, 2560] ![1024, 512] inb_S1024x3072_S1024x512_0_2560)
      = Tile (φ := .bf16) 0 6656 a.w := by rw [e13]; exact ld_tile ..
  have l5 : View.ld (iblk m c 15 t) (Rect.unit ![0, 0] ![1024, 1024] inb_S1024x1536_S1024x1024_0_0) = Tile (φ := .bf16) 0 7200 a.w := by
    rw [e15]; exact ld_tile ..
  have l6 : View.ld (iblk m c 15 t) (Rect.unit ![0, 1024] ![1024, 256] inb_S1024x1536_S1024x256_0_1024)
      = Tile (φ := .bf16) 0 8224 a.w := by rw [e15]; exact ld_tile ..
  have l7 : View.ld (iblk m c 15 t) (Rect.unit ![0, 1280] ![1024, 256] inb_S1024x1536_S1024x256_0_1280)
      = Tile (φ := .bf16) 0 8480 a.w := by rw [e15]; exact ld_tile ..
  rw [l0, l1, l2, l3, l4, l5, l6, l7, e3, e4, e5, e6, e7, e8, e9, e10, e11, e14]
  exact pay_du a _

/-! ### What a grid point leaves -/

theorem out_16 : (outsAt0 m c t.val t.isLt).1 = Tile (φ := .f32) (t.val * 512) 0 a.dh := by
  obtain ⟨e0, e1, e2⟩ := rows h t
  by_cases h0 : t.val % 16 = 0
  · rw [outsAt0_A m c t h0]; dsimp only; frame_out
    refine (congrArg (k0_pay2 · _ _ _ _) (block_du h t)).trans ?_
    rw [e0, e1, e2, pay_scale]
    exact pay_dh a _
  · rw [outsAt0_B m c t h0]; dsimp only; frame_out
    refine (congrArg (k0_pay2 · _ _ _ _) (block_du h t)).trans ?_
    rw [e0, e1, e2, pay_scale]
    exact pay_dh a _

/-- After a point the gradient in the norm's weight has the rows up to the point's last. -/
theorem out_17 : ∀ (n : ℕ) (hn : n < cfg0.N), (outsAt0 m c n hn).2
    = Tile (φ := .f32) 0 0 (fun s d => ∑ k ∈ Finset.range ((n + 1) * 512), a.part d k)
  | 0, hn => by
    let t : Fin cfg0.N := ⟨0, hn⟩
    obtain ⟨e0, e1, e2⟩ := rows h t
    refine (congrArg (fun p => p.2) (outsAt0_A m c t rfl)).trans ?_
    dsimp only; frame_out
    refine (congrArg (k0_pay1 · _ _ _) (block_du h t)).trans ?_
    rw [e1, pay_scale, pay_zero]
    refine (pay_dg a _ _).trans (congrArg _ (funext fun s => funext fun d => ?_))
    simp only [t, zero_mul, zero_add, one_mul]
  | n + 1, hn => by
    let t : Fin cfg0.N := ⟨n + 1, hn⟩
    obtain ⟨e0, e1, e2⟩ := rows h t
    have h0 : ¬ t.val % 16 = 0 := by have := hn.trans_eq N_0; dsimp only [t]; omega
    refine (congrArg (fun p => p.2) (outsAt0_B m c t h0)).trans ?_
    dsimp only; frame_out
    refine (congrArg (k0_pay1 · _ _ _) (block_du h t)).trans ?_
    rw [e1, pay_scale]
    refine (congrArg (k0_pay1 _ _ _) (out_17 n _)).trans ?_
    refine (pay_dg a _ _).trans (congrArg _ (funext fun s => funext fun d => ?_))
    rw [add_mul (n + 1) 1 512, one_mul, Finset.sum_range_add]

/-! ### The arrays -/

theorem final_16 : (dats m 0 c).arrAt 16 cfg0.N = (Tile 0 0 a.dh : FVec Ideal S8192x1024 .f32) := by
  refine (dats m 0 c).arrAt_eq_of_covers 16 _ (by decide +kernel) fun t hf y => ?_
  have i := (idx_val t).2.2.2.2.2.2.2.2.2.2.2.2.2.2.2.2.1
  blk_simp; rw [after0_16, out_16 h t]
  refine read_tile _ _ ?_ ?_ <;> blk_simp [i]

theorem final_17 : (dats m 0 c).arrAt 17 cfg0.N = (Tile 0 0 a.dg : FVec Ideal S1x1024 .f32) := by
  refine (dats m 0 c).arrAt_eq_of_covers 17 _ (by decide +kernel) fun t hf y => ?_
  have i := (idx_val t).2.2.2.2.2.2.2.2.2.2.2.2.2.2.2.2.2
  have ht : t.val + 1 = 16 := by
    have := (flush0_17 t).mp hf
    have := t.isLt.trans_eq N_0
    omega
  blk_simp; rw [after0_17, out_17 h t.val t.isLt, ht]
  refine read_tile (f := a.dg) _ _ ?_ ?_ <;> blk_simp [i]

end Cert.MixGrad
-- ==== Proof.BackClaim.lean ====
/- The claim about the gradient through the input projection and its norm. -/
module

public import proofs.«01_k».proof.Defs
public import Idealize.ShloMosaic.Adequacy
public import Idealize.ShloMosaic.Init
public import proofs.«01_k».proof.Proof.Gen.MixBackRefIdeal.Run
public import proofs.«01_k».proof.Proof.Gen.MixBackRefIdeal.Read
public import proofs.«01_k».proof.Proof.BackFinal

@[expose] public section

set_option maxRecDepth 16384

noncomputable section

namespace Cert.MixGrad

open Idealize.ShloMosaic Idealize.ShloMosaic.TcCoe Idealize.SL.Sem
open Cert.Mix (entries tile_entries)
open Cert.MixBackIdeal

/-- The arguments a launch memory holds. -/
def args (m : (ℓ : Loc nD τ sig) → Buf (Elt Ideal) ℓ) (c : Dev nD) : Args where
  x := entries (φ := .f32) (m ((c : Thread nD τ).loc main_arg0) : FVec Ideal S8192x1024 .f32)
  pre := entries (φ := .f32) (m ((c : Thread nD τ).loc main_arg1) : FVec Ideal S1x1024 .f32)
  w := entries (φ := .f32) (m ((c : Thread nD τ).loc main_arg2) : FVec Ideal S1024x8736 .f32)
  ct := entries (φ := .f32) (m ((c : Thread nD τ).loc main_arg3) : FVec Ideal S8192x1024 .f32)
  dp := entries (φ := .f32) (m ((c : Thread nD τ).loc main_arg4) : FVec Ideal S8192x8736 .f32)

theorem holds_args (m : (ℓ : Loc nD τ sig) → Buf (Elt Ideal) ℓ) (c : Dev nD) : Holds (args m c) m c :=
  ⟨tile_entries (φ := .f32) _, tile_entries (φ := .f32) _, tile_entries (φ := .f32) _, tile_entries (φ := .f32) _,
    tile_entries (φ := .f32) _⟩

end Cert.MixGrad

namespace Cert.Proof

open Idealize.ShloMosaic Idealize.ShloMosaic.TcCoe Idealize.SL.Sem

/-- The reference of the projection's gradient runs, leaves its arguments as they were, and has no semaphore. -/
theorem frame_mix_in_bwd_reference : Cert.quiescent_MixBackRefIdeal := by
  intro m ρ _
  exact (θ_run Cert.MixBackRefIdeal.defs _ _).mono
    (fun r h => ⟨fun c => (h c).2.2, sem_eq_zero_of_no_sems (by decide) r.2⟩) (Cert.MixBackRefIdeal.Value.run m ρ)

/-- The gradient in the rows and the gradient in the norm's weight: the backward call of the input projection and its
    reference leave equal arrays, on any arguments. -/
theorem mix_in_bwd : Cert.algebraic_MixBackIdeal_MixBackRefIdeal := by
  pair_intro
  · run_from Cert.MixBackIdeal.Value.run_blocks m g
  · refine θ_run_mono (Cert.MixBackRefIdeal.Value.run m' g') fun r hr c => ?_
    have hc := hr c
    obtain ⟨e0, e1, e2, e3, e4⟩ := hagree c
    have h := MixGrad.holds_args m c
    have x := e0.trans h.x
    have pre := e1.trans h.pre
    have w := e2.trans h.w
    have ct := e3.trans h.ct
    have dp := e4.trans h.dp
    refine ⟨hc.1.trans ?_, hc.2.1.trans ?_, hc.2.2⟩
    · refine (MixBackRefIdeal.Read.val_main_v36_eq (F := Ideal) m' c).trans ?_
      rw [x, pre, w, ct, dp]
      exact (MixGrad.ref_v36 _).trans (MixGrad.final_16 h).symm
    · refine (MixBackRefIdeal.Read.val_main_v19_eq (F := Ideal) _ _ _).trans ?_
      rw [x, w, dp]
      exact (MixGrad.ref_v19 _).trans (MixGrad.final_17 h).symm

end Cert.Proof
-- ==== Proof.OutRef.lean ====
/- The mixer's output, the gated merge of its two branches with their projections and the post norm, and its gradients as
   plain functions on rows and columns, and the reference of the gradients read stage by stage. -/
module

public import proofs.«01_k».proof.Proof.BackPoint
public import proofs.«01_k».proof.Proof.Gen.OutBackRefIdeal.Read

@[expose] public section

set_option maxRecDepth 16384

noncomputable section

namespace Cert.Out

open Idealize.ShloMosaic
open Cert.Mix (Tile tile_at entries tile_entries scale width epsilon)
open Cert.MixGrad (spread norm_back)
open Cert.Fwd (logistic one)

/-! ### The model -/

/-- The arguments: the two branches' rows, the gates, the three projections' weights, the post
    norm's weight, and the cotangent of the result. -/
structure Args where
  ys : ℕ → ℕ → EReal
  o : ℕ → ℕ → EReal
  gates : ℕ → ℕ → EReal
  ws : ℕ → ℕ → EReal
  wa : ℕ → ℕ → EReal
  wo : ℕ → ℕ → EReal
  post : ℕ → ℕ → EReal
  ct : ℕ → ℕ → EReal

namespace Args

variable (a : Args)

/-- The projected rows of the scan's branch. -/
def yssm (t d : ℕ) : EReal := ∑ k : Fin 2048, a.ys t k * a.ws k d
/-- The projected rows of the attention's branch. -/
def yattn (t d : ℕ) : EReal := ∑ k : Fin 1024, a.o t k * a.wa k d
/-- The gate of the scan's branch. -/
def g1 (t d : ℕ) : EReal := logistic (a.gates t d)
/-- The gate of the attention's branch. -/
def g2 (t d : ℕ) : EReal := logistic (a.gates t (1024 + d))
/-- The gated sum of the branches. -/
def merged (t d : ℕ) : EReal := a.g1 t d * a.yssm t d + a.g2 t d * a.yattn t d
/-- The output projection. -/
def mix (t d : ℕ) : EReal := ∑ k : Fin 1024, a.merged t k * a.wo k d

/-- One row's term of the gradient in the norm's weight. -/
def part (d t : ℕ) : EReal := a.ct t d * a.mix t d * scale (a.mix t)
/-- The gradient in the norm's weight. -/
def dg (_ d : ℕ) : EReal := ∑ t ∈ Finset.range 8192, a.part d t
/-- The gradient in the output projection's rows. -/
def dmix (t d : ℕ) : EReal := scale (a.mix t) * (a.ct t d * a.post 0 d)
  - a.mix t d * (scale (a.mix t) * scale (a.mix t) * scale (a.mix t) * Ideal.div (∑ k : Fin 1024, a.ct t k * a.post 0 k * a.mix t k) width)
/-- The gradient in the gated sum. -/
def dmerged (t d : ℕ) : EReal := ∑ k : Fin 1024, a.dmix t k * a.wo d k
/-- The gradient in the projected rows of the scan's branch. -/
def dyssm (t d : ℕ) : EReal := a.dmerged t d * a.g1 t d
/-- The gradient in the projected rows of the attention's branch. -/
def dyattn (t d : ℕ) : EReal := a.dmerged t d * a.g2 t d
/-- The gradient in what the scan's gate is of. -/
def dgate1 (t d : ℕ) : EReal := a.dmerged t d * a.yssm t d * (a.g1 t d * (one - a.g1 t d))
/-- The gradient in what the attention's gate is of. -/
def dgate2 (t d : ℕ) : EReal := a.dmerged t d * a.yattn t d * (a.g2 t d * (one - a.g2 t d))
/-- The gradient in what the gates are of, side by side. -/
def dgates (t j : ℕ) : EReal := if j < 1024 then a.dgate1 t j else a.dgate2 t (j - 1024)
/-- The gradient in the scan's rows. -/
def dys (t j : ℕ) : EReal := ∑ k : Fin 1024, a.dyssm t k * a.ws j k
/-- The gradient in the attention's rows. -/
def dout (t j : ℕ) : EReal := ∑ k : Fin 1024, a.dyattn t k * a.wa j k

abbrev Ys : FVec Ideal ⟨2, ![8192, 2048]⟩ .f32 := Tile 0 0 a.ys
abbrev O : FVec Ideal ⟨2, ![8192, 1024]⟩ .f32 := Tile 0 0 a.o
abbrev Gates : FVec Ideal ⟨2, ![8192, 2048]⟩ .f32 := Tile 0 0 a.gates
abbrev Ws : FVec Ideal ⟨2, ![2048, 1024]⟩ .f32 := Tile 0 0 a.ws
abbrev Wa : FVec Ideal ⟨2, ![1024, 1024]⟩ .f32 := Tile 0 0 a.wa
abbrev Wo : FVec Ideal ⟨2, ![1024, 1024]⟩ .f32 := Tile 0 0 a.wo
abbrev Post : FVec Ideal ⟨2, ![1, 1024]⟩ .f32 := Tile 0 0 a.post
abbrev Ct : FVec Ideal ⟨2, ![8192, 1024]⟩ .f32 := Tile 0 0 a.ct

end Args

/-! ### The reference of the gradients -/

section
open Cert.OutBackRefIdeal Cert.OutBackRefIdeal.Read

variable (a : Args)

theorem ref_v0 (i : S8192x1024.Idx) : val_main_v0 (F := Ideal) i = 0 := by
  simp only [val_main_v0_apply, val_main_cst_apply, Ideal.ofBits_def, Ideal.ofBits_zero_f32]

theorem ref_v2 : val_main_v2 (F := Ideal) a.Ys a.Ws = Tile (φ := .f32) 0 0 a.yssm := by
  funext i
  rw [val_main_v2_apply, ref_v0, val_main_v1_apply, Ideal.addf_def, add_zero]
  simp only [Tile, Args.yssm, zero_add]

theorem ref_v4 : val_main_v4 (F := Ideal) a.O a.Wa = Tile (φ := .f32) 0 0 a.yattn := by
  funext i
  rw [val_main_v4_apply, ref_v0, val_main_v3_apply, Ideal.addf_def, add_zero]
  simp only [Tile, Args.yattn, zero_add]

theorem ref_v12 : val_main_v12 (F := Ideal) a.Gates = Tile (φ := .f32) 0 0 a.g1 := by
  funext i
  simp only [val_main_v12_apply, val_main_v11_apply, val_main_v10_apply, val_main_v9_apply, val_main_v8_apply, val_main_v7_apply,
    val_main_v5_apply, val_main_cst_0_apply, val_main_cst_1_apply, Ideal.ofBits_def, Ideal.addf_def, Ideal.hostDivf_def]
  simp only [Tile, Args.g1, zero_add]
  rfl

theorem ref_v22 : val_main_v22 (F := Ideal) a.Gates = Tile (φ := .f32) 0 0 a.g2 := by
  funext i
  simp only [val_main_v22_apply, val_main_v21_apply, val_main_v20_apply, val_main_v19_apply, val_main_v18_apply, val_main_v17_apply,
    val_main_v6_apply, val_main_cst_3_apply, val_main_cst_4_apply, Ideal.ofBits_def, Ideal.addf_def, Ideal.hostDivf_def]
  simp only [Tile, Args.g2, zero_add]
  rfl

theorem ref_v29 : val_main_v29 (F := Ideal) a.Ys a.O a.Gates a.Ws a.Wa a.Wo = Tile (φ := .f32) 0 0 a.mix := by
  funext i
  rw [val_main_v29_apply, ref_v0, val_main_v28_apply, Ideal.addf_def, add_zero]
  simp only [val_main_v27_apply, val_main_v16_apply, val_main_v26_apply, ref_v12, ref_v2, ref_v22, ref_v4, Ideal.addf_def, Ideal.mulf_def]
  simp only [Tile, Args.mix, Args.merged, zero_add]

theorem ref_v36 (i : S8192x1.Idx) : val_main_v36 (F := Ideal) a.Ys a.O a.Gates a.Ws a.Wa a.Wo i = spread (a.mix (i 0).val) := by
  simp only [val_main_v36_apply, val_main_v34_apply, val_main_v33_apply, val_main_v32_apply, val_main_v31_apply, val_main_v30_apply,
    val_main_v35_apply, val_main_cst_6_apply, val_main_cst_7_apply, val_main_cst_8_apply, ref_v29,
    Ideal.ofBits_def, Ideal.addf_def, Ideal.mulf_def, Ideal.hostDivf_def, Ideal.ofBits_zero_f32, zero_add]
  simp only [Tile, spread, zero_add]

theorem ref_v37 (i : S8192x1.Idx) : val_main_v37 (F := Ideal) a.Ys a.O a.Gates a.Ws a.Wa a.Wo i = scale (a.mix (i 0).val) := by
  rw [val_main_v37_apply, ref_v36]; rfl

/-- The gradient in the norm's weight. -/
theorem ref_v47 : val_main_v47 (F := Ideal) a.Ys a.O a.Gates a.Ws a.Wa a.Wo a.Ct = Tile (φ := .f32) 0 0 a.dg := by
  funext i
  rw [val_main_v47_apply, val_main_v46_apply, val_main_cst_10_apply, Ideal.ofBits_def, Ideal.ofBits_zero_f32, zero_add]
  simp only [Tile, Args.dg, Finset.sum_range]
  refine Finset.sum_congr rfl fun k _ => ?_
  rw [val_main_v45_apply, val_main_v42_apply, val_main_v41_apply, ref_v29, ref_v37]
  simp only [Tile, Args.part, Ideal.mulf_def, zero_add]
  have z : (i 0).val = 0 := Nat.lt_one_iff.1 (i 0).isLt
  rw [mul_comm, ← mul_assoc]
  show a.ct k ((i 0).val * 1024 + (i 1).val) * a.mix k ((i 0).val * 1024 + (i 1).val) * scale (a.mix k) = _
  rw [z, zero_mul, zero_add]

theorem ref_v49 : val_main_v49 (F := Ideal) a.Post a.Ct = Tile (φ := .f32) 0 0 (fun t d => a.ct t d * a.post 0 d) := by
  funext i
  rw [val_main_v49_apply, val_main_v48_apply]; rfl

theorem ref_v52 (i : S8192x1.Idx) : val_main_v52 (F := Ideal) a.Ys a.O a.Gates a.Ws a.Wa a.Wo a.Post a.Ct i
    = ∑ k : Fin 1024, a.ct (i 0).val k * a.post 0 k * a.mix (i 0).val k := by
  rw [val_main_v52_apply, val_main_v51_apply, val_main_cst_11_apply, Ideal.ofBits_def, Ideal.ofBits_zero_f32, zero_add]
  refine Finset.sum_congr rfl fun k _ => ?_
  rw [val_main_v50_apply, ref_v49, ref_v29, Ideal.mulf_def, mul_comm]
  have z : (i 1).val = 0 := Nat.lt_one_iff.1 (i 1).isLt
  simp only [Tile, zero_add]
  show a.ct ((i 0).val * 1 + (i 1).val) k * a.post 0 k * a.mix ((i 0).val * 1 + (i 1).val) k = _
  rw [z, mul_one, add_zero]

theorem ref_v59 (i : S8192x1024.Idx) : val_main_v59 (F := Ideal) a.Ys a.O a.Gates a.Ws a.Wa a.Wo a.Post a.Ct i
    = Ideal.div ((∑ k : Fin 1024, a.ct (i 0).val k * a.post 0 k * a.mix (i 0).val k)
        * (Ideal.ofBits .f32 0xBF000000#32 * Ideal.div (scale (a.mix (i 0).val)) (spread (a.mix (i 0).val)))) width := by
  simp only [val_main_v59_apply, val_main_v58_apply, val_main_cst_13_apply, val_main_v57_apply, val_main_v56_apply, val_main_cst_12_apply,
    val_main_v55_apply, val_main_v40_apply, val_main_v39_apply, val_main_cst_9_apply, val_main_v38_apply, ref_v52, ref_v37, ref_v36,
    Ideal.ofBits_def, Ideal.mulf_def, Ideal.hostDivf_def, Ideal.ofBits_zero_f32, zero_add, Finset.univ_unique, Finset.sum_singleton]

/-- The gradient in the output projection's rows. -/
theorem ref_v63 : val_main_v63 (F := Ideal) a.Ys a.O a.Gates a.Ws a.Wa a.Wo a.Post a.Ct = Tile (φ := .f32) 0 0 a.dmix := by
  funext i
  rw [val_main_v63_apply, val_main_v62_apply, val_main_v61_apply, val_main_v60_apply, val_main_v54_apply,
    val_main_v53_apply, ref_v59, ref_v49, ref_v37, ref_v29]
  simp only [Ideal.mulf_def, Ideal.addf_def, Tile, Args.dmix, zero_add]
  have e := norm_back (a.mix (i 0).val) 0 (a.ct (i 0).val (i 1).val * a.post 0 (i 1).val) (a.mix (i 0).val (i 1).val)
    (∑ k : Fin 1024, a.ct (i 0).val k * a.post 0 k * a.mix (i 0).val k)
  rw [zero_add, zero_add] at e
  exact e

theorem ref_v64 : val_main_v64 (F := Ideal) a.Ys a.O a.Gates a.Ws a.Wa a.Wo a.Post a.Ct = Tile (φ := .f32) 0 0 a.dmerged := by
  funext i
  rw [val_main_v64_apply, ref_v63]
  simp only [Tile, Args.dmerged, zero_add]

theorem ref_v65 : val_main_v65 (F := Ideal) a.Ys a.O a.Gates a.Ws a.Wa a.Wo a.Post a.Ct = Tile (φ := .f32) 0 0 a.dyattn := by
  funext i
  rw [val_main_v65_apply, ref_v64, ref_v22]
  exact mul_comm _ _

theorem ref_v68 : val_main_v68 (F := Ideal) a.Ys a.O a.Gates a.Ws a.Wa a.Wo a.Post a.Ct = Tile (φ := .f32) 0 0 a.dyssm := by
  funext i
  rw [val_main_v68_apply, ref_v64, ref_v12]
  exact mul_comm _ _

theorem ref_v70 : val_main_v70 (F := Ideal) a.Ys a.O a.Gates a.Ws a.Wa a.Wo a.Post a.Ct = Tile (φ := .f32) 0 0 a.dgate1 := by
  funext i
  rw [val_main_v70_apply, val_main_v69_apply, val_main_v15_apply, val_main_v14_apply, val_main_v13_apply, val_main_cst_2_apply,
    ref_v64, ref_v12, ref_v2]
  rfl

theorem ref_v67 : val_main_v67 (F := Ideal) a.Ys a.O a.Gates a.Ws a.Wa a.Wo a.Post a.Ct = Tile (φ := .f32) 0 0 a.dgate2 := by
  funext i
  rw [val_main_v67_apply, val_main_v66_apply, val_main_v25_apply, val_main_v24_apply, val_main_v23_apply, val_main_cst_5_apply,
    ref_v64, ref_v22, ref_v4]
  rfl

theorem ref_v74 : val_main_v74 (F := Ideal) a.Ys a.O a.Gates a.Ws a.Wa a.Wo a.Post a.Ct = Tile (φ := .bf16) 0 0 a.dmix := by
  funext i; rw [val_main_v74_apply, ref_v63]; rfl

theorem ref_v75 : val_main_v75 (F := Ideal) a.Ys a.O a.Gates a.Ws a.Wa a.Wo a.Post a.Ct = Tile (φ := .bf16) 0 0 a.dyssm := by
  funext i; rw [val_main_v75_apply, ref_v68]; rfl

theorem ref_v76 : val_main_v76 (F := Ideal) a.Ys a.O a.Gates a.Ws a.Wa a.Wo a.Post a.Ct = Tile (φ := .bf16) 0 0 a.dyattn := by
  funext i; rw [val_main_v76_apply, ref_v65]; rfl

/-- The gradient in what the gates are of. -/
theorem ref_v77 : val_main_v77 (F := Ideal) a.Ys a.O a.Gates a.Ws a.Wa a.Wo a.Post a.Ct = Tile (φ := .bf16) 0 0 a.dgates := by
  funext i
  rw [val_main_v77_apply]
  unfold val_main_v71
  rw [ref_v70, ref_v67]
  pointwise [Tile, Args.dgates, zero_add]
  rfl

/-- The gradient in the scan's rows. -/
theorem ref_v73 : val_main_v73 (F := Ideal) a.Ys a.O a.Gates a.Ws a.Wa a.Wo a.Post a.Ct = Tile (φ := .f32) 0 0 a.dys := by
  funext i
  rw [val_main_v73_apply, ref_v68]
  simp only [Tile, Args.dys, zero_add]

/-- The gradient in the attention's rows. -/
theorem ref_v78 : val_main_v78 (F := Ideal) a.Ys a.O a.Gates a.Ws a.Wa a.Wo a.Post a.Ct = Tile (φ := .bf16) 0 0 a.dout := by
  funext i
  rw [val_main_v78_apply, val_main_v72_apply, ref_v65]
  simp only [Tile, Args.dout, zero_add]
  rfl

end

end Cert.Out
-- ==== Proof.OutPoint.lean ====
/- What the gradients' call of the mixer's output computes at one grid point: on tiles of the model each value its body
   names is a tile of the model. -/
module

public import proofs.«01_k».proof.Proof.OutRef
public import proofs.«01_k».proof.Proof.Gen.OutBackIdeal.Value

@[expose] public section

set_option maxRecDepth 16384

noncomputable section

namespace Cert.Out

open Idealize.ShloMosaic Idealize.ShloMosaic.TcCoe Idealize.SL.Sem
open Cert.Mix (Tile tile_at entries tile_entries scale width epsilon)
open Cert.Fwd (logistic logistic_tanh one half)

/-- The rows of a function by four shards of `n` rows. -/
def Shards {n : ℕ} (f : ℕ → ℕ → EReal) : FVec Ideal ⟨3, ![4, n, 1024]⟩ .bf16 := fun i => f ((i 0).val * n + (i 1).val) (i 2).val

/-- The gradients in what the two gates are of are the two halves of the columns. -/
theorem first_half (a : Args) (r : ℕ) :
    (Tile (φ := .bf16) r 0 a.dgate1 : FVec Ideal ⟨2, ![256, 1024]⟩ .bf16) = Tile (φ := .bf16) r 0 a.dgates :=
  funext fun i => by
    have h : (i 1).val < 1024 := (i 1).isLt
    symm
    exact if_pos (by omega)

theorem second_half (a : Args) (r : ℕ) :
    (Tile (φ := .bf16) r 0 a.dgate2 : FVec Ideal ⟨2, ![256, 1024]⟩ .bf16) = Tile (φ := .bf16) r 1024 a.dgates :=
  funext fun i => by
    symm
    refine (if_neg (by omega)).trans ?_
    refine congrArg (a.dgate2 _) ?_
    omega

open Cert.OutBackIdeal Cert.OutBackIdeal.Gen

variable (a : Args) (r : ℕ)

set_option backward.isDefEq.respectTransparency false

theorem natural_512 (f : ℕ → ℕ → EReal) (h h') : (shapeCast S2048x1024 (shapeCast S4x512x1024 (Shards f : FVec Ideal S4x512x1024 .bf16) h) h'
    : FVec Ideal S2048x1024 .bf16) = Tile (φ := .bf16) 0 0 f := by
  funext i
  pointwise [Shards, Tile, zero_add]
  refine congrArg₂ f ?_ ?_ <;> omega

theorem natural_256 (f : ℕ → ℕ → EReal) (h h') : (shapeCast S1024x1024 (shapeCast S4x256x1024 (Shards f : FVec Ideal S4x256x1024 .bf16) h) h'
    : FVec Ideal S1024x1024 .bf16) = Tile (φ := .bf16) 0 0 f := by
  funext i
  pointwise [Shards, Tile, zero_add]
  refine congrArg₂ f ?_ ?_ <;> omega

/-! ### The body's values -/

theorem pay_mix : k0_pay6 (F := Ideal) (Tile (φ := .bf16) r 0 a.mix) = Tile (φ := .f32) r 0 a.mix := by
  funext i
  unfold k0_pay6
  pointwise [Tile]

theorem pay_scale : k0_pay7 (F := Ideal) (Tile (φ := .bf16) r 0 a.mix) = fun i => scale (a.mix (r + (i 0).val)) := by
  funext i
  unfold k0_pay7
  rw [pay_mix]
  pointwise [Tile, scale, zero_add]

/-- The block's terms of the gradient in the norm's weight, added to what the rows before left. -/
theorem pay_dg (f : ℕ → ℕ → EReal) : k0_pay8 (F := Ideal) (Tile (φ := .f32) r 0 a.ct) (Tile (φ := .bf16) r 0 a.mix) (Tile (φ := .f32) 0 0 f)
    = Tile (φ := .f32) 0 0 (fun s d => f s d + ∑ t ∈ Finset.range 256, a.part d (r + t)) := by
  funext i
  unfold k0_pay8
  rw [pay_mix, pay_scale]
  pointwise [Tile, Args.part, zero_add, Finset.sum_range]

/-- The zeros that the first point starts from. -/
theorem pay_zero : k0_pay5 (F := Ideal) = Tile (φ := .f32) 0 0 (fun _ _ => 0) := by
  funext i
  unfold k0_pay5
  pointwise [Tile]

theorem pay_weighted : k0_pay9 (F := Ideal) (Tile (φ := .f32) r 0 a.ct) (Tile (φ := .f32) 0 0 a.post)
    = Tile (φ := .f32) r 0 (fun t d => a.ct t d * a.post 0 d) := by
  funext i
  unfold k0_pay9
  pointwise [Tile, zero_add]

/-- The gradient in the output projection's rows. -/
theorem pay_dmix : k0_pay12 (F := Ideal)
      (k0_pay10 (Tile (φ := .f32) r 0 a.ct) (Tile (φ := .bf16) r 0 a.mix) (Tile (φ := .f32) 0 0 a.post))
      (k0_pay11 (Tile (φ := .f32) r 0 a.ct) (Tile (φ := .bf16) r 0 a.mix) (Tile (φ := .f32) 0 0 a.post))
    = Tile (φ := .bf16) r 0 a.dmix := by
  funext i
  unfold k0_pay12 k0_pay10 k0_pay11
  rw [pay_mix, pay_scale, pay_weighted]
  pointwise [Tile, Args.dmix, zero_add]

/-- The gradient in the gated sum. -/
theorem pay_dmerged : k0_pay13 (F := Ideal)
      (k0_pay10 (Tile (φ := .f32) r 0 a.ct) (Tile (φ := .bf16) r 0 a.mix) (Tile (φ := .f32) 0 0 a.post))
      (k0_pay11 (Tile (φ := .f32) r 0 a.ct) (Tile (φ := .bf16) r 0 a.mix) (Tile (φ := .f32) 0 0 a.post)) (Shards a.wo)
    = Tile (φ := .f32) r 0 a.dmerged := by
  unfold k0_pay13
  rw [pay_dmix]
  simp only [natural_256]
  funext i
  pointwise [Tile, Args.dmerged, zero_add]

theorem pay_g1 : k0_pay14 (F := Ideal) (Tile (φ := .bf16) r 0 a.gates) = Tile (φ := .f32) r 0 a.g1 := by
  funext i
  unfold k0_pay14
  pointwise [Tile, Args.g1, zero_add]
  exact logistic_tanh _

theorem pay_g2 : k0_pay15 (F := Ideal) (Tile (φ := .bf16) r 1024 a.gates) = Tile (φ := .f32) r 0 a.g2 := by
  funext i
  unfold k0_pay15
  pointwise [Tile, Args.g2, zero_add]
  exact logistic_tanh _

/-- The gradient in the projected rows of the scan's branch. -/
theorem pay_dyssm : k0_pay16 (F := Ideal)
      (k0_pay10 (Tile (φ := .f32) r 0 a.ct) (Tile (φ := .bf16) r 0 a.mix) (Tile (φ := .f32) 0 0 a.post))
      (k0_pay11 (Tile (φ := .f32) r 0 a.ct) (Tile (φ := .bf16) r 0 a.mix) (Tile (φ := .f32) 0 0 a.post)) (Shards a.wo)
      (Tile (φ := .bf16) r 0 a.gates) = Tile (φ := .bf16) r 0 a.dyssm := by
  unfold k0_pay16
  rw [pay_dmerged, pay_g1]
  funext i
  pointwise [Tile, Args.dyssm]

/-- The gradient in the projected rows of the attention's branch. -/
theorem pay_dyattn : k0_pay17 (F := Ideal)
      (k0_pay10 (Tile (φ := .f32) r 0 a.ct) (Tile (φ := .bf16) r 0 a.mix) (Tile (φ := .f32) 0 0 a.post))
      (k0_pay11 (Tile (φ := .f32) r 0 a.ct) (Tile (φ := .bf16) r 0 a.mix) (Tile (φ := .f32) 0 0 a.post)) (Shards a.wo)
      (Tile (φ := .bf16) r 1024 a.gates) = Tile (φ := .bf16) r 0 a.dyattn := by
  unfold k0_pay17
  rw [pay_dmerged, pay_g2]
  funext i
  pointwise [Tile, Args.dyattn]

theorem pay_dgate1 : k0_pay1 (F := Ideal) (Tile (φ := .f32) r 0 a.dmerged) (Tile (φ := .f32) r 0 a.g1) (k0_pay18 (Tile (φ := .bf16) r 0 a.yssm))
    = Tile (φ := .bf16) r 0 a.dgates := by
  rw [← first_half]
  funext i
  unfold k0_pay1 k0_pay18
  pointwise [Tile, Args.dgate1]

theorem pay_dgate2 : k0_pay2 (F := Ideal) (Tile (φ := .f32) r 0 a.dmerged) (Tile (φ := .f32) r 0 a.g2) (Tile (φ := .bf16) r 0 a.yattn)
    = Tile (φ := .bf16) r 1024 a.dgates := by
  rw [← second_half]
  funext i
  unfold k0_pay2
  pointwise [Tile, Args.dgate2]

/-- The gradient in the scan's rows. -/
theorem pay_dys : k0_pay3 (F := Ideal) (Tile (φ := .bf16) r 0 a.dyssm) (Shards a.ws) = Tile (φ := .f32) r 0 a.dys := by
  unfold k0_pay3
  simp only [natural_512]
  funext i
  pointwise [Tile, Args.dys, zero_add]

/-- The gradient in the attention's rows. -/
theorem pay_dout : k0_pay4 (F := Ideal) (Tile (φ := .bf16) r 0 a.dyattn) (Shards a.wa) = Tile (φ := .bf16) r 0 a.dout := by
  unfold k0_pay4
  simp only [natural_256]
  funext i
  pointwise [Tile, Args.dout, zero_add]

end Cert.Out
-- ==== Proof.OutFinal.lean ====
/- The blocks the windows of the gradients' call of the mixer's output hold at each grid point, as tiles of the model, and
   the arrays the call leaves. -/
module

public import proofs.«01_k».proof.Proof.OutPoint

@[expose] public section

set_option maxRecDepth 16384

noncomputable section

namespace Cert.Out

open Idealize.ShloMosaic Idealize.ShloMosaic.TcCoe Idealize.SL.Sem
open Cert.Mix (Tile tile_at entries tile_entries)
open Cert.MixGrad (read_tile ld_tile)
open Cert.Fwd (logistic)
open Cert.OutBackIdeal Cert.OutBackIdeal.Gen

theorem logistic_eq (x : EReal) : logistic x = Ideal.div 1 (1 + Ideal.exp (-x)) := by
  pointwise [Cert.Fwd.logistic, Cert.Fwd.one]

/-- The three weights by shards, one under the other. -/
def packed (a : Args) : FVec Ideal S4x1024x1024 .bf16 :=
  truncf .bf16 (concatenate S4x1024x1024 1
      [⟨S4x512x1024, shapeCast S4x512x1024 (a.Ws : FVec Ideal S2048x1024 .f32) shapeCasts_S2048x1024_S4x512x1024⟩,
        ⟨S4x256x1024, shapeCast S4x256x1024 (a.Wa : FVec Ideal S1024x1024 .f32) shapeCasts_S1024x1024_S4x256x1024⟩,
        ⟨S4x256x1024, shapeCast S4x256x1024 (a.Wo : FVec Ideal S1024x1024 .f32) shapeCasts_S1024x1024_S4x256x1024⟩]
      concatenates_S4x512x1024_S4x256x1024_S4x256x1024_S4x1024x1024_d1) bitsLt_bf16_f32

section
set_option backward.isDefEq.respectTransparency false

theorem packed_ws (a : Args) (i : S4x1024x1024.Idx) (j : ℕ) (hj : j < 512) (e : (i 1).val = j) :
    packed a i = a.ws ((i 0).val * 512 + j) (i 2).val := by
  unfold packed
  pointwise [Args.Ws, Tile, zero_add]
  rw [dif_pos (by omega)]
  refine congrArg₂ a.ws ?_ ?_ <;> omega

theorem packed_wa (a : Args) (i : S4x1024x1024.Idx) (j : ℕ) (hj : j < 256) (e : (i 1).val = 512 + j) :
    packed a i = a.wa ((i 0).val * 256 + j) (i 2).val := by
  unfold packed
  pointwise [Args.Wa, Tile, zero_add]
  rw [dif_neg (by omega), dif_pos (by omega)]
  refine congrArg₂ a.wa ?_ ?_ <;> omega

theorem packed_wo (a : Args) (i : S4x1024x1024.Idx) (j : ℕ) (hj : j < 256) (e : (i 1).val = 768 + j) :
    packed a i = a.wo ((i 0).val * 256 + j) (i 2).val := by
  unfold packed
  pointwise [Args.Wo, Tile, zero_add]
  rw [dif_neg (by omega), dif_neg (by omega)]
  refine congrArg₂ a.wo ?_ ?_ <;> omega

end

/-- The launch memory holds the arguments `a`. -/
structure Holds (a : Args) (m : (ℓ : Loc nD τ sig) → Buf (Elt Ideal) ℓ) (c : Dev nD) : Prop where
  ys : m ((c : Thread nD τ).loc main_arg0) = a.Ys
  o : m ((c : Thread nD τ).loc main_arg1) = a.O
  gates : m ((c : Thread nD τ).loc main_arg2) = a.Gates
  ws : m ((c : Thread nD τ).loc main_arg3) = a.Ws
  wa : m ((c : Thread nD τ).loc main_arg4) = a.Wa
  wo : m ((c : Thread nD τ).loc main_arg5) = a.Wo
  post : m ((c : Thread nD τ).loc main_arg6) = a.Post
  ct : m ((c : Thread nD τ).loc main_arg7) = a.Ct

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0, 0]
    ∧ win0_6.index t = ![0, 2, 0]
    ∧ win0_7.index t = ![0, 3, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![0, 0] :=
  (by decide +kernel : ∀ t : Fin grid0.N, _)

variable {a : Args} {m : (ℓ : Loc nD τ sig) → Buf (Elt Ideal) ℓ} {c : Dev nD} (h : Holds a m c) (t : Fin cfg0.N)
include h

/-! ### What the host hands over: the values the forward pass saved, and the packed weights -/

section
set_option backward.isDefEq.respectTransparency false

theorem host_v21 : V m c main_v21 = (Tile (φ := .bf16) 0 0 a.yssm : FVec Ideal S8192x1024 .bf16) := by
  unfold V
  simp only [hostOps0]
  after_results
  rw [h.ys, h.ws]
  funext i
  pointwise [Args.Ys, Args.Ws, Tile, Args.yssm, zero_add]

theorem host_v22 : V m c main_v22 = (Tile (φ := .bf16) 0 0 a.yattn : FVec Ideal S8192x1024 .bf16) := by
  unfold V
  simp only [hostOps0]
  after_results
  rw [h.o, h.wa]
  funext i
  pointwise [Args.O, Args.Wa, Tile, Args.yattn, zero_add]

theorem host_v20 : V m c main_v20 = (Tile (φ := .bf16) 0 0 a.mix : FVec Ideal S8192x1024 .bf16) := by
  unfold V
  simp only [hostOps0]
  after_results
  rw [h.ys, h.o, h.gates, h.ws, h.wa, h.wo]
  funext i
  pointwise [Args.Ys, Args.O, Args.Gates, Args.Ws, Args.Wa, Args.Wo, Tile, Args.mix, Args.merged, Args.g1, Args.g2, logistic_eq,
    Args.yssm, Args.yattn, zero_add]

end

theorem host_v23 : V m c main_v23 = (Tile (φ := .bf16) 0 0 a.gates : FVec Ideal S8192x2048 .bf16) := by
  unfold V
  simp only [hostOps0]
  after_results
  rw [h.gates]
  funext i
  pointwise [Args.Gates, Tile]

theorem host_v28 : V m c main_v28 = packed a := by
  unfold packed
  rw [← h.ws, ← h.wa, ← h.wo]
  unfold V
  simp only [hostOps0]
  after_results
  rfl

/-! ### The blocks -/

theorem rows : iblk m c 0 t = Tile (φ := .f32) (t.val * 256) 0 a.ct ∧ iblk m c 1 t = Tile (φ := .bf16) (t.val * 256) 0 a.mix
    ∧ iblk m c 2 t = Tile (φ := .bf16) (t.val * 256) 0 a.yssm ∧ iblk m c 3 t = Tile (φ := .bf16) (t.val * 256) 0 a.yattn
    ∧ iblk m c 4 t = Tile (φ := .bf16) (t.val * 256) 0 a.gates ∧ iblk m c 8 t = Tile (φ := .f32) 0 0 a.post := by
  obtain ⟨e0, e1, e2, e3, e4, e5, e6, e7, e8, -⟩ := idx_val t
  refine ⟨?_, ?_, ?_, ?_, ?_, ?_⟩ <;> funext i <;> blk_simp [iblk]
  · rw [V_main_arg7, h.ct]; refine read_tile _ _ ?_ ?_ <;> blk_simp [e0]
  · rw [host_v20 h]; refine read_tile _ _ ?_ ?_ <;> blk_simp [e1]
  · rw [host_v21 h]; refine read_tile _ _ ?_ ?_ <;> blk_simp [e2]
  · rw [host_v22 h]; refine read_tile _ _ ?_ ?_ <;> blk_simp [e3]
  · rw [host_v23 h]; refine read_tile _ _ ?_ ?_ <;> blk_simp [e4]
  · rw [V_main_arg6, h.post]; refine read_tile _ _ ?_ ?_ <;> blk_simp [e8]

/-- The weights' blocks are their shards. -/
theorem weights : iblk m c 5 t = Shards a.ws ∧ iblk m c 6 t = Shards a.wa ∧ iblk m c 7 t = Shards a.wo := by
  obtain ⟨-, -, -, -, -, e5, e6, e7, -⟩ := idx_val t
  refine ⟨?_, ?_, ?_⟩ <;> funext i <;> blk_simp [iblk] <;> rw [host_v28 h]
  · refine (packed_ws a _ (i 1).val (i 1).isLt ?_).trans ?_
    · blk_simp [e5]
    · refine congrArg₂ a.ws ?_ ?_ <;> blk_simp [e5]
  · refine (packed_wa a _ (i 1).val (i 1).isLt ?_).trans ?_
    · blk_simp [e6]
    · refine congrArg₂ a.wa ?_ ?_ <;> blk_simp [e6]
  · refine (packed_wo a _ (i 1).val (i 1).isLt ?_).trans ?_
    · blk_simp [e7]
    · refine congrArg₂ a.wo ?_ ?_ <;> blk_simp [e7]

/-- The columns of the two gates. -/
theorem gate_columns :
    View.ld (iblk m c 4 t) (Rect.unit ![0, 0] ![256, 1024] inb_S256x2048_S256x1024_0_0) = Tile (φ := .bf16) (t.val * 256) 0 a.gates
    ∧ View.ld (iblk m c 4 t) (Rect.unit ![0, 1024] ![256, 1024] inb_S256x2048_S256x1024_0_1024)
      = Tile (φ := .bf16) (t.val * 256) 1024 a.gates := by
  obtain ⟨-, -, -, -, e4, -⟩ := rows h t
  rw [e4]
  exact ⟨ld_tile .., ld_tile ..⟩

theorem block_dmerged : k0_pay13 (F := Ideal) (k0_pay10 (iblk m c 0 t) (iblk m c 1 t) (iblk m c 8 t))
      (k0_pay11 (iblk m c 0 t) (iblk m c 1 t) (iblk m c 8 t)) (iblk m c 7 t)
    = Tile (φ := .f32) (t.val * 256) 0 a.dmerged := by
  obtain ⟨e0, e1, e2, e3, e4, e8⟩ := rows h t
  rw [e0, e1, e8, (weights h t).2.2]
  exact pay_dmerged a _

theorem block_dyssm : k0_pay16 (F := Ideal) (k0_pay10 (iblk m c 0 t) (iblk m c 1 t) (iblk m c 8 t))
      (k0_pay11 (iblk m c 0 t) (iblk m c 1 t) (iblk m c 8 t)) (iblk m c 7 t)
      (View.ld (iblk m c 4 t) (Rect.unit ![0, 0] ![256, 1024] inb_S256x2048_S256x1024_0_0)) = Tile (φ := .bf16) (t.val * 256) 0 a.dyssm := by
  obtain ⟨e0, e1, e2, e3, e4, e8⟩ := rows h t
  refine (congrArg (k0_pay16 _ _ _) (gate_columns h t).1).trans ?_
  rw [e0, e1, e8, (weights h t).2.2]
  exact pay_dyssm a _

theorem block_dyattn : k0_pay17 (F := Ideal) (k0_pay10 (iblk m c 0 t) (iblk m c 1 t) (iblk m c 8 t))
      (k0_pay11 (iblk m c 0 t) (iblk m c 1 t) (iblk m c 8 t)) (iblk m c 7 t)
      (View.ld (iblk m c 4 t) (Rect.unit ![0, 1024] ![256, 1024] inb_S256x2048_S256x1024_0_1024)) = Tile (φ := .bf16) (t.val * 256) 0 a.dyattn := by
  obtain ⟨e0, e1, e2, e3, e4, e8⟩ := rows h t
  refine (congrArg (k0_pay17 _ _ _) (gate_columns h t).2).trans ?_
  rw [e0, e1, e8, (weights h t).2.2]
  exact pay_dyattn a _

theorem block_dgate1 : k0_pay1 (F := Ideal) (k0_pay13 (k0_pay10 (iblk m c 0 t) (iblk m c 1 t) (iblk m c 8 t))
      (k0_pay11 (iblk m c 0 t) (iblk m c 1 t) (iblk m c 8 t)) (iblk m c 7 t))
      (k0_pay14 (View.ld (iblk m c 4 t) (Rect.unit ![0, 0] ![256, 1024] inb_S256x2048_S256x1024_0_0))) (k0_pay18 (iblk m c 2 t))
    = Tile (φ := .bf16) (t.val * 256) 0 a.dgates := by
  obtain ⟨e0, e1, e2, e3, e4, e8⟩ := rows h t
  refine (congrArg (fun g => k0_pay1 _ (k0_pay14 g) _) (gate_columns h t).1).trans ?_
  refine (congrArg (k0_pay1 · _ _) (block_dmerged h t)).trans ?_
  rw [e2, pay_g1]
  exact pay_dgate1 a _

theorem block_dgate2 : k0_pay2 (F := Ideal) (k0_pay13 (k0_pay10 (iblk m c 0 t) (iblk m c 1 t) (iblk m c 8 t))
      (k0_pay11 (iblk m c 0 t) (iblk m c 1 t) (iblk m c 8 t)) (iblk m c 7 t))
      (k0_pay15 (View.ld (iblk m c 4 t) (Rect.unit ![0, 1024] ![256, 1024] inb_S256x2048_S256x1024_0_1024))) (iblk m c 3 t)
    = Tile (φ := .bf16) (t.val * 256) 1024 a.dgates := by
  obtain ⟨e0, e1, e2, e3, e4, e8⟩ := rows h t
  refine (congrArg (fun g => k0_pay2 _ (k0_pay15 g) _) (gate_columns h t).2).trans ?_
  refine (congrArg (k0_pay2 · _ _) (block_dmerged h t)).trans ?_
  rw [e3, pay_g2]
  exact pay_dgate2 a _

/-! ### What a grid point leaves -/

theorem out_9 : (outsAt0 m c t.val t.isLt).1 = Tile (φ := .bf16) (t.val * 256) 0 a.dmix := by
  obtain ⟨e0, e1, e2, e3, e4, e8⟩ := rows h t
  by_cases h0 : t.val % 32 = 0
  · rw [outsAt0_A m c t h0]; dsimp only; frame_out
    rw [e0, e1, e8]; exact pay_dmix a _
  · rw [outsAt0_B m c t h0]; dsimp only; frame_out
    rw [e0, e1, e8]; exact pay_dmix a _

theorem out_10 : (outsAt0 m c t.val t.isLt).2.1 = Tile (φ := .bf16) (t.val * 256) 0 a.dyssm := by
  by_cases h0 : t.val % 32 = 0
  · rw [outsAt0_A m c t h0]; dsimp only; frame_out
    exact block_dyssm h t
  · rw [outsAt0_B m c t h0]; dsimp only; frame_out
    exact block_dyssm h t

theorem out_11 : (outsAt0 m c t.val t.isLt).2.2.1 = Tile (φ := .bf16) (t.val * 256) 0 a.dyattn := by
  by_cases h0 : t.val % 32 = 0
  · rw [outsAt0_A m c t h0]; dsimp only; frame_out
    exact block_dyattn h t
  · rw [outsAt0_B m c t h0]; dsimp only; frame_out
    exact block_dyattn h t

theorem out_12 : (outsAt0 m c t.val t.isLt).2.2.2.1 = Tile (φ := .bf16) (t.val * 256) 0 a.dgates := by
  have e1 := block_dgate1 h t
  have e2 := block_dgate2 h t
  by_cases h0 : t.val % 32 = 0
  · rw [outsAt0_A m c t h0]; dsimp only; unfold out0_A_12; frame_out
    funext y
    canon_tiles x hx
    · exact (congrFun e2 _).trans (read_tile _ _ (by dsimp only; omega) (by dsimp only; omega))
    · exact (congrFun e1 _).trans (read_tile _ _ (by dsimp only; omega) (by dsimp only; omega))
  · rw [outsAt0_B m c t h0]; dsimp only; unfold out0_B_12; frame_out
    funext y
    canon_tiles x hx
    · exact (congrFun e2 _).trans (read_tile _ _ (by dsimp only; omega) (by dsimp only; omega))
    · exact (congrFun e1 _).trans (read_tile _ _ (by dsimp only; omega) (by dsimp only; omega))

theorem out_13 : (outsAt0 m c t.val t.isLt).2.2.2.2.1 = Tile (φ := .f32) (t.val * 256) 0 a.dys := by
  obtain ⟨e5, e6, e7⟩ := weights h t
  by_cases h0 : t.val % 32 = 0
  · rw [outsAt0_A m c t h0]; dsimp only; frame_out
    refine (congrArg (k0_pay3 · _) (block_dyssm h t)).trans ?_
    rw [e5]; exact pay_dys a _
  · rw [outsAt0_B m c t h0]; dsimp only; frame_out
    refine (congrArg (k0_pay3 · _) (block_dyssm h t)).trans ?_
    rw [e5]; exact pay_dys a _

theorem out_14 : (outsAt0 m c t.val t.isLt).2.2.2.2.2.1 = Tile (φ := .bf16) (t.val * 256) 0 a.dout := by
  obtain ⟨e5, e6, e7⟩ := weights h t
  by_cases h0 : t.val % 32 = 0
  · rw [outsAt0_A m c t h0]; dsimp only; frame_out
    refine (congrArg (k0_pay4 · _) (block_dyattn h t)).trans ?_
    rw [e6]; exact pay_dout a _
  · rw [outsAt0_B m c t h0]; dsimp only; frame_out
    refine (congrArg (k0_pay4 · _) (block_dyattn h t)).trans ?_
    rw [e6]; exact pay_dout a _

/-- After a point the gradient in the norm's weight has the rows up to the point's last. -/
theorem out_15 : ∀ (n : ℕ) (hn : n < cfg0.N), (outsAt0 m c n hn).2.2.2.2.2.2
    = Tile (φ := .f32) 0 0 (fun s d => ∑ k ∈ Finset.range ((n + 1) * 256), a.part d k)
  | 0, hn => by
    let t : Fin cfg0.N := ⟨0, hn⟩
    obtain ⟨e0, e1, e2, e3, e4, e8⟩ := rows h t
    refine (congrArg (fun p => p.2.2.2.2.2.2) (outsAt0_A m c t rfl)).trans ?_
    dsimp only; frame_out
    rw [e0, e1, pay_zero]
    refine (pay_dg a _ _).trans (congrArg _ (funext fun s => funext fun d => ?_))
    simp only [t, zero_mul, zero_add, one_mul]
  | n + 1, hn => by
    let t : Fin cfg0.N := ⟨n + 1, hn⟩
    obtain ⟨e0, e1, e2, e3, e4, e8⟩ := rows h t
    have h0 : ¬ t.val % 32 = 0 := by have := hn.trans_eq N_0; dsimp only [t]; omega
    refine (congrArg (fun p => p.2.2.2.2.2.2) (outsAt0_B m c t h0)).trans ?_
    dsimp only; frame_out
    rw [e0, e1]
    refine (congrArg (k0_pay8 _ _) (out_15 n _)).trans ?_
    refine (pay_dg a _ _).trans (congrArg _ (funext fun s => funext fun d => ?_))
    rw [add_mul (n + 1) 1 256, one_mul, Finset.sum_range_add]

/-! ### The arrays -/

theorem final_9 : (dats m 0 c).arrAt 9 cfg0.N = (Tile 0 0 a.dmix : FVec Ideal S8192x1024 .bf16) := by
  refine (dats m 0 c).arrAt_eq_of_covers 9 _ (by decide +kernel) fun t hf y => ?_
  obtain ⟨-, -, -, -, -, -, -, -, -, i, -⟩ := idx_val t
  blk_simp; rw [after0_9, out_9 h t]
  refine read_tile _ _ ?_ ?_ <;> blk_simp [i]

theorem final_10 : (dats m 0 c).arrAt 10 cfg0.N = (Tile 0 0 a.dyssm : FVec Ideal S8192x1024 .bf16) := by
  refine (dats m 0 c).arrAt_eq_of_covers 10 _ (by decide +kernel) fun t hf y => ?_
  obtain ⟨-, -, -, -, -, -, -, -, -, -, i, -⟩ := idx_val t
  blk_simp; rw [after0_10, out_10 h t]
  refine read_tile _ _ ?_ ?_ <;> blk_simp [i]

theorem final_11 : (dats m 0 c).arrAt 11 cfg0.N = (Tile 0 0 a.dyattn : FVec Ideal S8192x1024 .bf16) := by
  refine (dats m 0 c).arrAt_eq_of_covers 11 _ (by decide +kernel) fun t hf y => ?_
  obtain ⟨-, -, -, -, -, -, -, -, -, -, -, i, -⟩ := idx_val t
  blk_simp; rw [after0_11, out_11 h t]
  refine read_tile _ _ ?_ ?_ <;> blk_simp [i]

theorem final_12 : (dats m 0 c).arrAt 12 cfg0.N = (Tile 0 0 a.dgates : FVec Ideal S8192x2048 .bf16) := by
  refine (dats m 0 c).arrAt_eq_of_covers 12 _ (by decide +kernel) fun t hf y => ?_
  obtain ⟨-, -, -, -, -, -, -, -, -, -, -, -, i, -⟩ := idx_val t
  blk_simp; rw [after0_12, out_12 h t]
  refine read_tile _ _ ?_ ?_ <;> blk_simp [i]

theorem final_13 : (dats m 0 c).arrAt 13 cfg0.N = (Tile 0 0 a.dys : FVec Ideal S8192x2048 .f32) := by
  refine (dats m 0 c).arrAt_eq_of_covers 13 _ (by decide +kernel) fun t hf y => ?_
  obtain ⟨-, -, -, -, -, -, -, -, -, -, -, -, -, i, -⟩ := idx_val t
  blk_simp; rw [after0_13, out_13 h t]
  refine read_tile _ _ ?_ ?_ <;> blk_simp [i]

theorem final_14 : (dats m 0 c).arrAt 14 cfg0.N = (Tile 0 0 a.dout : FVec Ideal S8192x1024 .bf16) := by
  refine (dats m 0 c).arrAt_eq_of_covers 14 _ (by decide +kernel) fun t hf y => ?_
  obtain ⟨-, -, -, -, -, -, -, -, -, -, -, -, -, -, i, -⟩ := idx_val t
  blk_simp; rw [after0_14, out_14 h t]
  refine read_tile _ _ ?_ ?_ <;> blk_simp [i]

theorem final_15 : (dats m 0 c).arrAt 15 cfg0.N = (Tile 0 0 a.dg : FVec Ideal S1x1024 .f32) := by
  refine (dats m 0 c).arrAt_eq_of_covers 15 _ (by decide +kernel) fun t hf y => ?_
  obtain ⟨-, -, -, -, -, -, -, -, -, -, -, -, -, -, -, i⟩ := idx_val t
  have ht : t.val + 1 = 32 := by
    have := (flush0_15 t).mp hf
    have := t.isLt.trans_eq N_0
    omega
  blk_simp; rw [after0_15, out_15 h t.val t.isLt, ht]
  refine read_tile (f := a.dg) _ _ ?_ ?_ <;> blk_simp [i]

end Cert.Out
-- ==== Proof.OutClaim.lean ====
/- The claim about the gradients through the mixer's output: its norm, its projections and its gates. -/
module

public import proofs.«01_k».proof.Defs
public import Idealize.ShloMosaic.Adequacy
public import Idealize.ShloMosaic.Init
public import proofs.«01_k».proof.Proof.Gen.OutBackRefIdeal.Run
public import proofs.«01_k».proof.Proof.Gen.OutBackRefIdeal.Read
public import proofs.«01_k».proof.Proof.OutFinal

@[expose] public section

set_option maxRecDepth 16384

noncomputable section

namespace Cert.Out

open Idealize.ShloMosaic Idealize.ShloMosaic.TcCoe Idealize.SL.Sem
open Cert.Mix (Tile entries tile_entries)
open Cert.OutBackIdeal

/-- The arguments a launch memory holds. -/
def args (m : (ℓ : Loc nD τ sig) → Buf (Elt Ideal) ℓ) (c : Dev nD) : Args where
  ys := entries (φ := .f32) (m ((c : Thread nD τ).loc main_arg0) : FVec Ideal S8192x2048 .f32)
  o := entries (φ := .f32) (m ((c : Thread nD τ).loc main_arg1) : FVec Ideal S8192x1024 .f32)
  gates := entries (φ := .f32) (m ((c : Thread nD τ).loc main_arg2) : FVec Ideal S8192x2048 .f32)
  ws := entries (φ := .f32) (m ((c : Thread nD τ).loc main_arg3) : FVec Ideal S2048x1024 .f32)
  wa := entries (φ := .f32) (m ((c : Thread nD τ).loc main_arg4) : FVec Ideal S1024x1024 .f32)
  wo := entries (φ := .f32) (m ((c : Thread nD τ).loc main_arg5) : FVec Ideal S1024x1024 .f32)
  post := entries (φ := .f32) (m ((c : Thread nD τ).loc main_arg6) : FVec Ideal S1x1024 .f32)
  ct := entries (φ := .f32) (m ((c : Thread nD τ).loc main_arg7) : FVec Ideal S8192x1024 .f32)

theorem holds_args (m : (ℓ : Loc nD τ sig) → Buf (Elt Ideal) ℓ) (c : Dev nD) : Holds (args m c) m c :=
  ⟨tile_entries (φ := .f32) _, tile_entries (φ := .f32) _, tile_entries (φ := .f32) _, tile_entries (φ := .f32) _,
    tile_entries (φ := .f32) _, tile_entries (φ := .f32) _, tile_entries (φ := .f32) _, tile_entries (φ := .f32) _⟩

/-- The reference's launch memory holds the arguments `a`. -/
structure Same (a : Args) (m : (ℓ : Loc OutBackRefIdeal.nD OutBackRefIdeal.τ OutBackRefIdeal.sig) → Buf (Elt Ideal) ℓ)
    (c : Dev OutBackRefIdeal.nD) : Prop where
  ys : m ((c.tc : Thread OutBackRefIdeal.nD OutBackRefIdeal.τ).loc OutBackRefIdeal.main_arg0) = a.Ys
  o : m ((c.tc : Thread OutBackRefIdeal.nD OutBackRefIdeal.τ).loc OutBackRefIdeal.main_arg1) = a.O
  gates : m ((c.tc : Thread OutBackRefIdeal.nD OutBackRefIdeal.τ).loc OutBackRefIdeal.main_arg2) = a.Gates
  ws : m ((c.tc : Thread OutBackRefIdeal.nD OutBackRefIdeal.τ).loc OutBackRefIdeal.main_arg3) = a.Ws
  wa : m ((c.tc : Thread OutBackRefIdeal.nD OutBackRefIdeal.τ).loc OutBackRefIdeal.main_arg4) = a.Wa
  wo : m ((c.tc : Thread OutBackRefIdeal.nD OutBackRefIdeal.τ).loc OutBackRefIdeal.main_arg5) = a.Wo
  post : m ((c.tc : Thread OutBackRefIdeal.nD OutBackRefIdeal.τ).loc OutBackRefIdeal.main_arg6) = a.Post
  ct : m ((c.tc : Thread OutBackRefIdeal.nD OutBackRefIdeal.τ).loc OutBackRefIdeal.main_arg7) = a.Ct

variable {a : Args} {m : (ℓ : Loc OutBackRefIdeal.nD OutBackRefIdeal.τ OutBackRefIdeal.sig) → Buf (Elt Ideal) ℓ}
  {c : Dev OutBackRefIdeal.nD} (s : Same a m c)
include s

theorem res_dmix : OutBackRefIdeal.Value.res_main_v74 (F := Ideal) m c = (Tile 0 0 a.dmix : FVec Ideal S8192x1024 .bf16) := by
  refine (OutBackRefIdeal.Read.val_main_v74_eq (F := Ideal) m c).trans ?_
  rw [s.ys, s.o, s.gates, s.ws, s.wa, s.wo, s.post, s.ct]
  exact ref_v74 a

theorem res_dyssm : OutBackRefIdeal.Value.res_main_v75 (F := Ideal) m c = (Tile 0 0 a.dyssm : FVec Ideal S8192x1024 .bf16) := by
  refine (OutBackRefIdeal.Read.val_main_v75_eq (F := Ideal) m c).trans ?_
  rw [s.ys, s.o, s.gates, s.ws, s.wa, s.wo, s.post, s.ct]
  exact ref_v75 a

theorem res_dyattn : OutBackRefIdeal.Value.res_main_v76 (F := Ideal) m c = (Tile 0 0 a.dyattn : FVec Ideal S8192x1024 .bf16) := by
  refine (OutBackRefIdeal.Read.val_main_v76_eq (F := Ideal) m c).trans ?_
  rw [s.ys, s.o, s.gates, s.ws, s.wa, s.wo, s.post, s.ct]
  exact ref_v76 a

theorem res_dgates : OutBackRefIdeal.Value.res_main_v77 (F := Ideal) m c = (Tile 0 0 a.dgates : FVec Ideal S8192x2048 .bf16) := by
  refine (OutBackRefIdeal.Read.val_main_v77_eq (F := Ideal) m c).trans ?_
  rw [s.ys, s.o, s.gates, s.ws, s.wa, s.wo, s.post, s.ct]
  exact ref_v77 a

theorem res_dys : OutBackRefIdeal.Value.res_main_v73 (F := Ideal) m c = (Tile 0 0 a.dys : FVec Ideal S8192x2048 .f32) := by
  refine (OutBackRefIdeal.Read.val_main_v73_eq (F := Ideal) m c).trans ?_
  rw [s.ys, s.o, s.gates, s.ws, s.wa, s.wo, s.post, s.ct]
  exact ref_v73 a

theorem res_dout : OutBackRefIdeal.Value.res_main_v78 (F := Ideal) m c = (Tile 0 0 a.dout : FVec Ideal S8192x1024 .bf16) := by
  refine (OutBackRefIdeal.Read.val_main_v78_eq (F := Ideal) m c).trans ?_
  rw [s.ys, s.o, s.gates, s.ws, s.wa, s.wo, s.post, s.ct]
  exact ref_v78 a

theorem res_dg : OutBackRefIdeal.Value.res_main_v47 (F := Ideal) m c = (Tile 0 0 a.dg : FVec Ideal S1x1024 .f32) := by
  refine (OutBackRefIdeal.Read.val_main_v47_eq (F := Ideal) m c).trans ?_
  rw [s.ys, s.o, s.gates, s.ws, s.wa, s.wo, s.ct]
  exact ref_v47 a

end Cert.Out

namespace Cert.Proof

open Idealize.ShloMosaic Idealize.ShloMosaic.TcCoe Idealize.SL.Sem

/-- The reference of the mixer's output's gradients runs, leaves its arguments as they were, and has no semaphore. -/
theorem frame_mix_out_bwd_reference : Cert.quiescent_OutBackRefIdeal := by
  intro m ρ _
  exact (θ_run Cert.OutBackRefIdeal.defs _ _).mono
    (fun r h => ⟨fun c => (h c).2.2.2.2.2.2.2, sem_eq_zero_of_no_sems (by decide) r.2⟩) (Cert.OutBackRefIdeal.Value.run m ρ)

/-- The gradients in the projected rows, in the two branches' projected rows, in the gates, in the branches' rows and in the
    norm's weight: the backward call of the mixer's output and its reference leave equal arrays, on any arguments. -/
theorem mix_out_bwd : Cert.algebraic_OutBackIdeal_OutBackRefIdeal := by
  pair_intro
  · run_from Cert.OutBackIdeal.Value.run_blocks m g
  · refine θ_run_mono (Cert.OutBackRefIdeal.Value.run m' g') fun r hr c => ?_
    have hc := hr c
    obtain ⟨e0, e1, e2, e3, e4, e5, e6, e7⟩ := hagree c
    have h := Out.holds_args m c
    have s : Out.Same (Out.args m c) m' c := ⟨e0.trans h.ys, e1.trans h.o, e2.trans h.gates, e3.trans h.ws, e4.trans h.wa,
      e5.trans h.wo, e6.trans h.post, e7.trans h.ct⟩
    exact ⟨hc.1.trans ((Out.res_dmix s).trans (Out.final_9 h).symm), hc.2.1.trans ((Out.res_dyssm s).trans (Out.final_10 h).symm),
      hc.2.2.1.trans ((Out.res_dyattn s).trans (Out.final_11 h).symm), hc.2.2.2.1.trans ((Out.res_dgates s).trans (Out.final_12 h).symm),
      hc.2.2.2.2.1.trans ((Out.res_dys s).trans (Out.final_13 h).symm), hc.2.2.2.2.2.1.trans ((Out.res_dout s).trans (Out.final_14 h).symm),
      hc.2.2.2.2.2.2.1.trans ((Out.res_dg s).trans (Out.final_15 h).symm), hc.2.2.2.2.2.2.2⟩

end Cert.Proof
-- ==== Proof.Product.lean ====
/- The gradient in a weight as a product over the 8192 rows of a device, taken over the rows at once, in two halves or in
   four quarters, and its place in the buffer of the mixer's three output weights. -/
module

public import proofs.«01_k».proof.Proof.Halves

@[expose] public section

namespace Cert.Rows

open Idealize.ShloMosaic

variable {A B : ℕ} (a : FVec Ideal ⟨2, ![8192, A]⟩ .f32) (g : FVec Ideal ⟨2, ![8192, B]⟩ .f32)

/-- Element `(i, j)` of the gradient in the weight of `a @ w` against `g`: column `i` of `a` against column `j` of `g`. -/
noncomputable def product (i : Fin A) (j : Fin B) : EReal := ∑ t, a (ix2 t i) * g (ix2 t j)

theorem product_congr {i i' : Fin A} {j j' : Fin B} (hi : i.val = i'.val) (hj : j.val = j'.val) :
    product a g i j = product a g i' j' := by
  rw [Fin.ext hi, Fin.ext hj]

/-- The product the other way round, over indices that have the same coordinates. -/
theorem product_of (i : Fin A) (j : Fin B) {x : Fin 8192 → (⟨2, ![8192, B]⟩ : Shape).Idx}
    {y : Fin 8192 → (⟨2, ![8192, A]⟩ : Shape).Idx} (hx : ∀ t, x t = ix2 t j) (hy : ∀ t, y t = ix2 t i) :
    ∑ t, g (x t) * a (y t) = product a g i j :=
  Finset.sum_congr rfl fun t _ => (mul_comm _ _).trans (by rw [hx, hy])

/-- The half of the rows that point `t` of a grid sums over, where the halves alternate. -/
def half (t : ℕ) : Fin 2 := ⟨t % 2, Nat.mod_lt _ (by decide)⟩

/-- Two steps that start from zero, at a point of the first half and at the next one, give the product. -/
theorem product_halves (i : Fin A) (j : Fin B) {s t : ℕ} (hs : s % 2 = 0) (ht : t % 2 = 1) {z : EReal} (hz : z = 0)
    {x0 y0 x1 y1 : Fin 4096 → EReal}
    (hx0 : ∀ k, x0 k = a (ix2 (row (half s) k) i)) (hy0 : ∀ k, y0 k = g (ix2 (row (half s) k) j))
    (hx1 : ∀ k, x1 k = a (ix2 (row (half t) k) i)) (hy1 : ∀ k, y1 k = g (ix2 (row (half t) k) j)) :
    z + ∑ k, x0 k * y0 k + ∑ k, x1 k * y1 k = product a g i j := by
  have e0 : half s = 0 := Fin.ext hs
  have e1 : half t = 1 := Fin.ext ht
  simp only [hz, zero_add, hx0, hy0, hx1, hy1, e0, e1, product, sum_halves]

/-- Row `k` of quarter `p`. -/
def quarter (p : Fin 4) (k : Fin 2048) : Fin 8192 := ⟨p.val * 2048 + k.val, by omega⟩

/-- Row `k`'s term of the product, with zero past the last row. -/
noncomputable def term (i : Fin A) (j : Fin B) (k : ℕ) : EReal :=
  if h : k < 8192 then g (ix2 ⟨k, h⟩ j) * a (ix2 ⟨k, h⟩ i) else 0

/-- The sum over the first `n` quarters. -/
noncomputable def upTo (n : ℕ) (i : Fin A) (j : Fin B) : EReal := ∑ k ∈ Finset.range (n * 2048), term a g i j k

/-- A step that adds one more quarter's products. -/
theorem upTo_step (p : Fin 4) (i : Fin A) (j : Fin B) {b : EReal} (hb : b = upTo a g p.val i j) {x y : Fin 2048 → EReal}
    (hx : ∀ k, x k = g (ix2 (quarter p k) j)) (hy : ∀ k, y k = a (ix2 (quarter p k) i)) :
    b + ∑ k, x k * y k = upTo a g (p.val + 1) i j := by
  unfold upTo at hb ⊢
  rw [Nat.succ_mul, Finset.sum_range_add, Finset.sum_range (fun k => term a g i j (p.val * 2048 + k)), hb]
  exact congrArg _ (Finset.sum_congr rfl fun k _ => by rw [hx, hy]; symm; exact dif_pos (quarter p k).isLt)

/-- The four quarters give the product. -/
theorem upTo_all (i : Fin A) (j : Fin B) : upTo a g 4 i j = product a g i j := by
  unfold upTo product
  rw [Finset.sum_range]
  exact Finset.sum_congr rfl fun t _ => (dif_pos t.isLt).trans (mul_comm _ _)

/-- Column `j` of shard `s`, of the four shards' columns of `w` each. -/
def part {w A : ℕ} (h : 4 * w = A) (s : Fin 4) (j : Fin w) : Fin A :=
  ⟨s.val * w + j.val, by
    have := Nat.mul_le_mul_right w (Nat.le_sub_one_of_lt s.isLt)
    omega⟩

theorem part_congr {w : ℕ} (h : 4 * w = A) {s s' : Fin 4} {j j' : Fin w} {d d' : Fin B} (hs : s.val = s'.val)
    (hj : j.val = j'.val) (hd : d.val = d'.val) : product a g (part h s j) d = product a g (part h s' j') d' := by
  rw [Fin.ext hs, Fin.ext hj, Fin.ext hd]

/-- What the buffer `b` of the three output weights' gradients holds with the product written by shards as the `w` rows
    from row `p * w`: the product in these rows, its own contents in the others. -/
noncomputable def within (w p : ℕ) (h : 4 * w = A) (hw : 0 < w) (g : FVec Ideal ⟨2, ![8192, 1024]⟩ .f32)
    (b : FVec Ideal ⟨3, ![4, 1024, 1024]⟩ .f32) : FVec Ideal ⟨3, ![4, 1024, 1024]⟩ .f32 := fun i =>
  if (i 1).val / w = p then product a g (part h (i 0) ⟨(i 1).val % w, Nat.mod_lt _ hw⟩) (i 2) else b i

end Cert.Rows
-- ==== Proof.Query.lean ====
/- The gradient in the 1024 columns of the input projection's weight that make the queries: the kernel's array after the
   call is the reference's, on any arguments. -/
module

public import proofs.«01_k».proof.Proof.Gen.QueryIdeal.Value
public import proofs.«01_k».proof.Proof.Gen.QueryRefIdeal.Run
public import proofs.«01_k».proof.Proof.Gen.QueryRefIdeal.Read
public import proofs.«01_k».proof.Proof.Product

@[expose] public section

set_option maxRecDepth 16384

noncomputable section

namespace Cert.QueryValue

open Idealize.ShloMosaic Idealize.ShloMosaic.TcCoe Idealize.SL.Sem
open Cert.QueryIdeal Cert.QueryIdeal.Gen Cert.Rows

variable (u : FVec Ideal S8192x1024 .f32) (d : FVec Ideal S8192x1024 .f32)

/-- The reference's array. -/
theorem ref_eq : QueryRefIdeal.Read.val_main_v4 (F := Ideal) u d = fun i => product u d (i 1) (i 2) := by
  funext i
  pointwise [QueryRefIdeal.Read.val_main_v4_apply, QueryRefIdeal.Read.val_main_v3_apply, QueryRefIdeal.Read.val_main_v2_apply]
  exact product_of u d (i 1) (i 2) (fun t => same2 rfl rfl) (fun t => same2 rfl rfl)

variable {m : (ℓ : Loc nD τ sig) → Buf (Elt Ideal) ℓ} {c : Dev nD}
  (hu : m ((c : Thread nD τ).loc main_arg0) = u) (hd : m ((c : Thread nD τ).loc main_arg1) = d)

include hu in
theorem read_u (i : S1x8192x1024.Idx) : V m c main_v1 i = u (ix2 (i 1) (i 2)) := by
  unfold V
  simp only [hostOps0]
  after_results
  rw [hu]
  pointwise []

include hd in
theorem read_d (i : S1x8192x1024.Idx) : V m c main_v3 i = d (ix2 (i 1) (i 2)) := by
  unfold V
  simp only [hostOps0]
  after_results
  rw [hd]
  pointwise []

theorem idx_val : ∀ t : Fin cfg0.N, win0_0.index t = ![0, t.val % 2, 0]
    ∧ win0_1.index t = ![0, t.val % 2, 0] ∧ win0_2.index t = ![0, 0, 0] :=
  (by decide +kernel : ∀ t : Fin grid0.N, _)

include hu in
theorem iblk_u (t : Fin cfg0.N) (k : Fin 4096) (i : Fin 1024) : iblk m c 0 t (ix3 0 k i) = u (ix2 (row (half t) k) i) := by
  have e := (idx_val t).1
  blk_simp [iblk]
  refine (read_u u hu _).trans (congrArg u (same2 ?_ ?_)) <;> blk_simp [e, row, half]

include hd in
theorem iblk_d (t : Fin cfg0.N) (k : Fin 4096) (j : Fin 1024) : iblk m c 1 t (ix3 0 k j) = d (ix2 (row (half t) k) j) := by
  have e := (idx_val t).2.1
  blk_simp [iblk]
  refine (read_d d hd _).trans (congrArg d (same2 ?_ ?_)) <;> blk_simp [e, row, half]

/-- A step adds the half's products to what the block held. -/
theorem step (b : Vec Ideal S1x1024x1024 .f32) (x : Vec Ideal S1x4096x1024 .bf16) (y : Vec Ideal S1x4096x1024 .bf16)
    (i : S1x1024x1024.Idx) :
    k0_pay2 (F := Ideal) b x y i = b i + ∑ k : Fin 4096, x (ix3 0 k (i 1)) * y (ix3 0 k (i 2)) := by
  unfold k0_pay2
  pointwise []

include hu hd in
/-- After the second half the block holds the gradient. -/
theorem out (t : Fin cfg0.N) (h : t.val % 2 = 1) (i : S1x1024x1024.Idx) :
    outsAt0 m c t.val t.isLt i = product u d (i 1) (i 2) := by
  have hs : (t.val - 1) % 2 = 0 := by omega
  have e : outsAt0 m c (t.val - 1) (Nat.lt_of_le_of_lt (Nat.sub_le _ _) t.isLt) = _ := outsAt0_A m c ⟨t.val - 1, by omega⟩ hs
  rw [outsAt0_B m c t (by omega)]
  frame_out
  rw [step, e]
  frame_out
  rw [step]
  exact product_halves u d (i 1) (i 2) hs h Ideal.ofBits_zero_f32 (fun k => iblk_u u hu _ k _) (fun k => iblk_d d hd _ k _)
    (fun k => iblk_u u hu t k _) (fun k => iblk_d d hd t k _)

include hu hd in
/-- The kernel's array. -/
theorem final : (dats m 0 c).arrAt 2 cfg0.N = fun i => product u d (i 1) (i 2) := by
  refine (dats m 0 c).arrAt_eq_of_covers 2 (fun i : S1x1024x1024.Idx => product u d (i 1) (i 2)) (by decide +kernel)
    fun t hf y => ?_
  have e := (idx_val t).2.2
  blk_simp
  rw [after0_2, out u d hu hd t ((flush0_2 t).mp hf)]
  refine product_congr u d ?_ ?_ <;> blk_simp [e]

end Cert.QueryValue
-- ==== Proof.Scan.lean ====
/- The gradient in the 512 columns of the input projection's weight that make a group of the scan's inputs: the kernel's array after the
   call is the reference's, on any arguments. -/
module

public import proofs.«01_k».proof.Proof.Gen.ScanIdeal.Value
public import proofs.«01_k».proof.Proof.Gen.ScanRefIdeal.Run
public import proofs.«01_k».proof.Proof.Gen.ScanRefIdeal.Read
public import proofs.«01_k».proof.Proof.Product

@[expose] public section

set_option maxRecDepth 16384

noncomputable section

namespace Cert.ScanValue

open Idealize.ShloMosaic Idealize.ShloMosaic.TcCoe Idealize.SL.Sem
open Cert.ScanIdeal Cert.ScanIdeal.Gen Cert.Rows

variable (u : FVec Ideal S8192x1024 .f32) (d : FVec Ideal S8192x512 .f32)

/-- The reference's array. -/
theorem ref_eq : ScanRefIdeal.Read.val_main_v4 (F := Ideal) u d = fun i => product u d (i 1) (i 2) := by
  funext i
  pointwise [ScanRefIdeal.Read.val_main_v4_apply, ScanRefIdeal.Read.val_main_v3_apply, ScanRefIdeal.Read.val_main_v2_apply]
  exact product_of u d (i 1) (i 2) (fun t => same2 rfl rfl) (fun t => same2 rfl rfl)

variable {m : (ℓ : Loc nD τ sig) → Buf (Elt Ideal) ℓ} {c : Dev nD}
  (hu : m ((c : Thread nD τ).loc main_arg0) = u) (hd : m ((c : Thread nD τ).loc main_arg1) = d)

include hu in
theorem read_u (i : S1x8192x1024.Idx) : V m c main_v1 i = u (ix2 (i 1) (i 2)) := by
  unfold V
  simp only [hostOps0]
  after_results
  rw [hu]
  pointwise []

include hd in
theorem read_d (i : S1x8192x512.Idx) : V m c main_v3 i = d (ix2 (i 1) (i 2)) := by
  unfold V
  simp only [hostOps0]
  after_results
  rw [hd]
  pointwise []

theorem idx_val : ∀ t : Fin cfg0.N, win0_0.index t = ![0, t.val % 2, 0]
    ∧ win0_1.index t = ![0, t.val % 2, 0] ∧ win0_2.index t = ![0, 0, 0] :=
  (by decide +kernel : ∀ t : Fin grid0.N, _)

include hu in
theorem iblk_u (t : Fin cfg0.N) (k : Fin 4096) (i : Fin 1024) : iblk m c 0 t (ix3 0 k i) = u (ix2 (row (half t) k) i) := by
  have e := (idx_val t).1
  blk_simp [iblk]
  refine (read_u u hu _).trans (congrArg u (same2 ?_ ?_)) <;> blk_simp [e, row, half]

include hd in
theorem iblk_d (t : Fin cfg0.N) (k : Fin 4096) (j : Fin 512) : iblk m c 1 t (ix3 0 k j) = d (ix2 (row (half t) k) j) := by
  have e := (idx_val t).2.1
  blk_simp [iblk]
  refine (read_d d hd _).trans (congrArg d (same2 ?_ ?_)) <;> blk_simp [e, row, half]

/-- A step adds the half's products to what the block held. -/
theorem step (b : Vec Ideal S1x1024x512 .f32) (x : Vec Ideal S1x4096x1024 .bf16) (y : Vec Ideal S1x4096x512 .bf16)
    (i : S1x1024x512.Idx) :
    k0_pay2 (F := Ideal) b x y i = b i + ∑ k : Fin 4096, x (ix3 0 k (i 1)) * y (ix3 0 k (i 2)) := by
  unfold k0_pay2
  pointwise []

include hu hd in
/-- After the second half the block holds the gradient. -/
theorem out (t : Fin cfg0.N) (h : t.val % 2 = 1) (i : S1x1024x512.Idx) :
    outsAt0 m c t.val t.isLt i = product u d (i 1) (i 2) := by
  have hs : (t.val - 1) % 2 = 0 := by omega
  have e : outsAt0 m c (t.val - 1) (Nat.lt_of_le_of_lt (Nat.sub_le _ _) t.isLt) = _ := outsAt0_A m c ⟨t.val - 1, by omega⟩ hs
  rw [outsAt0_B m c t (by omega)]
  frame_out
  rw [step, e]
  frame_out
  rw [step]
  exact product_halves u d (i 1) (i 2) hs h Ideal.ofBits_zero_f32 (fun k => iblk_u u hu _ k _) (fun k => iblk_d d hd _ k _)
    (fun k => iblk_u u hu t k _) (fun k => iblk_d d hd t k _)

include hu hd in
/-- The kernel's array. -/
theorem final : (dats m 0 c).arrAt 2 cfg0.N = fun i => product u d (i 1) (i 2) := by
  refine (dats m 0 c).arrAt_eq_of_covers 2 (fun i : S1x1024x512.Idx => product u d (i 1) (i 2)) (by decide +kernel)
    fun t hf y => ?_
  have e := (idx_val t).2.2
  blk_simp
  rw [after0_2, out u d hu hd t ((flush0_2 t).mp hf)]
  refine product_congr u d ?_ ?_ <;> blk_simp [e]

end Cert.ScanValue
-- ==== Proof.Keys.lean ====
/- The gradient in the 256 columns of the input projection's weight that make the keys, or the values: the kernel's array after the
   call is the reference's, on any arguments. -/
module

public import proofs.«01_k».proof.Proof.Gen.KeysIdeal.Value
public import proofs.«01_k».proof.Proof.Gen.KeysRefIdeal.Run
public import proofs.«01_k».proof.Proof.Gen.KeysRefIdeal.Read
public import proofs.«01_k».proof.Proof.Product

@[expose] public section

set_option maxRecDepth 16384

noncomputable section

namespace Cert.KeysValue

open Idealize.ShloMosaic Idealize.ShloMosaic.TcCoe Idealize.SL.Sem
open Cert.KeysIdeal Cert.KeysIdeal.Gen Cert.Rows

variable (u : FVec Ideal S8192x1024 .f32) (d : FVec Ideal S8192x256 .f32)

/-- The reference's array. -/
theorem ref_eq : KeysRefIdeal.Read.val_main_v4 (F := Ideal) u d = fun i => product u d (i 1) (i 2) := by
  funext i
  pointwise [KeysRefIdeal.Read.val_main_v4_apply, KeysRefIdeal.Read.val_main_v3_apply, KeysRefIdeal.Read.val_main_v2_apply]
  exact product_of u d (i 1) (i 2) (fun t => same2 rfl rfl) (fun t => same2 rfl rfl)

variable {m : (ℓ : Loc nD τ sig) → Buf (Elt Ideal) ℓ} {c : Dev nD}
  (hu : m ((c : Thread nD τ).loc main_arg0) = u) (hd : m ((c : Thread nD τ).loc main_arg1) = d)

include hu in
theorem read_u (i : S1x8192x1024.Idx) : V m c main_v1 i = u (ix2 (i 1) (i 2)) := by
  unfold V
  simp only [hostOps0]
  after_results
  rw [hu]
  pointwise []

include hd in
theorem read_d (i : S1x8192x256.Idx) : V m c main_v3 i = d (ix2 (i 1) (i 2)) := by
  unfold V
  simp only [hostOps0]
  after_results
  rw [hd]
  pointwise []

theorem idx_val : ∀ t : Fin cfg0.N, win0_0.index t = ![0, t.val % 2, 0]
    ∧ win0_1.index t = ![0, t.val % 2, 0] ∧ win0_2.index t = ![0, 0, 0] :=
  (by decide +kernel : ∀ t : Fin grid0.N, _)

include hu in
theorem iblk_u (t : Fin cfg0.N) (k : Fin 4096) (i : Fin 1024) : iblk m c 0 t (ix3 0 k i) = u (ix2 (row (half t) k) i) := by
  have e := (idx_val t).1
  blk_simp [iblk]
  refine (read_u u hu _).trans (congrArg u (same2 ?_ ?_)) <;> blk_simp [e, row, half]

include hd in
theorem iblk_d (t : Fin cfg0.N) (k : Fin 4096) (j : Fin 256) : iblk m c 1 t (ix3 0 k j) = d (ix2 (row (half t) k) j) := by
  have e := (idx_val t).2.1
  blk_simp [iblk]
  refine (read_d d hd _).trans (congrArg d (same2 ?_ ?_)) <;> blk_simp [e, row, half]

/-- A step adds the half's products to what the block held. -/
theorem step (b : Vec Ideal S1x1024x256 .f32) (x : Vec Ideal S1x4096x1024 .bf16) (y : Vec Ideal S1x4096x256 .bf16)
    (i : S1x1024x256.Idx) :
    k0_pay2 (F := Ideal) b x y i = b i + ∑ k : Fin 4096, x (ix3 0 k (i 1)) * y (ix3 0 k (i 2)) := by
  unfold k0_pay2
  pointwise []

include hu hd in
/-- After the second half the block holds the gradient. -/
theorem out (t : Fin cfg0.N) (h : t.val % 2 = 1) (i : S1x1024x256.Idx) :
    outsAt0 m c t.val t.isLt i = product u d (i 1) (i 2) := by
  have hs : (t.val - 1) % 2 = 0 := by omega
  have e : outsAt0 m c (t.val - 1) (Nat.lt_of_le_of_lt (Nat.sub_le _ _) t.isLt) = _ := outsAt0_A m c ⟨t.val - 1, by omega⟩ hs
  rw [outsAt0_B m c t (by omega)]
  frame_out
  rw [step, e]
  frame_out
  rw [step]
  exact product_halves u d (i 1) (i 2) hs h Ideal.ofBits_zero_f32 (fun k => iblk_u u hu _ k _) (fun k => iblk_d d hd _ k _)
    (fun k => iblk_u u hu t k _) (fun k => iblk_d d hd t k _)

include hu hd in
/-- The kernel's array. -/
theorem final : (dats m 0 c).arrAt 2 cfg0.N = fun i => product u d (i 1) (i 2) := by
  refine (dats m 0 c).arrAt_eq_of_covers 2 (fun i : S1x1024x256.Idx => product u d (i 1) (i 2)) (by decide +kernel)
    fun t hf y => ?_
  have e := (idx_val t).2.2
  blk_simp
  rw [after0_2, out u d hu hd t ((flush0_2 t).mp hf)]
  refine product_congr u d ?_ ?_ <;> blk_simp [e]

end Cert.KeysValue
-- ==== Proof.Steps.lean ====
/- The gradient in the 32 columns of the input projection's weight that make the scan's steps: the kernel's array after the
   call is the reference's, on any arguments. -/
module

public import proofs.«01_k».proof.Proof.Gen.StepsIdeal.Value
public import proofs.«01_k».proof.Proof.Gen.StepsRefIdeal.Run
public import proofs.«01_k».proof.Proof.Gen.StepsRefIdeal.Read
public import proofs.«01_k».proof.Proof.Product

@[expose] public section

set_option maxRecDepth 16384

noncomputable section

namespace Cert.StepsValue

open Idealize.ShloMosaic Idealize.ShloMosaic.TcCoe Idealize.SL.Sem
open Cert.StepsIdeal Cert.StepsIdeal.Gen Cert.Rows

variable (u : FVec Ideal S8192x1024 .f32) (d : FVec Ideal S8192x32 .f32)

/-- The reference's array: the gradient with its rows and columns swapped. -/
theorem ref_eq : StepsRefIdeal.Read.val_main_v4 (F := Ideal) u d = fun i => product u d (i 1) (i 0) := by
  funext i
  pointwise [StepsRefIdeal.Read.val_main_v4_apply, StepsRefIdeal.Read.val_main_v3_apply, StepsRefIdeal.Read.val_main_v2_apply]
  exact product_of u d (i 1) (i 0) (fun t => same2 rfl rfl) (fun t => same2 rfl rfl)

variable {m : (ℓ : Loc nD τ sig) → Buf (Elt Ideal) ℓ} {c : Dev nD}
  (hu : m ((c : Thread nD τ).loc main_arg0) = u) (hd : m ((c : Thread nD τ).loc main_arg1) = d)

include hd in
theorem read_d (i : S32x8192.Idx) : V m c main_v0 i = d (ix2 (i 1) (i 0)) := by
  unfold V
  simp only [hostOps0]
  after_results
  rw [hd]
  pointwise []

include hu in
theorem read_u (i : S8192x1024.Idx) : V m c main_v1 i = u (ix2 (i 0) (i 1)) := by
  unfold V
  simp only [hostOps0]
  after_results
  rw [hu]
  pointwise []

theorem idx_val : ∀ t : Fin cfg0.N, win0_0.index t = ![0, t.val] ∧ win0_1.index t = ![t.val, 0] ∧ win0_2.index t = ![0, 0] :=
  (by decide +kernel : ∀ t : Fin grid0.N, _)

/-- The quarter of the rows a grid point sums over. -/
def place (t : Fin cfg0.N) : Fin 4 := ⟨t.val, t.isLt.trans_eq N_0⟩

include hd in
theorem iblk_d (t : Fin cfg0.N) (j : Fin 32) (k : Fin 2048) : iblk m c 0 t (ix2 j k) = d (ix2 (quarter (place t) k) j) := by
  have e := (idx_val t).1
  blk_simp [iblk]
  refine (read_d d hd _).trans (congrArg d (same2 ?_ ?_)) <;> blk_simp [e, quarter, place]

include hu in
theorem iblk_u (t : Fin cfg0.N) (k : Fin 2048) (i : Fin 1024) : iblk m c 1 t (ix2 k i) = u (ix2 (quarter (place t) k) i) := by
  have e := (idx_val t).2.1
  blk_simp [iblk]
  refine (read_u u hu _).trans (congrArg u (same2 ?_ ?_)) <;> blk_simp [e, quarter, place]

/-- A step adds the quarter's products to what the block held. -/
theorem step (b : Vec Ideal S32x1024 .f32) (x : Vec Ideal S32x2048 .f32) (y : Vec Ideal S2048x1024 .bf16) (i : S32x1024.Idx) :
    k0_pay2 (F := Ideal) b x y i = b i + ∑ k : Fin 2048, x (ix2 (i 0) k) * y (ix2 k (i 1)) := by
  unfold k0_pay2
  pointwise []

include hu hd in
/-- After `n + 1` points the block holds the sum over the first `n + 1` quarters. -/
theorem out : ∀ (n : ℕ) (h : n < cfg0.N) (i : S32x1024.Idx), outsAt0 m c n h i = upTo u d (n + 1) (i 1) (i 0)
  | 0, h, i => by
    have e : outsAt0 m c 0 h = _ := outsAt0_A m c ⟨0, h⟩ rfl
    rw [e]
    frame_out
    rw [step]
    exact upTo_step u d (place ⟨0, h⟩) (i 1) (i 0) (Ideal.ofBits_zero_f32.trans (by simp [upTo, place]))
      (fun k => iblk_d d hd ⟨0, h⟩ (i 0) k) (fun k => iblk_u u hu ⟨0, h⟩ k (i 1))
  | n + 1, h, i => by
    have hn : n + 1 < 4 := h.trans_eq N_0
    have e : outsAt0 m c (n + 1) h = _ := outsAt0_B m c ⟨n + 1, h⟩ (by dsimp only; omega)
    rw [e]
    frame_out
    rw [step]
    exact upTo_step u d (place ⟨n + 1, h⟩) (i 1) (i 0) (out n _ i)
      (fun k => iblk_d d hd ⟨n + 1, h⟩ (i 0) k) (fun k => iblk_u u hu ⟨n + 1, h⟩ k (i 1))

include hu hd in
/-- The kernel's array. -/
theorem final : (dats m 0 c).arrAt 2 cfg0.N = fun i => product u d (i 1) (i 0) := by
  refine (dats m 0 c).arrAt_eq_of_covers 2 (fun i : S32x1024.Idx => product u d (i 1) (i 0)) (by decide +kernel)
    fun t hf y => ?_
  have e := (idx_val t).2.2
  have h := (flush0_2 t).mp hf
  have h4 := t.isLt.trans_eq N_0
  have h3 : t.val = 3 := by omega
  blk_simp
  rw [after0_2, out u d hu hd t.val t.isLt, h3]
  refine (upTo_all u d _ _).trans ?_
  refine product_congr u d ?_ ?_ <;> blk_simp [e]

end Cert.StepsValue
-- ==== Proof.Ssm.lean ====
/- The gradient in the weight of the scan branch's output: the kernel's buffer after the call is the reference's array, on
   any arguments. -/
module

public import proofs.«01_k».proof.Proof.Gen.SsmIdeal.Value
public import proofs.«01_k».proof.Proof.Gen.SsmRefIdeal.Run
public import proofs.«01_k».proof.Proof.Gen.SsmRefIdeal.Read
public import proofs.«01_k».proof.Proof.Product

@[expose] public section

set_option maxRecDepth 16384

noncomputable section

namespace Cert.SsmValue

open Idealize.ShloMosaic Idealize.ShloMosaic.TcCoe Idealize.SL.Sem
open Cert.SsmIdeal Cert.SsmIdeal.Gen Cert.Rows

variable (a : FVec Ideal S8192x2048 .f32) (g : FVec Ideal S8192x1024 .f32)

/-- The buffer with the gradient in it. -/
def result (b : FVec Ideal S4x1024x1024 .f32) : FVec Ideal S4x1024x1024 .f32 :=
  within a 512 0 rfl (by decide) g b

/-- The reference's array. -/
theorem ref_eq (b : FVec Ideal S4x1024x1024 .f32) : SsmRefIdeal.Read.val_main_v6 (F := Ideal) a g b = result a g b := by
  suffices H : ∀ (s : Fin 4) (j : Fin 1024) (d : Fin 1024),
      SsmRefIdeal.Read.val_main_v6 (F := Ideal) a g b (ix3 s j d) = result a g b (ix3 s j d) from
    funext fun i => by rw [eq_ix3 i]; exact H _ _ _
  intro s j d
  unfold SsmRefIdeal.Read.val_main_v6
  pointwise [SsmRefIdeal.Read.val_main_v5_apply, SsmRefIdeal.Read.val_main_v4_apply, SsmRefIdeal.Read.val_main_v3_apply,
    SsmRefIdeal.Read.val_main_v2_apply, result, within]
  have hs := s.isLt
  have hd := d.isLt
  by_cases h : j.val < 512
  · rw [dif_pos h]
    refine Eq.trans ?_ (if_pos (show j.val / 512 = 0 by omega)).symm
    exact product_of a g _ _ (fun t => same2 rfl (by dsimp; omega)) (fun t => same2 rfl (by dsimp [part]; omega))
  · have h' : ¬ j.val / 512 = 0 := by omega
    rw [dif_neg h]
    simp only [h', if_false]
    refine congrArg b (same3 rfl ?_ rfl)
    dsimp
    omega

variable {m : (ℓ : Loc nD τ sig) → Buf (Elt Ideal) ℓ} {c : Dev nD}
  (ha : m ((c : Thread nD τ).loc main_arg0) = a) (hg : m ((c : Thread nD τ).loc main_arg1) = g)

theorem host_v4 : V m c main_v4 = m ((c : Thread nD τ).loc main_arg2) := by
  unfold V
  simp only [hostOps0]
  after_results
  rfl

include ha in
theorem read_a (i : S1x8192x2048.Idx) : V m c main_v1 i = a (ix2 (i 1) (i 2)) := by
  unfold V
  simp only [hostOps0]
  after_results
  rw [ha]
  pointwise []

include hg in
theorem read_g (i : S1x8192x1024.Idx) : V m c main_v3 i = g (ix2 (i 1) (i 2)) := by
  unfold V
  simp only [hostOps0]
  after_results
  rw [hg]
  pointwise []

/-- The shard a grid point works on. -/
def shard (t : Fin cfg0.N) : Fin 4 := ⟨t.val / 2, by have := t.isLt.trans_eq N_0; omega⟩

theorem idx_val : ∀ t : Fin cfg0.N, win0_0.index t = ![0, t.val % 2, t.val / 2]
    ∧ win0_1.index t = ![0, t.val % 2, 0] ∧ win0_2.index t = ![t.val / 2, 0, 0] :=
  (by decide +kernel : ∀ t : Fin grid0.N, _)

include ha in
theorem iblk_a (t : Fin cfg0.N) (k : Fin 4096) (j : Fin 512) {s : Fin 4} (hs : shard t = s) :
    iblk m c 0 t (ix3 0 k j) = a (ix2 (row (half t) k) (part rfl s j)) := by
  subst hs
  have e := (idx_val t).1
  blk_simp [iblk]
  refine (read_a a ha _).trans (congrArg a (same2 ?_ ?_)) <;> blk_simp [e, row, half, part, shard]

include hg in
theorem iblk_g (t : Fin cfg0.N) (k : Fin 4096) (d : Fin 1024) : iblk m c 1 t (ix3 0 k d) = g (ix2 (row (half t) k) d) := by
  have e := (idx_val t).2.1
  blk_simp [iblk]
  refine (read_g g hg _).trans (congrArg g (same2 ?_ ?_)) <;> blk_simp [e, row, half]

/-- A step adds the half's products to what the block held. -/
theorem step (b : Vec Ideal S1x512x1024 .f32) (x : Vec Ideal S1x4096x512 .bf16) (y : Vec Ideal S1x4096x1024 .bf16)
    (i : S1x512x1024.Idx) :
    k0_pay2 (F := Ideal) b x y i = b i + ∑ k : Fin 4096, x (ix3 0 k (i 1)) * y (ix3 0 k (i 2)) := by
  unfold k0_pay2
  pointwise []

include ha hg in
/-- After the second half the block holds the gradient of its shard. -/
theorem out (t : Fin cfg0.N) (h : t.val % 2 = 1) (i : S1x512x1024.Idx) :
    outsAt0 m c t.val t.isLt i = product a g (part rfl (shard t) (i 1)) (i 2) := by
  have hs : (t.val - 1) % 2 = 0 := by omega
  have e : outsAt0 m c (t.val - 1) (Nat.lt_of_le_of_lt (Nat.sub_le _ _) t.isLt) = _ := outsAt0_A m c ⟨t.val - 1, by omega⟩ hs
  rw [outsAt0_B m c t (by omega)]
  frame_out
  rw [step, e]
  frame_out
  rw [step]
  exact product_halves a g _ (i 2) hs h Ideal.ofBits_zero_f32
    (fun k => iblk_a a ha _ k _ (Fin.ext (show (t.val - 1) / 2 = t.val / 2 by omega))) (fun k => iblk_g g hg _ k _)
    (fun k => iblk_a a ha t k _ rfl) (fun k => iblk_g g hg t k _)

include ha hg in
/-- The kernel's buffer. -/
theorem final : (dats m 0 c).arrAt 2 cfg0.N = result a g (m ((c : Thread nD τ).loc main_arg2)) := by
  rw [← host_v4 (m := m)]
  refine (dats m 0 c).arrAt_eq_of_coversWhere 2
    (fun i => product a g (part rfl (i 0) ⟨(i 1).val % 512, Nat.mod_lt _ (by decide)⟩) (i 2))
    (fun β => β (1 : Fin _) = 0) (by decide +kernel) (fun t hf y => ?_) (fun j => Iff.rfl)
  have e := (idx_val t).2.2
  have h1 : (y 1).val < 512 := (y 1).isLt
  blk_simp
  rw [after0_2, out a g ha hg t ((flush0_2 t).mp hf)]
  refine part_congr a g rfl ?_ ?_ ?_
  · blk_simp [e, shard]
  · show (y 1).val = (win0_2.index t 1 * 512 + (y 1).val) % 512
    rw [e]
    show (y 1).val = (0 * 512 + (y 1).val) % 512
    omega
  · blk_simp [e]

end Cert.SsmValue
-- ==== Proof.Attn.lean ====
/- The gradient in the weight of the attention branch's output: the kernel's buffer after the call is the reference's array, on
   any arguments. -/
module

public import proofs.«01_k».proof.Proof.Gen.AttnIdeal.Value
public import proofs.«01_k».proof.Proof.Gen.AttnRefIdeal.Run
public import proofs.«01_k».proof.Proof.Gen.AttnRefIdeal.Read
public import proofs.«01_k».proof.Proof.Product

@[expose] public section

set_option maxRecDepth 16384

noncomputable section

namespace Cert.AttnValue

open Idealize.ShloMosaic Idealize.ShloMosaic.TcCoe Idealize.SL.Sem
open Cert.AttnIdeal Cert.AttnIdeal.Gen Cert.Rows

variable (a : FVec Ideal S8192x1024 .f32) (g : FVec Ideal S8192x1024 .f32)

/-- The buffer with the gradient in it. -/
def result (b : FVec Ideal S4x1024x1024 .f32) : FVec Ideal S4x1024x1024 .f32 :=
  within a 256 2 rfl (by decide) g b

/-- The reference's array. -/
theorem ref_eq (b : FVec Ideal S4x1024x1024 .f32) : AttnRefIdeal.Read.val_main_v7 (F := Ideal) a g b = result a g b := by
  suffices H : ∀ (s : Fin 4) (j : Fin 1024) (d : Fin 1024),
      AttnRefIdeal.Read.val_main_v7 (F := Ideal) a g b (ix3 s j d) = result a g b (ix3 s j d) from
    funext fun i => by rw [eq_ix3 i]; exact H _ _ _
  intro s j d
  unfold AttnRefIdeal.Read.val_main_v7
  pointwise [AttnRefIdeal.Read.val_main_v6_apply, AttnRefIdeal.Read.val_main_v5_apply, AttnRefIdeal.Read.val_main_v4_apply,
    AttnRefIdeal.Read.val_main_v3_apply, AttnRefIdeal.Read.val_main_v2_apply, result, within]
  have hs := s.isLt
  have hd := d.isLt
  by_cases h : j.val < 512
  · have h' : ¬ j.val / 256 = 2 := by omega
    simp only [h, h', dif_pos, if_false]
    refine congrArg b (same3 rfl ?_ rfl)
    dsimp
  · rw [dif_neg h]
    by_cases h2 : j.val - 512 < 256
    · rw [dif_pos h2]
      refine Eq.trans ?_ (if_pos (show j.val / 256 = 2 by omega)).symm
      exact product_of a g _ _ (fun t => same2 rfl (by dsimp; omega)) (fun t => same2 rfl (by dsimp [part]; omega))
    · have h' : ¬ j.val / 256 = 2 := by omega
      rw [dif_neg h2]
      simp only [h', if_false]
      refine congrArg b (same3 rfl ?_ rfl)
      dsimp
      omega

variable {m : (ℓ : Loc nD τ sig) → Buf (Elt Ideal) ℓ} {c : Dev nD}
  (ha : m ((c : Thread nD τ).loc main_arg0) = a) (hg : m ((c : Thread nD τ).loc main_arg1) = g)

theorem host_v4 : V m c main_v4 = m ((c : Thread nD τ).loc main_arg2) := by
  unfold V
  simp only [hostOps0]
  after_results
  rfl

include ha in
theorem read_a (i : S1x8192x1024.Idx) : V m c main_v1 i = a (ix2 (i 1) (i 2)) := by
  unfold V
  simp only [hostOps0]
  after_results
  rw [ha]
  pointwise []

include hg in
theorem read_g (i : S1x8192x1024.Idx) : V m c main_v3 i = g (ix2 (i 1) (i 2)) := by
  unfold V
  simp only [hostOps0]
  after_results
  rw [hg]
  pointwise []

/-- The shard a grid point works on. -/
def shard (t : Fin cfg0.N) : Fin 4 := ⟨t.val / 2, by have := t.isLt.trans_eq N_0; omega⟩

theorem idx_val : ∀ t : Fin cfg0.N, win0_0.index t = ![0, t.val % 2, t.val / 2]
    ∧ win0_1.index t = ![0, t.val % 2, 0] ∧ win0_2.index t = ![t.val / 2, 2, 0] :=
  (by decide +kernel : ∀ t : Fin grid0.N, _)

include ha in
theorem iblk_a (t : Fin cfg0.N) (k : Fin 4096) (j : Fin 256) {s : Fin 4} (hs : shard t = s) :
    iblk m c 0 t (ix3 0 k j) = a (ix2 (row (half t) k) (part rfl s j)) := by
  subst hs
  have e := (idx_val t).1
  blk_simp [iblk]
  refine (read_a a ha _).trans (congrArg a (same2 ?_ ?_)) <;> blk_simp [e, row, half, part, shard]

include hg in
theorem iblk_g (t : Fin cfg0.N) (k : Fin 4096) (d : Fin 1024) : iblk m c 1 t (ix3 0 k d) = g (ix2 (row (half t) k) d) := by
  have e := (idx_val t).2.1
  blk_simp [iblk]
  refine (read_g g hg _).trans (congrArg g (same2 ?_ ?_)) <;> blk_simp [e, row, half]

/-- A step adds the half's products to what the block held. -/
theorem step (b : Vec Ideal S1x256x1024 .f32) (x : Vec Ideal S1x4096x256 .bf16) (y : Vec Ideal S1x4096x1024 .bf16)
    (i : S1x256x1024.Idx) :
    k0_pay2 (F := Ideal) b x y i = b i + ∑ k : Fin 4096, x (ix3 0 k (i 1)) * y (ix3 0 k (i 2)) := by
  unfold k0_pay2
  pointwise []

include ha hg in
/-- After the second half the block holds the gradient of its shard. -/
theorem out (t : Fin cfg0.N) (h : t.val % 2 = 1) (i : S1x256x1024.Idx) :
    outsAt0 m c t.val t.isLt i = product a g (part rfl (shard t) (i 1)) (i 2) := by
  have hs : (t.val - 1) % 2 = 0 := by omega
  have e : outsAt0 m c (t.val - 1) (Nat.lt_of_le_of_lt (Nat.sub_le _ _) t.isLt) = _ := outsAt0_A m c ⟨t.val - 1, by omega⟩ hs
  rw [outsAt0_B m c t (by omega)]
  frame_out
  rw [step, e]
  frame_out
  rw [step]
  exact product_halves a g _ (i 2) hs h Ideal.ofBits_zero_f32
    (fun k => iblk_a a ha _ k _ (Fin.ext (show (t.val - 1) / 2 = t.val / 2 by omega))) (fun k => iblk_g g hg _ k _)
    (fun k => iblk_a a ha t k _ rfl) (fun k => iblk_g g hg t k _)

include ha hg in
/-- The kernel's buffer. -/
theorem final : (dats m 0 c).arrAt 2 cfg0.N = result a g (m ((c : Thread nD τ).loc main_arg2)) := by
  rw [← host_v4 (m := m)]
  refine (dats m 0 c).arrAt_eq_of_coversWhere 2
    (fun i => product a g (part rfl (i 0) ⟨(i 1).val % 256, Nat.mod_lt _ (by decide)⟩) (i 2))
    (fun β => β (1 : Fin _) = 2) (by decide +kernel) (fun t hf y => ?_) (fun j => Iff.rfl)
  have e := (idx_val t).2.2
  have h1 : (y 1).val < 256 := (y 1).isLt
  blk_simp
  rw [after0_2, out a g ha hg t ((flush0_2 t).mp hf)]
  refine part_congr a g rfl ?_ ?_ ?_
  · blk_simp [e, shard]
  · show (y 1).val = (win0_2.index t 1 * 256 + (y 1).val) % 256
    rw [e]
    show (y 1).val = (2 * 256 + (y 1).val) % 256
    omega
  · blk_simp [e]

end Cert.AttnValue
-- ==== Proof.Merge.lean ====
/- The gradient in the weight of the mixer's output: the kernel's buffer after the call is the reference's array, on
   any arguments. -/
module

public import proofs.«01_k».proof.Proof.Gen.MergeIdeal.Value
public import proofs.«01_k».proof.Proof.Gen.MergeRefIdeal.Run
public import proofs.«01_k».proof.Proof.Gen.MergeRefIdeal.Read
public import proofs.«01_k».proof.Proof.Product

@[expose] public section

set_option maxRecDepth 16384

noncomputable section

namespace Cert.MergeValue

open Idealize.ShloMosaic Idealize.ShloMosaic.TcCoe Idealize.SL.Sem
open Cert.MergeIdeal Cert.MergeIdeal.Gen Cert.Rows

variable (a : FVec Ideal S8192x1024 .f32) (g : FVec Ideal S8192x1024 .f32)

/-- The buffer with the gradient in it. -/
def result (b : FVec Ideal S4x1024x1024 .f32) : FVec Ideal S4x1024x1024 .f32 :=
  within a 256 3 rfl (by decide) g b

/-- The reference's array. -/
theorem ref_eq (b : FVec Ideal S4x1024x1024 .f32) : MergeRefIdeal.Read.val_main_v6 (F := Ideal) a g b = result a g b := by
  suffices H : ∀ (s : Fin 4) (j : Fin 1024) (d : Fin 1024),
      MergeRefIdeal.Read.val_main_v6 (F := Ideal) a g b (ix3 s j d) = result a g b (ix3 s j d) from
    funext fun i => by rw [eq_ix3 i]; exact H _ _ _
  intro s j d
  unfold MergeRefIdeal.Read.val_main_v6
  pointwise [MergeRefIdeal.Read.val_main_v5_apply, MergeRefIdeal.Read.val_main_v4_apply, MergeRefIdeal.Read.val_main_v3_apply,
    MergeRefIdeal.Read.val_main_v2_apply, result, within]
  have hs := s.isLt
  have hd := d.isLt
  by_cases h : j.val < 768
  · have h' : ¬ j.val / 256 = 3 := by omega
    simp only [h, h', dif_pos, if_false]
    refine congrArg b (same3 rfl ?_ rfl)
    dsimp
  · rw [dif_neg h]
    refine Eq.trans ?_ (if_pos (show j.val / 256 = 3 by omega)).symm
    exact product_of a g _ _ (fun t => same2 rfl (by dsimp; omega)) (fun t => same2 rfl (by dsimp [part]; omega))

variable {m : (ℓ : Loc nD τ sig) → Buf (Elt Ideal) ℓ} {c : Dev nD}
  (ha : m ((c : Thread nD τ).loc main_arg0) = a) (hg : m ((c : Thread nD τ).loc main_arg1) = g)

theorem host_v4 : V m c main_v4 = m ((c : Thread nD τ).loc main_arg2) := by
  unfold V
  simp only [hostOps0]
  after_results
  rfl

include ha in
theorem read_a (i : S1x8192x1024.Idx) : V m c main_v1 i = a (ix2 (i 1) (i 2)) := by
  unfold V
  simp only [hostOps0]
  after_results
  rw [ha]
  pointwise []

include hg in
theorem read_g (i : S1x8192x1024.Idx) : V m c main_v3 i = g (ix2 (i 1) (i 2)) := by
  unfold V
  simp only [hostOps0]
  after_results
  rw [hg]
  pointwise []

/-- The shard a grid point works on. -/
def shard (t : Fin cfg0.N) : Fin 4 := ⟨t.val / 2, by have := t.isLt.trans_eq N_0; omega⟩

theorem idx_val : ∀ t : Fin cfg0.N, win0_0.index t = ![0, t.val % 2, t.val / 2]
    ∧ win0_1.index t = ![0, t.val % 2, 0] ∧ win0_2.index t = ![t.val / 2, 3, 0] :=
  (by decide +kernel : ∀ t : Fin grid0.N, _)

include ha in
theorem iblk_a (t : Fin cfg0.N) (k : Fin 4096) (j : Fin 256) {s : Fin 4} (hs : shard t = s) :
    iblk m c 0 t (ix3 0 k j) = a (ix2 (row (half t) k) (part rfl s j)) := by
  subst hs
  have e := (idx_val t).1
  blk_simp [iblk]
  refine (read_a a ha _).trans (congrArg a (same2 ?_ ?_)) <;> blk_simp [e, row, half, part, shard]

include hg in
theorem iblk_g (t : Fin cfg0.N) (k : Fin 4096) (d : Fin 1024) : iblk m c 1 t (ix3 0 k d) = g (ix2 (row (half t) k) d) := by
  have e := (idx_val t).2.1
  blk_simp [iblk]
  refine (read_g g hg _).trans (congrArg g (same2 ?_ ?_)) <;> blk_simp [e, row, half]

/-- A step adds the half's products to what the block held. -/
theorem step (b : Vec Ideal S1x256x1024 .f32) (x : Vec Ideal S1x4096x256 .bf16) (y : Vec Ideal S1x4096x1024 .bf16)
    (i : S1x256x1024.Idx) :
    k0_pay2 (F := Ideal) b x y i = b i + ∑ k : Fin 4096, x (ix3 0 k (i 1)) * y (ix3 0 k (i 2)) := by
  unfold k0_pay2
  pointwise []

include ha hg in
/-- After the second half the block holds the gradient of its shard. -/
theorem out (t : Fin cfg0.N) (h : t.val % 2 = 1) (i : S1x256x1024.Idx) :
    outsAt0 m c t.val t.isLt i = product a g (part rfl (shard t) (i 1)) (i 2) := by
  have hs : (t.val - 1) % 2 = 0 := by omega
  have e : outsAt0 m c (t.val - 1) (Nat.lt_of_le_of_lt (Nat.sub_le _ _) t.isLt) = _ := outsAt0_A m c ⟨t.val - 1, by omega⟩ hs
  rw [outsAt0_B m c t (by omega)]
  frame_out
  rw [step, e]
  frame_out
  rw [step]
  exact product_halves a g _ (i 2) hs h Ideal.ofBits_zero_f32
    (fun k => iblk_a a ha _ k _ (Fin.ext (show (t.val - 1) / 2 = t.val / 2 by omega))) (fun k => iblk_g g hg _ k _)
    (fun k => iblk_a a ha t k _ rfl) (fun k => iblk_g g hg t k _)

include ha hg in
/-- The kernel's buffer. -/
theorem final : (dats m 0 c).arrAt 2 cfg0.N = result a g (m ((c : Thread nD τ).loc main_arg2)) := by
  rw [← host_v4 (m := m)]
  refine (dats m 0 c).arrAt_eq_of_coversWhere 2
    (fun i => product a g (part rfl (i 0) ⟨(i 1).val % 256, Nat.mod_lt _ (by decide)⟩) (i 2))
    (fun β => β (1 : Fin _) = 3) (by decide +kernel) (fun t hf y => ?_) (fun j => Iff.rfl)
  have e := (idx_val t).2.2
  have h1 : (y 1).val < 256 := (y 1).isLt
  blk_simp
  rw [after0_2, out a g ha hg t ((flush0_2 t).mp hf)]
  refine part_congr a g rfl ?_ ?_ ?_
  · blk_simp [e, shard]
  · show (y 1).val = (win0_2.index t 1 * 256 + (y 1).val) % 256
    rw [e]
    show (y 1).val = (3 * 256 + (y 1).val) % 256
    omega
  · blk_simp [e]

end Cert.MergeValue
-- ==== Proof.WeightClaim.lean ====
/- The claims about the gradients in the other columns of the input projection's weight and in the mixer's three output
   weights. -/
module

public import proofs.«01_k».proof.Defs
public import Idealize.ShloMosaic.Adequacy
public import Idealize.ShloMosaic.Init
public import proofs.«01_k».proof.Proof.Gen.Query
public import proofs.«01_k».proof.Proof.Gen.Query.Frame
public import proofs.«01_k».proof.Proof.Gen.QueryIdeal
public import proofs.«01_k».proof.Proof.Gen.QueryIdeal.Frame
public import proofs.«01_k».proof.Proof.Gen.QueryIdeal.Value
public import proofs.«01_k».proof.Proof.Gen.QueryRefIdeal
public import proofs.«01_k».proof.Proof.Gen.QueryRefIdeal.Run
public import proofs.«01_k».proof.Proof.Gen.QueryRefIdeal.Read
public import proofs.«01_k».proof.Proof.Gen.Scan
public import proofs.«01_k».proof.Proof.Gen.Scan.Frame
public import proofs.«01_k».proof.Proof.Gen.ScanIdeal
public import proofs.«01_k».proof.Proof.Gen.ScanIdeal.Frame
public import proofs.«01_k».proof.Proof.Gen.ScanIdeal.Value
public import proofs.«01_k».proof.Proof.Gen.ScanRefIdeal
public import proofs.«01_k».proof.Proof.Gen.ScanRefIdeal.Run
public import proofs.«01_k».proof.Proof.Gen.ScanRefIdeal.Read
public import proofs.«01_k».proof.Proof.Gen.Keys
public import proofs.«01_k».proof.Proof.Gen.Keys.Frame
public import proofs.«01_k».proof.Proof.Gen.KeysIdeal
public import proofs.«01_k».proof.Proof.Gen.KeysIdeal.Frame
public import proofs.«01_k».proof.Proof.Gen.KeysIdeal.Value
public import proofs.«01_k».proof.Proof.Gen.KeysRefIdeal
public import proofs.«01_k».proof.Proof.Gen.KeysRefIdeal.Run
public import proofs.«01_k».proof.Proof.Gen.KeysRefIdeal.Read
public import proofs.«01_k».proof.Proof.Gen.Steps
public import proofs.«01_k».proof.Proof.Gen.Steps.Frame
public import proofs.«01_k».proof.Proof.Gen.StepsIdeal
public import proofs.«01_k».proof.Proof.Gen.StepsIdeal.Frame
public import proofs.«01_k».proof.Proof.Gen.StepsIdeal.Value
public import proofs.«01_k».proof.Proof.Gen.StepsRefIdeal
public import proofs.«01_k».proof.Proof.Gen.StepsRefIdeal.Run
public import proofs.«01_k».proof.Proof.Gen.StepsRefIdeal.Read
public import proofs.«01_k».proof.Proof.Gen.Ssm
public import proofs.«01_k».proof.Proof.Gen.Ssm.Frame
public import proofs.«01_k».proof.Proof.Gen.SsmIdeal
public import proofs.«01_k».proof.Proof.Gen.SsmIdeal.Frame
public import proofs.«01_k».proof.Proof.Gen.SsmIdeal.Value
public import proofs.«01_k».proof.Proof.Gen.SsmRefIdeal
public import proofs.«01_k».proof.Proof.Gen.SsmRefIdeal.Run
public import proofs.«01_k».proof.Proof.Gen.SsmRefIdeal.Read
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Query
public import proofs.«01_k».proof.Proof.Scan
public import proofs.«01_k».proof.Proof.Keys
public import proofs.«01_k».proof.Proof.Steps
public import proofs.«01_k».proof.Proof.Ssm
public import proofs.«01_k».proof.Proof.Attn
public import proofs.«01_k».proof.Proof.Merge

@[expose] public section

set_option maxRecDepth 16384

noncomputable section

namespace Cert.Proof

open Idealize.ShloMosaic Idealize.ShloMosaic.TcCoe Idealize.SL.Sem

/-- The reference of the gradient in the queries' columns runs, leaves its arguments as they were, and has no semaphore. -/
theorem frame_query_reference : Cert.quiescent_QueryRefIdeal := by
  intro m ρ _
  exact (θ_run Cert.QueryRefIdeal.defs _ _).mono
    (fun r h => ⟨fun c => (h c).2, sem_eq_zero_of_no_sems (by decide) r.2⟩) (Cert.QueryRefIdeal.Value.run m ρ)

/-- The gradient in the queries' columns: the kernel and its reference leave equal arrays, on any arguments. -/
theorem dw_query : Cert.algebraic_QueryIdeal_QueryRefIdeal := by
  pair_intro
  · run_from Cert.QueryIdeal.Value.run_blocks m g
  · run_from Cert.QueryRefIdeal.Value.run m' g'
    refine (QueryRefIdeal.Read.val_main_v4_eq (F := Ideal) _ _).trans ?_
    exact (QueryValue.ref_eq _ _).trans (QueryValue.final _ _ rfl rfl).symm

/-- The reference of the gradient in a group of the scan's columns runs, leaves its arguments as they were, and has no semaphore. -/
theorem frame_scan_reference : Cert.quiescent_ScanRefIdeal := by
  intro m ρ _
  exact (θ_run Cert.ScanRefIdeal.defs _ _).mono
    (fun r h => ⟨fun c => (h c).2, sem_eq_zero_of_no_sems (by decide) r.2⟩) (Cert.ScanRefIdeal.Value.run m ρ)

/-- The gradient in a group of the scan's columns: the kernel and its reference leave equal arrays, on any arguments. -/
theorem dw_scan : Cert.algebraic_ScanIdeal_ScanRefIdeal := by
  pair_intro
  · run_from Cert.ScanIdeal.Value.run_blocks m g
  · run_from Cert.ScanRefIdeal.Value.run m' g'
    refine (ScanRefIdeal.Read.val_main_v4_eq (F := Ideal) _ _).trans ?_
    exact (ScanValue.ref_eq _ _).trans (ScanValue.final _ _ rfl rfl).symm

/-- The reference of the gradient in the keys' columns runs, leaves its arguments as they were, and has no semaphore. -/
theorem frame_keys_reference : Cert.quiescent_KeysRefIdeal := by
  intro m ρ _
  exact (θ_run Cert.KeysRefIdeal.defs _ _).mono
    (fun r h => ⟨fun c => (h c).2, sem_eq_zero_of_no_sems (by decide) r.2⟩) (Cert.KeysRefIdeal.Value.run m ρ)

/-- The gradient in the keys' columns: the kernel and its reference leave equal arrays, on any arguments. -/
theorem dw_keys : Cert.algebraic_KeysIdeal_KeysRefIdeal := by
  pair_intro
  · run_from Cert.KeysIdeal.Value.run_blocks m g
  · run_from Cert.KeysRefIdeal.Value.run m' g'
    refine (KeysRefIdeal.Read.val_main_v4_eq (F := Ideal) _ _).trans ?_
    exact (KeysValue.ref_eq _ _).trans (KeysValue.final _ _ rfl rfl).symm

/-- The reference of the gradient in the steps' columns runs, leaves its arguments as they were, and has no semaphore. -/
theorem frame_steps_reference : Cert.quiescent_StepsRefIdeal := by
  intro m ρ _
  exact (θ_run Cert.StepsRefIdeal.defs _ _).mono
    (fun r h => ⟨fun c => (h c).2, sem_eq_zero_of_no_sems (by decide) r.2⟩) (Cert.StepsRefIdeal.Value.run m ρ)

/-- The gradient in the steps' columns: the kernel and its reference leave equal arrays, on any arguments. -/
theorem dw_steps : Cert.algebraic_StepsIdeal_StepsRefIdeal := by
  pair_intro
  · run_from Cert.StepsIdeal.Value.run_blocks m g
  · run_from Cert.StepsRefIdeal.Value.run m' g'
    refine (StepsRefIdeal.Read.val_main_v4_eq (F := Ideal) _ _).trans ?_
    exact (StepsValue.ref_eq _ _).trans (StepsValue.final _ _ rfl rfl).symm

/-- The reference of the gradient in the scan branch's output weight runs, leaves its arguments as they were, and has no semaphore. -/
theorem frame_ssm_reference : Cert.quiescent_SsmRefIdeal := by
  intro m ρ _
  exact (θ_run Cert.SsmRefIdeal.defs _ _).mono
    (fun r h => ⟨fun c => (h c).2, sem_eq_zero_of_no_sems (by decide) r.2⟩) (Cert.SsmRefIdeal.Value.run m ρ)

/-- The gradient in the scan branch's output weight: the kernel and its reference leave equal arrays, on any arguments. -/
theorem dw_ssm : Cert.algebraic_SsmIdeal_SsmRefIdeal := by
  pair_intro
  · run_from Cert.SsmIdeal.Value.run_blocks m g
  · run_from Cert.SsmRefIdeal.Value.run m' g'
    exact (SsmValue.ref_eq _ _ _).trans ((congrArg (SsmValue.result _ _) (hagree c).2.2).trans (SsmValue.final _ _ rfl rfl).symm)

/-- The reference of the gradient in the attention branch's output weight runs, leaves its arguments as they were, and has no semaphore. -/
theorem frame_attn_reference : Cert.quiescent_AttnRefIdeal := by
  intro m ρ _
  exact (θ_run Cert.AttnRefIdeal.defs _ _).mono
    (fun r h => ⟨fun c => (h c).2, sem_eq_zero_of_no_sems (by decide) r.2⟩) (Cert.AttnRefIdeal.Value.run m ρ)

/-- The gradient in the attention branch's output weight: the kernel and its reference leave equal arrays, on any arguments. -/
theorem dw_attn : Cert.algebraic_AttnIdeal_AttnRefIdeal := by
  pair_intro
  · run_from Cert.AttnIdeal.Value.run_blocks m g
  · run_from Cert.AttnRefIdeal.Value.run m' g'
    exact (AttnValue.ref_eq _ _ _).trans ((congrArg (AttnValue.result _ _) (hagree c).2.2).trans (AttnValue.final _ _ rfl rfl).symm)

/-- The reference of the gradient in the mixer's output weight runs, leaves its arguments as they were, and has no semaphore. -/
theorem frame_merge_reference : Cert.quiescent_MergeRefIdeal := by
  intro m ρ _
  exact (θ_run Cert.MergeRefIdeal.defs _ _).mono
    (fun r h => ⟨fun c => (h c).2, sem_eq_zero_of_no_sems (by decide) r.2⟩) (Cert.MergeRefIdeal.Value.run m ρ)

/-- The gradient in the mixer's output weight: the kernel and its reference leave equal arrays, on any arguments. -/
theorem dw_merge : Cert.algebraic_MergeIdeal_MergeRefIdeal := by
  pair_intro
  · run_from Cert.MergeIdeal.Value.run_blocks m g
  · run_from Cert.MergeRefIdeal.Value.run m' g'
    exact (MergeValue.ref_eq _ _ _).trans ((congrArg (MergeValue.result _ _) (hagree c).2.2).trans (MergeValue.final _ _ rfl rfl).symm)

end Cert.Proof
-- ==== Proof.AdamClaim.lean ====
/- The optimiser: each of its calls leaves the weight's step and the two moments of the reference, on any arguments. The body
   works element by element with the reference's operations in the reference's order, so that an element of the one array is
   the same term as that of the other. -/
module

public import proofs.«01_k».proof.Defs
public import Idealize.ShloMosaic.Adequacy
public import Idealize.ShloMosaic.Init
public import proofs.«01_k».proof.Proof.Gen.AdamFfn
public import proofs.«01_k».proof.Proof.Gen.AdamFfn.Frame
public import proofs.«01_k».proof.Proof.Gen.AdamFfnIdeal
public import proofs.«01_k».proof.Proof.Gen.AdamFfnIdeal.Frame
public import proofs.«01_k».proof.Proof.Gen.AdamFfnIdeal.Value
public import proofs.«01_k».proof.Proof.Gen.AdamFfnRefIdeal
public import proofs.«01_k».proof.Proof.Gen.AdamFfnRefIdeal.Run
public import proofs.«01_k».proof.Proof.Gen.AdamFfnRefIdeal.Read
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamSsm
public import proofs.«01_k».proof.Proof.Gen.AdamSsm.Frame
public import proofs.«01_k».proof.Proof.Gen.AdamSsmIdeal
public import proofs.«01_k».proof.Proof.Gen.AdamSsmIdeal.Frame
public import proofs.«01_k».proof.Proof.Gen.AdamSsmIdeal.Value
public import proofs.«01_k».proof.Proof.Gen.AdamSsmRefIdeal
public import proofs.«01_k».proof.Proof.Gen.AdamSsmRefIdeal.Run
public import proofs.«01_k».proof.Proof.Gen.AdamSsmRefIdeal.Read
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read

@[expose] public section

set_option maxRecDepth 16384

noncomputable section

namespace Cert.Proof

open Idealize.ShloMosaic Idealize.ShloMosaic.TcCoe Idealize.SL.Sem

/-- The reference of the step of a feed-forward weight runs, leaves its arguments as they were, and has no semaphore. -/
theorem frame_adam_ffn_reference : Cert.quiescent_AdamFfnRefIdeal := by
  intro m ρ _
  exact (θ_run Cert.AdamFfnRefIdeal.defs _ _).mono
    (fun r h => ⟨fun c => (h c).2.2.2, sem_eq_zero_of_no_sems (by decide) r.2⟩) (Cert.AdamFfnRefIdeal.Value.run m ρ)

/-- The step of a feed-forward weight: the kernel and its reference leave equal arrays, on any arguments. -/
theorem adam_ffn : Cert.algebraic_AdamFfnIdeal_AdamFfnRefIdeal := by
  pair_intro
  · run_from Cert.AdamFfnIdeal.Value.run m g
  · run_from Cert.AdamFfnRefIdeal.Value.run m' g'
    · exact (AdamFfnRefIdeal.Read.val_main_v23_eq (F := Ideal) _ _ _ _).trans (funext fun _ => rfl)
    · exact (AdamFfnRefIdeal.Read.val_main_v4_eq (F := Ideal) _ _).trans (funext fun _ => rfl)
    · exact (AdamFfnRefIdeal.Read.val_main_v10_eq (F := Ideal) _ _).trans (funext fun _ => rfl)

/-- The reference of the step of the input projection's weight runs, leaves its arguments as they were, and has no semaphore. -/
theorem frame_adam_in_reference : Cert.quiescent_AdamInRefIdeal := by
  intro m ρ _
  exact (θ_run Cert.AdamInRefIdeal.defs _ _).mono
    (fun r h => ⟨fun c => (h c).2.2.2, sem_eq_zero_of_no_sems (by decide) r.2⟩) (Cert.AdamInRefIdeal.Value.run m ρ)

/-- The step of the input projection's weight: the kernel and its reference leave equal arrays, on any arguments. -/
theorem adam_in : Cert.algebraic_AdamInIdeal_AdamInRefIdeal := by
  pair_intro
  · run_from Cert.AdamInIdeal.Value.run m g
  · run_from Cert.AdamInRefIdeal.Value.run m' g'
    · exact (AdamInRefIdeal.Read.val_main_v23_eq (F := Ideal) _ _ _ _).trans (funext fun _ => rfl)
    · exact (AdamInRefIdeal.Read.val_main_v4_eq (F := Ideal) _ _).trans (funext fun _ => rfl)
    · exact (AdamInRefIdeal.Read.val_main_v10_eq (F := Ideal) _ _).trans (funext fun _ => rfl)

/-- The reference of the step of the scan branch's output weight runs, leaves its arguments as they were, and has no semaphore. -/
theorem frame_adam_ssm_reference : Cert.quiescent_AdamSsmRefIdeal := by
  intro m ρ _
  exact (θ_run Cert.AdamSsmRefIdeal.defs _ _).mono
    (fun r h => ⟨fun c => (h c).2.2.2, sem_eq_zero_of_no_sems (by decide) r.2⟩) (Cert.AdamSsmRefIdeal.Value.run m ρ)

/-- The step of the scan branch's output weight: the kernel and its reference leave equal arrays, on any arguments. -/
theorem adam_ssm : Cert.algebraic_AdamSsmIdeal_AdamSsmRefIdeal := by
  pair_intro
  · run_from Cert.AdamSsmIdeal.Value.run m g
  · run_from Cert.AdamSsmRefIdeal.Value.run m' g'
    · exact (AdamSsmRefIdeal.Read.val_main_v23_eq (F := Ideal) _ _ _ _).trans (funext fun _ => rfl)
    · exact (AdamSsmRefIdeal.Read.val_main_v4_eq (F := Ideal) _ _).trans (funext fun _ => rfl)
    · exact (AdamSsmRefIdeal.Read.val_main_v10_eq (F := Ideal) _ _).trans (funext fun _ => rfl)

/-- The reference of the step of the attention branch's output weight and the mixer's runs, leaves its arguments as they were, and has no semaphore. -/
theorem frame_adam_out_reference : Cert.quiescent_AdamOutRefIdeal := by
  intro m ρ _
  exact (θ_run Cert.AdamOutRefIdeal.defs _ _).mono
    (fun r h => ⟨fun c => (h c).2.2.2, sem_eq_zero_of_no_sems (by decide) r.2⟩) (Cert.AdamOutRefIdeal.Value.run m ρ)

/-- The step of the attention branch's output weight and the mixer's: the kernel and its reference leave equal arrays, on any arguments. -/
theorem adam_out : Cert.algebraic_AdamOutIdeal_AdamOutRefIdeal := by
  pair_intro
  · run_from Cert.AdamOutIdeal.Value.run m g
  · run_from Cert.AdamOutRefIdeal.Value.run m' g'
    · exact (AdamOutRefIdeal.Read.val_main_v23_eq (F := Ideal) _ _ _ _).trans (funext fun _ => rfl)
    · exact (AdamOutRefIdeal.Read.val_main_v4_eq (F := Ideal) _ _).trans (funext fun _ => rfl)
    · exact (AdamOutRefIdeal.Read.val_main_v10_eq (F := Ideal) _ _).trans (funext fun _ => rfl)

/-- The reference of the step of the small weights, packed, runs, leaves its arguments as they were, and has no semaphore. -/
theorem frame_adam_small_reference : Cert.quiescent_AdamSmallRefIdeal := by
  intro m ρ _
  exact (θ_run Cert.AdamSmallRefIdeal.defs _ _).mono
    (fun r h => ⟨fun c => (h c).2.2.2, sem_eq_zero_of_no_sems (by decide) r.2⟩) (Cert.AdamSmallRefIdeal.Value.run m ρ)

/-- The step of the small weights, packed: the kernel and its reference leave equal arrays, on any arguments. -/
theorem adam_small : Cert.algebraic_AdamSmallIdeal_AdamSmallRefIdeal := by
  pair_intro
  · run_from Cert.AdamSmallIdeal.Value.run m g
  · run_from Cert.AdamSmallRefIdeal.Value.run m' g'
    · exact (AdamSmallRefIdeal.Read.val_main_v23_eq (F := Ideal) _ _ _ _).trans (funext fun _ => rfl)
    · exact (AdamSmallRefIdeal.Read.val_main_v4_eq (F := Ideal) _ _).trans (funext fun _ => rfl)
    · exact (AdamSmallRefIdeal.Read.val_main_v10_eq (F := Ideal) _ _).trans (funext fun _ => rfl)

end Cert.Proof
-- ==== Proof.Gate.lean ====
/- The gradient in the gate's weight: the kernel's buffer after the call is the reference's array, on any arguments. -/
module

public import proofs.«01_k».proof.Proof.Gen.GateIdeal.Value
public import proofs.«01_k».proof.Proof.Gen.GateRefIdeal.Run
public import proofs.«01_k».proof.Proof.Gen.GateRefIdeal.Read
public import proofs.«01_k».proof.Proof.Halves

@[expose] public section

set_option maxRecDepth 16384

noncomputable section

namespace Cert.GateValue

open Idealize.ShloMosaic Idealize.ShloMosaic.TcCoe Idealize.SL.Sem
open Cert.GateIdeal Cert.GateIdeal.Gen Cert.Rows

variable (n : FVec Ideal S8192x1024 .f32) (g : FVec Ideal S8192x2816 .f32)

/-! ### The reference -/

theorem ref_eq (b : FVec Ideal S4x2112x1024 .f32) : GateRefIdeal.Read.val_main_v7 (F := Ideal) n g b = placed 0 n g b := by
  suffices H : ∀ (s : Fin 4) (j : Fin 2112) (d : Fin 1024),
      GateRefIdeal.Read.val_main_v7 (F := Ideal) n g b (ix3 s j d) = placed 0 n g b (ix3 s j d) from
    funext fun i => by rw [eq_ix3 i]; exact H _ _ _
  intro s j d
  unfold GateRefIdeal.Read.val_main_v7
  pointwise [GateRefIdeal.Read.val_main_v5_apply, GateRefIdeal.Read.val_main_v4_apply, GateRefIdeal.Read.val_main_v3_apply,
    GateRefIdeal.Read.val_main_v2_apply, GateRefIdeal.Read.val_main_v6_apply, placed, grad]
  have h1 := j.isLt
  have h0 := s.isLt
  have h2 := d.isLt
  by_cases h : j.val < 704
  · rw [dif_pos h, if_pos (by omega)]
    refine Finset.sum_congr rfl fun t _ => congrArg₂ (· * ·) (congrArg g (same2 rfl ?_)) (congrArg n (same2 rfl ?_)) <;>
      dsimp [col] <;> omega
  · rw [dif_neg h]
    have h2 : ¬ j.val / 704 = 0 := by omega
    simp only [h2, if_false]
    refine congrArg b (same3 rfl ?_ rfl)
    dsimp
    omega

/-! ### The kernel -/

variable {m : (ℓ : Loc nD τ sig) → Buf (Elt Ideal) ℓ} {c : Dev nD}

theorem host_v2 : V m c main_v2 = (truncf (F := Ideal) (φ := .f32) .bf16 (transpose S4x8192x704 [1, 0, 2]
      (shapeCast S8192x4x704 (m ((c : Thread nD τ).loc main_arg1) : FVec Ideal S8192x2816 .f32) shapeCasts_S8192x2816_S8192x4x704)
      transposes_S8192x4x704_S4x8192x704_1_0_2) bitsLt_bf16_f32 : FVec Ideal S4x8192x704 .bf16) := by
  unfold V
  simp only [hostOps0]
  after_results
  rfl

theorem host_v4 : V m c main_v4 = (broadcastInDim S1x8192x1024 ![1, 2] bcast_S8192x1024_S1x8192x1024_1_2
    (truncf (F := Ideal) (φ := .f32) .bf16 (m ((c : Thread nD τ).loc main_arg0)) bitsLt_bf16_f32 : FVec Ideal S8192x1024 .bf16)) := by
  unfold V
  simp only [hostOps0]
  after_results

theorem host_v5 : V m c main_v5 = m ((c : Thread nD τ).loc main_arg2) := by
  unfold V
  simp only [hostOps0]
  after_results
  rfl

variable (hn : m ((c : Thread nD τ).loc main_arg0) = n) (hg : m ((c : Thread nD τ).loc main_arg1) = g)

include hg in
theorem read_v2 (i : S4x8192x704.Idx) : V m c main_v2 i = g (ix2 (i 1) (col (i 0) (i 2))) := by
  rw [host_v2, hg]
  pointwise []
  rfl

include hn in
theorem read_v4 (i : S1x8192x1024.Idx) : V m c main_v4 i = n (ix2 (i 1) (i 2)) := by
  rw [host_v4, hn]
  pointwise []

/-- The rows a grid point sums over: the half `p` it is at. -/
def half (t : Fin cfg0.N) : Fin 2 := ⟨t.val % 2, by omega⟩

/-- The shard a grid point works on. -/
def shard (t : Fin cfg0.N) : Fin 4 := ⟨t.val / 2, by have := t.isLt.trans_eq N_0; omega⟩

theorem idx_val : ∀ t : Fin cfg0.N, win0_0.index t = ![t.val / 2, t.val % 2, 0]
    ∧ win0_1.index t = ![0, t.val % 2, 0] ∧ win0_2.index t = ![t.val / 2, 0, 0] :=
  (by decide +kernel : ∀ t : Fin grid0.N, _)

include hg in
theorem iblk_g (t : Fin cfg0.N) (k : Fin 4096) (j : Fin 704) (z : Fin 1) :
    iblk m c 0 t (ix3 z k j) = g (ix2 (row (half t) k) (col (shard t) j)) := by
  have e := (idx_val t).1
  have z0 := z.isLt
  blk_simp [iblk]
  refine (read_v2 g hg _).trans (congrArg g (same2 ?_ ?_)) <;> blk_simp [e, row, col, half, shard] <;> omega

include hn in
theorem iblk_n (t : Fin cfg0.N) (k : Fin 4096) (d : Fin 1024) (z : Fin 1) :
    iblk m c 1 t (ix3 z k d) = n (ix2 (row (half t) k) d) := by
  have e := (idx_val t).2.1
  blk_simp [iblk]
  refine (read_v4 n hn _).trans (congrArg n (same2 ?_ ?_)) <;> blk_simp [e, row, half]

/-- A step adds the half's products to what the block held. -/
theorem step (b : Vec Ideal S1x704x1024 .f32) (x : Vec Ideal S1x4096x704 .bf16) (y : Vec Ideal S1x4096x1024 .bf16)
    (i : S1x704x1024.Idx) :
    k0_pay2 (F := Ideal) b x y i = b i + ∑ k : Fin 4096, x (ix3 0 k (i 1)) * y (ix3 0 k (i 2)) := by
  unfold k0_pay2
  pointwise []

include hn hg in
theorem out (t : Fin cfg0.N) (h : t.val % 2 = 1) (i : S1x704x1024.Idx) :
    outsAt0 m c t.val t.isLt i = grad n g (shard t) (i 1) (i 2) := by
  let t' : Fin cfg0.N := ⟨t.val - 1, by have := t.isLt; omega⟩
  have h' : t'.val % 2 = 0 := by dsimp only [t']; omega
  have e := outsAt0_A m c t' h'
  rw [outsAt0_B m c t (by omega)]
  frame_out
  rw [step]
  have e' : outsAt0 m c (t.val - 1) (Nat.lt_of_le_of_lt (Nat.sub_le _ _) t.isLt) = _ := e
  rw [e']
  frame_out
  rw [step]
  have e1 : half t' = 0 := Fin.ext h'
  have e2 : half t = 1 := Fin.ext h
  have e3 : shard t' = shard t := Fin.ext (by dsimp only [shard, t']; omega)
  refine grad_eq n g (shard t) (i 1) (i 2) Ideal.ofBits_zero_f32
    (x := ![fun k => iblk m c 0 t' (ix3 0 k (i 1)), fun k => iblk m c 0 t (ix3 0 k (i 1))])
    (y := ![fun k => iblk m c 1 t' (ix3 0 k (i 2)), fun k => iblk m c 1 t (ix3 0 k (i 2))])
    (Fin.forall_fin_two.mpr ⟨fun k => ?_, fun k => ?_⟩) (Fin.forall_fin_two.mpr ⟨fun k => ?_, fun k => ?_⟩)
  · exact (iblk_g g hg t' k (i 1) 0).trans (by rw [e1, e3])
  · exact (iblk_g g hg t k (i 1) 0).trans (by rw [e2])
  · exact (iblk_n n hn t' k (i 2) 0).trans (by rw [e1])
  · exact (iblk_n n hn t k (i 2) 0).trans (by rw [e2])

include hn hg in
theorem final : (dats m 0 c).arrAt 2 cfg0.N = placed 0 n g (m ((c : Thread nD τ).loc main_arg2)) := by
  rw [← host_v5 (m := m)]
  refine (dats m 0 c).arrAt_eq_of_coversWhere 2 (fun i => grad n g (i 0) ⟨(i 1).val % 704, Nat.mod_lt _ (by decide)⟩ (i 2))
    (fun β => β (1 : Fin _) = 0) (by decide +kernel) (fun t hf y => ?_) (fun j => Iff.rfl)
  have e := (idx_val t).2.2
  have h := (flush0_2 t).mp hf
  blk_simp
  rw [after0_2, out n g hn hg t h]
  have h1 : (y 1).val < 704 := (y 1).isLt
  refine grad_congr n g ?_ ?_ ?_
  · blk_simp [e, shard]
  · show (y 1).val = (win0_2.index t 1 * 704 + (y 1).val) % 704
    rw [e]
    show (y 1).val = (0 * 704 + (y 1).val) % 704
    omega
  · blk_simp [e]

end Cert.GateValue
-- ==== Proof.Up.lean ====
/- The gradient in the up projection's weight: the kernel's buffer after the call is the reference's array, on any arguments. -/
module

public import proofs.«01_k».proof.Proof.Gen.UpIdeal.Value
public import proofs.«01_k».proof.Proof.Gen.UpRefIdeal.Run
public import proofs.«01_k».proof.Proof.Gen.UpRefIdeal.Read
public import proofs.«01_k».proof.Proof.Halves

@[expose] public section

set_option maxRecDepth 16384

noncomputable section

namespace Cert.UpValue

open Idealize.ShloMosaic Idealize.ShloMosaic.TcCoe Idealize.SL.Sem
open Cert.UpIdeal Cert.UpIdeal.Gen Cert.Rows

variable (n : FVec Ideal S8192x1024 .f32) (g : FVec Ideal S8192x2816 .f32)

/-! ### The reference -/

theorem ref_eq (b : FVec Ideal S4x2112x1024 .f32) : UpRefIdeal.Read.val_main_v8 (F := Ideal) n g b = placed 1 n g b := by
  suffices H : ∀ (s : Fin 4) (j : Fin 2112) (d : Fin 1024),
      UpRefIdeal.Read.val_main_v8 (F := Ideal) n g b (ix3 s j d) = placed 1 n g b (ix3 s j d) from
    funext fun i => by rw [eq_ix3 i]; exact H _ _ _
  intro s j d
  unfold UpRefIdeal.Read.val_main_v8
  pointwise [UpRefIdeal.Read.val_main_v7_apply, UpRefIdeal.Read.val_main_v6_apply, UpRefIdeal.Read.val_main_v5_apply,
    UpRefIdeal.Read.val_main_v4_apply, UpRefIdeal.Read.val_main_v3_apply, UpRefIdeal.Read.val_main_v2_apply, placed, grad]
  have hj := j.isLt
  have hs := s.isLt
  have hd := d.isLt
  by_cases h : j.val < 704
  · have h' : ¬ j.val / 704 = 1 := by omega
    simp only [h, h', dif_pos, if_false]
    refine congrArg b (same3 rfl ?_ rfl)
    dsimp
  · rw [dif_neg h]
    by_cases h2 : j.val - 704 < 704
    · rw [dif_pos h2]
      refine Eq.trans ?_ (if_pos (show j.val / 704 = 1 by omega)).symm
      refine Finset.sum_congr rfl fun t _ => congrArg₂ (· * ·) (congrArg g (same2 rfl ?_)) (congrArg n (same2 rfl ?_)) <;>
        dsimp [col] <;> omega
    · have h' : ¬ j.val / 704 = 1 := by omega
      rw [dif_neg h2]
      simp only [h', if_false]
      refine congrArg b (same3 rfl ?_ rfl)
      dsimp
      omega

/-! ### The kernel -/

variable {m : (ℓ : Loc nD τ sig) → Buf (Elt Ideal) ℓ} {c : Dev nD}

theorem host_v2 : V m c main_v2 = (truncf (F := Ideal) (φ := .f32) .bf16 (transpose S4x8192x704 [1, 0, 2]
      (shapeCast S8192x4x704 (m ((c : Thread nD τ).loc main_arg1) : FVec Ideal S8192x2816 .f32) shapeCasts_S8192x2816_S8192x4x704)
      transposes_S8192x4x704_S4x8192x704_1_0_2) bitsLt_bf16_f32 : FVec Ideal S4x8192x704 .bf16) := by
  unfold V
  simp only [hostOps0]
  after_results
  rfl

theorem host_v4 : V m c main_v4 = (broadcastInDim S1x8192x1024 ![1, 2] bcast_S8192x1024_S1x8192x1024_1_2
    (truncf (F := Ideal) (φ := .f32) .bf16 (m ((c : Thread nD τ).loc main_arg0)) bitsLt_bf16_f32 : FVec Ideal S8192x1024 .bf16)) := by
  unfold V
  simp only [hostOps0]
  after_results

theorem host_v5 : V m c main_v5 = m ((c : Thread nD τ).loc main_arg2) := by
  unfold V
  simp only [hostOps0]
  after_results
  rfl

variable (hn : m ((c : Thread nD τ).loc main_arg0) = n) (hg : m ((c : Thread nD τ).loc main_arg1) = g)

include hg in
theorem read_v2 (i : S4x8192x704.Idx) : V m c main_v2 i = g (ix2 (i 1) (col (i 0) (i 2))) := by
  rw [host_v2, hg]
  pointwise []
  rfl

include hn in
theorem read_v4 (i : S1x8192x1024.Idx) : V m c main_v4 i = n (ix2 (i 1) (i 2)) := by
  rw [host_v4, hn]
  pointwise []

/-- The rows a grid point sums over: the half `p` it is at. -/
def half (t : Fin cfg0.N) : Fin 2 := ⟨t.val % 2, by omega⟩

/-- The shard a grid point works on. -/
def shard (t : Fin cfg0.N) : Fin 4 := ⟨t.val / 2, by have := t.isLt.trans_eq N_0; omega⟩

theorem idx_val : ∀ t : Fin cfg0.N, win0_0.index t = ![t.val / 2, t.val % 2, 0]
    ∧ win0_1.index t = ![0, t.val % 2, 0] ∧ win0_2.index t = ![t.val / 2, 1, 0] :=
  (by decide +kernel : ∀ t : Fin grid0.N, _)

include hg in
theorem iblk_g (t : Fin cfg0.N) (k : Fin 4096) (j : Fin 704) (z : Fin 1) :
    iblk m c 0 t (ix3 z k j) = g (ix2 (row (half t) k) (col (shard t) j)) := by
  have e := (idx_val t).1
  have z0 := z.isLt
  blk_simp [iblk]
  refine (read_v2 g hg _).trans (congrArg g (same2 ?_ ?_)) <;> blk_simp [e, row, col, half, shard] <;> omega

include hn in
theorem iblk_n (t : Fin cfg0.N) (k : Fin 4096) (d : Fin 1024) (z : Fin 1) :
    iblk m c 1 t (ix3 z k d) = n (ix2 (row (half t) k) d) := by
  have e := (idx_val t).2.1
  blk_simp [iblk]
  refine (read_v4 n hn _).trans (congrArg n (same2 ?_ ?_)) <;> blk_simp [e, row, half]

/-- A step adds the half's products to what the block held. -/
theorem step (b : Vec Ideal S1x704x1024 .f32) (x : Vec Ideal S1x4096x704 .bf16) (y : Vec Ideal S1x4096x1024 .bf16)
    (i : S1x704x1024.Idx) :
    k0_pay2 (F := Ideal) b x y i = b i + ∑ k : Fin 4096, x (ix3 0 k (i 1)) * y (ix3 0 k (i 2)) := by
  unfold k0_pay2
  pointwise []

include hn hg in
theorem out (t : Fin cfg0.N) (h : t.val % 2 = 1) (i : S1x704x1024.Idx) :
    outsAt0 m c t.val t.isLt i = grad n g (shard t) (i 1) (i 2) := by
  let t' : Fin cfg0.N := ⟨t.val - 1, by have := t.isLt; omega⟩
  have h' : t'.val % 2 = 0 := by dsimp only [t']; omega
  have e := outsAt0_A m c t' h'
  rw [outsAt0_B m c t (by omega)]
  frame_out
  rw [step]
  have e' : outsAt0 m c (t.val - 1) (Nat.lt_of_le_of_lt (Nat.sub_le _ _) t.isLt) = _ := e
  rw [e']
  frame_out
  rw [step]
  have e1 : half t' = 0 := Fin.ext h'
  have e2 : half t = 1 := Fin.ext h
  have e3 : shard t' = shard t := Fin.ext (by dsimp only [shard, t']; omega)
  refine grad_eq n g (shard t) (i 1) (i 2) Ideal.ofBits_zero_f32
    (x := ![fun k => iblk m c 0 t' (ix3 0 k (i 1)), fun k => iblk m c 0 t (ix3 0 k (i 1))])
    (y := ![fun k => iblk m c 1 t' (ix3 0 k (i 2)), fun k => iblk m c 1 t (ix3 0 k (i 2))])
    (Fin.forall_fin_two.mpr ⟨fun k => ?_, fun k => ?_⟩) (Fin.forall_fin_two.mpr ⟨fun k => ?_, fun k => ?_⟩)
  · exact (iblk_g g hg t' k (i 1) 0).trans (by rw [e1, e3])
  · exact (iblk_g g hg t k (i 1) 0).trans (by rw [e2])
  · exact (iblk_n n hn t' k (i 2) 0).trans (by rw [e1])
  · exact (iblk_n n hn t k (i 2) 0).trans (by rw [e2])

include hn hg in
theorem final : (dats m 0 c).arrAt 2 cfg0.N = placed 1 n g (m ((c : Thread nD τ).loc main_arg2)) := by
  rw [← host_v5 (m := m)]
  refine (dats m 0 c).arrAt_eq_of_coversWhere 2 (fun i => grad n g (i 0) ⟨(i 1).val % 704, Nat.mod_lt _ (by decide)⟩ (i 2))
    (fun β => β (1 : Fin _) = 1) (by decide +kernel) (fun t hf y => ?_) (fun j => Iff.rfl)
  have e := (idx_val t).2.2
  have h := (flush0_2 t).mp hf
  blk_simp
  rw [after0_2, out n g hn hg t h]
  have h1 : (y 1).val < 704 := (y 1).isLt
  refine grad_congr n g ?_ ?_ ?_
  · blk_simp [e, shard]
  · show (y 1).val = (win0_2.index t 1 * 704 + (y 1).val) % 704
    rw [e]
    show (y 1).val = (1 * 704 + (y 1).val) % 704
    omega
  · blk_simp [e]

end Cert.UpValue
-- ==== Proof.Down.lean ====
/- The gradient in the down projection's weight: the kernel's buffer after the call is the reference's array, on any arguments. -/
module

public import proofs.«01_k».proof.Proof.Gen.DownIdeal.Value
public import proofs.«01_k».proof.Proof.Gen.DownRefIdeal.Run
public import proofs.«01_k».proof.Proof.Gen.DownRefIdeal.Read
public import proofs.«01_k».proof.Proof.Halves

@[expose] public section

set_option maxRecDepth 16384

noncomputable section

namespace Cert.DownValue

open Idealize.ShloMosaic Idealize.ShloMosaic.TcCoe Idealize.SL.Sem
open Cert.DownIdeal Cert.DownIdeal.Gen Cert.Rows

variable (n : FVec Ideal S8192x1024 .f32) (g : FVec Ideal S8192x2816 .f32)

/-! ### The reference -/

theorem ref_eq (b : FVec Ideal S4x2112x1024 .f32) : DownRefIdeal.Read.val_main_v6 (F := Ideal) g n b = placed 2 n g b := by
  suffices H : ∀ (s : Fin 4) (j : Fin 2112) (d : Fin 1024),
      DownRefIdeal.Read.val_main_v6 (F := Ideal) g n b (ix3 s j d) = placed 2 n g b (ix3 s j d) from
    funext fun i => by rw [eq_ix3 i]; exact H _ _ _
  intro s j d
  unfold DownRefIdeal.Read.val_main_v6
  pointwise [DownRefIdeal.Read.val_main_v5_apply, DownRefIdeal.Read.val_main_v4_apply, DownRefIdeal.Read.val_main_v3_apply,
    DownRefIdeal.Read.val_main_v2_apply, placed, grad]
  have hj := j.isLt
  have hs := s.isLt
  have hd := d.isLt
  by_cases h : j.val < 1408
  · have h' : ¬ j.val / 704 = 2 := by omega
    simp only [h, h', dif_pos, if_false]
    refine congrArg b (same3 rfl ?_ rfl)
    dsimp
  · rw [dif_neg h]
    refine Eq.trans ?_ (if_pos (show j.val / 704 = 2 by omega)).symm
    refine Finset.sum_congr rfl fun t _ => (mul_comm _ _).trans
      (congrArg₂ (· * ·) (congrArg g (same2 rfl ?_)) (congrArg n (same2 rfl ?_))) <;> dsimp [col] <;> omega

/-! ### The kernel -/

variable {m : (ℓ : Loc nD τ sig) → Buf (Elt Ideal) ℓ} {c : Dev nD}

theorem host_v2 : V m c main_v2 = (truncf (F := Ideal) (φ := .f32) .bf16 (transpose S4x8192x704 [1, 0, 2]
      (shapeCast S8192x4x704 (m ((c : Thread nD τ).loc main_arg0) : FVec Ideal S8192x2816 .f32) shapeCasts_S8192x2816_S8192x4x704)
      transposes_S8192x4x704_S4x8192x704_1_0_2) bitsLt_bf16_f32 : FVec Ideal S4x8192x704 .bf16) := by
  unfold V
  simp only [hostOps0]
  after_results
  rfl

theorem host_v4 : V m c main_v4 = (broadcastInDim S1x8192x1024 ![1, 2] bcast_S8192x1024_S1x8192x1024_1_2
    (truncf (F := Ideal) (φ := .f32) .bf16 (m ((c : Thread nD τ).loc main_arg1)) bitsLt_bf16_f32 : FVec Ideal S8192x1024 .bf16)) := by
  unfold V
  simp only [hostOps0]
  after_results

theorem host_v5 : V m c main_v5 = m ((c : Thread nD τ).loc main_arg2) := by
  unfold V
  simp only [hostOps0]
  after_results
  rfl

variable (hn : m ((c : Thread nD τ).loc main_arg1) = n) (hg : m ((c : Thread nD τ).loc main_arg0) = g)

include hg in
theorem read_v2 (i : S4x8192x704.Idx) : V m c main_v2 i = g (ix2 (i 1) (col (i 0) (i 2))) := by
  rw [host_v2, hg]
  pointwise []
  rfl

include hn in
theorem read_v4 (i : S1x8192x1024.Idx) : V m c main_v4 i = n (ix2 (i 1) (i 2)) := by
  rw [host_v4, hn]
  pointwise []

/-- The rows a grid point sums over: the half `p` it is at. -/
def half (t : Fin cfg0.N) : Fin 2 := ⟨t.val % 2, by omega⟩

/-- The shard a grid point works on. -/
def shard (t : Fin cfg0.N) : Fin 4 := ⟨t.val / 2, by have := t.isLt.trans_eq N_0; omega⟩

theorem idx_val : ∀ t : Fin cfg0.N, win0_0.index t = ![t.val / 2, t.val % 2, 0]
    ∧ win0_1.index t = ![0, t.val % 2, 0] ∧ win0_2.index t = ![t.val / 2, 2, 0] :=
  (by decide +kernel : ∀ t : Fin grid0.N, _)

include hg in
theorem iblk_g (t : Fin cfg0.N) (k : Fin 4096) (j : Fin 704) (z : Fin 1) :
    iblk m c 0 t (ix3 z k j) = g (ix2 (row (half t) k) (col (shard t) j)) := by
  have e := (idx_val t).1
  have z0 := z.isLt
  blk_simp [iblk]
  refine (read_v2 g hg _).trans (congrArg g (same2 ?_ ?_)) <;> blk_simp [e, row, col, half, shard] <;> omega

include hn in
theorem iblk_n (t : Fin cfg0.N) (k : Fin 4096) (d : Fin 1024) (z : Fin 1) :
    iblk m c 1 t (ix3 z k d) = n (ix2 (row (half t) k) d) := by
  have e := (idx_val t).2.1
  blk_simp [iblk]
  refine (read_v4 n hn _).trans (congrArg n (same2 ?_ ?_)) <;> blk_simp [e, row, half]

/-- A step adds the half's products to what the block held. -/
theorem step (b : Vec Ideal S1x704x1024 .f32) (x : Vec Ideal S1x4096x704 .bf16) (y : Vec Ideal S1x4096x1024 .bf16)
    (i : S1x704x1024.Idx) :
    k0_pay2 (F := Ideal) b x y i = b i + ∑ k : Fin 4096, x (ix3 0 k (i 1)) * y (ix3 0 k (i 2)) := by
  unfold k0_pay2
  pointwise []

include hn hg in
theorem out (t : Fin cfg0.N) (h : t.val % 2 = 1) (i : S1x704x1024.Idx) :
    outsAt0 m c t.val t.isLt i = grad n g (shard t) (i 1) (i 2) := by
  let t' : Fin cfg0.N := ⟨t.val - 1, by have := t.isLt; omega⟩
  have h' : t'.val % 2 = 0 := by dsimp only [t']; omega
  have e := outsAt0_A m c t' h'
  rw [outsAt0_B m c t (by omega)]
  frame_out
  rw [step]
  have e' : outsAt0 m c (t.val - 1) (Nat.lt_of_le_of_lt (Nat.sub_le _ _) t.isLt) = _ := e
  rw [e']
  frame_out
  rw [step]
  have e1 : half t' = 0 := Fin.ext h'
  have e2 : half t = 1 := Fin.ext h
  have e3 : shard t' = shard t := Fin.ext (by dsimp only [shard, t']; omega)
  refine grad_eq n g (shard t) (i 1) (i 2) Ideal.ofBits_zero_f32
    (x := ![fun k => iblk m c 0 t' (ix3 0 k (i 1)), fun k => iblk m c 0 t (ix3 0 k (i 1))])
    (y := ![fun k => iblk m c 1 t' (ix3 0 k (i 2)), fun k => iblk m c 1 t (ix3 0 k (i 2))])
    (Fin.forall_fin_two.mpr ⟨fun k => ?_, fun k => ?_⟩) (Fin.forall_fin_two.mpr ⟨fun k => ?_, fun k => ?_⟩)
  · exact (iblk_g g hg t' k (i 1) 0).trans (by rw [e1, e3])
  · exact (iblk_g g hg t k (i 1) 0).trans (by rw [e2])
  · exact (iblk_n n hn t' k (i 2) 0).trans (by rw [e1])
  · exact (iblk_n n hn t k (i 2) 0).trans (by rw [e2])

include hn hg in
theorem final : (dats m 0 c).arrAt 2 cfg0.N = placed 2 n g (m ((c : Thread nD τ).loc main_arg2)) := by
  rw [← host_v5 (m := m)]
  refine (dats m 0 c).arrAt_eq_of_coversWhere 2 (fun i => grad n g (i 0) ⟨(i 1).val % 704, Nat.mod_lt _ (by decide)⟩ (i 2))
    (fun β => β (1 : Fin _) = 2) (by decide +kernel) (fun t hf y => ?_) (fun j => Iff.rfl)
  have e := (idx_val t).2.2
  have h := (flush0_2 t).mp hf
  blk_simp
  rw [after0_2, out n g hn hg t h]
  have h1 : (y 1).val < 704 := (y 1).isLt
  refine grad_congr n g ?_ ?_ ?_
  · blk_simp [e, shard]
  · show (y 1).val = (win0_2.index t 1 * 704 + (y 1).val) % 704
    rw [e]
    show (y 1).val = (2 * 704 + (y 1).val) % 704
    omega
  · blk_simp [e]

end Cert.DownValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import proofs.«01_k».proof.Proof.Gen.KernelIdeal.Value
public import proofs.«01_k».proof.Proof.Finite
public import proofs.«01_k».proof.Proof.FwdClaim
public import proofs.«01_k».proof.Proof.FirstClaim
public import proofs.«01_k».proof.Proof.Gen.First
public import proofs.«01_k».proof.Proof.Gen.First.Frame
public import proofs.«01_k».proof.Proof.Gen.FirstIdeal
public import proofs.«01_k».proof.Proof.Gen.FirstIdeal.Frame
public import proofs.«01_k».proof.Proof.Gen.FirstRefIdeal
public import proofs.«01_k».proof.Proof.Gen.Forward
public import proofs.«01_k».proof.Proof.Gen.Forward.Frame
public import proofs.«01_k».proof.Proof.Gen.ForwardIdeal
public import proofs.«01_k».proof.Proof.Gen.ForwardIdeal.Frame
public import proofs.«01_k».proof.Proof.Gen.ForwardRefIdeal
public import proofs.«01_k».proof.Proof.MixClaim
public import proofs.«01_k».proof.Proof.BackClaim
public import proofs.«01_k».proof.Proof.OutClaim
public import proofs.«01_k».proof.Proof.WeightClaim
public import proofs.«01_k».proof.Proof.AdamClaim
public import proofs.«01_k».proof.Proof.Gen.Wide
public import proofs.«01_k».proof.Proof.Gen.Wide.Frame
public import proofs.«01_k».proof.Proof.Gen.WideIdeal
public import proofs.«01_k».proof.Proof.Gen.WideIdeal.Frame
public import proofs.«01_k».proof.Proof.Gen.WideRefIdeal
public import proofs.«01_k».proof.Proof.Gen.MixIn
public import proofs.«01_k».proof.Proof.Gen.MixIn.Frame
public import proofs.«01_k».proof.Proof.Gen.MixInIdeal
public import proofs.«01_k».proof.Proof.Gen.MixInIdeal.Frame
public import proofs.«01_k».proof.Proof.Gen.MixInRefIdeal
public import proofs.«01_k».proof.Proof.Gen.MixBack
public import proofs.«01_k».proof.Proof.Gen.MixBack.Frame
public import proofs.«01_k».proof.Proof.Gen.MixBackIdeal
public import proofs.«01_k».proof.Proof.Gen.MixBackIdeal.Frame
public import proofs.«01_k».proof.Proof.Gen.MixBackRefIdeal
public import proofs.«01_k».proof.Proof.Gen.OutBack
public import proofs.«01_k».proof.Proof.Gen.OutBack.Frame
public import proofs.«01_k».proof.Proof.Gen.OutBackIdeal
public import proofs.«01_k».proof.Proof.Gen.OutBackIdeal.Frame
public import proofs.«01_k».proof.Proof.Gen.OutBackRefIdeal
public import proofs.«01_k».proof.Proof.Gate
public import proofs.«01_k».proof.Proof.Up
public import proofs.«01_k».proof.Proof.Down
public import proofs.«01_k».proof.Proof.Gen.ReferenceIdeal.Run
public import proofs.«01_k».proof.Proof.Gen.ReferenceIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read

@[expose] public section

set_option maxRecDepth 16384

noncomputable section

namespace Cert.Proof

open Idealize.ShloMosaic Idealize.SL.Sem Cert.Kernel

/-- The reference runs, leaves its arguments as they were, and has no semaphore. -/
theorem frame_reference : Cert.quiescent_ReferenceIdeal := by
  intro m ρ _
  exact (θ_run Cert.ReferenceIdeal.defs _ _).mono
    (fun r h => ⟨fun c => (h c).2.2.2.2.2.2.2, sem_eq_zero_of_no_sems (by decide) r.2⟩) (Cert.ReferenceIdeal.Value.run m ρ)

set_option maxHeartbeats 1000000 in
/-- The kernel and the reference leave equal arrays on finite arguments: both leave the model's. -/
theorem ffn_bwd : Cert.algebraic_KernelIdeal_ReferenceIdeal_pre_finite := by
  pair_intro
  · run_from Cert.KernelIdeal.Value.run_blocks m g
  · run_from Cert.ReferenceIdeal.Value.run m' g'
    all_goals
      obtain ⟨a, h⟩ := Ffn.holds_of m hpre c
      obtain ⟨e0, e1, e2, e3, e4, e5, e6⟩ := hagree c
      have x : StableHlo.launchContents m' c (Proc.devRef .tc ReferenceIdeal.main_arg0) = a.X := e0.trans h.x
      have pre : StableHlo.launchContents m' c (Proc.devRef .tc ReferenceIdeal.main_arg1) = a.Pre := e1.trans h.pre
      have wg : StableHlo.launchContents m' c (Proc.devRef .tc ReferenceIdeal.main_arg2) = a.Wg := e2.trans h.wg
      have wu : StableHlo.launchContents m' c (Proc.devRef .tc ReferenceIdeal.main_arg3) = a.Wu := e3.trans h.wu
      have wd : StableHlo.launchContents m' c (Proc.devRef .tc ReferenceIdeal.main_arg4) = a.Wd := e4.trans h.wd
      have post : StableHlo.launchContents m' c (Proc.devRef .tc ReferenceIdeal.main_arg5) = a.Post := e5.trans h.post
      have y : StableHlo.launchContents m' c (Proc.devRef .tc ReferenceIdeal.main_arg6) = a.Y := e6.trans h.y
    · rw [← e6, ← e0]
      refine (ReferenceIdeal.Read.val_main_v91_eq (F := Ideal) (StableHlo.launchContents m' c)).trans ?_
      simp only [x, pre, wg, wu, wd, post, y]
      exact (funext fun i => a.ref_v91 i).trans (Ffn.final_10 h).symm
    · refine (ReferenceIdeal.Read.val_main_v92_eq (F := Ideal) (StableHlo.launchContents m' c)).trans ?_
      simp only [x, pre, wg, wu, wd, post, y]
      exact (funext fun i => a.ref_v92 i).trans (Ffn.final_11 h).symm
    · refine (ReferenceIdeal.Read.val_main_v95_eq (F := Ideal) (StableHlo.launchContents m' c)).trans ?_
      simp only [x, pre, wg, wu, wd, post, y]
      exact (funext fun i => a.ref_v95 i).trans (Ffn.final_12 h).symm
    · refine (ReferenceIdeal.Read.val_main_v98_eq (F := Ideal) (StableHlo.launchContents m' c)).trans ?_
      simp only [x, pre, wg, wu, wd, post, y]
      exact (funext fun i => a.ref_v98 i).trans (Ffn.final_13 h).symm
    · refine (ReferenceIdeal.Read.val_main_v101_eq (F := Ideal) (StableHlo.launchContents m' c)).trans ?_
      simp only [x, pre, wg, wu, wd, post, y]
      exact (funext fun i => a.ref_v101 i).trans (Ffn.final_14 h).symm
    · refine (ReferenceIdeal.Read.val_main_v74_eq (F := Ideal) (StableHlo.launchContents m' c)).trans ?_
      simp only [x, pre, wg, wu, wd, post, y]
      exact (funext fun i => a.ref_v74 i).trans (Ffn.final_15 h).symm
    · refine (ReferenceIdeal.Read.val_main_v48_eq (F := Ideal) (StableHlo.launchContents m' c)).trans ?_
      simp only [x, pre, wg, wu, wd, post, y]
      exact (funext fun i => a.ref_v48 i).trans (Ffn.final_16 h).symm

theorem frame_gate_reference : Cert.quiescent_GateRefIdeal := by
  intro m ρ _
  exact (θ_run Cert.GateRefIdeal.defs _ _).mono
    (fun r h => ⟨fun c => (h c).2, sem_eq_zero_of_no_sems (by decide) r.2⟩) (Cert.GateRefIdeal.Value.run m ρ)

theorem frame_up_reference : Cert.quiescent_UpRefIdeal := by
  intro m ρ _
  exact (θ_run Cert.UpRefIdeal.defs _ _).mono
    (fun r h => ⟨fun c => (h c).2, sem_eq_zero_of_no_sems (by decide) r.2⟩) (Cert.UpRefIdeal.Value.run m ρ)

theorem frame_down_reference : Cert.quiescent_DownRefIdeal := by
  intro m ρ _
  exact (θ_run Cert.DownRefIdeal.defs _ _).mono
    (fun r h => ⟨fun c => (h c).2, sem_eq_zero_of_no_sems (by decide) r.2⟩) (Cert.DownRefIdeal.Value.run m ρ)

/-- The kernel and the reference write equal gradients in the gate's weight, on any arguments. -/
theorem dw_gate : Cert.algebraic_GateIdeal_GateRefIdeal := by
  pair_intro
  · run_from Cert.GateIdeal.Value.run_blocks m g
  · run_from Cert.GateRefIdeal.Value.run m' g'
    exact (GateValue.ref_eq _ _ _).trans ((congrArg (Rows.placed 0 _ _) (hagree c).2.2).trans (GateValue.final _ _ rfl rfl).symm)

/-- The kernel and the reference write equal gradients in the up projection's weight, on any arguments. -/
theorem dw_up : Cert.algebraic_UpIdeal_UpRefIdeal := by
  pair_intro
  · run_from Cert.UpIdeal.Value.run_blocks m g
  · run_from Cert.UpRefIdeal.Value.run m' g'
    exact (UpValue.ref_eq _ _ _).trans ((congrArg (Rows.placed 1 _ _) (hagree c).2.2).trans (UpValue.final _ _ rfl rfl).symm)

/-- The kernel and the reference write equal gradients in the down projection's weight, on any arguments. -/
theorem dw_down : Cert.algebraic_DownIdeal_DownRefIdeal := by
  pair_intro
  · run_from Cert.DownIdeal.Value.run_blocks m g
  · run_from Cert.DownRefIdeal.Value.run m' g'
    exact (DownValue.ref_eq _ _ _).trans ((congrArg (Rows.placed 2 _ _) (hagree c).2.2).trans (DownValue.final _ _ rfl rfl).symm)

theorem claim : Cert.Claim := ⟨Cert.Kernel.Gen.facts, Cert.KernelIdeal.Gen.facts, Cert.ReferenceIdeal.Gen.facts,
  Cert.Forward.Gen.facts, Cert.ForwardIdeal.Gen.facts, Cert.ForwardRefIdeal.Gen.facts,
  Cert.First.Gen.facts, Cert.FirstIdeal.Gen.facts, Cert.FirstRefIdeal.Gen.facts,
  Cert.Gate.Gen.facts, Cert.GateIdeal.Gen.facts, Cert.GateRefIdeal.Gen.facts, Cert.Up.Gen.facts, Cert.UpIdeal.Gen.facts,
  Cert.UpRefIdeal.Gen.facts, Cert.Down.Gen.facts, Cert.DownIdeal.Gen.facts, Cert.DownRefIdeal.Gen.facts,
  Cert.Wide.Gen.facts, Cert.WideIdeal.Gen.facts, Cert.WideRefIdeal.Gen.facts,
  Cert.MixIn.Gen.facts, Cert.MixInIdeal.Gen.facts, Cert.MixInRefIdeal.Gen.facts,
  Cert.MixBack.Gen.facts, Cert.MixBackIdeal.Gen.facts, Cert.MixBackRefIdeal.Gen.facts,
  Cert.Query.Gen.facts, Cert.QueryIdeal.Gen.facts, Cert.QueryRefIdeal.Gen.facts,
  Cert.Scan.Gen.facts, Cert.ScanIdeal.Gen.facts, Cert.ScanRefIdeal.Gen.facts,
  Cert.Keys.Gen.facts, Cert.KeysIdeal.Gen.facts, Cert.KeysRefIdeal.Gen.facts,
  Cert.Steps.Gen.facts, Cert.StepsIdeal.Gen.facts, Cert.StepsRefIdeal.Gen.facts,
  Cert.Ssm.Gen.facts, Cert.SsmIdeal.Gen.facts, Cert.SsmRefIdeal.Gen.facts,
  Cert.Attn.Gen.facts, Cert.AttnIdeal.Gen.facts, Cert.AttnRefIdeal.Gen.facts,
  Cert.Merge.Gen.facts, Cert.MergeIdeal.Gen.facts, Cert.MergeRefIdeal.Gen.facts,
  Cert.AdamFfn.Gen.facts, Cert.AdamFfnIdeal.Gen.facts, Cert.AdamFfnRefIdeal.Gen.facts,
  Cert.AdamIn.Gen.facts, Cert.AdamInIdeal.Gen.facts, Cert.AdamInRefIdeal.Gen.facts,
  Cert.AdamSsm.Gen.facts, Cert.AdamSsmIdeal.Gen.facts, Cert.AdamSsmRefIdeal.Gen.facts,
  Cert.AdamOut.Gen.facts, Cert.AdamOutIdeal.Gen.facts, Cert.AdamOutRefIdeal.Gen.facts,
  Cert.AdamSmall.Gen.facts, Cert.AdamSmallIdeal.Gen.facts, Cert.AdamSmallRefIdeal.Gen.facts,
  Cert.OutBack.Gen.facts, Cert.OutBackIdeal.Gen.facts, Cert.OutBackRefIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => frame_reference m ρ trivial, fun m ρ _ => frame_reference m ρ trivial,
  fun m ρ _ => Cert.Forward.Gen.frame m ρ, fun m ρ _ => Cert.ForwardIdeal.Gen.frame m ρ, frame_forward_reference,
  fun m ρ _ => Cert.First.Gen.frame m ρ, fun m ρ _ => Cert.FirstIdeal.Gen.frame m ρ, frame_first_reference,
  fun m ρ _ => Cert.Gate.Gen.frame m ρ, fun m ρ _ => Cert.GateIdeal.Gen.frame m ρ, frame_gate_reference,
  fun m ρ _ => Cert.Up.Gen.frame m ρ, fun m ρ _ => Cert.UpIdeal.Gen.frame m ρ, frame_up_reference,
  fun m ρ _ => Cert.Down.Gen.frame m ρ, fun m ρ _ => Cert.DownIdeal.Gen.frame m ρ, frame_down_reference,
  fun m ρ _ => Cert.Wide.Gen.frame m ρ, fun m ρ _ => Cert.WideIdeal.Gen.frame m ρ, frame_wide_reference,
  fun m ρ _ => Cert.MixIn.Gen.frame m ρ, fun m ρ _ => Cert.MixInIdeal.Gen.frame m ρ, frame_mix_in_reference,
  fun m ρ _ => Cert.MixBack.Gen.frame m ρ, fun m ρ _ => Cert.MixBackIdeal.Gen.frame m ρ, frame_mix_in_bwd_reference,
  fun m ρ _ => Cert.Query.Gen.frame m ρ, fun m ρ _ => Cert.QueryIdeal.Gen.frame m ρ, frame_query_reference,
  fun m ρ _ => Cert.Scan.Gen.frame m ρ, fun m ρ _ => Cert.ScanIdeal.Gen.frame m ρ, frame_scan_reference,
  fun m ρ _ => Cert.Keys.Gen.frame m ρ, fun m ρ _ => Cert.KeysIdeal.Gen.frame m ρ, frame_keys_reference,
  fun m ρ _ => Cert.Steps.Gen.frame m ρ, fun m ρ _ => Cert.StepsIdeal.Gen.frame m ρ, frame_steps_reference,
  fun m ρ _ => Cert.Ssm.Gen.frame m ρ, fun m ρ _ => Cert.SsmIdeal.Gen.frame m ρ, frame_ssm_reference,
  fun m ρ _ => Cert.Attn.Gen.frame m ρ, fun m ρ _ => Cert.AttnIdeal.Gen.frame m ρ, frame_attn_reference,
  fun m ρ _ => Cert.Merge.Gen.frame m ρ, fun m ρ _ => Cert.MergeIdeal.Gen.frame m ρ, frame_merge_reference,
  fun m ρ _ => Cert.AdamFfn.Gen.frame m ρ, fun m ρ _ => Cert.AdamFfnIdeal.Gen.frame m ρ, frame_adam_ffn_reference,
  fun m ρ _ => Cert.AdamIn.Gen.frame m ρ, fun m ρ _ => Cert.AdamInIdeal.Gen.frame m ρ, frame_adam_in_reference,
  fun m ρ _ => Cert.AdamSsm.Gen.frame m ρ, fun m ρ _ => Cert.AdamSsmIdeal.Gen.frame m ρ, frame_adam_ssm_reference,
  fun m ρ _ => Cert.AdamOut.Gen.frame m ρ, fun m ρ _ => Cert.AdamOutIdeal.Gen.frame m ρ, frame_adam_out_reference,
  fun m ρ _ => Cert.AdamSmall.Gen.frame m ρ, fun m ρ _ => Cert.AdamSmallIdeal.Gen.frame m ρ, frame_adam_small_reference,
  fun m ρ _ => Cert.OutBack.Gen.frame m ρ, fun m ρ _ => Cert.OutBackIdeal.Gen.frame m ρ, frame_mix_out_bwd_reference,
  trivial, ffn_bwd, trivial, ffn_fwd, trivial, ffn_fwd_first, trivial, dw_gate, trivial, dw_up, trivial, dw_down,
  trivial, dw_wide, trivial, mix_in_fwd, trivial, mix_in_bwd,
  trivial, dw_query, trivial, dw_scan, trivial, dw_keys, trivial, dw_steps, trivial, dw_ssm, trivial, dw_attn,
  trivial, dw_merge, trivial, adam_ffn, trivial, adam_in, trivial, adam_ssm, trivial, adam_out, trivial, adam_small,
  trivial, mix_out_bwd⟩

end Cert.Proof

end
